-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4096x200 : Shape := ⟨2, ![4096, 200]⟩
abbrev S2x64 : Shape := ⟨2, ![2, 64]⟩
abbrev S64 : Shape := ⟨1, ![64]⟩
abbrev S64x64 : Shape := ⟨2, ![64, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : IVec S4096x200 32) (main_arg2 : FVec F S2x64 .f32) (main_arg3 : FVec F S64 .f32) (main_arg4 : FVec F S64x64 .f32) (main_arg5 : FVec F S64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg1 main_v6
  let main_c_3 : IVec S_ 32 := constantI S_ 32 1000#32
  let main_v8 : IVec S4096x200 32 := broadcastInDim S4096x200 ![] bcast_S_S4096x200 main_c_3
  let main_v9 : IVec S4096x200 1 := cmpi .slt main_arg1 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : IVec S_ 1 := andi main_v5 main_v11
  main_v12
-- ==== Kernel.lean ====
abbrev S4096x200 : Shape := ⟨2, ![4096, 200]⟩
abbrev S2x64 : Shape := ⟨2, ![2, 64]⟩
abbrev S64 : Shape := ⟨1, ![64]⟩
abbrev S64x64 : Shape := ⟨2, ![64, 64]⟩
abbrev S819200 : Shape := ⟨1, ![819200]⟩
abbrev S6416 : Shape := ⟨1, ![6416]⟩
abbrev S1008 : Shape := ⟨1, ![1008]⟩
abbrev S6400 : Shape := ⟨1, ![6400]⟩
abbrev S16 : Shape := ⟨1, ![16]⟩
abbrev S_ : Shape := ⟨0, ![]⟩
abbrev S1x64 : Shape := ⟨2, ![1, 64]⟩
abbrev S3x64 : Shape := ⟨2, ![3, 64]⟩
abbrev S800x1024 : Shape := ⟨2, ![800, 1024]⟩
abbrev S819200x64 : Shape := ⟨2, ![819200, 64]⟩
abbrev S8x1024 : Shape := ⟨2, ![8, 1024]⟩
abbrev S8192x64 : Shape := ⟨2, ![8192, 64]⟩
abbrev S1x1024 : Shape := ⟨2, ![1, 1024]⟩
abbrev S3x1024 : Shape := ⟨2, ![3, 1024]⟩
abbrev S64x1024 : Shape := ⟨2, ![64, 1024]⟩
abbrev S1024x64 : Shape := ⟨2, ![1024, 64]⟩
abbrev S4096x200x64 : Shape := ⟨3, ![4096, 200, 64]⟩

abbrev nBuf : Table → Nat
  | .hbm => 23
  | .local .tc .vmem => 15
  | .local .scVector .vmem => 8
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S819200, .i32⟩
  | .hbm, ⟨7, _⟩ => ⟨S819200, .i32⟩
  | .hbm, ⟨8, _⟩ => ⟨S819200, .f32⟩
  | .hbm, ⟨9, _⟩ => ⟨S819200, .f32⟩
  | .hbm, ⟨10, _⟩ => ⟨S819200, .f32⟩
  | .hbm, ⟨11, _⟩ => ⟨S819200, .f32⟩
  | .hbm, ⟨12, _⟩ => ⟨S1x64, .f32⟩
  | .hbm, ⟨13, _⟩ => ⟨S3x64, .f32⟩
  | .hbm, ⟨14, _⟩ => ⟨S1x64, .f32⟩
  | .hbm, ⟨15, _⟩ => ⟨S800x1024, .f32⟩
  | .hbm, ⟨16, _⟩ => ⟨S800x1024, .f32⟩
  | .hbm, ⟨17, _⟩ => ⟨S800x1024, .f32⟩
  | .hbm, ⟨18, _⟩ => ⟨S800x1024, .f32⟩
  | .hbm, ⟨19, _⟩ => ⟨S819200x64, .f32⟩
  | .hbm, ⟨20, _⟩ => ⟨S819200x64, .f32⟩
  | .hbm, ⟨21, _⟩ => ⟨S4096x200x64, .f32⟩
  | .hbm, ⟨22, _⟩ => ⟨S4096x200x64, .f32⟩
  | .local .tc .vmem, ⟨0, _⟩ => ⟨S8x1024, .f32⟩
  | .local .tc .vmem, ⟨1, _⟩ => ⟨S8x1024, .f32⟩
  | .local .tc .vmem, ⟨2, _⟩ => ⟨S8x1024, .f32⟩
  | .local .tc .vmem, ⟨3, _⟩ => ⟨S8x1024, .f32⟩
  | .local .tc .vmem, ⟨4, _⟩ => ⟨S8x1024, .f32⟩
  | .local .tc .vmem, ⟨5, _⟩ => ⟨S8x1024, .f32⟩
  | .local .tc .vmem, ⟨6, _⟩ => ⟨S8x1024, .f32⟩
  | .local .tc .vmem, ⟨7, _⟩ => ⟨S8x1024, .f32⟩
  | .local .tc .vmem, ⟨8, _⟩ => ⟨S3x64, .f32⟩
  | .local .tc .vmem, ⟨9, _⟩ => ⟨S64x64, .f32⟩
  | .local .tc .vmem, ⟨10, _⟩ => ⟨S1x64, .f32⟩
  | .local .tc .vmem, ⟨11, _⟩ => ⟨S8192x64, .f32⟩
  | .local .tc .vmem, ⟨12, _⟩ => ⟨S8192x64, .f32⟩
  | .local .tc .vmem, ⟨13, _⟩ => ⟨S8192x64, .f32⟩
  | .local .tc .vmem, ⟨14, _⟩ => ⟨S8192x64, .f32⟩
  | .local .scVector .vmem, ⟨0, _⟩ => ⟨S6416, .i32⟩
  | .local .scVector .vmem, ⟨1, _⟩ => ⟨S6416, .i32⟩
  | .local .scVector .vmem, ⟨2, _⟩ => ⟨S1008, .f32⟩
  | .local .scVector .vmem, ⟨3, _⟩ => ⟨S1008, .f32⟩
  | .local .scVector .vmem, ⟨4, _⟩ => ⟨S6400, .f32⟩
  | .local .scVector .vmem, ⟨5, _⟩ => ⟨S6400, .f32⟩
  | .local .scVector .vmem, ⟨6, _⟩ => ⟨S6400, .f32⟩
  | .local .scVector .vmem, ⟨7, _⟩ => ⟨S6400, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v0_scv : Ref sig .scVector := ⟨.hbm, 6, rfl⟩
abbrev main_v1_scv : Ref sig .scVector := ⟨.hbm, 7, rfl⟩
abbrev main_v2_0_scv : Ref sig .scVector := ⟨.hbm, 8, rfl⟩
abbrev main_v2_1_scv : Ref sig .scVector := ⟨.hbm, 9, rfl⟩
abbrev main_v2_2_scv : Ref sig .scVector := ⟨.hbm, 10, rfl⟩
abbrev main_v2_3_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc1_stg8_0 : Ref sig .tc := ⟨.vmem, 13, rfl⟩
abbrev cc1_stg8_1 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem7_1 : DmaSem sig := 36
abbrev cc1_sem8_0 : DmaSem sig := 37
abbrev cc1_sem8_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_64 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v135 : BitVec 32 := Scalar.muli v1 c128_i32
  let v136 : BitVec 32 := Scalar.addi v135 c0_i32_64
  let c200_i32 : BitVec 32 := 200#32
  let v137 : BitVec 32 := Scalar.muli v136 c200_i32
  ![v137.toNat]
@[reducible] def k0_t1_loop : Scf.Loop 32 :=
  let c0_i32_66 : BitVec 32 := 0#32
  let c32_i32 : BitVec 32 := 32#32
  let v138 : BitVec 32 := Scalar.addi c0_i32_66 c32_i32
  let c1_i32 : BitVec 32 := 1#32
  ⟨c0_i32_66, v138, c1_i32⟩
def k0_off2 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_91 : BitVec 32 := 0#32
  let v152 : BitVec 32 := Scalar.addi v151 c0_i32_91
  let v153 : Index := Scalar.indexCast v152
  ![v153.toNat]

def k0_chk1 (v154 : IVec S16 32) : Prop :=
  (∀ a x, ((![v154] : Fin 1 → IVec S16 32) a x).toNat < S1008.size a)
theorem k0_idx1_inb : ∀ (v154 : IVec S16 32) (k0_hw1 : k0_chk1 v154), ∀ a x, ((![v154] : Fin 1 → IVec S16 32) a x).toNat < S1008.size a := fun v154 k0_hw1 => k0_hw1
def k0_off3 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32 : BitVec 32 := 16#32
  let v157 : BitVec 32 := Scalar.addi v151 c16_i32
  let v158 : Index := Scalar.indexCast v157
  ![v158.toNat]

def k0_chk2 (v159 : IVec S16 32) : Prop :=
  (∀ a x, ((![v159] : Fin 1 → IVec S16 32) a x).toNat < S1008.size a)
theorem k0_idx2_inb : ∀ (v159 : IVec S16 32) (k0_hw2 : k0_chk2 v159), ∀ a x, ((![v159] : Fin 1 → IVec S16 32) a x).toNat < S1008.size a := fun v159 k0_hw2 => k0_hw2
def k0_off4 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_95 : BitVec 32 := 32#32
  let v162 : BitVec 32 := Scalar.addi v151 c32_i32_95
  let v163 : Index := Scalar.indexCast v162
  ![v163.toNat]

def k0_chk3 (v164 : IVec S16 32) : Prop :=
  (∀ a x, ((![v164] : Fin 1 → IVec S16 32) a x).toNat < S1008.size a)
theorem k0_idx3_inb : ∀ (v164 : IVec S16 32) (k0_hw3 : k0_chk3 v164), ∀ a x, ((![v164] : Fin 1 → IVec S16 32) a x).toNat < S1008.size a := fun v164 k0_hw3 => k0_hw3
def k0_off5 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32 : BitVec 32 := 48#32
  let v167 : BitVec 32 := Scalar.addi v151 c48_i32
  let v168 : Index := Scalar.indexCast v167
  ![v168.toNat]

def k0_chk4 (v169 : IVec S16 32) : Prop :=
  (∀ a x, ((![v169] : Fin 1 → IVec S16 32) a x).toNat < S1008.size a)
theorem k0_idx4_inb : ∀ (v169 : IVec S16 32) (k0_hw4 : k0_chk4 v169), ∀ a x, ((![v169] : Fin 1 → IVec S16 32) a x).toNat < S1008.size a := fun v169 k0_hw4 => k0_hw4
def k0_off6 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_102 : BitVec 32 := 64#32
  let v172 : BitVec 32 := Scalar.addi v151 c64_i32_102
  let v173 : Index := Scalar.indexCast v172
  ![v173.toNat]

def k0_chk5 (v174 : IVec S16 32) : Prop :=
  (∀ a x, ((![v174] : Fin 1 → IVec S16 32) a x).toNat < S1008.size a)
theorem k0_idx5_inb : ∀ (v174 : IVec S16 32) (k0_hw5 : k0_chk5 v174), ∀ a x, ((![v174] : Fin 1 → IVec S16 32) a x).toNat < S1008.size a := fun v174 k0_hw5 => k0_hw5
def k0_off7 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32 : BitVec 32 := 80#32
  let v177 : BitVec 32 := Scalar.addi v151 c80_i32
  let v178 : Index := Scalar.indexCast v177
  ![v178.toNat]

def k0_chk6 (v179 : IVec S16 32) : Prop :=
  (∀ a x, ((![v179] : Fin 1 → IVec S16 32) a x).toNat < S1008.size a)
theorem k0_idx6_inb : ∀ (v179 : IVec S16 32) (k0_hw6 : k0_chk6 v179), ∀ a x, ((![v179] : Fin 1 → IVec S16 32) a x).toNat < S1008.size a := fun v179 k0_hw6 => k0_hw6
def k0_off8 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_109 : BitVec 32 := 96#32
  let v182 : BitVec 32 := Scalar.addi v151 c96_i32_109
  let v183 : Index := Scalar.indexCast v182
  ![v183.toNat]

def k0_chk7 (v184 : IVec S16 32) : Prop :=
  (∀ a x, ((![v184] : Fin 1 → IVec S16 32) a x).toNat < S1008.size a)
theorem k0_idx7_inb : ∀ (v184 : IVec S16 32) (k0_hw7 : k0_chk7 v184), ∀ a x, ((![v184] : Fin 1 → IVec S16 32) a x).toNat < S1008.size a := fun v184 k0_hw7 => k0_hw7
def k0_off9 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32 : BitVec 32 := 112#32
  let v187 : BitVec 32 := Scalar.addi v151 c112_i32
  let v188 : Index := Scalar.indexCast v187
  ![v188.toNat]

def k0_chk8 (v189 : IVec S16 32) : Prop :=
  (∀ a x, ((![v189] : Fin 1 → IVec S16 32) a x).toNat < S1008.size a)
theorem k0_idx8_inb : ∀ (v189 : IVec S16 32) (k0_hw8 : k0_chk8 v189), ∀ a x, ((![v189] : Fin 1 → IVec S16 32) a x).toNat < S1008.size a := fun v189 k0_hw8 => k0_hw8
def k0_off10 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_116 : BitVec 32 := 128#32
  let v192 : BitVec 32 := Scalar.addi v151 c128_i32_116
  let v193 : Index := Scalar.indexCast v192
  ![v193.toNat]

def k0_chk9 (v194 : IVec S16 32) : Prop :=
  (∀ a x, ((![v194] : Fin 1 → IVec S16 32) a x).toNat < S1008.size a)
theorem k0_idx9_inb : ∀ (v194 : IVec S16 32) (k0_hw9 : k0_chk9 v194), ∀ a x, ((![v194] : Fin 1 → IVec S16 32) a x).toNat < S1008.size a := fun v194 k0_hw9 => k0_hw9
def k0_off11 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32 : BitVec 32 := 144#32
  let v197 : BitVec 32 := Scalar.addi v151 c144_i32
  let v198 : Index := Scalar.indexCast v197
  ![v198.toNat]

def k0_chk10 (v199 : IVec S16 32) : Prop :=
  (∀ a x, ((![v199] : Fin 1 → IVec S16 32) a x).toNat < S1008.size a)
theorem k0_idx10_inb : ∀ (v199 : IVec S16 32) (k0_hw10 : k0_chk10 v199), ∀ a x, ((![v199] : Fin 1 → IVec S16 32) a x).toNat < S1008.size a := fun v199 k0_hw10 => k0_hw10
def k0_off12 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32 : BitVec 32 := 160#32
  let v202 : BitVec 32 := Scalar.addi v151 c160_i32
  let v203 : Index := Scalar.indexCast v202
  ![v203.toNat]

def k0_chk11 (v204 : IVec S16 32) : Prop :=
  (∀ a x, ((![v204] : Fin 1 → IVec S16 32) a x).toNat < S1008.size a)
theorem k0_idx11_inb : ∀ (v204 : IVec S16 32) (k0_hw11 : k0_chk11 v204), ∀ a x, ((![v204] : Fin 1 → IVec S16 32) a x).toNat < S1008.size a := fun v204 k0_hw11 => k0_hw11
def k0_off13 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32 : BitVec 32 := 176#32
  let v207 : BitVec 32 := Scalar.addi v151 c176_i32
  let v208 : Index := Scalar.indexCast v207
  ![v208.toNat]

def k0_chk12 (v209 : IVec S16 32) : Prop :=
  (∀ a x, ((![v209] : Fin 1 → IVec S16 32) a x).toNat < S1008.size a)
theorem k0_idx12_inb : ∀ (v209 : IVec S16 32) (k0_hw12 : k0_chk12 v209), ∀ a x, ((![v209] : Fin 1 → IVec S16 32) a x).toNat < S1008.size a := fun v209 k0_hw12 => k0_hw12
def k0_off14 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c192_i32 : BitVec 32 := 192#32
  let v212 : BitVec 32 := Scalar.addi v151 c192_i32
  let v213 : Index := Scalar.indexCast v212
  ![v213.toNat]

def k0_chk13 (v214 : IVec S16 32) : Prop :=
  (∀ a x, ((![v214] : Fin 1 → IVec S16 32) a x).toNat < S1008.size a)
theorem k0_idx13_inb : ∀ (v214 : IVec S16 32) (k0_hw13 : k0_chk13 v214), ∀ a x, ((![v214] : Fin 1 → IVec S16 32) a x).toNat < S1008.size a := fun v214 k0_hw13 => k0_hw13
def k0_off15 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_131 : BitVec 32 := 0#32
  let v216 : BitVec 32 := Scalar.addi v151 c0_i32_131
  let v217 : Index := Scalar.indexCast v216
  ![v217.toNat]

def k0_chk14 (v218 : IVec S16 32) : Prop :=
  (∀ a x, ((![v218] : Fin 1 → IVec S16 32) a x).toNat < S1008.size a)
theorem k0_idx14_inb : ∀ (v218 : IVec S16 32) (k0_hw14 : k0_chk14 v218), ∀ a x, ((![v218] : Fin 1 → IVec S16 32) a x).toNat < S1008.size a := fun v218 k0_hw14 => k0_hw14
def k0_off16 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32_135 : BitVec 32 := 16#32
  let v221 : BitVec 32 := Scalar.addi v151 c16_i32_135
  let v222 : Index := Scalar.indexCast v221
  ![v222.toNat]

def k0_chk15 (v223 : IVec S16 32) : Prop :=
  (∀ a x, ((![v223] : Fin 1 → IVec S16 32) a x).toNat < S1008.size a)
theorem k0_idx15_inb : ∀ (v223 : IVec S16 32) (k0_hw15 : k0_chk15 v223), ∀ a x, ((![v223] : Fin 1 → IVec S16 32) a x).toNat < S1008.size a := fun v223 k0_hw15 => k0_hw15
def k0_off17 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_139 : BitVec 32 := 32#32
  let v226 : BitVec 32 := Scalar.addi v151 c32_i32_139
  let v227 : Index := Scalar.indexCast v226
  ![v227.toNat]

def k0_chk16 (v228 : IVec S16 32) : Prop :=
  (∀ a x, ((![v228] : Fin 1 → IVec S16 32) a x).toNat < S1008.size a)
theorem k0_idx16_inb : ∀ (v228 : IVec S16 32) (k0_hw16 : k0_chk16 v228), ∀ a x, ((![v228] : Fin 1 → IVec S16 32) a x).toNat < S1008.size a := fun v228 k0_hw16 => k0_hw16
def k0_off18 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32_143 : BitVec 32 := 48#32
  let v231 : BitVec 32 := Scalar.addi v151 c48_i32_143
  let v232 : Index := Scalar.indexCast v231
  ![v232.toNat]

def k0_chk17 (v233 : IVec S16 32) : Prop :=
  (∀ a x, ((![v233] : Fin 1 → IVec S16 32) a x).toNat < S1008.size a)
theorem k0_idx17_inb : ∀ (v233 : IVec S16 32) (k0_hw17 : k0_chk17 v233), ∀ a x, ((![v233] : Fin 1 → IVec S16 32) a x).toNat < S1008.size a := fun v233 k0_hw17 => k0_hw17
def k0_off19 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_147 : BitVec 32 := 64#32
  let v236 : BitVec 32 := Scalar.addi v151 c64_i32_147
  let v237 : Index := Scalar.indexCast v236
  ![v237.toNat]

def k0_chk18 (v238 : IVec S16 32) : Prop :=
  (∀ a x, ((![v238] : Fin 1 → IVec S16 32) a x).toNat < S1008.size a)
theorem k0_idx18_inb : ∀ (v238 : IVec S16 32) (k0_hw18 : k0_chk18 v238), ∀ a x, ((![v238] : Fin 1 → IVec S16 32) a x).toNat < S1008.size a := fun v238 k0_hw18 => k0_hw18
def k0_off20 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32_151 : BitVec 32 := 80#32
  let v241 : BitVec 32 := Scalar.addi v151 c80_i32_151
  let v242 : Index := Scalar.indexCast v241
  ![v242.toNat]

def k0_chk19 (v243 : IVec S16 32) : Prop :=
  (∀ a x, ((![v243] : Fin 1 → IVec S16 32) a x).toNat < S1008.size a)
theorem k0_idx19_inb : ∀ (v243 : IVec S16 32) (k0_hw19 : k0_chk19 v243), ∀ a x, ((![v243] : Fin 1 → IVec S16 32) a x).toNat < S1008.size a := fun v243 k0_hw19 => k0_hw19
def k0_off21 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_155 : BitVec 32 := 96#32
  let v246 : BitVec 32 := Scalar.addi v151 c96_i32_155
  let v247 : Index := Scalar.indexCast v246
  ![v247.toNat]

def k0_chk20 (v248 : IVec S16 32) : Prop :=
  (∀ a x, ((![v248] : Fin 1 → IVec S16 32) a x).toNat < S1008.size a)
theorem k0_idx20_inb : ∀ (v248 : IVec S16 32) (k0_hw20 : k0_chk20 v248), ∀ a x, ((![v248] : Fin 1 → IVec S16 32) a x).toNat < S1008.size a := fun v248 k0_hw20 => k0_hw20
def k0_off22 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32_159 : BitVec 32 := 112#32
  let v251 : BitVec 32 := Scalar.addi v151 c112_i32_159
  let v252 : Index := Scalar.indexCast v251
  ![v252.toNat]

def k0_chk21 (v253 : IVec S16 32) : Prop :=
  (∀ a x, ((![v253] : Fin 1 → IVec S16 32) a x).toNat < S1008.size a)
theorem k0_idx21_inb : ∀ (v253 : IVec S16 32) (k0_hw21 : k0_chk21 v253), ∀ a x, ((![v253] : Fin 1 → IVec S16 32) a x).toNat < S1008.size a := fun v253 k0_hw21 => k0_hw21
def k0_off23 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_163 : BitVec 32 := 128#32
  let v256 : BitVec 32 := Scalar.addi v151 c128_i32_163
  let v257 : Index := Scalar.indexCast v256
  ![v257.toNat]

def k0_chk22 (v258 : IVec S16 32) : Prop :=
  (∀ a x, ((![v258] : Fin 1 → IVec S16 32) a x).toNat < S1008.size a)
theorem k0_idx22_inb : ∀ (v258 : IVec S16 32) (k0_hw22 : k0_chk22 v258), ∀ a x, ((![v258] : Fin 1 → IVec S16 32) a x).toNat < S1008.size a := fun v258 k0_hw22 => k0_hw22
def k0_off24 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32_167 : BitVec 32 := 144#32
  let v261 : BitVec 32 := Scalar.addi v151 c144_i32_167
  let v262 : Index := Scalar.indexCast v261
  ![v262.toNat]

def k0_chk23 (v263 : IVec S16 32) : Prop :=
  (∀ a x, ((![v263] : Fin 1 → IVec S16 32) a x).toNat < S1008.size a)
theorem k0_idx23_inb : ∀ (v263 : IVec S16 32) (k0_hw23 : k0_chk23 v263), ∀ a x, ((![v263] : Fin 1 → IVec S16 32) a x).toNat < S1008.size a := fun v263 k0_hw23 => k0_hw23
def k0_off25 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32_171 : BitVec 32 := 160#32
  let v266 : BitVec 32 := Scalar.addi v151 c160_i32_171
  let v267 : Index := Scalar.indexCast v266
  ![v267.toNat]

def k0_chk24 (v268 : IVec S16 32) : Prop :=
  (∀ a x, ((![v268] : Fin 1 → IVec S16 32) a x).toNat < S1008.size a)
theorem k0_idx24_inb : ∀ (v268 : IVec S16 32) (k0_hw24 : k0_chk24 v268), ∀ a x, ((![v268] : Fin 1 → IVec S16 32) a x).toNat < S1008.size a := fun v268 k0_hw24 => k0_hw24
def k0_off26 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32_175 : BitVec 32 := 176#32
  let v271 : BitVec 32 := Scalar.addi v151 c176_i32_175
  let v272 : Index := Scalar.indexCast v271
  ![v272.toNat]

def k0_chk25 (v273 : IVec S16 32) : Prop :=
  (∀ a x, ((![v273] : Fin 1 → IVec S16 32) a x).toNat < S1008.size a)
theorem k0_idx25_inb : ∀ (v273 : IVec S16 32) (k0_hw25 : k0_chk25 v273), ∀ a x, ((![v273] : Fin 1 → IVec S16 32) a x).toNat < S1008.size a := fun v273 k0_hw25 => k0_hw25
def k0_off27 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c192_i32_179 : BitVec 32 := 192#32
  let v276 : BitVec 32 := Scalar.addi v151 c192_i32_179
  let v277 : Index := Scalar.indexCast v276
  ![v277.toNat]

def k0_chk26 (v278 : IVec S16 32) : Prop :=
  (∀ a x, ((![v278] : Fin 1 → IVec S16 32) a x).toNat < S1008.size a)
theorem k0_idx26_inb : ∀ (v278 : IVec S16 32) (k0_hw26 : k0_chk26 v278), ∀ a x, ((![v278] : Fin 1 → IVec S16 32) a x).toNat < S1008.size a := fun v278 k0_hw26 => k0_hw26
def k0_off28 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_182 : BitVec 32 := 0#32
  let v280 : BitVec 32 := Scalar.addi v151 c0_i32_182
  let v281 : Index := Scalar.indexCast v280
  ![v281.toNat]

def k0_chk27 (v282 : IVec S16 32) : Prop :=
  (∀ a x, ((![v282] : Fin 1 → IVec S16 32) a x).toNat < S1008.size a) ∧
  (∀ a x, ((![v282] : Fin 1 → IVec S16 32) a x).toNat < S1008.size a)
theorem k0_idx27_inb : ∀ (v282 : IVec S16 32) (k0_hw27 : k0_chk27 v282), ∀ a x, ((![v282] : Fin 1 → IVec S16 32) a x).toNat < S1008.size a := fun v282 k0_hw27 => k0_hw27.1
theorem k0_idx28_inb : ∀ (v282 : IVec S16 32) (k0_hw27 : k0_chk27 v282), ∀ a x, ((![v282] : Fin 1 → IVec S16 32) a x).toNat < S1008.size a := fun v282 k0_hw27 => k0_hw27.2

def k0_chk28 (v285 : IVec S16 32) : Prop :=
  (∀ a x, ((![v285] : Fin 1 → IVec S16 32) a x).toNat < S1008.size a) ∧
  (∀ a x, ((![v285] : Fin 1 → IVec S16 32) a x).toNat < S1008.size a)
theorem k0_idx29_inb : ∀ (v285 : IVec S16 32) (k0_hw28 : k0_chk28 v285), ∀ a x, ((![v285] : Fin 1 → IVec S16 32) a x).toNat < S1008.size a := fun v285 k0_hw28 => k0_hw28.1
theorem k0_idx30_inb : ∀ (v285 : IVec S16 32) (k0_hw28 : k0_chk28 v285), ∀ a x, ((![v285] : Fin 1 → IVec S16 32) a x).toNat < S1008.size a := fun v285 k0_hw28 => k0_hw28.2
def k0_off29 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_187 : BitVec 32 := 0#32
  let v296 : BitVec 32 := Scalar.addi v151 c0_i32_187
  let v297 : Index := Scalar.indexCast v296
  ![v297.toNat]
def k0_off30 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32_194 : BitVec 32 := 16#32
  let v314 : BitVec 32 := Scalar.addi v151 c16_i32_194
  let v315 : Index := Scalar.indexCast v314
  ![v315.toNat]

def k0_chk29 (v316 : IVec S16 32) : Prop :=
  (∀ a x, ((![v316] : Fin 1 → IVec S16 32) a x).toNat < S1008.size a) ∧
  (∀ a x, ((![v316] : Fin 1 → IVec S16 32) a x).toNat < S1008.size a)
theorem k0_idx31_inb : ∀ (v316 : IVec S16 32) (k0_hw29 : k0_chk29 v316), ∀ a x, ((![v316] : Fin 1 → IVec S16 32) a x).toNat < S1008.size a := fun v316 k0_hw29 => k0_hw29.1
theorem k0_idx32_inb : ∀ (v316 : IVec S16 32) (k0_hw29 : k0_chk29 v316), ∀ a x, ((![v316] : Fin 1 → IVec S16 32) a x).toNat < S1008.size a := fun v316 k0_hw29 => k0_hw29.2

def k0_chk30 (v319 : IVec S16 32) : Prop :=
  (∀ a x, ((![v319] : Fin 1 → IVec S16 32) a x).toNat < S1008.size a) ∧
  (∀ a x, ((![v319] : Fin 1 → IVec S16 32) a x).toNat < S1008.size a)
theorem k0_idx33_inb : ∀ (v319 : IVec S16 32) (k0_hw30 : k0_chk30 v319), ∀ a x, ((![v319] : Fin 1 → IVec S16 32) a x).toNat < S1008.size a := fun v319 k0_hw30 => k0_hw30.1
theorem k0_idx34_inb : ∀ (v319 : IVec S16 32) (k0_hw30 : k0_chk30 v319), ∀ a x, ((![v319] : Fin 1 → IVec S16 32) a x).toNat < S1008.size a := fun v319 k0_hw30 => k0_hw30.2
def k0_off31 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32_199 : BitVec 32 := 16#32
  let v330 : BitVec 32 := Scalar.addi v151 c16_i32_199
  let v331 : Index := Scalar.indexCast v330
  ![v331.toNat]
def k0_off32 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_206 : BitVec 32 := 32#32
  let v348 : BitVec 32 := Scalar.addi v151 c32_i32_206
  let v349 : Index := Scalar.indexCast v348
  ![v349.toNat]

def k0_chk31 (v350 : IVec S16 32) : Prop :=
  (∀ a x, ((![v350] : Fin 1 → IVec S16 32) a x).toNat < S1008.size a) ∧
  (∀ a x, ((![v350] : Fin 1 → IVec S16 32) a x).toNat < S1008.size a)
theorem k0_idx35_inb : ∀ (v350 : IVec S16 32) (k0_hw31 : k0_chk31 v350), ∀ a x, ((![v350] : Fin 1 → IVec S16 32) a x).toNat < S1008.size a := fun v350 k0_hw31 => k0_hw31.1
theorem k0_idx36_inb : ∀ (v350 : IVec S16 32) (k0_hw31 : k0_chk31 v350), ∀ a x, ((![v350] : Fin 1 → IVec S16 32) a x).toNat < S1008.size a := fun v350 k0_hw31 => k0_hw31.2

def k0_chk32 (v353 : IVec S16 32) : Prop :=
  (∀ a x, ((![v353] : Fin 1 → IVec S16 32) a x).toNat < S1008.size a) ∧
  (∀ a x, ((![v353] : Fin 1 → IVec S16 32) a x).toNat < S1008.size a)
theorem k0_idx37_inb : ∀ (v353 : IVec S16 32) (k0_hw32 : k0_chk32 v353), ∀ a x, ((![v353] : Fin 1 → IVec S16 32) a x).toNat < S1008.size a := fun v353 k0_hw32 => k0_hw32.1
theorem k0_idx38_inb : ∀ (v353 : IVec S16 32) (k0_hw32 : k0_chk32 v353), ∀ a x, ((![v353] : Fin 1 → IVec S16 32) a x).toNat < S1008.size a := fun v353 k0_hw32 => k0_hw32.2
def k0_off33 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_211 : BitVec 32 := 32#32
  let v364 : BitVec 32 := Scalar.addi v151 c32_i32_211
  let v365 : Index := Scalar.indexCast v364
  ![v365.toNat]
def k0_off34 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32_218 : BitVec 32 := 48#32
  let v382 : BitVec 32 := Scalar.addi v151 c48_i32_218
  let v383 : Index := Scalar.indexCast v382
  ![v383.toNat]

def k0_chk33 (v384 : IVec S16 32) : Prop :=
  (∀ a x, ((![v384] : Fin 1 → IVec S16 32) a x).toNat < S1008.size a) ∧
  (∀ a x, ((![v384] : Fin 1 → IVec S16 32) a x).toNat < S1008.size a)
theorem k0_idx39_inb : ∀ (v384 : IVec S16 32) (k0_hw33 : k0_chk33 v384), ∀ a x, ((![v384] : Fin 1 → IVec S16 32) a x).toNat < S1008.size a := fun v384 k0_hw33 => k0_hw33.1
theorem k0_idx40_inb : ∀ (v384 : IVec S16 32) (k0_hw33 : k0_chk33 v384), ∀ a x, ((![v384] : Fin 1 → IVec S16 32) a x).toNat < S1008.size a := fun v384 k0_hw33 => k0_hw33.2

def k0_chk34 (v387 : IVec S16 32) : Prop :=
  (∀ a x, ((![v387] : Fin 1 → IVec S16 32) a x).toNat < S1008.size a) ∧
  (∀ a x, ((![v387] : Fin 1 → IVec S16 32) a x).toNat < S1008.size a)
theorem k0_idx41_inb : ∀ (v387 : IVec S16 32) (k0_hw34 : k0_chk34 v387), ∀ a x, ((![v387] : Fin 1 → IVec S16 32) a x).toNat < S1008.size a := fun v387 k0_hw34 => k0_hw34.1
theorem k0_idx42_inb : ∀ (v387 : IVec S16 32) (k0_hw34 : k0_chk34 v387), ∀ a x, ((![v387] : Fin 1 → IVec S16 32) a x).toNat < S1008.size a := fun v387 k0_hw34 => k0_hw34.2
def k0_off35 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32_223 : BitVec 32 := 48#32
  let v398 : BitVec 32 := Scalar.addi v151 c48_i32_223
  let v399 : Index := Scalar.indexCast v398
  ![v399.toNat]
def k0_off36 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_230 : BitVec 32 := 64#32
  let v416 : BitVec 32 := Scalar.addi v151 c64_i32_230
  let v417 : Index := Scalar.indexCast v416
  ![v417.toNat]

def k0_chk35 (v418 : IVec S16 32) : Prop :=
  (∀ a x, ((![v418] : Fin 1 → IVec S16 32) a x).toNat < S1008.size a) ∧
  (∀ a x, ((![v418] : Fin 1 → IVec S16 32) a x).toNat < S1008.size a)
theorem k0_idx43_inb : ∀ (v418 : IVec S16 32) (k0_hw35 : k0_chk35 v418), ∀ a x, ((![v418] : Fin 1 → IVec S16 32) a x).toNat < S1008.size a := fun v418 k0_hw35 => k0_hw35.1
theorem k0_idx44_inb : ∀ (v418 : IVec S16 32) (k0_hw35 : k0_chk35 v418), ∀ a x, ((![v418] : Fin 1 → IVec S16 32) a x).toNat < S1008.size a := fun v418 k0_hw35 => k0_hw35.2

def k0_chk36 (v421 : IVec S16 32) : Prop :=
  (∀ a x, ((![v421] : Fin 1 → IVec S16 32) a x).toNat < S1008.size a) ∧
  (∀ a x, ((![v421] : Fin 1 → IVec S16 32) a x).toNat < S1008.size a)
theorem k0_idx45_inb : ∀ (v421 : IVec S16 32) (k0_hw36 : k0_chk36 v421), ∀ a x, ((![v421] : Fin 1 → IVec S16 32) a x).toNat < S1008.size a := fun v421 k0_hw36 => k0_hw36.1
theorem k0_idx46_inb : ∀ (v421 : IVec S16 32) (k0_hw36 : k0_chk36 v421), ∀ a x, ((![v421] : Fin 1 → IVec S16 32) a x).toNat < S1008.size a := fun v421 k0_hw36 => k0_hw36.2
def k0_off37 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_235 : BitVec 32 := 64#32
  let v432 : BitVec 32 := Scalar.addi v151 c64_i32_235
  let v433 : Index := Scalar.indexCast v432
  ![v433.toNat]
def k0_off38 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32_242 : BitVec 32 := 80#32
  let v450 : BitVec 32 := Scalar.addi v151 c80_i32_242
  let v451 : Index := Scalar.indexCast v450
  ![v451.toNat]

def k0_chk37 (v452 : IVec S16 32) : Prop :=
  (∀ a x, ((![v452] : Fin 1 → IVec S16 32) a x).toNat < S1008.size a) ∧
  (∀ a x, ((![v452] : Fin 1 → IVec S16 32) a x).toNat < S1008.size a)
theorem k0_idx47_inb : ∀ (v452 : IVec S16 32) (k0_hw37 : k0_chk37 v452), ∀ a x, ((![v452] : Fin 1 → IVec S16 32) a x).toNat < S1008.size a := fun v452 k0_hw37 => k0_hw37.1
theorem k0_idx48_inb : ∀ (v452 : IVec S16 32) (k0_hw37 : k0_chk37 v452), ∀ a x, ((![v452] : Fin 1 → IVec S16 32) a x).toNat < S1008.size a := fun v452 k0_hw37 => k0_hw37.2

def k0_chk38 (v455 : IVec S16 32) : Prop :=
  (∀ a x, ((![v455] : Fin 1 → IVec S16 32) a x).toNat < S1008.size a) ∧
  (∀ a x, ((![v455] : Fin 1 → IVec S16 32) a x).toNat < S1008.size a)
theorem k0_idx49_inb : ∀ (v455 : IVec S16 32) (k0_hw38 : k0_chk38 v455), ∀ a x, ((![v455] : Fin 1 → IVec S16 32) a x).toNat < S1008.size a := fun v455 k0_hw38 => k0_hw38.1
theorem k0_idx50_inb : ∀ (v455 : IVec S16 32) (k0_hw38 : k0_chk38 v455), ∀ a x, ((![v455] : Fin 1 → IVec S16 32) a x).toNat < S1008.size a := fun v455 k0_hw38 => k0_hw38.2
def k0_off39 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32_247 : BitVec 32 := 80#32
  let v466 : BitVec 32 := Scalar.addi v151 c80_i32_247
  let v467 : Index := Scalar.indexCast v466
  ![v467.toNat]
def k0_off40 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_254 : BitVec 32 := 96#32
  let v484 : BitVec 32 := Scalar.addi v151 c96_i32_254
  let v485 : Index := Scalar.indexCast v484
  ![v485.toNat]

def k0_chk39 (v486 : IVec S16 32) : Prop :=
  (∀ a x, ((![v486] : Fin 1 → IVec S16 32) a x).toNat < S1008.size a) ∧
  (∀ a x, ((![v486] : Fin 1 → IVec S16 32) a x).toNat < S1008.size a)
theorem k0_idx51_inb : ∀ (v486 : IVec S16 32) (k0_hw39 : k0_chk39 v486), ∀ a x, ((![v486] : Fin 1 → IVec S16 32) a x).toNat < S1008.size a := fun v486 k0_hw39 => k0_hw39.1
theorem k0_idx52_inb : ∀ (v486 : IVec S16 32) (k0_hw39 : k0_chk39 v486), ∀ a x, ((![v486] : Fin 1 → IVec S16 32) a x).toNat < S1008.size a := fun v486 k0_hw39 => k0_hw39.2

def k0_chk40 (v489 : IVec S16 32) : Prop :=
  (∀ a x, ((![v489] : Fin 1 → IVec S16 32) a x).toNat < S1008.size a) ∧
  (∀ a x, ((![v489] : Fin 1 → IVec S16 32) a x).toNat < S1008.size a)
theorem k0_idx53_inb : ∀ (v489 : IVec S16 32) (k0_hw40 : k0_chk40 v489), ∀ a x, ((![v489] : Fin 1 → IVec S16 32) a x).toNat < S1008.size a := fun v489 k0_hw40 => k0_hw40.1
theorem k0_idx54_inb : ∀ (v489 : IVec S16 32) (k0_hw40 : k0_chk40 v489), ∀ a x, ((![v489] : Fin 1 → IVec S16 32) a x).toNat < S1008.size a := fun v489 k0_hw40 => k0_hw40.2
def k0_off41 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_259 : BitVec 32 := 96#32
  let v500 : BitVec 32 := Scalar.addi v151 c96_i32_259
  let v501 : Index := Scalar.indexCast v500
  ![v501.toNat]
def k0_off42 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32_266 : BitVec 32 := 112#32
  let v518 : BitVec 32 := Scalar.addi v151 c112_i32_266
  let v519 : Index := Scalar.indexCast v518
  ![v519.toNat]

def k0_chk41 (v520 : IVec S16 32) : Prop :=
  (∀ a x, ((![v520] : Fin 1 → IVec S16 32) a x).toNat < S1008.size a) ∧
  (∀ a x, ((![v520] : Fin 1 → IVec S16 32) a x).toNat < S1008.size a)
theorem k0_idx55_inb : ∀ (v520 : IVec S16 32) (k0_hw41 : k0_chk41 v520), ∀ a x, ((![v520] : Fin 1 → IVec S16 32) a x).toNat < S1008.size a := fun v520 k0_hw41 => k0_hw41.1
theorem k0_idx56_inb : ∀ (v520 : IVec S16 32) (k0_hw41 : k0_chk41 v520), ∀ a x, ((![v520] : Fin 1 → IVec S16 32) a x).toNat < S1008.size a := fun v520 k0_hw41 => k0_hw41.2

def k0_chk42 (v523 : IVec S16 32) : Prop :=
  (∀ a x, ((![v523] : Fin 1 → IVec S16 32) a x).toNat < S1008.size a) ∧
  (∀ a x, ((![v523] : Fin 1 → IVec S16 32) a x).toNat < S1008.size a)
theorem k0_idx57_inb : ∀ (v523 : IVec S16 32) (k0_hw42 : k0_chk42 v523), ∀ a x, ((![v523] : Fin 1 → IVec S16 32) a x).toNat < S1008.size a := fun v523 k0_hw42 => k0_hw42.1
theorem k0_idx58_inb : ∀ (v523 : IVec S16 32) (k0_hw42 : k0_chk42 v523), ∀ a x, ((![v523] : Fin 1 → IVec S16 32) a x).toNat < S1008.size a := fun v523 k0_hw42 => k0_hw42.2
def k0_off43 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32_271 : BitVec 32 := 112#32
  let v534 : BitVec 32 := Scalar.addi v151 c112_i32_271
  let v535 : Index := Scalar.indexCast v534
  ![v535.toNat]
def k0_off44 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_278 : BitVec 32 := 128#32
  let v552 : BitVec 32 := Scalar.addi v151 c128_i32_278
  let v553 : Index := Scalar.indexCast v552
  ![v553.toNat]

def k0_chk43 (v554 : IVec S16 32) : Prop :=
  (∀ a x, ((![v554] : Fin 1 → IVec S16 32) a x).toNat < S1008.size a) ∧
  (∀ a x, ((![v554] : Fin 1 → IVec S16 32) a x).toNat < S1008.size a)
theorem k0_idx59_inb : ∀ (v554 : IVec S16 32) (k0_hw43 : k0_chk43 v554), ∀ a x, ((![v554] : Fin 1 → IVec S16 32) a x).toNat < S1008.size a := fun v554 k0_hw43 => k0_hw43.1
theorem k0_idx60_inb : ∀ (v554 : IVec S16 32) (k0_hw43 : k0_chk43 v554), ∀ a x, ((![v554] : Fin 1 → IVec S16 32) a x).toNat < S1008.size a := fun v554 k0_hw43 => k0_hw43.2

def k0_chk44 (v557 : IVec S16 32) : Prop :=
  (∀ a x, ((![v557] : Fin 1 → IVec S16 32) a x).toNat < S1008.size a) ∧
  (∀ a x, ((![v557] : Fin 1 → IVec S16 32) a x).toNat < S1008.size a)
theorem k0_idx61_inb : ∀ (v557 : IVec S16 32) (k0_hw44 : k0_chk44 v557), ∀ a x, ((![v557] : Fin 1 → IVec S16 32) a x).toNat < S1008.size a := fun v557 k0_hw44 => k0_hw44.1
theorem k0_idx62_inb : ∀ (v557 : IVec S16 32) (k0_hw44 : k0_chk44 v557), ∀ a x, ((![v557] : Fin 1 → IVec S16 32) a x).toNat < S1008.size a := fun v557 k0_hw44 => k0_hw44.2
def k0_off45 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_283 : BitVec 32 := 128#32
  let v568 : BitVec 32 := Scalar.addi v151 c128_i32_283
  let v569 : Index := Scalar.indexCast v568
  ![v569.toNat]
def k0_off46 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32_290 : BitVec 32 := 144#32
  let v586 : BitVec 32 := Scalar.addi v151 c144_i32_290
  let v587 : Index := Scalar.indexCast v586
  ![v587.toNat]

def k0_chk45 (v588 : IVec S16 32) : Prop :=
  (∀ a x, ((![v588] : Fin 1 → IVec S16 32) a x).toNat < S1008.size a) ∧
  (∀ a x, ((![v588] : Fin 1 → IVec S16 32) a x).toNat < S1008.size a)
theorem k0_idx63_inb : ∀ (v588 : IVec S16 32) (k0_hw45 : k0_chk45 v588), ∀ a x, ((![v588] : Fin 1 → IVec S16 32) a x).toNat < S1008.size a := fun v588 k0_hw45 => k0_hw45.1
theorem k0_idx64_inb : ∀ (v588 : IVec S16 32) (k0_hw45 : k0_chk45 v588), ∀ a x, ((![v588] : Fin 1 → IVec S16 32) a x).toNat < S1008.size a := fun v588 k0_hw45 => k0_hw45.2

def k0_chk46 (v591 : IVec S16 32) : Prop :=
  (∀ a x, ((![v591] : Fin 1 → IVec S16 32) a x).toNat < S1008.size a) ∧
  (∀ a x, ((![v591] : Fin 1 → IVec S16 32) a x).toNat < S1008.size a)
theorem k0_idx65_inb : ∀ (v591 : IVec S16 32) (k0_hw46 : k0_chk46 v591), ∀ a x, ((![v591] : Fin 1 → IVec S16 32) a x).toNat < S1008.size a := fun v591 k0_hw46 => k0_hw46.1
theorem k0_idx66_inb : ∀ (v591 : IVec S16 32) (k0_hw46 : k0_chk46 v591), ∀ a x, ((![v591] : Fin 1 → IVec S16 32) a x).toNat < S1008.size a := fun v591 k0_hw46 => k0_hw46.2
def k0_off47 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32_295 : BitVec 32 := 144#32
  let v602 : BitVec 32 := Scalar.addi v151 c144_i32_295
  let v603 : Index := Scalar.indexCast v602
  ![v603.toNat]
def k0_off48 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32_302 : BitVec 32 := 160#32
  let v620 : BitVec 32 := Scalar.addi v151 c160_i32_302
  let v621 : Index := Scalar.indexCast v620
  ![v621.toNat]

def k0_chk47 (v622 : IVec S16 32) : Prop :=
  (∀ a x, ((![v622] : Fin 1 → IVec S16 32) a x).toNat < S1008.size a) ∧
  (∀ a x, ((![v622] : Fin 1 → IVec S16 32) a x).toNat < S1008.size a)
theorem k0_idx67_inb : ∀ (v622 : IVec S16 32) (k0_hw47 : k0_chk47 v622), ∀ a x, ((![v622] : Fin 1 → IVec S16 32) a x).toNat < S1008.size a := fun v622 k0_hw47 => k0_hw47.1
theorem k0_idx68_inb : ∀ (v622 : IVec S16 32) (k0_hw47 : k0_chk47 v622), ∀ a x, ((![v622] : Fin 1 → IVec S16 32) a x).toNat < S1008.size a := fun v622 k0_hw47 => k0_hw47.2

def k0_chk48 (v625 : IVec S16 32) : Prop :=
  (∀ a x, ((![v625] : Fin 1 → IVec S16 32) a x).toNat < S1008.size a) ∧
  (∀ a x, ((![v625] : Fin 1 → IVec S16 32) a x).toNat < S1008.size a)
theorem k0_idx69_inb : ∀ (v625 : IVec S16 32) (k0_hw48 : k0_chk48 v625), ∀ a x, ((![v625] : Fin 1 → IVec S16 32) a x).toNat < S1008.size a := fun v625 k0_hw48 => k0_hw48.1
theorem k0_idx70_inb : ∀ (v625 : IVec S16 32) (k0_hw48 : k0_chk48 v625), ∀ a x, ((![v625] : Fin 1 → IVec S16 32) a x).toNat < S1008.size a := fun v625 k0_hw48 => k0_hw48.2
def k0_off49 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32_307 : BitVec 32 := 160#32
  let v636 : BitVec 32 := Scalar.addi v151 c160_i32_307
  let v637 : Index := Scalar.indexCast v636
  ![v637.toNat]
def k0_off50 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32_314 : BitVec 32 := 176#32
  let v654 : BitVec 32 := Scalar.addi v151 c176_i32_314
  let v655 : Index := Scalar.indexCast v654
  ![v655.toNat]

def k0_chk49 (v656 : IVec S16 32) : Prop :=
  (∀ a x, ((![v656] : Fin 1 → IVec S16 32) a x).toNat < S1008.size a) ∧
  (∀ a x, ((![v656] : Fin 1 → IVec S16 32) a x).toNat < S1008.size a)
theorem k0_idx71_inb : ∀ (v656 : IVec S16 32) (k0_hw49 : k0_chk49 v656), ∀ a x, ((![v656] : Fin 1 → IVec S16 32) a x).toNat < S1008.size a := fun v656 k0_hw49 => k0_hw49.1
theorem k0_idx72_inb : ∀ (v656 : IVec S16 32) (k0_hw49 : k0_chk49 v656), ∀ a x, ((![v656] : Fin 1 → IVec S16 32) a x).toNat < S1008.size a := fun v656 k0_hw49 => k0_hw49.2

def k0_chk50 (v659 : IVec S16 32) : Prop :=
  (∀ a x, ((![v659] : Fin 1 → IVec S16 32) a x).toNat < S1008.size a) ∧
  (∀ a x, ((![v659] : Fin 1 → IVec S16 32) a x).toNat < S1008.size a)
theorem k0_idx73_inb : ∀ (v659 : IVec S16 32) (k0_hw50 : k0_chk50 v659), ∀ a x, ((![v659] : Fin 1 → IVec S16 32) a x).toNat < S1008.size a := fun v659 k0_hw50 => k0_hw50.1
theorem k0_idx74_inb : ∀ (v659 : IVec S16 32) (k0_hw50 : k0_chk50 v659), ∀ a x, ((![v659] : Fin 1 → IVec S16 32) a x).toNat < S1008.size a := fun v659 k0_hw50 => k0_hw50.2
def k0_off51 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32_319 : BitVec 32 := 176#32
  let v670 : BitVec 32 := Scalar.addi v151 c176_i32_319
  let v671 : Index := Scalar.indexCast v670
  ![v671.toNat]
def k0_off52 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c184_i32 : BitVec 32 := 184#32
  let v688 : BitVec 32 := Scalar.addi v151 c184_i32
  let v689 : Index := Scalar.indexCast v688
  ![v689.toNat]

def k0_chk51 (v690 : IVec S16 32) : Prop :=
  (∀ a x, ((![v690] : Fin 1 → IVec S16 32) a x).toNat < S1008.size a) ∧
  (∀ a x, ((![v690] : Fin 1 → IVec S16 32) a x).toNat < S1008.size a)
theorem k0_idx75_inb : ∀ (v690 : IVec S16 32) (k0_hw51 : k0_chk51 v690), ∀ a x, ((![v690] : Fin 1 → IVec S16 32) a x).toNat < S1008.size a := fun v690 k0_hw51 => k0_hw51.1
theorem k0_idx76_inb : ∀ (v690 : IVec S16 32) (k0_hw51 : k0_chk51 v690), ∀ a x, ((![v690] : Fin 1 → IVec S16 32) a x).toNat < S1008.size a := fun v690 k0_hw51 => k0_hw51.2

def k0_chk52 (v693 : IVec S16 32) : Prop :=
  (∀ a x, ((![v693] : Fin 1 → IVec S16 32) a x).toNat < S1008.size a) ∧
  (∀ a x, ((![v693] : Fin 1 → IVec S16 32) a x).toNat < S1008.size a)
theorem k0_idx77_inb : ∀ (v693 : IVec S16 32) (k0_hw52 : k0_chk52 v693), ∀ a x, ((![v693] : Fin 1 → IVec S16 32) a x).toNat < S1008.size a := fun v693 k0_hw52 => k0_hw52.1
theorem k0_idx78_inb : ∀ (v693 : IVec S16 32) (k0_hw52 : k0_chk52 v693), ∀ a x, ((![v693] : Fin 1 → IVec S16 32) a x).toNat < S1008.size a := fun v693 k0_hw52 => k0_hw52.2
def k0_off53 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c184_i32_330 : BitVec 32 := 184#32
  let v704 : BitVec 32 := Scalar.addi v151 c184_i32_330
  let v705 : Index := Scalar.indexCast v704
  ![v705.toNat]
def k0_off54 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_337 : BitVec 32 := 0#32
  let v722 : BitVec 32 := Scalar.addi v151 c0_i32_337
  let v723 : Index := Scalar.indexCast v722
  ![v723.toNat]

def k0_chk53 (v724 : IVec S16 32) : Prop :=
  (∀ a x, ((![v724] : Fin 1 → IVec S16 32) a x).toNat < S1008.size a)
theorem k0_idx79_inb : ∀ (v724 : IVec S16 32) (k0_hw53 : k0_chk53 v724), ∀ a x, ((![v724] : Fin 1 → IVec S16 32) a x).toNat < S1008.size a := fun v724 k0_hw53 => k0_hw53
def k0_off55 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32_338 : BitVec 32 := 16#32
  let v725 : BitVec 32 := Scalar.addi v151 c16_i32_338
  let v726 : Index := Scalar.indexCast v725
  ![v726.toNat]

def k0_chk54 (v727 : IVec S16 32) : Prop :=
  (∀ a x, ((![v727] : Fin 1 → IVec S16 32) a x).toNat < S1008.size a)
theorem k0_idx80_inb : ∀ (v727 : IVec S16 32) (k0_hw54 : k0_chk54 v727), ∀ a x, ((![v727] : Fin 1 → IVec S16 32) a x).toNat < S1008.size a := fun v727 k0_hw54 => k0_hw54
def k0_off56 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_339 : BitVec 32 := 32#32
  let v728 : BitVec 32 := Scalar.addi v151 c32_i32_339
  let v729 : Index := Scalar.indexCast v728
  ![v729.toNat]

def k0_chk55 (v730 : IVec S16 32) : Prop :=
  (∀ a x, ((![v730] : Fin 1 → IVec S16 32) a x).toNat < S1008.size a)
theorem k0_idx81_inb : ∀ (v730 : IVec S16 32) (k0_hw55 : k0_chk55 v730), ∀ a x, ((![v730] : Fin 1 → IVec S16 32) a x).toNat < S1008.size a := fun v730 k0_hw55 => k0_hw55
def k0_off57 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32_340 : BitVec 32 := 48#32
  let v731 : BitVec 32 := Scalar.addi v151 c48_i32_340
  let v732 : Index := Scalar.indexCast v731
  ![v732.toNat]

def k0_chk56 (v733 : IVec S16 32) : Prop :=
  (∀ a x, ((![v733] : Fin 1 → IVec S16 32) a x).toNat < S1008.size a)
theorem k0_idx82_inb : ∀ (v733 : IVec S16 32) (k0_hw56 : k0_chk56 v733), ∀ a x, ((![v733] : Fin 1 → IVec S16 32) a x).toNat < S1008.size a := fun v733 k0_hw56 => k0_hw56
def k0_off58 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_341 : BitVec 32 := 64#32
  let v734 : BitVec 32 := Scalar.addi v151 c64_i32_341
  let v735 : Index := Scalar.indexCast v734
  ![v735.toNat]

def k0_chk57 (v736 : IVec S16 32) : Prop :=
  (∀ a x, ((![v736] : Fin 1 → IVec S16 32) a x).toNat < S1008.size a)
theorem k0_idx83_inb : ∀ (v736 : IVec S16 32) (k0_hw57 : k0_chk57 v736), ∀ a x, ((![v736] : Fin 1 → IVec S16 32) a x).toNat < S1008.size a := fun v736 k0_hw57 => k0_hw57
def k0_off59 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32_342 : BitVec 32 := 80#32
  let v737 : BitVec 32 := Scalar.addi v151 c80_i32_342
  let v738 : Index := Scalar.indexCast v737
  ![v738.toNat]

def k0_chk58 (v739 : IVec S16 32) : Prop :=
  (∀ a x, ((![v739] : Fin 1 → IVec S16 32) a x).toNat < S1008.size a)
theorem k0_idx84_inb : ∀ (v739 : IVec S16 32) (k0_hw58 : k0_chk58 v739), ∀ a x, ((![v739] : Fin 1 → IVec S16 32) a x).toNat < S1008.size a := fun v739 k0_hw58 => k0_hw58
def k0_off60 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_343 : BitVec 32 := 96#32
  let v740 : BitVec 32 := Scalar.addi v151 c96_i32_343
  let v741 : Index := Scalar.indexCast v740
  ![v741.toNat]

def k0_chk59 (v742 : IVec S16 32) : Prop :=
  (∀ a x, ((![v742] : Fin 1 → IVec S16 32) a x).toNat < S1008.size a)
theorem k0_idx85_inb : ∀ (v742 : IVec S16 32) (k0_hw59 : k0_chk59 v742), ∀ a x, ((![v742] : Fin 1 → IVec S16 32) a x).toNat < S1008.size a := fun v742 k0_hw59 => k0_hw59
def k0_off61 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32_344 : BitVec 32 := 112#32
  let v743 : BitVec 32 := Scalar.addi v151 c112_i32_344
  let v744 : Index := Scalar.indexCast v743
  ![v744.toNat]

def k0_chk60 (v745 : IVec S16 32) : Prop :=
  (∀ a x, ((![v745] : Fin 1 → IVec S16 32) a x).toNat < S1008.size a)
theorem k0_idx86_inb : ∀ (v745 : IVec S16 32) (k0_hw60 : k0_chk60 v745), ∀ a x, ((![v745] : Fin 1 → IVec S16 32) a x).toNat < S1008.size a := fun v745 k0_hw60 => k0_hw60
def k0_off62 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_345 : BitVec 32 := 128#32
  let v746 : BitVec 32 := Scalar.addi v151 c128_i32_345
  let v747 : Index := Scalar.indexCast v746
  ![v747.toNat]

def k0_chk61 (v748 : IVec S16 32) : Prop :=
  (∀ a x, ((![v748] : Fin 1 → IVec S16 32) a x).toNat < S1008.size a)
theorem k0_idx87_inb : ∀ (v748 : IVec S16 32) (k0_hw61 : k0_chk61 v748), ∀ a x, ((![v748] : Fin 1 → IVec S16 32) a x).toNat < S1008.size a := fun v748 k0_hw61 => k0_hw61
def k0_off63 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32_346 : BitVec 32 := 144#32
  let v749 : BitVec 32 := Scalar.addi v151 c144_i32_346
  let v750 : Index := Scalar.indexCast v749
  ![v750.toNat]

def k0_chk62 (v751 : IVec S16 32) : Prop :=
  (∀ a x, ((![v751] : Fin 1 → IVec S16 32) a x).toNat < S1008.size a)
theorem k0_idx88_inb : ∀ (v751 : IVec S16 32) (k0_hw62 : k0_chk62 v751), ∀ a x, ((![v751] : Fin 1 → IVec S16 32) a x).toNat < S1008.size a := fun v751 k0_hw62 => k0_hw62
def k0_off64 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32_347 : BitVec 32 := 160#32
  let v752 : BitVec 32 := Scalar.addi v151 c160_i32_347
  let v753 : Index := Scalar.indexCast v752
  ![v753.toNat]

def k0_chk63 (v754 : IVec S16 32) : Prop :=
  (∀ a x, ((![v754] : Fin 1 → IVec S16 32) a x).toNat < S1008.size a)
theorem k0_idx89_inb : ∀ (v754 : IVec S16 32) (k0_hw63 : k0_chk63 v754), ∀ a x, ((![v754] : Fin 1 → IVec S16 32) a x).toNat < S1008.size a := fun v754 k0_hw63 => k0_hw63
def k0_off65 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32_348 : BitVec 32 := 176#32
  let v755 : BitVec 32 := Scalar.addi v151 c176_i32_348
  let v756 : Index := Scalar.indexCast v755
  ![v756.toNat]

def k0_chk64 (v757 : IVec S16 32) : Prop :=
  (∀ a x, ((![v757] : Fin 1 → IVec S16 32) a x).toNat < S1008.size a)
theorem k0_idx90_inb : ∀ (v757 : IVec S16 32) (k0_hw64 : k0_chk64 v757), ∀ a x, ((![v757] : Fin 1 → IVec S16 32) a x).toNat < S1008.size a := fun v757 k0_hw64 => k0_hw64
def k0_off66 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c192_i32_349 : BitVec 32 := 192#32
  let v758 : BitVec 32 := Scalar.addi v151 c192_i32_349
  let v759 : Index := Scalar.indexCast v758
  ![v759.toNat]

def k0_chk65 (v760 : IVec S16 32) : Prop :=
  (∀ a x, ((![v760] : Fin 1 → IVec S16 32) a x).toNat < S1008.size a)
theorem k0_idx91_inb : ∀ (v760 : IVec S16 32) (k0_hw65 : k0_chk65 v760), ∀ a x, ((![v760] : Fin 1 → IVec S16 32) a x).toNat < S1008.size a := fun v760 k0_hw65 => k0_hw65
def k0_off67 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c0_i32_350 : BitVec 32 := 0#32
  let v761 : BitVec 32 := Scalar.addi v151 c0_i32_350
  let v762 : Index := Scalar.indexCast v761
  ![v762.toNat]

def k0_chk66 (v763 : IVec S16 32) : Prop :=
  (∀ a x, ((![v763] : Fin 1 → IVec S16 32) a x).toNat < S1008.size a)
theorem k0_idx92_inb : ∀ (v763 : IVec S16 32) (k0_hw66 : k0_chk66 v763), ∀ a x, ((![v763] : Fin 1 → IVec S16 32) a x).toNat < S1008.size a := fun v763 k0_hw66 => k0_hw66
def k0_off68 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c16_i32_351 : BitVec 32 := 16#32
  let v764 : BitVec 32 := Scalar.addi v151 c16_i32_351
  let v765 : Index := Scalar.indexCast v764
  ![v765.toNat]

def k0_chk67 (v766 : IVec S16 32) : Prop :=
  (∀ a x, ((![v766] : Fin 1 → IVec S16 32) a x).toNat < S1008.size a)
theorem k0_idx93_inb : ∀ (v766 : IVec S16 32) (k0_hw67 : k0_chk67 v766), ∀ a x, ((![v766] : Fin 1 → IVec S16 32) a x).toNat < S1008.size a := fun v766 k0_hw67 => k0_hw67
def k0_off69 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c32_i32_352 : BitVec 32 := 32#32
  let v767 : BitVec 32 := Scalar.addi v151 c32_i32_352
  let v768 : Index := Scalar.indexCast v767
  ![v768.toNat]

def k0_chk68 (v769 : IVec S16 32) : Prop :=
  (∀ a x, ((![v769] : Fin 1 → IVec S16 32) a x).toNat < S1008.size a)
theorem k0_idx94_inb : ∀ (v769 : IVec S16 32) (k0_hw68 : k0_chk68 v769), ∀ a x, ((![v769] : Fin 1 → IVec S16 32) a x).toNat < S1008.size a := fun v769 k0_hw68 => k0_hw68
def k0_off70 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c48_i32_353 : BitVec 32 := 48#32
  let v770 : BitVec 32 := Scalar.addi v151 c48_i32_353
  let v771 : Index := Scalar.indexCast v770
  ![v771.toNat]

def k0_chk69 (v772 : IVec S16 32) : Prop :=
  (∀ a x, ((![v772] : Fin 1 → IVec S16 32) a x).toNat < S1008.size a)
theorem k0_idx95_inb : ∀ (v772 : IVec S16 32) (k0_hw69 : k0_chk69 v772), ∀ a x, ((![v772] : Fin 1 → IVec S16 32) a x).toNat < S1008.size a := fun v772 k0_hw69 => k0_hw69
def k0_off71 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c64_i32_354 : BitVec 32 := 64#32
  let v773 : BitVec 32 := Scalar.addi v151 c64_i32_354
  let v774 : Index := Scalar.indexCast v773
  ![v774.toNat]

def k0_chk70 (v775 : IVec S16 32) : Prop :=
  (∀ a x, ((![v775] : Fin 1 → IVec S16 32) a x).toNat < S1008.size a)
theorem k0_idx96_inb : ∀ (v775 : IVec S16 32) (k0_hw70 : k0_chk70 v775), ∀ a x, ((![v775] : Fin 1 → IVec S16 32) a x).toNat < S1008.size a := fun v775 k0_hw70 => k0_hw70
def k0_off72 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c80_i32_355 : BitVec 32 := 80#32
  let v776 : BitVec 32 := Scalar.addi v151 c80_i32_355
  let v777 : Index := Scalar.indexCast v776
  ![v777.toNat]

def k0_chk71 (v778 : IVec S16 32) : Prop :=
  (∀ a x, ((![v778] : Fin 1 → IVec S16 32) a x).toNat < S1008.size a)
theorem k0_idx97_inb : ∀ (v778 : IVec S16 32) (k0_hw71 : k0_chk71 v778), ∀ a x, ((![v778] : Fin 1 → IVec S16 32) a x).toNat < S1008.size a := fun v778 k0_hw71 => k0_hw71
def k0_off73 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c96_i32_356 : BitVec 32 := 96#32
  let v779 : BitVec 32 := Scalar.addi v151 c96_i32_356
  let v780 : Index := Scalar.indexCast v779
  ![v780.toNat]

def k0_chk72 (v781 : IVec S16 32) : Prop :=
  (∀ a x, ((![v781] : Fin 1 → IVec S16 32) a x).toNat < S1008.size a)
theorem k0_idx98_inb : ∀ (v781 : IVec S16 32) (k0_hw72 : k0_chk72 v781), ∀ a x, ((![v781] : Fin 1 → IVec S16 32) a x).toNat < S1008.size a := fun v781 k0_hw72 => k0_hw72
def k0_off74 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c112_i32_357 : BitVec 32 := 112#32
  let v782 : BitVec 32 := Scalar.addi v151 c112_i32_357
  let v783 : Index := Scalar.indexCast v782
  ![v783.toNat]

def k0_chk73 (v784 : IVec S16 32) : Prop :=
  (∀ a x, ((![v784] : Fin 1 → IVec S16 32) a x).toNat < S1008.size a)
theorem k0_idx99_inb : ∀ (v784 : IVec S16 32) (k0_hw73 : k0_chk73 v784), ∀ a x, ((![v784] : Fin 1 → IVec S16 32) a x).toNat < S1008.size a := fun v784 k0_hw73 => k0_hw73
def k0_off75 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c128_i32_358 : BitVec 32 := 128#32
  let v785 : BitVec 32 := Scalar.addi v151 c128_i32_358
  let v786 : Index := Scalar.indexCast v785
  ![v786.toNat]

def k0_chk74 (v787 : IVec S16 32) : Prop :=
  (∀ a x, ((![v787] : Fin 1 → IVec S16 32) a x).toNat < S1008.size a)
theorem k0_idx100_inb : ∀ (v787 : IVec S16 32) (k0_hw74 : k0_chk74 v787), ∀ a x, ((![v787] : Fin 1 → IVec S16 32) a x).toNat < S1008.size a := fun v787 k0_hw74 => k0_hw74
def k0_off76 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c144_i32_359 : BitVec 32 := 144#32
  let v788 : BitVec 32 := Scalar.addi v151 c144_i32_359
  let v789 : Index := Scalar.indexCast v788
  ![v789.toNat]

def k0_chk75 (v790 : IVec S16 32) : Prop :=
  (∀ a x, ((![v790] : Fin 1 → IVec S16 32) a x).toNat < S1008.size a)
theorem k0_idx101_inb : ∀ (v790 : IVec S16 32) (k0_hw75 : k0_chk75 v790), ∀ a x, ((![v790] : Fin 1 → IVec S16 32) a x).toNat < S1008.size a := fun v790 k0_hw75 => k0_hw75
def k0_off77 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c160_i32_360 : BitVec 32 := 160#32
  let v791 : BitVec 32 := Scalar.addi v151 c160_i32_360
  let v792 : Index := Scalar.indexCast v791
  ![v792.toNat]

def k0_chk76 (v793 : IVec S16 32) : Prop :=
  (∀ a x, ((![v793] : Fin 1 → IVec S16 32) a x).toNat < S1008.size a)
theorem k0_idx102_inb : ∀ (v793 : IVec S16 32) (k0_hw76 : k0_chk76 v793), ∀ a x, ((![v793] : Fin 1 → IVec S16 32) a x).toNat < S1008.size a := fun v793 k0_hw76 => k0_hw76
def k0_off78 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c176_i32_361 : BitVec 32 := 176#32
  let v794 : BitVec 32 := Scalar.addi v151 c176_i32_361
  let v795 : Index := Scalar.indexCast v794
  ![v795.toNat]

def k0_chk77 (v796 : IVec S16 32) : Prop :=
  (∀ a x, ((![v796] : Fin 1 → IVec S16 32) a x).toNat < S1008.size a)
theorem k0_idx103_inb : ∀ (v796 : IVec S16 32) (k0_hw77 : k0_chk77 v796), ∀ a x, ((![v796] : Fin 1 → IVec S16 32) a x).toNat < S1008.size a := fun v796 k0_hw77 => k0_hw77
def k0_off79 (k0_t1 : Fin k0_t1_loop.trips) : Fin 1 → Nat :=
  let c0_i32_66 : BitVec 32 := 0#32
  let c1_i32 : BitVec 32 := 1#32
  let arg16 : BitVec 32 := Scf.iv c0_i32_66 c1_i32 k0_t1
  let c200_i32_90 : BitVec 32 := 200#32
  let v151 : BitVec 32 := Scalar.muli arg16 c200_i32_90
  let c192_i32_362 : BitVec 32 := 192#32
  let v797 : BitVec 32 := Scalar.addi v151 c192_i32_362
  let v798 : Index := Scalar.indexCast v797
  ![v798.toNat]

def k0_chk78 (v799 : IVec S16 32) : Prop :=
  (∀ a x, ((![v799] : Fin 1 → IVec S16 32) a x).toNat < S1008.size a)
theorem k0_idx104_inb : ∀ (v799 : IVec S16 32) (k0_hw78 : k0_chk78 v799), ∀ a x, ((![v799] : Fin 1 → IVec S16 32) a x).toNat < S1008.size a := fun v799 k0_hw78 => k0_hw78
@[reducible] def k0_t2_loop : Scf.Loop 32 :=
  let c0_i32_72 : BitVec 32 := 0#32
  let c32_i32_73 : BitVec 32 := 32#32
  let v142 : BitVec 32 := Scalar.addi c0_i32_72 c32_i32_73
  let c1_i32_74 : BitVec 32 := 1#32
  ⟨c0_i32_72, v142, c1_i32_74⟩
def k0_off80 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_91 : BitVec 32 := 0#32
  let v152 : BitVec 32 := Scalar.addi v151 c0_i32_91
  let v153 : Index := Scalar.indexCast v152
  ![v153.toNat]

def k0_chk79 (v154 : IVec S16 32) : Prop :=
  (∀ a x, ((![v154] : Fin 1 → IVec S16 32) a x).toNat < S1008.size a)
theorem k0_idx105_inb : ∀ (v154 : IVec S16 32) (k0_hw79 : k0_chk79 v154), ∀ a x, ((![v154] : Fin 1 → IVec S16 32) a x).toNat < S1008.size a := fun v154 k0_hw79 => k0_hw79
def k0_off81 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32 : BitVec 32 := 16#32
  let v157 : BitVec 32 := Scalar.addi v151 c16_i32
  let v158 : Index := Scalar.indexCast v157
  ![v158.toNat]

def k0_chk80 (v159 : IVec S16 32) : Prop :=
  (∀ a x, ((![v159] : Fin 1 → IVec S16 32) a x).toNat < S1008.size a)
theorem k0_idx106_inb : ∀ (v159 : IVec S16 32) (k0_hw80 : k0_chk80 v159), ∀ a x, ((![v159] : Fin 1 → IVec S16 32) a x).toNat < S1008.size a := fun v159 k0_hw80 => k0_hw80
def k0_off82 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_95 : BitVec 32 := 32#32
  let v162 : BitVec 32 := Scalar.addi v151 c32_i32_95
  let v163 : Index := Scalar.indexCast v162
  ![v163.toNat]

def k0_chk81 (v164 : IVec S16 32) : Prop :=
  (∀ a x, ((![v164] : Fin 1 → IVec S16 32) a x).toNat < S1008.size a)
theorem k0_idx107_inb : ∀ (v164 : IVec S16 32) (k0_hw81 : k0_chk81 v164), ∀ a x, ((![v164] : Fin 1 → IVec S16 32) a x).toNat < S1008.size a := fun v164 k0_hw81 => k0_hw81
def k0_off83 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32 : BitVec 32 := 48#32
  let v167 : BitVec 32 := Scalar.addi v151 c48_i32
  let v168 : Index := Scalar.indexCast v167
  ![v168.toNat]

def k0_chk82 (v169 : IVec S16 32) : Prop :=
  (∀ a x, ((![v169] : Fin 1 → IVec S16 32) a x).toNat < S1008.size a)
theorem k0_idx108_inb : ∀ (v169 : IVec S16 32) (k0_hw82 : k0_chk82 v169), ∀ a x, ((![v169] : Fin 1 → IVec S16 32) a x).toNat < S1008.size a := fun v169 k0_hw82 => k0_hw82
def k0_off84 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_102 : BitVec 32 := 64#32
  let v172 : BitVec 32 := Scalar.addi v151 c64_i32_102
  let v173 : Index := Scalar.indexCast v172
  ![v173.toNat]

def k0_chk83 (v174 : IVec S16 32) : Prop :=
  (∀ a x, ((![v174] : Fin 1 → IVec S16 32) a x).toNat < S1008.size a)
theorem k0_idx109_inb : ∀ (v174 : IVec S16 32) (k0_hw83 : k0_chk83 v174), ∀ a x, ((![v174] : Fin 1 → IVec S16 32) a x).toNat < S1008.size a := fun v174 k0_hw83 => k0_hw83
def k0_off85 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32 : BitVec 32 := 80#32
  let v177 : BitVec 32 := Scalar.addi v151 c80_i32
  let v178 : Index := Scalar.indexCast v177
  ![v178.toNat]

def k0_chk84 (v179 : IVec S16 32) : Prop :=
  (∀ a x, ((![v179] : Fin 1 → IVec S16 32) a x).toNat < S1008.size a)
theorem k0_idx110_inb : ∀ (v179 : IVec S16 32) (k0_hw84 : k0_chk84 v179), ∀ a x, ((![v179] : Fin 1 → IVec S16 32) a x).toNat < S1008.size a := fun v179 k0_hw84 => k0_hw84
def k0_off86 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_109 : BitVec 32 := 96#32
  let v182 : BitVec 32 := Scalar.addi v151 c96_i32_109
  let v183 : Index := Scalar.indexCast v182
  ![v183.toNat]

def k0_chk85 (v184 : IVec S16 32) : Prop :=
  (∀ a x, ((![v184] : Fin 1 → IVec S16 32) a x).toNat < S1008.size a)
theorem k0_idx111_inb : ∀ (v184 : IVec S16 32) (k0_hw85 : k0_chk85 v184), ∀ a x, ((![v184] : Fin 1 → IVec S16 32) a x).toNat < S1008.size a := fun v184 k0_hw85 => k0_hw85
def k0_off87 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32 : BitVec 32 := 112#32
  let v187 : BitVec 32 := Scalar.addi v151 c112_i32
  let v188 : Index := Scalar.indexCast v187
  ![v188.toNat]

def k0_chk86 (v189 : IVec S16 32) : Prop :=
  (∀ a x, ((![v189] : Fin 1 → IVec S16 32) a x).toNat < S1008.size a)
theorem k0_idx112_inb : ∀ (v189 : IVec S16 32) (k0_hw86 : k0_chk86 v189), ∀ a x, ((![v189] : Fin 1 → IVec S16 32) a x).toNat < S1008.size a := fun v189 k0_hw86 => k0_hw86
def k0_off88 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_116 : BitVec 32 := 128#32
  let v192 : BitVec 32 := Scalar.addi v151 c128_i32_116
  let v193 : Index := Scalar.indexCast v192
  ![v193.toNat]

def k0_chk87 (v194 : IVec S16 32) : Prop :=
  (∀ a x, ((![v194] : Fin 1 → IVec S16 32) a x).toNat < S1008.size a)
theorem k0_idx113_inb : ∀ (v194 : IVec S16 32) (k0_hw87 : k0_chk87 v194), ∀ a x, ((![v194] : Fin 1 → IVec S16 32) a x).toNat < S1008.size a := fun v194 k0_hw87 => k0_hw87
def k0_off89 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32 : BitVec 32 := 144#32
  let v197 : BitVec 32 := Scalar.addi v151 c144_i32
  let v198 : Index := Scalar.indexCast v197
  ![v198.toNat]

def k0_chk88 (v199 : IVec S16 32) : Prop :=
  (∀ a x, ((![v199] : Fin 1 → IVec S16 32) a x).toNat < S1008.size a)
theorem k0_idx114_inb : ∀ (v199 : IVec S16 32) (k0_hw88 : k0_chk88 v199), ∀ a x, ((![v199] : Fin 1 → IVec S16 32) a x).toNat < S1008.size a := fun v199 k0_hw88 => k0_hw88
def k0_off90 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32 : BitVec 32 := 160#32
  let v202 : BitVec 32 := Scalar.addi v151 c160_i32
  let v203 : Index := Scalar.indexCast v202
  ![v203.toNat]

def k0_chk89 (v204 : IVec S16 32) : Prop :=
  (∀ a x, ((![v204] : Fin 1 → IVec S16 32) a x).toNat < S1008.size a)
theorem k0_idx115_inb : ∀ (v204 : IVec S16 32) (k0_hw89 : k0_chk89 v204), ∀ a x, ((![v204] : Fin 1 → IVec S16 32) a x).toNat < S1008.size a := fun v204 k0_hw89 => k0_hw89
def k0_off91 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32 : BitVec 32 := 176#32
  let v207 : BitVec 32 := Scalar.addi v151 c176_i32
  let v208 : Index := Scalar.indexCast v207
  ![v208.toNat]

def k0_chk90 (v209 : IVec S16 32) : Prop :=
  (∀ a x, ((![v209] : Fin 1 → IVec S16 32) a x).toNat < S1008.size a)
theorem k0_idx116_inb : ∀ (v209 : IVec S16 32) (k0_hw90 : k0_chk90 v209), ∀ a x, ((![v209] : Fin 1 → IVec S16 32) a x).toNat < S1008.size a := fun v209 k0_hw90 => k0_hw90
def k0_off92 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c192_i32 : BitVec 32 := 192#32
  let v212 : BitVec 32 := Scalar.addi v151 c192_i32
  let v213 : Index := Scalar.indexCast v212
  ![v213.toNat]

def k0_chk91 (v214 : IVec S16 32) : Prop :=
  (∀ a x, ((![v214] : Fin 1 → IVec S16 32) a x).toNat < S1008.size a)
theorem k0_idx117_inb : ∀ (v214 : IVec S16 32) (k0_hw91 : k0_chk91 v214), ∀ a x, ((![v214] : Fin 1 → IVec S16 32) a x).toNat < S1008.size a := fun v214 k0_hw91 => k0_hw91
def k0_off93 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_131 : BitVec 32 := 0#32
  let v216 : BitVec 32 := Scalar.addi v151 c0_i32_131
  let v217 : Index := Scalar.indexCast v216
  ![v217.toNat]

def k0_chk92 (v218 : IVec S16 32) : Prop :=
  (∀ a x, ((![v218] : Fin 1 → IVec S16 32) a x).toNat < S1008.size a)
theorem k0_idx118_inb : ∀ (v218 : IVec S16 32) (k0_hw92 : k0_chk92 v218), ∀ a x, ((![v218] : Fin 1 → IVec S16 32) a x).toNat < S1008.size a := fun v218 k0_hw92 => k0_hw92
def k0_off94 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32_135 : BitVec 32 := 16#32
  let v221 : BitVec 32 := Scalar.addi v151 c16_i32_135
  let v222 : Index := Scalar.indexCast v221
  ![v222.toNat]

def k0_chk93 (v223 : IVec S16 32) : Prop :=
  (∀ a x, ((![v223] : Fin 1 → IVec S16 32) a x).toNat < S1008.size a)
theorem k0_idx119_inb : ∀ (v223 : IVec S16 32) (k0_hw93 : k0_chk93 v223), ∀ a x, ((![v223] : Fin 1 → IVec S16 32) a x).toNat < S1008.size a := fun v223 k0_hw93 => k0_hw93
def k0_off95 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_139 : BitVec 32 := 32#32
  let v226 : BitVec 32 := Scalar.addi v151 c32_i32_139
  let v227 : Index := Scalar.indexCast v226
  ![v227.toNat]

def k0_chk94 (v228 : IVec S16 32) : Prop :=
  (∀ a x, ((![v228] : Fin 1 → IVec S16 32) a x).toNat < S1008.size a)
theorem k0_idx120_inb : ∀ (v228 : IVec S16 32) (k0_hw94 : k0_chk94 v228), ∀ a x, ((![v228] : Fin 1 → IVec S16 32) a x).toNat < S1008.size a := fun v228 k0_hw94 => k0_hw94
def k0_off96 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32_143 : BitVec 32 := 48#32
  let v231 : BitVec 32 := Scalar.addi v151 c48_i32_143
  let v232 : Index := Scalar.indexCast v231
  ![v232.toNat]

def k0_chk95 (v233 : IVec S16 32) : Prop :=
  (∀ a x, ((![v233] : Fin 1 → IVec S16 32) a x).toNat < S1008.size a)
theorem k0_idx121_inb : ∀ (v233 : IVec S16 32) (k0_hw95 : k0_chk95 v233), ∀ a x, ((![v233] : Fin 1 → IVec S16 32) a x).toNat < S1008.size a := fun v233 k0_hw95 => k0_hw95
def k0_off97 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_147 : BitVec 32 := 64#32
  let v236 : BitVec 32 := Scalar.addi v151 c64_i32_147
  let v237 : Index := Scalar.indexCast v236
  ![v237.toNat]

def k0_chk96 (v238 : IVec S16 32) : Prop :=
  (∀ a x, ((![v238] : Fin 1 → IVec S16 32) a x).toNat < S1008.size a)
theorem k0_idx122_inb : ∀ (v238 : IVec S16 32) (k0_hw96 : k0_chk96 v238), ∀ a x, ((![v238] : Fin 1 → IVec S16 32) a x).toNat < S1008.size a := fun v238 k0_hw96 => k0_hw96
def k0_off98 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32_151 : BitVec 32 := 80#32
  let v241 : BitVec 32 := Scalar.addi v151 c80_i32_151
  let v242 : Index := Scalar.indexCast v241
  ![v242.toNat]

def k0_chk97 (v243 : IVec S16 32) : Prop :=
  (∀ a x, ((![v243] : Fin 1 → IVec S16 32) a x).toNat < S1008.size a)
theorem k0_idx123_inb : ∀ (v243 : IVec S16 32) (k0_hw97 : k0_chk97 v243), ∀ a x, ((![v243] : Fin 1 → IVec S16 32) a x).toNat < S1008.size a := fun v243 k0_hw97 => k0_hw97
def k0_off99 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_155 : BitVec 32 := 96#32
  let v246 : BitVec 32 := Scalar.addi v151 c96_i32_155
  let v247 : Index := Scalar.indexCast v246
  ![v247.toNat]

def k0_chk98 (v248 : IVec S16 32) : Prop :=
  (∀ a x, ((![v248] : Fin 1 → IVec S16 32) a x).toNat < S1008.size a)
theorem k0_idx124_inb : ∀ (v248 : IVec S16 32) (k0_hw98 : k0_chk98 v248), ∀ a x, ((![v248] : Fin 1 → IVec S16 32) a x).toNat < S1008.size a := fun v248 k0_hw98 => k0_hw98
def k0_off100 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32_159 : BitVec 32 := 112#32
  let v251 : BitVec 32 := Scalar.addi v151 c112_i32_159
  let v252 : Index := Scalar.indexCast v251
  ![v252.toNat]

def k0_chk99 (v253 : IVec S16 32) : Prop :=
  (∀ a x, ((![v253] : Fin 1 → IVec S16 32) a x).toNat < S1008.size a)
theorem k0_idx125_inb : ∀ (v253 : IVec S16 32) (k0_hw99 : k0_chk99 v253), ∀ a x, ((![v253] : Fin 1 → IVec S16 32) a x).toNat < S1008.size a := fun v253 k0_hw99 => k0_hw99
def k0_off101 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_163 : BitVec 32 := 128#32
  let v256 : BitVec 32 := Scalar.addi v151 c128_i32_163
  let v257 : Index := Scalar.indexCast v256
  ![v257.toNat]

def k0_chk100 (v258 : IVec S16 32) : Prop :=
  (∀ a x, ((![v258] : Fin 1 → IVec S16 32) a x).toNat < S1008.size a)
theorem k0_idx126_inb : ∀ (v258 : IVec S16 32) (k0_hw100 : k0_chk100 v258), ∀ a x, ((![v258] : Fin 1 → IVec S16 32) a x).toNat < S1008.size a := fun v258 k0_hw100 => k0_hw100
def k0_off102 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32_167 : BitVec 32 := 144#32
  let v261 : BitVec 32 := Scalar.addi v151 c144_i32_167
  let v262 : Index := Scalar.indexCast v261
  ![v262.toNat]

def k0_chk101 (v263 : IVec S16 32) : Prop :=
  (∀ a x, ((![v263] : Fin 1 → IVec S16 32) a x).toNat < S1008.size a)
theorem k0_idx127_inb : ∀ (v263 : IVec S16 32) (k0_hw101 : k0_chk101 v263), ∀ a x, ((![v263] : Fin 1 → IVec S16 32) a x).toNat < S1008.size a := fun v263 k0_hw101 => k0_hw101
def k0_off103 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32_171 : BitVec 32 := 160#32
  let v266 : BitVec 32 := Scalar.addi v151 c160_i32_171
  let v267 : Index := Scalar.indexCast v266
  ![v267.toNat]

def k0_chk102 (v268 : IVec S16 32) : Prop :=
  (∀ a x, ((![v268] : Fin 1 → IVec S16 32) a x).toNat < S1008.size a)
theorem k0_idx128_inb : ∀ (v268 : IVec S16 32) (k0_hw102 : k0_chk102 v268), ∀ a x, ((![v268] : Fin 1 → IVec S16 32) a x).toNat < S1008.size a := fun v268 k0_hw102 => k0_hw102
def k0_off104 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32_175 : BitVec 32 := 176#32
  let v271 : BitVec 32 := Scalar.addi v151 c176_i32_175
  let v272 : Index := Scalar.indexCast v271
  ![v272.toNat]

def k0_chk103 (v273 : IVec S16 32) : Prop :=
  (∀ a x, ((![v273] : Fin 1 → IVec S16 32) a x).toNat < S1008.size a)
theorem k0_idx129_inb : ∀ (v273 : IVec S16 32) (k0_hw103 : k0_chk103 v273), ∀ a x, ((![v273] : Fin 1 → IVec S16 32) a x).toNat < S1008.size a := fun v273 k0_hw103 => k0_hw103
def k0_off105 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c192_i32_179 : BitVec 32 := 192#32
  let v276 : BitVec 32 := Scalar.addi v151 c192_i32_179
  let v277 : Index := Scalar.indexCast v276
  ![v277.toNat]

def k0_chk104 (v278 : IVec S16 32) : Prop :=
  (∀ a x, ((![v278] : Fin 1 → IVec S16 32) a x).toNat < S1008.size a)
theorem k0_idx130_inb : ∀ (v278 : IVec S16 32) (k0_hw104 : k0_chk104 v278), ∀ a x, ((![v278] : Fin 1 → IVec S16 32) a x).toNat < S1008.size a := fun v278 k0_hw104 => k0_hw104
def k0_off106 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_182 : BitVec 32 := 0#32
  let v280 : BitVec 32 := Scalar.addi v151 c0_i32_182
  let v281 : Index := Scalar.indexCast v280
  ![v281.toNat]

def k0_chk105 (v282 : IVec S16 32) : Prop :=
  (∀ a x, ((![v282] : Fin 1 → IVec S16 32) a x).toNat < S1008.size a) ∧
  (∀ a x, ((![v282] : Fin 1 → IVec S16 32) a x).toNat < S1008.size a)
theorem k0_idx131_inb : ∀ (v282 : IVec S16 32) (k0_hw105 : k0_chk105 v282), ∀ a x, ((![v282] : Fin 1 → IVec S16 32) a x).toNat < S1008.size a := fun v282 k0_hw105 => k0_hw105.1
theorem k0_idx132_inb : ∀ (v282 : IVec S16 32) (k0_hw105 : k0_chk105 v282), ∀ a x, ((![v282] : Fin 1 → IVec S16 32) a x).toNat < S1008.size a := fun v282 k0_hw105 => k0_hw105.2

def k0_chk106 (v285 : IVec S16 32) : Prop :=
  (∀ a x, ((![v285] : Fin 1 → IVec S16 32) a x).toNat < S1008.size a) ∧
  (∀ a x, ((![v285] : Fin 1 → IVec S16 32) a x).toNat < S1008.size a)
theorem k0_idx133_inb : ∀ (v285 : IVec S16 32) (k0_hw106 : k0_chk106 v285), ∀ a x, ((![v285] : Fin 1 → IVec S16 32) a x).toNat < S1008.size a := fun v285 k0_hw106 => k0_hw106.1
theorem k0_idx134_inb : ∀ (v285 : IVec S16 32) (k0_hw106 : k0_chk106 v285), ∀ a x, ((![v285] : Fin 1 → IVec S16 32) a x).toNat < S1008.size a := fun v285 k0_hw106 => k0_hw106.2
def k0_off107 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_187 : BitVec 32 := 0#32
  let v296 : BitVec 32 := Scalar.addi v151 c0_i32_187
  let v297 : Index := Scalar.indexCast v296
  ![v297.toNat]
def k0_off108 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32_194 : BitVec 32 := 16#32
  let v314 : BitVec 32 := Scalar.addi v151 c16_i32_194
  let v315 : Index := Scalar.indexCast v314
  ![v315.toNat]

def k0_chk107 (v316 : IVec S16 32) : Prop :=
  (∀ a x, ((![v316] : Fin 1 → IVec S16 32) a x).toNat < S1008.size a) ∧
  (∀ a x, ((![v316] : Fin 1 → IVec S16 32) a x).toNat < S1008.size a)
theorem k0_idx135_inb : ∀ (v316 : IVec S16 32) (k0_hw107 : k0_chk107 v316), ∀ a x, ((![v316] : Fin 1 → IVec S16 32) a x).toNat < S1008.size a := fun v316 k0_hw107 => k0_hw107.1
theorem k0_idx136_inb : ∀ (v316 : IVec S16 32) (k0_hw107 : k0_chk107 v316), ∀ a x, ((![v316] : Fin 1 → IVec S16 32) a x).toNat < S1008.size a := fun v316 k0_hw107 => k0_hw107.2

def k0_chk108 (v319 : IVec S16 32) : Prop :=
  (∀ a x, ((![v319] : Fin 1 → IVec S16 32) a x).toNat < S1008.size a) ∧
  (∀ a x, ((![v319] : Fin 1 → IVec S16 32) a x).toNat < S1008.size a)
theorem k0_idx137_inb : ∀ (v319 : IVec S16 32) (k0_hw108 : k0_chk108 v319), ∀ a x, ((![v319] : Fin 1 → IVec S16 32) a x).toNat < S1008.size a := fun v319 k0_hw108 => k0_hw108.1
theorem k0_idx138_inb : ∀ (v319 : IVec S16 32) (k0_hw108 : k0_chk108 v319), ∀ a x, ((![v319] : Fin 1 → IVec S16 32) a x).toNat < S1008.size a := fun v319 k0_hw108 => k0_hw108.2
def k0_off109 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32_199 : BitVec 32 := 16#32
  let v330 : BitVec 32 := Scalar.addi v151 c16_i32_199
  let v331 : Index := Scalar.indexCast v330
  ![v331.toNat]
def k0_off110 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_206 : BitVec 32 := 32#32
  let v348 : BitVec 32 := Scalar.addi v151 c32_i32_206
  let v349 : Index := Scalar.indexCast v348
  ![v349.toNat]

def k0_chk109 (v350 : IVec S16 32) : Prop :=
  (∀ a x, ((![v350] : Fin 1 → IVec S16 32) a x).toNat < S1008.size a) ∧
  (∀ a x, ((![v350] : Fin 1 → IVec S16 32) a x).toNat < S1008.size a)
theorem k0_idx139_inb : ∀ (v350 : IVec S16 32) (k0_hw109 : k0_chk109 v350), ∀ a x, ((![v350] : Fin 1 → IVec S16 32) a x).toNat < S1008.size a := fun v350 k0_hw109 => k0_hw109.1
theorem k0_idx140_inb : ∀ (v350 : IVec S16 32) (k0_hw109 : k0_chk109 v350), ∀ a x, ((![v350] : Fin 1 → IVec S16 32) a x).toNat < S1008.size a := fun v350 k0_hw109 => k0_hw109.2

def k0_chk110 (v353 : IVec S16 32) : Prop :=
  (∀ a x, ((![v353] : Fin 1 → IVec S16 32) a x).toNat < S1008.size a) ∧
  (∀ a x, ((![v353] : Fin 1 → IVec S16 32) a x).toNat < S1008.size a)
theorem k0_idx141_inb : ∀ (v353 : IVec S16 32) (k0_hw110 : k0_chk110 v353), ∀ a x, ((![v353] : Fin 1 → IVec S16 32) a x).toNat < S1008.size a := fun v353 k0_hw110 => k0_hw110.1
theorem k0_idx142_inb : ∀ (v353 : IVec S16 32) (k0_hw110 : k0_chk110 v353), ∀ a x, ((![v353] : Fin 1 → IVec S16 32) a x).toNat < S1008.size a := fun v353 k0_hw110 => k0_hw110.2
def k0_off111 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_211 : BitVec 32 := 32#32
  let v364 : BitVec 32 := Scalar.addi v151 c32_i32_211
  let v365 : Index := Scalar.indexCast v364
  ![v365.toNat]
def k0_off112 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32_218 : BitVec 32 := 48#32
  let v382 : BitVec 32 := Scalar.addi v151 c48_i32_218
  let v383 : Index := Scalar.indexCast v382
  ![v383.toNat]

def k0_chk111 (v384 : IVec S16 32) : Prop :=
  (∀ a x, ((![v384] : Fin 1 → IVec S16 32) a x).toNat < S1008.size a) ∧
  (∀ a x, ((![v384] : Fin 1 → IVec S16 32) a x).toNat < S1008.size a)
theorem k0_idx143_inb : ∀ (v384 : IVec S16 32) (k0_hw111 : k0_chk111 v384), ∀ a x, ((![v384] : Fin 1 → IVec S16 32) a x).toNat < S1008.size a := fun v384 k0_hw111 => k0_hw111.1
theorem k0_idx144_inb : ∀ (v384 : IVec S16 32) (k0_hw111 : k0_chk111 v384), ∀ a x, ((![v384] : Fin 1 → IVec S16 32) a x).toNat < S1008.size a := fun v384 k0_hw111 => k0_hw111.2

def k0_chk112 (v387 : IVec S16 32) : Prop :=
  (∀ a x, ((![v387] : Fin 1 → IVec S16 32) a x).toNat < S1008.size a) ∧
  (∀ a x, ((![v387] : Fin 1 → IVec S16 32) a x).toNat < S1008.size a)
theorem k0_idx145_inb : ∀ (v387 : IVec S16 32) (k0_hw112 : k0_chk112 v387), ∀ a x, ((![v387] : Fin 1 → IVec S16 32) a x).toNat < S1008.size a := fun v387 k0_hw112 => k0_hw112.1
theorem k0_idx146_inb : ∀ (v387 : IVec S16 32) (k0_hw112 : k0_chk112 v387), ∀ a x, ((![v387] : Fin 1 → IVec S16 32) a x).toNat < S1008.size a := fun v387 k0_hw112 => k0_hw112.2
def k0_off113 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32_223 : BitVec 32 := 48#32
  let v398 : BitVec 32 := Scalar.addi v151 c48_i32_223
  let v399 : Index := Scalar.indexCast v398
  ![v399.toNat]
def k0_off114 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_230 : BitVec 32 := 64#32
  let v416 : BitVec 32 := Scalar.addi v151 c64_i32_230
  let v417 : Index := Scalar.indexCast v416
  ![v417.toNat]

def k0_chk113 (v418 : IVec S16 32) : Prop :=
  (∀ a x, ((![v418] : Fin 1 → IVec S16 32) a x).toNat < S1008.size a) ∧
  (∀ a x, ((![v418] : Fin 1 → IVec S16 32) a x).toNat < S1008.size a)
theorem k0_idx147_inb : ∀ (v418 : IVec S16 32) (k0_hw113 : k0_chk113 v418), ∀ a x, ((![v418] : Fin 1 → IVec S16 32) a x).toNat < S1008.size a := fun v418 k0_hw113 => k0_hw113.1
theorem k0_idx148_inb : ∀ (v418 : IVec S16 32) (k0_hw113 : k0_chk113 v418), ∀ a x, ((![v418] : Fin 1 → IVec S16 32) a x).toNat < S1008.size a := fun v418 k0_hw113 => k0_hw113.2

def k0_chk114 (v421 : IVec S16 32) : Prop :=
  (∀ a x, ((![v421] : Fin 1 → IVec S16 32) a x).toNat < S1008.size a) ∧
  (∀ a x, ((![v421] : Fin 1 → IVec S16 32) a x).toNat < S1008.size a)
theorem k0_idx149_inb : ∀ (v421 : IVec S16 32) (k0_hw114 : k0_chk114 v421), ∀ a x, ((![v421] : Fin 1 → IVec S16 32) a x).toNat < S1008.size a := fun v421 k0_hw114 => k0_hw114.1
theorem k0_idx150_inb : ∀ (v421 : IVec S16 32) (k0_hw114 : k0_chk114 v421), ∀ a x, ((![v421] : Fin 1 → IVec S16 32) a x).toNat < S1008.size a := fun v421 k0_hw114 => k0_hw114.2
def k0_off115 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_235 : BitVec 32 := 64#32
  let v432 : BitVec 32 := Scalar.addi v151 c64_i32_235
  let v433 : Index := Scalar.indexCast v432
  ![v433.toNat]
def k0_off116 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32_242 : BitVec 32 := 80#32
  let v450 : BitVec 32 := Scalar.addi v151 c80_i32_242
  let v451 : Index := Scalar.indexCast v450
  ![v451.toNat]

def k0_chk115 (v452 : IVec S16 32) : Prop :=
  (∀ a x, ((![v452] : Fin 1 → IVec S16 32) a x).toNat < S1008.size a) ∧
  (∀ a x, ((![v452] : Fin 1 → IVec S16 32) a x).toNat < S1008.size a)
theorem k0_idx151_inb : ∀ (v452 : IVec S16 32) (k0_hw115 : k0_chk115 v452), ∀ a x, ((![v452] : Fin 1 → IVec S16 32) a x).toNat < S1008.size a := fun v452 k0_hw115 => k0_hw115.1
theorem k0_idx152_inb : ∀ (v452 : IVec S16 32) (k0_hw115 : k0_chk115 v452), ∀ a x, ((![v452] : Fin 1 → IVec S16 32) a x).toNat < S1008.size a := fun v452 k0_hw115 => k0_hw115.2

def k0_chk116 (v455 : IVec S16 32) : Prop :=
  (∀ a x, ((![v455] : Fin 1 → IVec S16 32) a x).toNat < S1008.size a) ∧
  (∀ a x, ((![v455] : Fin 1 → IVec S16 32) a x).toNat < S1008.size a)
theorem k0_idx153_inb : ∀ (v455 : IVec S16 32) (k0_hw116 : k0_chk116 v455), ∀ a x, ((![v455] : Fin 1 → IVec S16 32) a x).toNat < S1008.size a := fun v455 k0_hw116 => k0_hw116.1
theorem k0_idx154_inb : ∀ (v455 : IVec S16 32) (k0_hw116 : k0_chk116 v455), ∀ a x, ((![v455] : Fin 1 → IVec S16 32) a x).toNat < S1008.size a := fun v455 k0_hw116 => k0_hw116.2
def k0_off117 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32_247 : BitVec 32 := 80#32
  let v466 : BitVec 32 := Scalar.addi v151 c80_i32_247
  let v467 : Index := Scalar.indexCast v466
  ![v467.toNat]
def k0_off118 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_254 : BitVec 32 := 96#32
  let v484 : BitVec 32 := Scalar.addi v151 c96_i32_254
  let v485 : Index := Scalar.indexCast v484
  ![v485.toNat]

def k0_chk117 (v486 : IVec S16 32) : Prop :=
  (∀ a x, ((![v486] : Fin 1 → IVec S16 32) a x).toNat < S1008.size a) ∧
  (∀ a x, ((![v486] : Fin 1 → IVec S16 32) a x).toNat < S1008.size a)
theorem k0_idx155_inb : ∀ (v486 : IVec S16 32) (k0_hw117 : k0_chk117 v486), ∀ a x, ((![v486] : Fin 1 → IVec S16 32) a x).toNat < S1008.size a := fun v486 k0_hw117 => k0_hw117.1
theorem k0_idx156_inb : ∀ (v486 : IVec S16 32) (k0_hw117 : k0_chk117 v486), ∀ a x, ((![v486] : Fin 1 → IVec S16 32) a x).toNat < S1008.size a := fun v486 k0_hw117 => k0_hw117.2

def k0_chk118 (v489 : IVec S16 32) : Prop :=
  (∀ a x, ((![v489] : Fin 1 → IVec S16 32) a x).toNat < S1008.size a) ∧
  (∀ a x, ((![v489] : Fin 1 → IVec S16 32) a x).toNat < S1008.size a)
theorem k0_idx157_inb : ∀ (v489 : IVec S16 32) (k0_hw118 : k0_chk118 v489), ∀ a x, ((![v489] : Fin 1 → IVec S16 32) a x).toNat < S1008.size a := fun v489 k0_hw118 => k0_hw118.1
theorem k0_idx158_inb : ∀ (v489 : IVec S16 32) (k0_hw118 : k0_chk118 v489), ∀ a x, ((![v489] : Fin 1 → IVec S16 32) a x).toNat < S1008.size a := fun v489 k0_hw118 => k0_hw118.2
def k0_off119 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_259 : BitVec 32 := 96#32
  let v500 : BitVec 32 := Scalar.addi v151 c96_i32_259
  let v501 : Index := Scalar.indexCast v500
  ![v501.toNat]
def k0_off120 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32_266 : BitVec 32 := 112#32
  let v518 : BitVec 32 := Scalar.addi v151 c112_i32_266
  let v519 : Index := Scalar.indexCast v518
  ![v519.toNat]

def k0_chk119 (v520 : IVec S16 32) : Prop :=
  (∀ a x, ((![v520] : Fin 1 → IVec S16 32) a x).toNat < S1008.size a) ∧
  (∀ a x, ((![v520] : Fin 1 → IVec S16 32) a x).toNat < S1008.size a)
theorem k0_idx159_inb : ∀ (v520 : IVec S16 32) (k0_hw119 : k0_chk119 v520), ∀ a x, ((![v520] : Fin 1 → IVec S16 32) a x).toNat < S1008.size a := fun v520 k0_hw119 => k0_hw119.1
theorem k0_idx160_inb : ∀ (v520 : IVec S16 32) (k0_hw119 : k0_chk119 v520), ∀ a x, ((![v520] : Fin 1 → IVec S16 32) a x).toNat < S1008.size a := fun v520 k0_hw119 => k0_hw119.2

def k0_chk120 (v523 : IVec S16 32) : Prop :=
  (∀ a x, ((![v523] : Fin 1 → IVec S16 32) a x).toNat < S1008.size a) ∧
  (∀ a x, ((![v523] : Fin 1 → IVec S16 32) a x).toNat < S1008.size a)
theorem k0_idx161_inb : ∀ (v523 : IVec S16 32) (k0_hw120 : k0_chk120 v523), ∀ a x, ((![v523] : Fin 1 → IVec S16 32) a x).toNat < S1008.size a := fun v523 k0_hw120 => k0_hw120.1
theorem k0_idx162_inb : ∀ (v523 : IVec S16 32) (k0_hw120 : k0_chk120 v523), ∀ a x, ((![v523] : Fin 1 → IVec S16 32) a x).toNat < S1008.size a := fun v523 k0_hw120 => k0_hw120.2
def k0_off121 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32_271 : BitVec 32 := 112#32
  let v534 : BitVec 32 := Scalar.addi v151 c112_i32_271
  let v535 : Index := Scalar.indexCast v534
  ![v535.toNat]
def k0_off122 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_278 : BitVec 32 := 128#32
  let v552 : BitVec 32 := Scalar.addi v151 c128_i32_278
  let v553 : Index := Scalar.indexCast v552
  ![v553.toNat]

def k0_chk121 (v554 : IVec S16 32) : Prop :=
  (∀ a x, ((![v554] : Fin 1 → IVec S16 32) a x).toNat < S1008.size a) ∧
  (∀ a x, ((![v554] : Fin 1 → IVec S16 32) a x).toNat < S1008.size a)
theorem k0_idx163_inb : ∀ (v554 : IVec S16 32) (k0_hw121 : k0_chk121 v554), ∀ a x, ((![v554] : Fin 1 → IVec S16 32) a x).toNat < S1008.size a := fun v554 k0_hw121 => k0_hw121.1
theorem k0_idx164_inb : ∀ (v554 : IVec S16 32) (k0_hw121 : k0_chk121 v554), ∀ a x, ((![v554] : Fin 1 → IVec S16 32) a x).toNat < S1008.size a := fun v554 k0_hw121 => k0_hw121.2

def k0_chk122 (v557 : IVec S16 32) : Prop :=
  (∀ a x, ((![v557] : Fin 1 → IVec S16 32) a x).toNat < S1008.size a) ∧
  (∀ a x, ((![v557] : Fin 1 → IVec S16 32) a x).toNat < S1008.size a)
theorem k0_idx165_inb : ∀ (v557 : IVec S16 32) (k0_hw122 : k0_chk122 v557), ∀ a x, ((![v557] : Fin 1 → IVec S16 32) a x).toNat < S1008.size a := fun v557 k0_hw122 => k0_hw122.1
theorem k0_idx166_inb : ∀ (v557 : IVec S16 32) (k0_hw122 : k0_chk122 v557), ∀ a x, ((![v557] : Fin 1 → IVec S16 32) a x).toNat < S1008.size a := fun v557 k0_hw122 => k0_hw122.2
def k0_off123 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_283 : BitVec 32 := 128#32
  let v568 : BitVec 32 := Scalar.addi v151 c128_i32_283
  let v569 : Index := Scalar.indexCast v568
  ![v569.toNat]
def k0_off124 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32_290 : BitVec 32 := 144#32
  let v586 : BitVec 32 := Scalar.addi v151 c144_i32_290
  let v587 : Index := Scalar.indexCast v586
  ![v587.toNat]

def k0_chk123 (v588 : IVec S16 32) : Prop :=
  (∀ a x, ((![v588] : Fin 1 → IVec S16 32) a x).toNat < S1008.size a) ∧
  (∀ a x, ((![v588] : Fin 1 → IVec S16 32) a x).toNat < S1008.size a)
theorem k0_idx167_inb : ∀ (v588 : IVec S16 32) (k0_hw123 : k0_chk123 v588), ∀ a x, ((![v588] : Fin 1 → IVec S16 32) a x).toNat < S1008.size a := fun v588 k0_hw123 => k0_hw123.1
theorem k0_idx168_inb : ∀ (v588 : IVec S16 32) (k0_hw123 : k0_chk123 v588), ∀ a x, ((![v588] : Fin 1 → IVec S16 32) a x).toNat < S1008.size a := fun v588 k0_hw123 => k0_hw123.2

def k0_chk124 (v591 : IVec S16 32) : Prop :=
  (∀ a x, ((![v591] : Fin 1 → IVec S16 32) a x).toNat < S1008.size a) ∧
  (∀ a x, ((![v591] : Fin 1 → IVec S16 32) a x).toNat < S1008.size a)
theorem k0_idx169_inb : ∀ (v591 : IVec S16 32) (k0_hw124 : k0_chk124 v591), ∀ a x, ((![v591] : Fin 1 → IVec S16 32) a x).toNat < S1008.size a := fun v591 k0_hw124 => k0_hw124.1
theorem k0_idx170_inb : ∀ (v591 : IVec S16 32) (k0_hw124 : k0_chk124 v591), ∀ a x, ((![v591] : Fin 1 → IVec S16 32) a x).toNat < S1008.size a := fun v591 k0_hw124 => k0_hw124.2
def k0_off125 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32_295 : BitVec 32 := 144#32
  let v602 : BitVec 32 := Scalar.addi v151 c144_i32_295
  let v603 : Index := Scalar.indexCast v602
  ![v603.toNat]
def k0_off126 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32_302 : BitVec 32 := 160#32
  let v620 : BitVec 32 := Scalar.addi v151 c160_i32_302
  let v621 : Index := Scalar.indexCast v620
  ![v621.toNat]

def k0_chk125 (v622 : IVec S16 32) : Prop :=
  (∀ a x, ((![v622] : Fin 1 → IVec S16 32) a x).toNat < S1008.size a) ∧
  (∀ a x, ((![v622] : Fin 1 → IVec S16 32) a x).toNat < S1008.size a)
theorem k0_idx171_inb : ∀ (v622 : IVec S16 32) (k0_hw125 : k0_chk125 v622), ∀ a x, ((![v622] : Fin 1 → IVec S16 32) a x).toNat < S1008.size a := fun v622 k0_hw125 => k0_hw125.1
theorem k0_idx172_inb : ∀ (v622 : IVec S16 32) (k0_hw125 : k0_chk125 v622), ∀ a x, ((![v622] : Fin 1 → IVec S16 32) a x).toNat < S1008.size a := fun v622 k0_hw125 => k0_hw125.2

def k0_chk126 (v625 : IVec S16 32) : Prop :=
  (∀ a x, ((![v625] : Fin 1 → IVec S16 32) a x).toNat < S1008.size a) ∧
  (∀ a x, ((![v625] : Fin 1 → IVec S16 32) a x).toNat < S1008.size a)
theorem k0_idx173_inb : ∀ (v625 : IVec S16 32) (k0_hw126 : k0_chk126 v625), ∀ a x, ((![v625] : Fin 1 → IVec S16 32) a x).toNat < S1008.size a := fun v625 k0_hw126 => k0_hw126.1
theorem k0_idx174_inb : ∀ (v625 : IVec S16 32) (k0_hw126 : k0_chk126 v625), ∀ a x, ((![v625] : Fin 1 → IVec S16 32) a x).toNat < S1008.size a := fun v625 k0_hw126 => k0_hw126.2
def k0_off127 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32_307 : BitVec 32 := 160#32
  let v636 : BitVec 32 := Scalar.addi v151 c160_i32_307
  let v637 : Index := Scalar.indexCast v636
  ![v637.toNat]
def k0_off128 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32_314 : BitVec 32 := 176#32
  let v654 : BitVec 32 := Scalar.addi v151 c176_i32_314
  let v655 : Index := Scalar.indexCast v654
  ![v655.toNat]

def k0_chk127 (v656 : IVec S16 32) : Prop :=
  (∀ a x, ((![v656] : Fin 1 → IVec S16 32) a x).toNat < S1008.size a) ∧
  (∀ a x, ((![v656] : Fin 1 → IVec S16 32) a x).toNat < S1008.size a)
theorem k0_idx175_inb : ∀ (v656 : IVec S16 32) (k0_hw127 : k0_chk127 v656), ∀ a x, ((![v656] : Fin 1 → IVec S16 32) a x).toNat < S1008.size a := fun v656 k0_hw127 => k0_hw127.1
theorem k0_idx176_inb : ∀ (v656 : IVec S16 32) (k0_hw127 : k0_chk127 v656), ∀ a x, ((![v656] : Fin 1 → IVec S16 32) a x).toNat < S1008.size a := fun v656 k0_hw127 => k0_hw127.2

def k0_chk128 (v659 : IVec S16 32) : Prop :=
  (∀ a x, ((![v659] : Fin 1 → IVec S16 32) a x).toNat < S1008.size a) ∧
  (∀ a x, ((![v659] : Fin 1 → IVec S16 32) a x).toNat < S1008.size a)
theorem k0_idx177_inb : ∀ (v659 : IVec S16 32) (k0_hw128 : k0_chk128 v659), ∀ a x, ((![v659] : Fin 1 → IVec S16 32) a x).toNat < S1008.size a := fun v659 k0_hw128 => k0_hw128.1
theorem k0_idx178_inb : ∀ (v659 : IVec S16 32) (k0_hw128 : k0_chk128 v659), ∀ a x, ((![v659] : Fin 1 → IVec S16 32) a x).toNat < S1008.size a := fun v659 k0_hw128 => k0_hw128.2
def k0_off129 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32_319 : BitVec 32 := 176#32
  let v670 : BitVec 32 := Scalar.addi v151 c176_i32_319
  let v671 : Index := Scalar.indexCast v670
  ![v671.toNat]
def k0_off130 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c184_i32 : BitVec 32 := 184#32
  let v688 : BitVec 32 := Scalar.addi v151 c184_i32
  let v689 : Index := Scalar.indexCast v688
  ![v689.toNat]

def k0_chk129 (v690 : IVec S16 32) : Prop :=
  (∀ a x, ((![v690] : Fin 1 → IVec S16 32) a x).toNat < S1008.size a) ∧
  (∀ a x, ((![v690] : Fin 1 → IVec S16 32) a x).toNat < S1008.size a)
theorem k0_idx179_inb : ∀ (v690 : IVec S16 32) (k0_hw129 : k0_chk129 v690), ∀ a x, ((![v690] : Fin 1 → IVec S16 32) a x).toNat < S1008.size a := fun v690 k0_hw129 => k0_hw129.1
theorem k0_idx180_inb : ∀ (v690 : IVec S16 32) (k0_hw129 : k0_chk129 v690), ∀ a x, ((![v690] : Fin 1 → IVec S16 32) a x).toNat < S1008.size a := fun v690 k0_hw129 => k0_hw129.2

def k0_chk130 (v693 : IVec S16 32) : Prop :=
  (∀ a x, ((![v693] : Fin 1 → IVec S16 32) a x).toNat < S1008.size a) ∧
  (∀ a x, ((![v693] : Fin 1 → IVec S16 32) a x).toNat < S1008.size a)
theorem k0_idx181_inb : ∀ (v693 : IVec S16 32) (k0_hw130 : k0_chk130 v693), ∀ a x, ((![v693] : Fin 1 → IVec S16 32) a x).toNat < S1008.size a := fun v693 k0_hw130 => k0_hw130.1
theorem k0_idx182_inb : ∀ (v693 : IVec S16 32) (k0_hw130 : k0_chk130 v693), ∀ a x, ((![v693] : Fin 1 → IVec S16 32) a x).toNat < S1008.size a := fun v693 k0_hw130 => k0_hw130.2
def k0_off131 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c184_i32_330 : BitVec 32 := 184#32
  let v704 : BitVec 32 := Scalar.addi v151 c184_i32_330
  let v705 : Index := Scalar.indexCast v704
  ![v705.toNat]
def k0_off132 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_337 : BitVec 32 := 0#32
  let v722 : BitVec 32 := Scalar.addi v151 c0_i32_337
  let v723 : Index := Scalar.indexCast v722
  ![v723.toNat]

def k0_chk131 (v724 : IVec S16 32) : Prop :=
  (∀ a x, ((![v724] : Fin 1 → IVec S16 32) a x).toNat < S1008.size a)
theorem k0_idx183_inb : ∀ (v724 : IVec S16 32) (k0_hw131 : k0_chk131 v724), ∀ a x, ((![v724] : Fin 1 → IVec S16 32) a x).toNat < S1008.size a := fun v724 k0_hw131 => k0_hw131
def k0_off133 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32_338 : BitVec 32 := 16#32
  let v725 : BitVec 32 := Scalar.addi v151 c16_i32_338
  let v726 : Index := Scalar.indexCast v725
  ![v726.toNat]

def k0_chk132 (v727 : IVec S16 32) : Prop :=
  (∀ a x, ((![v727] : Fin 1 → IVec S16 32) a x).toNat < S1008.size a)
theorem k0_idx184_inb : ∀ (v727 : IVec S16 32) (k0_hw132 : k0_chk132 v727), ∀ a x, ((![v727] : Fin 1 → IVec S16 32) a x).toNat < S1008.size a := fun v727 k0_hw132 => k0_hw132
def k0_off134 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_339 : BitVec 32 := 32#32
  let v728 : BitVec 32 := Scalar.addi v151 c32_i32_339
  let v729 : Index := Scalar.indexCast v728
  ![v729.toNat]

def k0_chk133 (v730 : IVec S16 32) : Prop :=
  (∀ a x, ((![v730] : Fin 1 → IVec S16 32) a x).toNat < S1008.size a)
theorem k0_idx185_inb : ∀ (v730 : IVec S16 32) (k0_hw133 : k0_chk133 v730), ∀ a x, ((![v730] : Fin 1 → IVec S16 32) a x).toNat < S1008.size a := fun v730 k0_hw133 => k0_hw133
def k0_off135 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32_340 : BitVec 32 := 48#32
  let v731 : BitVec 32 := Scalar.addi v151 c48_i32_340
  let v732 : Index := Scalar.indexCast v731
  ![v732.toNat]

def k0_chk134 (v733 : IVec S16 32) : Prop :=
  (∀ a x, ((![v733] : Fin 1 → IVec S16 32) a x).toNat < S1008.size a)
theorem k0_idx186_inb : ∀ (v733 : IVec S16 32) (k0_hw134 : k0_chk134 v733), ∀ a x, ((![v733] : Fin 1 → IVec S16 32) a x).toNat < S1008.size a := fun v733 k0_hw134 => k0_hw134
def k0_off136 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_341 : BitVec 32 := 64#32
  let v734 : BitVec 32 := Scalar.addi v151 c64_i32_341
  let v735 : Index := Scalar.indexCast v734
  ![v735.toNat]

def k0_chk135 (v736 : IVec S16 32) : Prop :=
  (∀ a x, ((![v736] : Fin 1 → IVec S16 32) a x).toNat < S1008.size a)
theorem k0_idx187_inb : ∀ (v736 : IVec S16 32) (k0_hw135 : k0_chk135 v736), ∀ a x, ((![v736] : Fin 1 → IVec S16 32) a x).toNat < S1008.size a := fun v736 k0_hw135 => k0_hw135
def k0_off137 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32_342 : BitVec 32 := 80#32
  let v737 : BitVec 32 := Scalar.addi v151 c80_i32_342
  let v738 : Index := Scalar.indexCast v737
  ![v738.toNat]

def k0_chk136 (v739 : IVec S16 32) : Prop :=
  (∀ a x, ((![v739] : Fin 1 → IVec S16 32) a x).toNat < S1008.size a)
theorem k0_idx188_inb : ∀ (v739 : IVec S16 32) (k0_hw136 : k0_chk136 v739), ∀ a x, ((![v739] : Fin 1 → IVec S16 32) a x).toNat < S1008.size a := fun v739 k0_hw136 => k0_hw136
def k0_off138 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_343 : BitVec 32 := 96#32
  let v740 : BitVec 32 := Scalar.addi v151 c96_i32_343
  let v741 : Index := Scalar.indexCast v740
  ![v741.toNat]

def k0_chk137 (v742 : IVec S16 32) : Prop :=
  (∀ a x, ((![v742] : Fin 1 → IVec S16 32) a x).toNat < S1008.size a)
theorem k0_idx189_inb : ∀ (v742 : IVec S16 32) (k0_hw137 : k0_chk137 v742), ∀ a x, ((![v742] : Fin 1 → IVec S16 32) a x).toNat < S1008.size a := fun v742 k0_hw137 => k0_hw137
def k0_off139 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32_344 : BitVec 32 := 112#32
  let v743 : BitVec 32 := Scalar.addi v151 c112_i32_344
  let v744 : Index := Scalar.indexCast v743
  ![v744.toNat]

def k0_chk138 (v745 : IVec S16 32) : Prop :=
  (∀ a x, ((![v745] : Fin 1 → IVec S16 32) a x).toNat < S1008.size a)
theorem k0_idx190_inb : ∀ (v745 : IVec S16 32) (k0_hw138 : k0_chk138 v745), ∀ a x, ((![v745] : Fin 1 → IVec S16 32) a x).toNat < S1008.size a := fun v745 k0_hw138 => k0_hw138
def k0_off140 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_345 : BitVec 32 := 128#32
  let v746 : BitVec 32 := Scalar.addi v151 c128_i32_345
  let v747 : Index := Scalar.indexCast v746
  ![v747.toNat]

def k0_chk139 (v748 : IVec S16 32) : Prop :=
  (∀ a x, ((![v748] : Fin 1 → IVec S16 32) a x).toNat < S1008.size a)
theorem k0_idx191_inb : ∀ (v748 : IVec S16 32) (k0_hw139 : k0_chk139 v748), ∀ a x, ((![v748] : Fin 1 → IVec S16 32) a x).toNat < S1008.size a := fun v748 k0_hw139 => k0_hw139
def k0_off141 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32_346 : BitVec 32 := 144#32
  let v749 : BitVec 32 := Scalar.addi v151 c144_i32_346
  let v750 : Index := Scalar.indexCast v749
  ![v750.toNat]

def k0_chk140 (v751 : IVec S16 32) : Prop :=
  (∀ a x, ((![v751] : Fin 1 → IVec S16 32) a x).toNat < S1008.size a)
theorem k0_idx192_inb : ∀ (v751 : IVec S16 32) (k0_hw140 : k0_chk140 v751), ∀ a x, ((![v751] : Fin 1 → IVec S16 32) a x).toNat < S1008.size a := fun v751 k0_hw140 => k0_hw140
def k0_off142 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32_347 : BitVec 32 := 160#32
  let v752 : BitVec 32 := Scalar.addi v151 c160_i32_347
  let v753 : Index := Scalar.indexCast v752
  ![v753.toNat]

def k0_chk141 (v754 : IVec S16 32) : Prop :=
  (∀ a x, ((![v754] : Fin 1 → IVec S16 32) a x).toNat < S1008.size a)
theorem k0_idx193_inb : ∀ (v754 : IVec S16 32) (k0_hw141 : k0_chk141 v754), ∀ a x, ((![v754] : Fin 1 → IVec S16 32) a x).toNat < S1008.size a := fun v754 k0_hw141 => k0_hw141
def k0_off143 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32_348 : BitVec 32 := 176#32
  let v755 : BitVec 32 := Scalar.addi v151 c176_i32_348
  let v756 : Index := Scalar.indexCast v755
  ![v756.toNat]

def k0_chk142 (v757 : IVec S16 32) : Prop :=
  (∀ a x, ((![v757] : Fin 1 → IVec S16 32) a x).toNat < S1008.size a)
theorem k0_idx194_inb : ∀ (v757 : IVec S16 32) (k0_hw142 : k0_chk142 v757), ∀ a x, ((![v757] : Fin 1 → IVec S16 32) a x).toNat < S1008.size a := fun v757 k0_hw142 => k0_hw142
def k0_off144 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c192_i32_349 : BitVec 32 := 192#32
  let v758 : BitVec 32 := Scalar.addi v151 c192_i32_349
  let v759 : Index := Scalar.indexCast v758
  ![v759.toNat]

def k0_chk143 (v760 : IVec S16 32) : Prop :=
  (∀ a x, ((![v760] : Fin 1 → IVec S16 32) a x).toNat < S1008.size a)
theorem k0_idx195_inb : ∀ (v760 : IVec S16 32) (k0_hw143 : k0_chk143 v760), ∀ a x, ((![v760] : Fin 1 → IVec S16 32) a x).toNat < S1008.size a := fun v760 k0_hw143 => k0_hw143
def k0_off145 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c0_i32_350 : BitVec 32 := 0#32
  let v761 : BitVec 32 := Scalar.addi v151 c0_i32_350
  let v762 : Index := Scalar.indexCast v761
  ![v762.toNat]

def k0_chk144 (v763 : IVec S16 32) : Prop :=
  (∀ a x, ((![v763] : Fin 1 → IVec S16 32) a x).toNat < S1008.size a)
theorem k0_idx196_inb : ∀ (v763 : IVec S16 32) (k0_hw144 : k0_chk144 v763), ∀ a x, ((![v763] : Fin 1 → IVec S16 32) a x).toNat < S1008.size a := fun v763 k0_hw144 => k0_hw144
def k0_off146 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c16_i32_351 : BitVec 32 := 16#32
  let v764 : BitVec 32 := Scalar.addi v151 c16_i32_351
  let v765 : Index := Scalar.indexCast v764
  ![v765.toNat]

def k0_chk145 (v766 : IVec S16 32) : Prop :=
  (∀ a x, ((![v766] : Fin 1 → IVec S16 32) a x).toNat < S1008.size a)
theorem k0_idx197_inb : ∀ (v766 : IVec S16 32) (k0_hw145 : k0_chk145 v766), ∀ a x, ((![v766] : Fin 1 → IVec S16 32) a x).toNat < S1008.size a := fun v766 k0_hw145 => k0_hw145
def k0_off147 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c32_i32_352 : BitVec 32 := 32#32
  let v767 : BitVec 32 := Scalar.addi v151 c32_i32_352
  let v768 : Index := Scalar.indexCast v767
  ![v768.toNat]

def k0_chk146 (v769 : IVec S16 32) : Prop :=
  (∀ a x, ((![v769] : Fin 1 → IVec S16 32) a x).toNat < S1008.size a)
theorem k0_idx198_inb : ∀ (v769 : IVec S16 32) (k0_hw146 : k0_chk146 v769), ∀ a x, ((![v769] : Fin 1 → IVec S16 32) a x).toNat < S1008.size a := fun v769 k0_hw146 => k0_hw146
def k0_off148 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c48_i32_353 : BitVec 32 := 48#32
  let v770 : BitVec 32 := Scalar.addi v151 c48_i32_353
  let v771 : Index := Scalar.indexCast v770
  ![v771.toNat]

def k0_chk147 (v772 : IVec S16 32) : Prop :=
  (∀ a x, ((![v772] : Fin 1 → IVec S16 32) a x).toNat < S1008.size a)
theorem k0_idx199_inb : ∀ (v772 : IVec S16 32) (k0_hw147 : k0_chk147 v772), ∀ a x, ((![v772] : Fin 1 → IVec S16 32) a x).toNat < S1008.size a := fun v772 k0_hw147 => k0_hw147
def k0_off149 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c64_i32_354 : BitVec 32 := 64#32
  let v773 : BitVec 32 := Scalar.addi v151 c64_i32_354
  let v774 : Index := Scalar.indexCast v773
  ![v774.toNat]

def k0_chk148 (v775 : IVec S16 32) : Prop :=
  (∀ a x, ((![v775] : Fin 1 → IVec S16 32) a x).toNat < S1008.size a)
theorem k0_idx200_inb : ∀ (v775 : IVec S16 32) (k0_hw148 : k0_chk148 v775), ∀ a x, ((![v775] : Fin 1 → IVec S16 32) a x).toNat < S1008.size a := fun v775 k0_hw148 => k0_hw148
def k0_off150 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c80_i32_355 : BitVec 32 := 80#32
  let v776 : BitVec 32 := Scalar.addi v151 c80_i32_355
  let v777 : Index := Scalar.indexCast v776
  ![v777.toNat]

def k0_chk149 (v778 : IVec S16 32) : Prop :=
  (∀ a x, ((![v778] : Fin 1 → IVec S16 32) a x).toNat < S1008.size a)
theorem k0_idx201_inb : ∀ (v778 : IVec S16 32) (k0_hw149 : k0_chk149 v778), ∀ a x, ((![v778] : Fin 1 → IVec S16 32) a x).toNat < S1008.size a := fun v778 k0_hw149 => k0_hw149
def k0_off151 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c96_i32_356 : BitVec 32 := 96#32
  let v779 : BitVec 32 := Scalar.addi v151 c96_i32_356
  let v780 : Index := Scalar.indexCast v779
  ![v780.toNat]

def k0_chk150 (v781 : IVec S16 32) : Prop :=
  (∀ a x, ((![v781] : Fin 1 → IVec S16 32) a x).toNat < S1008.size a)
theorem k0_idx202_inb : ∀ (v781 : IVec S16 32) (k0_hw150 : k0_chk150 v781), ∀ a x, ((![v781] : Fin 1 → IVec S16 32) a x).toNat < S1008.size a := fun v781 k0_hw150 => k0_hw150
def k0_off152 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c112_i32_357 : BitVec 32 := 112#32
  let v782 : BitVec 32 := Scalar.addi v151 c112_i32_357
  let v783 : Index := Scalar.indexCast v782
  ![v783.toNat]

def k0_chk151 (v784 : IVec S16 32) : Prop :=
  (∀ a x, ((![v784] : Fin 1 → IVec S16 32) a x).toNat < S1008.size a)
theorem k0_idx203_inb : ∀ (v784 : IVec S16 32) (k0_hw151 : k0_chk151 v784), ∀ a x, ((![v784] : Fin 1 → IVec S16 32) a x).toNat < S1008.size a := fun v784 k0_hw151 => k0_hw151
def k0_off153 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c128_i32_358 : BitVec 32 := 128#32
  let v785 : BitVec 32 := Scalar.addi v151 c128_i32_358
  let v786 : Index := Scalar.indexCast v785
  ![v786.toNat]

def k0_chk152 (v787 : IVec S16 32) : Prop :=
  (∀ a x, ((![v787] : Fin 1 → IVec S16 32) a x).toNat < S1008.size a)
theorem k0_idx204_inb : ∀ (v787 : IVec S16 32) (k0_hw152 : k0_chk152 v787), ∀ a x, ((![v787] : Fin 1 → IVec S16 32) a x).toNat < S1008.size a := fun v787 k0_hw152 => k0_hw152
def k0_off154 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c144_i32_359 : BitVec 32 := 144#32
  let v788 : BitVec 32 := Scalar.addi v151 c144_i32_359
  let v789 : Index := Scalar.indexCast v788
  ![v789.toNat]

def k0_chk153 (v790 : IVec S16 32) : Prop :=
  (∀ a x, ((![v790] : Fin 1 → IVec S16 32) a x).toNat < S1008.size a)
theorem k0_idx205_inb : ∀ (v790 : IVec S16 32) (k0_hw153 : k0_chk153 v790), ∀ a x, ((![v790] : Fin 1 → IVec S16 32) a x).toNat < S1008.size a := fun v790 k0_hw153 => k0_hw153
def k0_off155 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c160_i32_360 : BitVec 32 := 160#32
  let v791 : BitVec 32 := Scalar.addi v151 c160_i32_360
  let v792 : Index := Scalar.indexCast v791
  ![v792.toNat]

def k0_chk154 (v793 : IVec S16 32) : Prop :=
  (∀ a x, ((![v793] : Fin 1 → IVec S16 32) a x).toNat < S1008.size a)
theorem k0_idx206_inb : ∀ (v793 : IVec S16 32) (k0_hw154 : k0_chk154 v793), ∀ a x, ((![v793] : Fin 1 → IVec S16 32) a x).toNat < S1008.size a := fun v793 k0_hw154 => k0_hw154
def k0_off156 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c176_i32_361 : BitVec 32 := 176#32
  let v794 : BitVec 32 := Scalar.addi v151 c176_i32_361
  let v795 : Index := Scalar.indexCast v794
  ![v795.toNat]

def k0_chk155 (v796 : IVec S16 32) : Prop :=
  (∀ a x, ((![v796] : Fin 1 → IVec S16 32) a x).toNat < S1008.size a)
theorem k0_idx207_inb : ∀ (v796 : IVec S16 32) (k0_hw155 : k0_chk155 v796), ∀ a x, ((![v796] : Fin 1 → IVec S16 32) a x).toNat < S1008.size a := fun v796 k0_hw155 => k0_hw155
def k0_off157 (k0_t2 : Fin k0_t2_loop.trips) : Fin 1 → Nat :=
  let c0_i32_72 : BitVec 32 := 0#32
  let c1_i32_74 : BitVec 32 := 1#32
  let arg16 : BitVec 32 := Scf.iv c0_i32_72 c1_i32_74 k0_t2
  let c200_i32_90 : BitVec 32 := 200#32
  let v151 : BitVec 32 := Scalar.muli arg16 c200_i32_90
  let c192_i32_362 : BitVec 32 := 192#32
  let v797 : BitVec 32 := Scalar.addi v151 c192_i32_362
  let v798 : Index := Scalar.indexCast v797
  ![v798.toNat]

def k0_chk156 (v799 : IVec S16 32) : Prop :=
  (∀ a x, ((![v799] : Fin 1 → IVec S16 32) a x).toNat < S1008.size a)
theorem k0_idx208_inb : ∀ (v799 : IVec S16 32) (k0_hw156 : k0_chk156 v799), ∀ a x, ((![v799] : Fin 1 → IVec S16 32) a x).toNat < S1008.size a := fun v799 k0_hw156 => k0_hw156
@[reducible] def k0_t3_loop : Scf.Loop 32 :=
  let c0_i32_79 : BitVec 32 := 0#32
  let c32_i32_80 : BitVec 32 := 32#32
  let v146 : BitVec 32 := Scalar.addi c0_i32_79 c32_i32_80
  let c1_i32_81 : BitVec 32 := 1#32
  ⟨c0_i32_79, v146, c1_i32_81⟩
def k0_off158 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_91 : BitVec 32 := 0#32
  let v152 : BitVec 32 := Scalar.addi v151 c0_i32_91
  let v153 : Index := Scalar.indexCast v152
  ![v153.toNat]

def k0_chk157 (v154 : IVec S16 32) : Prop :=
  (∀ a x, ((![v154] : Fin 1 → IVec S16 32) a x).toNat < S1008.size a)
theorem k0_idx209_inb : ∀ (v154 : IVec S16 32) (k0_hw157 : k0_chk157 v154), ∀ a x, ((![v154] : Fin 1 → IVec S16 32) a x).toNat < S1008.size a := fun v154 k0_hw157 => k0_hw157
def k0_off159 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32 : BitVec 32 := 16#32
  let v157 : BitVec 32 := Scalar.addi v151 c16_i32
  let v158 : Index := Scalar.indexCast v157
  ![v158.toNat]

def k0_chk158 (v159 : IVec S16 32) : Prop :=
  (∀ a x, ((![v159] : Fin 1 → IVec S16 32) a x).toNat < S1008.size a)
theorem k0_idx210_inb : ∀ (v159 : IVec S16 32) (k0_hw158 : k0_chk158 v159), ∀ a x, ((![v159] : Fin 1 → IVec S16 32) a x).toNat < S1008.size a := fun v159 k0_hw158 => k0_hw158
def k0_off160 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_95 : BitVec 32 := 32#32
  let v162 : BitVec 32 := Scalar.addi v151 c32_i32_95
  let v163 : Index := Scalar.indexCast v162
  ![v163.toNat]

def k0_chk159 (v164 : IVec S16 32) : Prop :=
  (∀ a x, ((![v164] : Fin 1 → IVec S16 32) a x).toNat < S1008.size a)
theorem k0_idx211_inb : ∀ (v164 : IVec S16 32) (k0_hw159 : k0_chk159 v164), ∀ a x, ((![v164] : Fin 1 → IVec S16 32) a x).toNat < S1008.size a := fun v164 k0_hw159 => k0_hw159
def k0_off161 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32 : BitVec 32 := 48#32
  let v167 : BitVec 32 := Scalar.addi v151 c48_i32
  let v168 : Index := Scalar.indexCast v167
  ![v168.toNat]

def k0_chk160 (v169 : IVec S16 32) : Prop :=
  (∀ a x, ((![v169] : Fin 1 → IVec S16 32) a x).toNat < S1008.size a)
theorem k0_idx212_inb : ∀ (v169 : IVec S16 32) (k0_hw160 : k0_chk160 v169), ∀ a x, ((![v169] : Fin 1 → IVec S16 32) a x).toNat < S1008.size a := fun v169 k0_hw160 => k0_hw160
def k0_off162 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_102 : BitVec 32 := 64#32
  let v172 : BitVec 32 := Scalar.addi v151 c64_i32_102
  let v173 : Index := Scalar.indexCast v172
  ![v173.toNat]

def k0_chk161 (v174 : IVec S16 32) : Prop :=
  (∀ a x, ((![v174] : Fin 1 → IVec S16 32) a x).toNat < S1008.size a)
theorem k0_idx213_inb : ∀ (v174 : IVec S16 32) (k0_hw161 : k0_chk161 v174), ∀ a x, ((![v174] : Fin 1 → IVec S16 32) a x).toNat < S1008.size a := fun v174 k0_hw161 => k0_hw161
def k0_off163 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32 : BitVec 32 := 80#32
  let v177 : BitVec 32 := Scalar.addi v151 c80_i32
  let v178 : Index := Scalar.indexCast v177
  ![v178.toNat]

def k0_chk162 (v179 : IVec S16 32) : Prop :=
  (∀ a x, ((![v179] : Fin 1 → IVec S16 32) a x).toNat < S1008.size a)
theorem k0_idx214_inb : ∀ (v179 : IVec S16 32) (k0_hw162 : k0_chk162 v179), ∀ a x, ((![v179] : Fin 1 → IVec S16 32) a x).toNat < S1008.size a := fun v179 k0_hw162 => k0_hw162
def k0_off164 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_109 : BitVec 32 := 96#32
  let v182 : BitVec 32 := Scalar.addi v151 c96_i32_109
  let v183 : Index := Scalar.indexCast v182
  ![v183.toNat]

def k0_chk163 (v184 : IVec S16 32) : Prop :=
  (∀ a x, ((![v184] : Fin 1 → IVec S16 32) a x).toNat < S1008.size a)
theorem k0_idx215_inb : ∀ (v184 : IVec S16 32) (k0_hw163 : k0_chk163 v184), ∀ a x, ((![v184] : Fin 1 → IVec S16 32) a x).toNat < S1008.size a := fun v184 k0_hw163 => k0_hw163
def k0_off165 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32 : BitVec 32 := 112#32
  let v187 : BitVec 32 := Scalar.addi v151 c112_i32
  let v188 : Index := Scalar.indexCast v187
  ![v188.toNat]

def k0_chk164 (v189 : IVec S16 32) : Prop :=
  (∀ a x, ((![v189] : Fin 1 → IVec S16 32) a x).toNat < S1008.size a)
theorem k0_idx216_inb : ∀ (v189 : IVec S16 32) (k0_hw164 : k0_chk164 v189), ∀ a x, ((![v189] : Fin 1 → IVec S16 32) a x).toNat < S1008.size a := fun v189 k0_hw164 => k0_hw164
def k0_off166 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_116 : BitVec 32 := 128#32
  let v192 : BitVec 32 := Scalar.addi v151 c128_i32_116
  let v193 : Index := Scalar.indexCast v192
  ![v193.toNat]

def k0_chk165 (v194 : IVec S16 32) : Prop :=
  (∀ a x, ((![v194] : Fin 1 → IVec S16 32) a x).toNat < S1008.size a)
theorem k0_idx217_inb : ∀ (v194 : IVec S16 32) (k0_hw165 : k0_chk165 v194), ∀ a x, ((![v194] : Fin 1 → IVec S16 32) a x).toNat < S1008.size a := fun v194 k0_hw165 => k0_hw165
def k0_off167 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32 : BitVec 32 := 144#32
  let v197 : BitVec 32 := Scalar.addi v151 c144_i32
  let v198 : Index := Scalar.indexCast v197
  ![v198.toNat]

def k0_chk166 (v199 : IVec S16 32) : Prop :=
  (∀ a x, ((![v199] : Fin 1 → IVec S16 32) a x).toNat < S1008.size a)
theorem k0_idx218_inb : ∀ (v199 : IVec S16 32) (k0_hw166 : k0_chk166 v199), ∀ a x, ((![v199] : Fin 1 → IVec S16 32) a x).toNat < S1008.size a := fun v199 k0_hw166 => k0_hw166
def k0_off168 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32 : BitVec 32 := 160#32
  let v202 : BitVec 32 := Scalar.addi v151 c160_i32
  let v203 : Index := Scalar.indexCast v202
  ![v203.toNat]

def k0_chk167 (v204 : IVec S16 32) : Prop :=
  (∀ a x, ((![v204] : Fin 1 → IVec S16 32) a x).toNat < S1008.size a)
theorem k0_idx219_inb : ∀ (v204 : IVec S16 32) (k0_hw167 : k0_chk167 v204), ∀ a x, ((![v204] : Fin 1 → IVec S16 32) a x).toNat < S1008.size a := fun v204 k0_hw167 => k0_hw167
def k0_off169 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32 : BitVec 32 := 176#32
  let v207 : BitVec 32 := Scalar.addi v151 c176_i32
  let v208 : Index := Scalar.indexCast v207
  ![v208.toNat]

def k0_chk168 (v209 : IVec S16 32) : Prop :=
  (∀ a x, ((![v209] : Fin 1 → IVec S16 32) a x).toNat < S1008.size a)
theorem k0_idx220_inb : ∀ (v209 : IVec S16 32) (k0_hw168 : k0_chk168 v209), ∀ a x, ((![v209] : Fin 1 → IVec S16 32) a x).toNat < S1008.size a := fun v209 k0_hw168 => k0_hw168
def k0_off170 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c192_i32 : BitVec 32 := 192#32
  let v212 : BitVec 32 := Scalar.addi v151 c192_i32
  let v213 : Index := Scalar.indexCast v212
  ![v213.toNat]

def k0_chk169 (v214 : IVec S16 32) : Prop :=
  (∀ a x, ((![v214] : Fin 1 → IVec S16 32) a x).toNat < S1008.size a)
theorem k0_idx221_inb : ∀ (v214 : IVec S16 32) (k0_hw169 : k0_chk169 v214), ∀ a x, ((![v214] : Fin 1 → IVec S16 32) a x).toNat < S1008.size a := fun v214 k0_hw169 => k0_hw169
def k0_off171 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_131 : BitVec 32 := 0#32
  let v216 : BitVec 32 := Scalar.addi v151 c0_i32_131
  let v217 : Index := Scalar.indexCast v216
  ![v217.toNat]

def k0_chk170 (v218 : IVec S16 32) : Prop :=
  (∀ a x, ((![v218] : Fin 1 → IVec S16 32) a x).toNat < S1008.size a)
theorem k0_idx222_inb : ∀ (v218 : IVec S16 32) (k0_hw170 : k0_chk170 v218), ∀ a x, ((![v218] : Fin 1 → IVec S16 32) a x).toNat < S1008.size a := fun v218 k0_hw170 => k0_hw170
def k0_off172 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32_135 : BitVec 32 := 16#32
  let v221 : BitVec 32 := Scalar.addi v151 c16_i32_135
  let v222 : Index := Scalar.indexCast v221
  ![v222.toNat]

def k0_chk171 (v223 : IVec S16 32) : Prop :=
  (∀ a x, ((![v223] : Fin 1 → IVec S16 32) a x).toNat < S1008.size a)
theorem k0_idx223_inb : ∀ (v223 : IVec S16 32) (k0_hw171 : k0_chk171 v223), ∀ a x, ((![v223] : Fin 1 → IVec S16 32) a x).toNat < S1008.size a := fun v223 k0_hw171 => k0_hw171
def k0_off173 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_139 : BitVec 32 := 32#32
  let v226 : BitVec 32 := Scalar.addi v151 c32_i32_139
  let v227 : Index := Scalar.indexCast v226
  ![v227.toNat]

def k0_chk172 (v228 : IVec S16 32) : Prop :=
  (∀ a x, ((![v228] : Fin 1 → IVec S16 32) a x).toNat < S1008.size a)
theorem k0_idx224_inb : ∀ (v228 : IVec S16 32) (k0_hw172 : k0_chk172 v228), ∀ a x, ((![v228] : Fin 1 → IVec S16 32) a x).toNat < S1008.size a := fun v228 k0_hw172 => k0_hw172
def k0_off174 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32_143 : BitVec 32 := 48#32
  let v231 : BitVec 32 := Scalar.addi v151 c48_i32_143
  let v232 : Index := Scalar.indexCast v231
  ![v232.toNat]

def k0_chk173 (v233 : IVec S16 32) : Prop :=
  (∀ a x, ((![v233] : Fin 1 → IVec S16 32) a x).toNat < S1008.size a)
theorem k0_idx225_inb : ∀ (v233 : IVec S16 32) (k0_hw173 : k0_chk173 v233), ∀ a x, ((![v233] : Fin 1 → IVec S16 32) a x).toNat < S1008.size a := fun v233 k0_hw173 => k0_hw173
def k0_off175 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_147 : BitVec 32 := 64#32
  let v236 : BitVec 32 := Scalar.addi v151 c64_i32_147
  let v237 : Index := Scalar.indexCast v236
  ![v237.toNat]

def k0_chk174 (v238 : IVec S16 32) : Prop :=
  (∀ a x, ((![v238] : Fin 1 → IVec S16 32) a x).toNat < S1008.size a)
theorem k0_idx226_inb : ∀ (v238 : IVec S16 32) (k0_hw174 : k0_chk174 v238), ∀ a x, ((![v238] : Fin 1 → IVec S16 32) a x).toNat < S1008.size a := fun v238 k0_hw174 => k0_hw174
def k0_off176 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32_151 : BitVec 32 := 80#32
  let v241 : BitVec 32 := Scalar.addi v151 c80_i32_151
  let v242 : Index := Scalar.indexCast v241
  ![v242.toNat]

def k0_chk175 (v243 : IVec S16 32) : Prop :=
  (∀ a x, ((![v243] : Fin 1 → IVec S16 32) a x).toNat < S1008.size a)
theorem k0_idx227_inb : ∀ (v243 : IVec S16 32) (k0_hw175 : k0_chk175 v243), ∀ a x, ((![v243] : Fin 1 → IVec S16 32) a x).toNat < S1008.size a := fun v243 k0_hw175 => k0_hw175
def k0_off177 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_155 : BitVec 32 := 96#32
  let v246 : BitVec 32 := Scalar.addi v151 c96_i32_155
  let v247 : Index := Scalar.indexCast v246
  ![v247.toNat]

def k0_chk176 (v248 : IVec S16 32) : Prop :=
  (∀ a x, ((![v248] : Fin 1 → IVec S16 32) a x).toNat < S1008.size a)
theorem k0_idx228_inb : ∀ (v248 : IVec S16 32) (k0_hw176 : k0_chk176 v248), ∀ a x, ((![v248] : Fin 1 → IVec S16 32) a x).toNat < S1008.size a := fun v248 k0_hw176 => k0_hw176
def k0_off178 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32_159 : BitVec 32 := 112#32
  let v251 : BitVec 32 := Scalar.addi v151 c112_i32_159
  let v252 : Index := Scalar.indexCast v251
  ![v252.toNat]

def k0_chk177 (v253 : IVec S16 32) : Prop :=
  (∀ a x, ((![v253] : Fin 1 → IVec S16 32) a x).toNat < S1008.size a)
theorem k0_idx229_inb : ∀ (v253 : IVec S16 32) (k0_hw177 : k0_chk177 v253), ∀ a x, ((![v253] : Fin 1 → IVec S16 32) a x).toNat < S1008.size a := fun v253 k0_hw177 => k0_hw177
def k0_off179 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_163 : BitVec 32 := 128#32
  let v256 : BitVec 32 := Scalar.addi v151 c128_i32_163
  let v257 : Index := Scalar.indexCast v256
  ![v257.toNat]

def k0_chk178 (v258 : IVec S16 32) : Prop :=
  (∀ a x, ((![v258] : Fin 1 → IVec S16 32) a x).toNat < S1008.size a)
theorem k0_idx230_inb : ∀ (v258 : IVec S16 32) (k0_hw178 : k0_chk178 v258), ∀ a x, ((![v258] : Fin 1 → IVec S16 32) a x).toNat < S1008.size a := fun v258 k0_hw178 => k0_hw178
def k0_off180 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32_167 : BitVec 32 := 144#32
  let v261 : BitVec 32 := Scalar.addi v151 c144_i32_167
  let v262 : Index := Scalar.indexCast v261
  ![v262.toNat]

def k0_chk179 (v263 : IVec S16 32) : Prop :=
  (∀ a x, ((![v263] : Fin 1 → IVec S16 32) a x).toNat < S1008.size a)
theorem k0_idx231_inb : ∀ (v263 : IVec S16 32) (k0_hw179 : k0_chk179 v263), ∀ a x, ((![v263] : Fin 1 → IVec S16 32) a x).toNat < S1008.size a := fun v263 k0_hw179 => k0_hw179
def k0_off181 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32_171 : BitVec 32 := 160#32
  let v266 : BitVec 32 := Scalar.addi v151 c160_i32_171
  let v267 : Index := Scalar.indexCast v266
  ![v267.toNat]

def k0_chk180 (v268 : IVec S16 32) : Prop :=
  (∀ a x, ((![v268] : Fin 1 → IVec S16 32) a x).toNat < S1008.size a)
theorem k0_idx232_inb : ∀ (v268 : IVec S16 32) (k0_hw180 : k0_chk180 v268), ∀ a x, ((![v268] : Fin 1 → IVec S16 32) a x).toNat < S1008.size a := fun v268 k0_hw180 => k0_hw180
def k0_off182 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32_175 : BitVec 32 := 176#32
  let v271 : BitVec 32 := Scalar.addi v151 c176_i32_175
  let v272 : Index := Scalar.indexCast v271
  ![v272.toNat]

def k0_chk181 (v273 : IVec S16 32) : Prop :=
  (∀ a x, ((![v273] : Fin 1 → IVec S16 32) a x).toNat < S1008.size a)
theorem k0_idx233_inb : ∀ (v273 : IVec S16 32) (k0_hw181 : k0_chk181 v273), ∀ a x, ((![v273] : Fin 1 → IVec S16 32) a x).toNat < S1008.size a := fun v273 k0_hw181 => k0_hw181
def k0_off183 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c192_i32_179 : BitVec 32 := 192#32
  let v276 : BitVec 32 := Scalar.addi v151 c192_i32_179
  let v277 : Index := Scalar.indexCast v276
  ![v277.toNat]

def k0_chk182 (v278 : IVec S16 32) : Prop :=
  (∀ a x, ((![v278] : Fin 1 → IVec S16 32) a x).toNat < S1008.size a)
theorem k0_idx234_inb : ∀ (v278 : IVec S16 32) (k0_hw182 : k0_chk182 v278), ∀ a x, ((![v278] : Fin 1 → IVec S16 32) a x).toNat < S1008.size a := fun v278 k0_hw182 => k0_hw182
def k0_off184 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_182 : BitVec 32 := 0#32
  let v280 : BitVec 32 := Scalar.addi v151 c0_i32_182
  let v281 : Index := Scalar.indexCast v280
  ![v281.toNat]

def k0_chk183 (v282 : IVec S16 32) : Prop :=
  (∀ a x, ((![v282] : Fin 1 → IVec S16 32) a x).toNat < S1008.size a) ∧
  (∀ a x, ((![v282] : Fin 1 → IVec S16 32) a x).toNat < S1008.size a)
theorem k0_idx235_inb : ∀ (v282 : IVec S16 32) (k0_hw183 : k0_chk183 v282), ∀ a x, ((![v282] : Fin 1 → IVec S16 32) a x).toNat < S1008.size a := fun v282 k0_hw183 => k0_hw183.1
theorem k0_idx236_inb : ∀ (v282 : IVec S16 32) (k0_hw183 : k0_chk183 v282), ∀ a x, ((![v282] : Fin 1 → IVec S16 32) a x).toNat < S1008.size a := fun v282 k0_hw183 => k0_hw183.2

def k0_chk184 (v285 : IVec S16 32) : Prop :=
  (∀ a x, ((![v285] : Fin 1 → IVec S16 32) a x).toNat < S1008.size a) ∧
  (∀ a x, ((![v285] : Fin 1 → IVec S16 32) a x).toNat < S1008.size a)
theorem k0_idx237_inb : ∀ (v285 : IVec S16 32) (k0_hw184 : k0_chk184 v285), ∀ a x, ((![v285] : Fin 1 → IVec S16 32) a x).toNat < S1008.size a := fun v285 k0_hw184 => k0_hw184.1
theorem k0_idx238_inb : ∀ (v285 : IVec S16 32) (k0_hw184 : k0_chk184 v285), ∀ a x, ((![v285] : Fin 1 → IVec S16 32) a x).toNat < S1008.size a := fun v285 k0_hw184 => k0_hw184.2
def k0_off185 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_187 : BitVec 32 := 0#32
  let v296 : BitVec 32 := Scalar.addi v151 c0_i32_187
  let v297 : Index := Scalar.indexCast v296
  ![v297.toNat]
def k0_off186 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32_194 : BitVec 32 := 16#32
  let v314 : BitVec 32 := Scalar.addi v151 c16_i32_194
  let v315 : Index := Scalar.indexCast v314
  ![v315.toNat]

def k0_chk185 (v316 : IVec S16 32) : Prop :=
  (∀ a x, ((![v316] : Fin 1 → IVec S16 32) a x).toNat < S1008.size a) ∧
  (∀ a x, ((![v316] : Fin 1 → IVec S16 32) a x).toNat < S1008.size a)
theorem k0_idx239_inb : ∀ (v316 : IVec S16 32) (k0_hw185 : k0_chk185 v316), ∀ a x, ((![v316] : Fin 1 → IVec S16 32) a x).toNat < S1008.size a := fun v316 k0_hw185 => k0_hw185.1
theorem k0_idx240_inb : ∀ (v316 : IVec S16 32) (k0_hw185 : k0_chk185 v316), ∀ a x, ((![v316] : Fin 1 → IVec S16 32) a x).toNat < S1008.size a := fun v316 k0_hw185 => k0_hw185.2

def k0_chk186 (v319 : IVec S16 32) : Prop :=
  (∀ a x, ((![v319] : Fin 1 → IVec S16 32) a x).toNat < S1008.size a) ∧
  (∀ a x, ((![v319] : Fin 1 → IVec S16 32) a x).toNat < S1008.size a)
theorem k0_idx241_inb : ∀ (v319 : IVec S16 32) (k0_hw186 : k0_chk186 v319), ∀ a x, ((![v319] : Fin 1 → IVec S16 32) a x).toNat < S1008.size a := fun v319 k0_hw186 => k0_hw186.1
theorem k0_idx242_inb : ∀ (v319 : IVec S16 32) (k0_hw186 : k0_chk186 v319), ∀ a x, ((![v319] : Fin 1 → IVec S16 32) a x).toNat < S1008.size a := fun v319 k0_hw186 => k0_hw186.2
def k0_off187 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32_199 : BitVec 32 := 16#32
  let v330 : BitVec 32 := Scalar.addi v151 c16_i32_199
  let v331 : Index := Scalar.indexCast v330
  ![v331.toNat]
def k0_off188 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_206 : BitVec 32 := 32#32
  let v348 : BitVec 32 := Scalar.addi v151 c32_i32_206
  let v349 : Index := Scalar.indexCast v348
  ![v349.toNat]

def k0_chk187 (v350 : IVec S16 32) : Prop :=
  (∀ a x, ((![v350] : Fin 1 → IVec S16 32) a x).toNat < S1008.size a) ∧
  (∀ a x, ((![v350] : Fin 1 → IVec S16 32) a x).toNat < S1008.size a)
theorem k0_idx243_inb : ∀ (v350 : IVec S16 32) (k0_hw187 : k0_chk187 v350), ∀ a x, ((![v350] : Fin 1 → IVec S16 32) a x).toNat < S1008.size a := fun v350 k0_hw187 => k0_hw187.1
theorem k0_idx244_inb : ∀ (v350 : IVec S16 32) (k0_hw187 : k0_chk187 v350), ∀ a x, ((![v350] : Fin 1 → IVec S16 32) a x).toNat < S1008.size a := fun v350 k0_hw187 => k0_hw187.2

def k0_chk188 (v353 : IVec S16 32) : Prop :=
  (∀ a x, ((![v353] : Fin 1 → IVec S16 32) a x).toNat < S1008.size a) ∧
  (∀ a x, ((![v353] : Fin 1 → IVec S16 32) a x).toNat < S1008.size a)
theorem k0_idx245_inb : ∀ (v353 : IVec S16 32) (k0_hw188 : k0_chk188 v353), ∀ a x, ((![v353] : Fin 1 → IVec S16 32) a x).toNat < S1008.size a := fun v353 k0_hw188 => k0_hw188.1
theorem k0_idx246_inb : ∀ (v353 : IVec S16 32) (k0_hw188 : k0_chk188 v353), ∀ a x, ((![v353] : Fin 1 → IVec S16 32) a x).toNat < S1008.size a := fun v353 k0_hw188 => k0_hw188.2
def k0_off189 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_211 : BitVec 32 := 32#32
  let v364 : BitVec 32 := Scalar.addi v151 c32_i32_211
  let v365 : Index := Scalar.indexCast v364
  ![v365.toNat]
def k0_off190 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32_218 : BitVec 32 := 48#32
  let v382 : BitVec 32 := Scalar.addi v151 c48_i32_218
  let v383 : Index := Scalar.indexCast v382
  ![v383.toNat]

def k0_chk189 (v384 : IVec S16 32) : Prop :=
  (∀ a x, ((![v384] : Fin 1 → IVec S16 32) a x).toNat < S1008.size a) ∧
  (∀ a x, ((![v384] : Fin 1 → IVec S16 32) a x).toNat < S1008.size a)
theorem k0_idx247_inb : ∀ (v384 : IVec S16 32) (k0_hw189 : k0_chk189 v384), ∀ a x, ((![v384] : Fin 1 → IVec S16 32) a x).toNat < S1008.size a := fun v384 k0_hw189 => k0_hw189.1
theorem k0_idx248_inb : ∀ (v384 : IVec S16 32) (k0_hw189 : k0_chk189 v384), ∀ a x, ((![v384] : Fin 1 → IVec S16 32) a x).toNat < S1008.size a := fun v384 k0_hw189 => k0_hw189.2

def k0_chk190 (v387 : IVec S16 32) : Prop :=
  (∀ a x, ((![v387] : Fin 1 → IVec S16 32) a x).toNat < S1008.size a) ∧
  (∀ a x, ((![v387] : Fin 1 → IVec S16 32) a x).toNat < S1008.size a)
theorem k0_idx249_inb : ∀ (v387 : IVec S16 32) (k0_hw190 : k0_chk190 v387), ∀ a x, ((![v387] : Fin 1 → IVec S16 32) a x).toNat < S1008.size a := fun v387 k0_hw190 => k0_hw190.1
theorem k0_idx250_inb : ∀ (v387 : IVec S16 32) (k0_hw190 : k0_chk190 v387), ∀ a x, ((![v387] : Fin 1 → IVec S16 32) a x).toNat < S1008.size a := fun v387 k0_hw190 => k0_hw190.2
def k0_off191 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32_223 : BitVec 32 := 48#32
  let v398 : BitVec 32 := Scalar.addi v151 c48_i32_223
  let v399 : Index := Scalar.indexCast v398
  ![v399.toNat]
def k0_off192 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_230 : BitVec 32 := 64#32
  let v416 : BitVec 32 := Scalar.addi v151 c64_i32_230
  let v417 : Index := Scalar.indexCast v416
  ![v417.toNat]

def k0_chk191 (v418 : IVec S16 32) : Prop :=
  (∀ a x, ((![v418] : Fin 1 → IVec S16 32) a x).toNat < S1008.size a) ∧
  (∀ a x, ((![v418] : Fin 1 → IVec S16 32) a x).toNat < S1008.size a)
theorem k0_idx251_inb : ∀ (v418 : IVec S16 32) (k0_hw191 : k0_chk191 v418), ∀ a x, ((![v418] : Fin 1 → IVec S16 32) a x).toNat < S1008.size a := fun v418 k0_hw191 => k0_hw191.1
theorem k0_idx252_inb : ∀ (v418 : IVec S16 32) (k0_hw191 : k0_chk191 v418), ∀ a x, ((![v418] : Fin 1 → IVec S16 32) a x).toNat < S1008.size a := fun v418 k0_hw191 => k0_hw191.2

def k0_chk192 (v421 : IVec S16 32) : Prop :=
  (∀ a x, ((![v421] : Fin 1 → IVec S16 32) a x).toNat < S1008.size a) ∧
  (∀ a x, ((![v421] : Fin 1 → IVec S16 32) a x).toNat < S1008.size a)
theorem k0_idx253_inb : ∀ (v421 : IVec S16 32) (k0_hw192 : k0_chk192 v421), ∀ a x, ((![v421] : Fin 1 → IVec S16 32) a x).toNat < S1008.size a := fun v421 k0_hw192 => k0_hw192.1
theorem k0_idx254_inb : ∀ (v421 : IVec S16 32) (k0_hw192 : k0_chk192 v421), ∀ a x, ((![v421] : Fin 1 → IVec S16 32) a x).toNat < S1008.size a := fun v421 k0_hw192 => k0_hw192.2
def k0_off193 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_235 : BitVec 32 := 64#32
  let v432 : BitVec 32 := Scalar.addi v151 c64_i32_235
  let v433 : Index := Scalar.indexCast v432
  ![v433.toNat]
def k0_off194 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32_242 : BitVec 32 := 80#32
  let v450 : BitVec 32 := Scalar.addi v151 c80_i32_242
  let v451 : Index := Scalar.indexCast v450
  ![v451.toNat]

def k0_chk193 (v452 : IVec S16 32) : Prop :=
  (∀ a x, ((![v452] : Fin 1 → IVec S16 32) a x).toNat < S1008.size a) ∧
  (∀ a x, ((![v452] : Fin 1 → IVec S16 32) a x).toNat < S1008.size a)
theorem k0_idx255_inb : ∀ (v452 : IVec S16 32) (k0_hw193 : k0_chk193 v452), ∀ a x, ((![v452] : Fin 1 → IVec S16 32) a x).toNat < S1008.size a := fun v452 k0_hw193 => k0_hw193.1
theorem k0_idx256_inb : ∀ (v452 : IVec S16 32) (k0_hw193 : k0_chk193 v452), ∀ a x, ((![v452] : Fin 1 → IVec S16 32) a x).toNat < S1008.size a := fun v452 k0_hw193 => k0_hw193.2

def k0_chk194 (v455 : IVec S16 32) : Prop :=
  (∀ a x, ((![v455] : Fin 1 → IVec S16 32) a x).toNat < S1008.size a) ∧
  (∀ a x, ((![v455] : Fin 1 → IVec S16 32) a x).toNat < S1008.size a)
theorem k0_idx257_inb : ∀ (v455 : IVec S16 32) (k0_hw194 : k0_chk194 v455), ∀ a x, ((![v455] : Fin 1 → IVec S16 32) a x).toNat < S1008.size a := fun v455 k0_hw194 => k0_hw194.1
theorem k0_idx258_inb : ∀ (v455 : IVec S16 32) (k0_hw194 : k0_chk194 v455), ∀ a x, ((![v455] : Fin 1 → IVec S16 32) a x).toNat < S1008.size a := fun v455 k0_hw194 => k0_hw194.2
def k0_off195 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32_247 : BitVec 32 := 80#32
  let v466 : BitVec 32 := Scalar.addi v151 c80_i32_247
  let v467 : Index := Scalar.indexCast v466
  ![v467.toNat]
def k0_off196 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_254 : BitVec 32 := 96#32
  let v484 : BitVec 32 := Scalar.addi v151 c96_i32_254
  let v485 : Index := Scalar.indexCast v484
  ![v485.toNat]

def k0_chk195 (v486 : IVec S16 32) : Prop :=
  (∀ a x, ((![v486] : Fin 1 → IVec S16 32) a x).toNat < S1008.size a) ∧
  (∀ a x, ((![v486] : Fin 1 → IVec S16 32) a x).toNat < S1008.size a)
theorem k0_idx259_inb : ∀ (v486 : IVec S16 32) (k0_hw195 : k0_chk195 v486), ∀ a x, ((![v486] : Fin 1 → IVec S16 32) a x).toNat < S1008.size a := fun v486 k0_hw195 => k0_hw195.1
theorem k0_idx260_inb : ∀ (v486 : IVec S16 32) (k0_hw195 : k0_chk195 v486), ∀ a x, ((![v486] : Fin 1 → IVec S16 32) a x).toNat < S1008.size a := fun v486 k0_hw195 => k0_hw195.2

def k0_chk196 (v489 : IVec S16 32) : Prop :=
  (∀ a x, ((![v489] : Fin 1 → IVec S16 32) a x).toNat < S1008.size a) ∧
  (∀ a x, ((![v489] : Fin 1 → IVec S16 32) a x).toNat < S1008.size a)
theorem k0_idx261_inb : ∀ (v489 : IVec S16 32) (k0_hw196 : k0_chk196 v489), ∀ a x, ((![v489] : Fin 1 → IVec S16 32) a x).toNat < S1008.size a := fun v489 k0_hw196 => k0_hw196.1
theorem k0_idx262_inb : ∀ (v489 : IVec S16 32) (k0_hw196 : k0_chk196 v489), ∀ a x, ((![v489] : Fin 1 → IVec S16 32) a x).toNat < S1008.size a := fun v489 k0_hw196 => k0_hw196.2
def k0_off197 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_259 : BitVec 32 := 96#32
  let v500 : BitVec 32 := Scalar.addi v151 c96_i32_259
  let v501 : Index := Scalar.indexCast v500
  ![v501.toNat]
def k0_off198 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32_266 : BitVec 32 := 112#32
  let v518 : BitVec 32 := Scalar.addi v151 c112_i32_266
  let v519 : Index := Scalar.indexCast v518
  ![v519.toNat]

def k0_chk197 (v520 : IVec S16 32) : Prop :=
  (∀ a x, ((![v520] : Fin 1 → IVec S16 32) a x).toNat < S1008.size a) ∧
  (∀ a x, ((![v520] : Fin 1 → IVec S16 32) a x).toNat < S1008.size a)
theorem k0_idx263_inb : ∀ (v520 : IVec S16 32) (k0_hw197 : k0_chk197 v520), ∀ a x, ((![v520] : Fin 1 → IVec S16 32) a x).toNat < S1008.size a := fun v520 k0_hw197 => k0_hw197.1
theorem k0_idx264_inb : ∀ (v520 : IVec S16 32) (k0_hw197 : k0_chk197 v520), ∀ a x, ((![v520] : Fin 1 → IVec S16 32) a x).toNat < S1008.size a := fun v520 k0_hw197 => k0_hw197.2

def k0_chk198 (v523 : IVec S16 32) : Prop :=
  (∀ a x, ((![v523] : Fin 1 → IVec S16 32) a x).toNat < S1008.size a) ∧
  (∀ a x, ((![v523] : Fin 1 → IVec S16 32) a x).toNat < S1008.size a)
theorem k0_idx265_inb : ∀ (v523 : IVec S16 32) (k0_hw198 : k0_chk198 v523), ∀ a x, ((![v523] : Fin 1 → IVec S16 32) a x).toNat < S1008.size a := fun v523 k0_hw198 => k0_hw198.1
theorem k0_idx266_inb : ∀ (v523 : IVec S16 32) (k0_hw198 : k0_chk198 v523), ∀ a x, ((![v523] : Fin 1 → IVec S16 32) a x).toNat < S1008.size a := fun v523 k0_hw198 => k0_hw198.2
def k0_off199 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32_271 : BitVec 32 := 112#32
  let v534 : BitVec 32 := Scalar.addi v151 c112_i32_271
  let v535 : Index := Scalar.indexCast v534
  ![v535.toNat]
def k0_off200 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_278 : BitVec 32 := 128#32
  let v552 : BitVec 32 := Scalar.addi v151 c128_i32_278
  let v553 : Index := Scalar.indexCast v552
  ![v553.toNat]

def k0_chk199 (v554 : IVec S16 32) : Prop :=
  (∀ a x, ((![v554] : Fin 1 → IVec S16 32) a x).toNat < S1008.size a) ∧
  (∀ a x, ((![v554] : Fin 1 → IVec S16 32) a x).toNat < S1008.size a)
theorem k0_idx267_inb : ∀ (v554 : IVec S16 32) (k0_hw199 : k0_chk199 v554), ∀ a x, ((![v554] : Fin 1 → IVec S16 32) a x).toNat < S1008.size a := fun v554 k0_hw199 => k0_hw199.1
theorem k0_idx268_inb : ∀ (v554 : IVec S16 32) (k0_hw199 : k0_chk199 v554), ∀ a x, ((![v554] : Fin 1 → IVec S16 32) a x).toNat < S1008.size a := fun v554 k0_hw199 => k0_hw199.2

def k0_chk200 (v557 : IVec S16 32) : Prop :=
  (∀ a x, ((![v557] : Fin 1 → IVec S16 32) a x).toNat < S1008.size a) ∧
  (∀ a x, ((![v557] : Fin 1 → IVec S16 32) a x).toNat < S1008.size a)
theorem k0_idx269_inb : ∀ (v557 : IVec S16 32) (k0_hw200 : k0_chk200 v557), ∀ a x, ((![v557] : Fin 1 → IVec S16 32) a x).toNat < S1008.size a := fun v557 k0_hw200 => k0_hw200.1
theorem k0_idx270_inb : ∀ (v557 : IVec S16 32) (k0_hw200 : k0_chk200 v557), ∀ a x, ((![v557] : Fin 1 → IVec S16 32) a x).toNat < S1008.size a := fun v557 k0_hw200 => k0_hw200.2
def k0_off201 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_283 : BitVec 32 := 128#32
  let v568 : BitVec 32 := Scalar.addi v151 c128_i32_283
  let v569 : Index := Scalar.indexCast v568
  ![v569.toNat]
def k0_off202 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32_290 : BitVec 32 := 144#32
  let v586 : BitVec 32 := Scalar.addi v151 c144_i32_290
  let v587 : Index := Scalar.indexCast v586
  ![v587.toNat]

def k0_chk201 (v588 : IVec S16 32) : Prop :=
  (∀ a x, ((![v588] : Fin 1 → IVec S16 32) a x).toNat < S1008.size a) ∧
  (∀ a x, ((![v588] : Fin 1 → IVec S16 32) a x).toNat < S1008.size a)
theorem k0_idx271_inb : ∀ (v588 : IVec S16 32) (k0_hw201 : k0_chk201 v588), ∀ a x, ((![v588] : Fin 1 → IVec S16 32) a x).toNat < S1008.size a := fun v588 k0_hw201 => k0_hw201.1
theorem k0_idx272_inb : ∀ (v588 : IVec S16 32) (k0_hw201 : k0_chk201 v588), ∀ a x, ((![v588] : Fin 1 → IVec S16 32) a x).toNat < S1008.size a := fun v588 k0_hw201 => k0_hw201.2

def k0_chk202 (v591 : IVec S16 32) : Prop :=
  (∀ a x, ((![v591] : Fin 1 → IVec S16 32) a x).toNat < S1008.size a) ∧
  (∀ a x, ((![v591] : Fin 1 → IVec S16 32) a x).toNat < S1008.size a)
theorem k0_idx273_inb : ∀ (v591 : IVec S16 32) (k0_hw202 : k0_chk202 v591), ∀ a x, ((![v591] : Fin 1 → IVec S16 32) a x).toNat < S1008.size a := fun v591 k0_hw202 => k0_hw202.1
theorem k0_idx274_inb : ∀ (v591 : IVec S16 32) (k0_hw202 : k0_chk202 v591), ∀ a x, ((![v591] : Fin 1 → IVec S16 32) a x).toNat < S1008.size a := fun v591 k0_hw202 => k0_hw202.2
def k0_off203 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32_295 : BitVec 32 := 144#32
  let v602 : BitVec 32 := Scalar.addi v151 c144_i32_295
  let v603 : Index := Scalar.indexCast v602
  ![v603.toNat]
def k0_off204 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32_302 : BitVec 32 := 160#32
  let v620 : BitVec 32 := Scalar.addi v151 c160_i32_302
  let v621 : Index := Scalar.indexCast v620
  ![v621.toNat]

def k0_chk203 (v622 : IVec S16 32) : Prop :=
  (∀ a x, ((![v622] : Fin 1 → IVec S16 32) a x).toNat < S1008.size a) ∧
  (∀ a x, ((![v622] : Fin 1 → IVec S16 32) a x).toNat < S1008.size a)
theorem k0_idx275_inb : ∀ (v622 : IVec S16 32) (k0_hw203 : k0_chk203 v622), ∀ a x, ((![v622] : Fin 1 → IVec S16 32) a x).toNat < S1008.size a := fun v622 k0_hw203 => k0_hw203.1
theorem k0_idx276_inb : ∀ (v622 : IVec S16 32) (k0_hw203 : k0_chk203 v622), ∀ a x, ((![v622] : Fin 1 → IVec S16 32) a x).toNat < S1008.size a := fun v622 k0_hw203 => k0_hw203.2

def k0_chk204 (v625 : IVec S16 32) : Prop :=
  (∀ a x, ((![v625] : Fin 1 → IVec S16 32) a x).toNat < S1008.size a) ∧
  (∀ a x, ((![v625] : Fin 1 → IVec S16 32) a x).toNat < S1008.size a)
theorem k0_idx277_inb : ∀ (v625 : IVec S16 32) (k0_hw204 : k0_chk204 v625), ∀ a x, ((![v625] : Fin 1 → IVec S16 32) a x).toNat < S1008.size a := fun v625 k0_hw204 => k0_hw204.1
theorem k0_idx278_inb : ∀ (v625 : IVec S16 32) (k0_hw204 : k0_chk204 v625), ∀ a x, ((![v625] : Fin 1 → IVec S16 32) a x).toNat < S1008.size a := fun v625 k0_hw204 => k0_hw204.2
def k0_off205 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32_307 : BitVec 32 := 160#32
  let v636 : BitVec 32 := Scalar.addi v151 c160_i32_307
  let v637 : Index := Scalar.indexCast v636
  ![v637.toNat]
def k0_off206 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32_314 : BitVec 32 := 176#32
  let v654 : BitVec 32 := Scalar.addi v151 c176_i32_314
  let v655 : Index := Scalar.indexCast v654
  ![v655.toNat]

def k0_chk205 (v656 : IVec S16 32) : Prop :=
  (∀ a x, ((![v656] : Fin 1 → IVec S16 32) a x).toNat < S1008.size a) ∧
  (∀ a x, ((![v656] : Fin 1 → IVec S16 32) a x).toNat < S1008.size a)
theorem k0_idx279_inb : ∀ (v656 : IVec S16 32) (k0_hw205 : k0_chk205 v656), ∀ a x, ((![v656] : Fin 1 → IVec S16 32) a x).toNat < S1008.size a := fun v656 k0_hw205 => k0_hw205.1
theorem k0_idx280_inb : ∀ (v656 : IVec S16 32) (k0_hw205 : k0_chk205 v656), ∀ a x, ((![v656] : Fin 1 → IVec S16 32) a x).toNat < S1008.size a := fun v656 k0_hw205 => k0_hw205.2

def k0_chk206 (v659 : IVec S16 32) : Prop :=
  (∀ a x, ((![v659] : Fin 1 → IVec S16 32) a x).toNat < S1008.size a) ∧
  (∀ a x, ((![v659] : Fin 1 → IVec S16 32) a x).toNat < S1008.size a)
theorem k0_idx281_inb : ∀ (v659 : IVec S16 32) (k0_hw206 : k0_chk206 v659), ∀ a x, ((![v659] : Fin 1 → IVec S16 32) a x).toNat < S1008.size a := fun v659 k0_hw206 => k0_hw206.1
theorem k0_idx282_inb : ∀ (v659 : IVec S16 32) (k0_hw206 : k0_chk206 v659), ∀ a x, ((![v659] : Fin 1 → IVec S16 32) a x).toNat < S1008.size a := fun v659 k0_hw206 => k0_hw206.2
def k0_off207 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32_319 : BitVec 32 := 176#32
  let v670 : BitVec 32 := Scalar.addi v151 c176_i32_319
  let v671 : Index := Scalar.indexCast v670
  ![v671.toNat]
def k0_off208 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c184_i32 : BitVec 32 := 184#32
  let v688 : BitVec 32 := Scalar.addi v151 c184_i32
  let v689 : Index := Scalar.indexCast v688
  ![v689.toNat]

def k0_chk207 (v690 : IVec S16 32) : Prop :=
  (∀ a x, ((![v690] : Fin 1 → IVec S16 32) a x).toNat < S1008.size a) ∧
  (∀ a x, ((![v690] : Fin 1 → IVec S16 32) a x).toNat < S1008.size a)
theorem k0_idx283_inb : ∀ (v690 : IVec S16 32) (k0_hw207 : k0_chk207 v690), ∀ a x, ((![v690] : Fin 1 → IVec S16 32) a x).toNat < S1008.size a := fun v690 k0_hw207 => k0_hw207.1
theorem k0_idx284_inb : ∀ (v690 : IVec S16 32) (k0_hw207 : k0_chk207 v690), ∀ a x, ((![v690] : Fin 1 → IVec S16 32) a x).toNat < S1008.size a := fun v690 k0_hw207 => k0_hw207.2

def k0_chk208 (v693 : IVec S16 32) : Prop :=
  (∀ a x, ((![v693] : Fin 1 → IVec S16 32) a x).toNat < S1008.size a) ∧
  (∀ a x, ((![v693] : Fin 1 → IVec S16 32) a x).toNat < S1008.size a)
theorem k0_idx285_inb : ∀ (v693 : IVec S16 32) (k0_hw208 : k0_chk208 v693), ∀ a x, ((![v693] : Fin 1 → IVec S16 32) a x).toNat < S1008.size a := fun v693 k0_hw208 => k0_hw208.1
theorem k0_idx286_inb : ∀ (v693 : IVec S16 32) (k0_hw208 : k0_chk208 v693), ∀ a x, ((![v693] : Fin 1 → IVec S16 32) a x).toNat < S1008.size a := fun v693 k0_hw208 => k0_hw208.2
def k0_off209 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c184_i32_330 : BitVec 32 := 184#32
  let v704 : BitVec 32 := Scalar.addi v151 c184_i32_330
  let v705 : Index := Scalar.indexCast v704
  ![v705.toNat]
def k0_off210 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_337 : BitVec 32 := 0#32
  let v722 : BitVec 32 := Scalar.addi v151 c0_i32_337
  let v723 : Index := Scalar.indexCast v722
  ![v723.toNat]

def k0_chk209 (v724 : IVec S16 32) : Prop :=
  (∀ a x, ((![v724] : Fin 1 → IVec S16 32) a x).toNat < S1008.size a)
theorem k0_idx287_inb : ∀ (v724 : IVec S16 32) (k0_hw209 : k0_chk209 v724), ∀ a x, ((![v724] : Fin 1 → IVec S16 32) a x).toNat < S1008.size a := fun v724 k0_hw209 => k0_hw209
def k0_off211 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32_338 : BitVec 32 := 16#32
  let v725 : BitVec 32 := Scalar.addi v151 c16_i32_338
  let v726 : Index := Scalar.indexCast v725
  ![v726.toNat]

def k0_chk210 (v727 : IVec S16 32) : Prop :=
  (∀ a x, ((![v727] : Fin 1 → IVec S16 32) a x).toNat < S1008.size a)
theorem k0_idx288_inb : ∀ (v727 : IVec S16 32) (k0_hw210 : k0_chk210 v727), ∀ a x, ((![v727] : Fin 1 → IVec S16 32) a x).toNat < S1008.size a := fun v727 k0_hw210 => k0_hw210
def k0_off212 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_339 : BitVec 32 := 32#32
  let v728 : BitVec 32 := Scalar.addi v151 c32_i32_339
  let v729 : Index := Scalar.indexCast v728
  ![v729.toNat]

def k0_chk211 (v730 : IVec S16 32) : Prop :=
  (∀ a x, ((![v730] : Fin 1 → IVec S16 32) a x).toNat < S1008.size a)
theorem k0_idx289_inb : ∀ (v730 : IVec S16 32) (k0_hw211 : k0_chk211 v730), ∀ a x, ((![v730] : Fin 1 → IVec S16 32) a x).toNat < S1008.size a := fun v730 k0_hw211 => k0_hw211
def k0_off213 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32_340 : BitVec 32 := 48#32
  let v731 : BitVec 32 := Scalar.addi v151 c48_i32_340
  let v732 : Index := Scalar.indexCast v731
  ![v732.toNat]

def k0_chk212 (v733 : IVec S16 32) : Prop :=
  (∀ a x, ((![v733] : Fin 1 → IVec S16 32) a x).toNat < S1008.size a)
theorem k0_idx290_inb : ∀ (v733 : IVec S16 32) (k0_hw212 : k0_chk212 v733), ∀ a x, ((![v733] : Fin 1 → IVec S16 32) a x).toNat < S1008.size a := fun v733 k0_hw212 => k0_hw212
def k0_off214 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_341 : BitVec 32 := 64#32
  let v734 : BitVec 32 := Scalar.addi v151 c64_i32_341
  let v735 : Index := Scalar.indexCast v734
  ![v735.toNat]

def k0_chk213 (v736 : IVec S16 32) : Prop :=
  (∀ a x, ((![v736] : Fin 1 → IVec S16 32) a x).toNat < S1008.size a)
theorem k0_idx291_inb : ∀ (v736 : IVec S16 32) (k0_hw213 : k0_chk213 v736), ∀ a x, ((![v736] : Fin 1 → IVec S16 32) a x).toNat < S1008.size a := fun v736 k0_hw213 => k0_hw213
def k0_off215 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32_342 : BitVec 32 := 80#32
  let v737 : BitVec 32 := Scalar.addi v151 c80_i32_342
  let v738 : Index := Scalar.indexCast v737
  ![v738.toNat]

def k0_chk214 (v739 : IVec S16 32) : Prop :=
  (∀ a x, ((![v739] : Fin 1 → IVec S16 32) a x).toNat < S1008.size a)
theorem k0_idx292_inb : ∀ (v739 : IVec S16 32) (k0_hw214 : k0_chk214 v739), ∀ a x, ((![v739] : Fin 1 → IVec S16 32) a x).toNat < S1008.size a := fun v739 k0_hw214 => k0_hw214
def k0_off216 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_343 : BitVec 32 := 96#32
  let v740 : BitVec 32 := Scalar.addi v151 c96_i32_343
  let v741 : Index := Scalar.indexCast v740
  ![v741.toNat]

def k0_chk215 (v742 : IVec S16 32) : Prop :=
  (∀ a x, ((![v742] : Fin 1 → IVec S16 32) a x).toNat < S1008.size a)
theorem k0_idx293_inb : ∀ (v742 : IVec S16 32) (k0_hw215 : k0_chk215 v742), ∀ a x, ((![v742] : Fin 1 → IVec S16 32) a x).toNat < S1008.size a := fun v742 k0_hw215 => k0_hw215
def k0_off217 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32_344 : BitVec 32 := 112#32
  let v743 : BitVec 32 := Scalar.addi v151 c112_i32_344
  let v744 : Index := Scalar.indexCast v743
  ![v744.toNat]

def k0_chk216 (v745 : IVec S16 32) : Prop :=
  (∀ a x, ((![v745] : Fin 1 → IVec S16 32) a x).toNat < S1008.size a)
theorem k0_idx294_inb : ∀ (v745 : IVec S16 32) (k0_hw216 : k0_chk216 v745), ∀ a x, ((![v745] : Fin 1 → IVec S16 32) a x).toNat < S1008.size a := fun v745 k0_hw216 => k0_hw216
def k0_off218 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_345 : BitVec 32 := 128#32
  let v746 : BitVec 32 := Scalar.addi v151 c128_i32_345
  let v747 : Index := Scalar.indexCast v746
  ![v747.toNat]

def k0_chk217 (v748 : IVec S16 32) : Prop :=
  (∀ a x, ((![v748] : Fin 1 → IVec S16 32) a x).toNat < S1008.size a)
theorem k0_idx295_inb : ∀ (v748 : IVec S16 32) (k0_hw217 : k0_chk217 v748), ∀ a x, ((![v748] : Fin 1 → IVec S16 32) a x).toNat < S1008.size a := fun v748 k0_hw217 => k0_hw217
def k0_off219 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32_346 : BitVec 32 := 144#32
  let v749 : BitVec 32 := Scalar.addi v151 c144_i32_346
  let v750 : Index := Scalar.indexCast v749
  ![v750.toNat]

def k0_chk218 (v751 : IVec S16 32) : Prop :=
  (∀ a x, ((![v751] : Fin 1 → IVec S16 32) a x).toNat < S1008.size a)
theorem k0_idx296_inb : ∀ (v751 : IVec S16 32) (k0_hw218 : k0_chk218 v751), ∀ a x, ((![v751] : Fin 1 → IVec S16 32) a x).toNat < S1008.size a := fun v751 k0_hw218 => k0_hw218
def k0_off220 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32_347 : BitVec 32 := 160#32
  let v752 : BitVec 32 := Scalar.addi v151 c160_i32_347
  let v753 : Index := Scalar.indexCast v752
  ![v753.toNat]

def k0_chk219 (v754 : IVec S16 32) : Prop :=
  (∀ a x, ((![v754] : Fin 1 → IVec S16 32) a x).toNat < S1008.size a)
theorem k0_idx297_inb : ∀ (v754 : IVec S16 32) (k0_hw219 : k0_chk219 v754), ∀ a x, ((![v754] : Fin 1 → IVec S16 32) a x).toNat < S1008.size a := fun v754 k0_hw219 => k0_hw219
def k0_off221 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32_348 : BitVec 32 := 176#32
  let v755 : BitVec 32 := Scalar.addi v151 c176_i32_348
  let v756 : Index := Scalar.indexCast v755
  ![v756.toNat]

def k0_chk220 (v757 : IVec S16 32) : Prop :=
  (∀ a x, ((![v757] : Fin 1 → IVec S16 32) a x).toNat < S1008.size a)
theorem k0_idx298_inb : ∀ (v757 : IVec S16 32) (k0_hw220 : k0_chk220 v757), ∀ a x, ((![v757] : Fin 1 → IVec S16 32) a x).toNat < S1008.size a := fun v757 k0_hw220 => k0_hw220
def k0_off222 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c192_i32_349 : BitVec 32 := 192#32
  let v758 : BitVec 32 := Scalar.addi v151 c192_i32_349
  let v759 : Index := Scalar.indexCast v758
  ![v759.toNat]

def k0_chk221 (v760 : IVec S16 32) : Prop :=
  (∀ a x, ((![v760] : Fin 1 → IVec S16 32) a x).toNat < S1008.size a)
theorem k0_idx299_inb : ∀ (v760 : IVec S16 32) (k0_hw221 : k0_chk221 v760), ∀ a x, ((![v760] : Fin 1 → IVec S16 32) a x).toNat < S1008.size a := fun v760 k0_hw221 => k0_hw221
def k0_off223 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c0_i32_350 : BitVec 32 := 0#32
  let v761 : BitVec 32 := Scalar.addi v151 c0_i32_350
  let v762 : Index := Scalar.indexCast v761
  ![v762.toNat]

def k0_chk222 (v763 : IVec S16 32) : Prop :=
  (∀ a x, ((![v763] : Fin 1 → IVec S16 32) a x).toNat < S1008.size a)
theorem k0_idx300_inb : ∀ (v763 : IVec S16 32) (k0_hw222 : k0_chk222 v763), ∀ a x, ((![v763] : Fin 1 → IVec S16 32) a x).toNat < S1008.size a := fun v763 k0_hw222 => k0_hw222
def k0_off224 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c16_i32_351 : BitVec 32 := 16#32
  let v764 : BitVec 32 := Scalar.addi v151 c16_i32_351
  let v765 : Index := Scalar.indexCast v764
  ![v765.toNat]

def k0_chk223 (v766 : IVec S16 32) : Prop :=
  (∀ a x, ((![v766] : Fin 1 → IVec S16 32) a x).toNat < S1008.size a)
theorem k0_idx301_inb : ∀ (v766 : IVec S16 32) (k0_hw223 : k0_chk223 v766), ∀ a x, ((![v766] : Fin 1 → IVec S16 32) a x).toNat < S1008.size a := fun v766 k0_hw223 => k0_hw223
def k0_off225 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c32_i32_352 : BitVec 32 := 32#32
  let v767 : BitVec 32 := Scalar.addi v151 c32_i32_352
  let v768 : Index := Scalar.indexCast v767
  ![v768.toNat]

def k0_chk224 (v769 : IVec S16 32) : Prop :=
  (∀ a x, ((![v769] : Fin 1 → IVec S16 32) a x).toNat < S1008.size a)
theorem k0_idx302_inb : ∀ (v769 : IVec S16 32) (k0_hw224 : k0_chk224 v769), ∀ a x, ((![v769] : Fin 1 → IVec S16 32) a x).toNat < S1008.size a := fun v769 k0_hw224 => k0_hw224
def k0_off226 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c48_i32_353 : BitVec 32 := 48#32
  let v770 : BitVec 32 := Scalar.addi v151 c48_i32_353
  let v771 : Index := Scalar.indexCast v770
  ![v771.toNat]

def k0_chk225 (v772 : IVec S16 32) : Prop :=
  (∀ a x, ((![v772] : Fin 1 → IVec S16 32) a x).toNat < S1008.size a)
theorem k0_idx303_inb : ∀ (v772 : IVec S16 32) (k0_hw225 : k0_chk225 v772), ∀ a x, ((![v772] : Fin 1 → IVec S16 32) a x).toNat < S1008.size a := fun v772 k0_hw225 => k0_hw225
def k0_off227 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c64_i32_354 : BitVec 32 := 64#32
  let v773 : BitVec 32 := Scalar.addi v151 c64_i32_354
  let v774 : Index := Scalar.indexCast v773
  ![v774.toNat]

def k0_chk226 (v775 : IVec S16 32) : Prop :=
  (∀ a x, ((![v775] : Fin 1 → IVec S16 32) a x).toNat < S1008.size a)
theorem k0_idx304_inb : ∀ (v775 : IVec S16 32) (k0_hw226 : k0_chk226 v775), ∀ a x, ((![v775] : Fin 1 → IVec S16 32) a x).toNat < S1008.size a := fun v775 k0_hw226 => k0_hw226
def k0_off228 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c80_i32_355 : BitVec 32 := 80#32
  let v776 : BitVec 32 := Scalar.addi v151 c80_i32_355
  let v777 : Index := Scalar.indexCast v776
  ![v777.toNat]

def k0_chk227 (v778 : IVec S16 32) : Prop :=
  (∀ a x, ((![v778] : Fin 1 → IVec S16 32) a x).toNat < S1008.size a)
theorem k0_idx305_inb : ∀ (v778 : IVec S16 32) (k0_hw227 : k0_chk227 v778), ∀ a x, ((![v778] : Fin 1 → IVec S16 32) a x).toNat < S1008.size a := fun v778 k0_hw227 => k0_hw227
def k0_off229 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c96_i32_356 : BitVec 32 := 96#32
  let v779 : BitVec 32 := Scalar.addi v151 c96_i32_356
  let v780 : Index := Scalar.indexCast v779
  ![v780.toNat]

def k0_chk228 (v781 : IVec S16 32) : Prop :=
  (∀ a x, ((![v781] : Fin 1 → IVec S16 32) a x).toNat < S1008.size a)
theorem k0_idx306_inb : ∀ (v781 : IVec S16 32) (k0_hw228 : k0_chk228 v781), ∀ a x, ((![v781] : Fin 1 → IVec S16 32) a x).toNat < S1008.size a := fun v781 k0_hw228 => k0_hw228
def k0_off230 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c112_i32_357 : BitVec 32 := 112#32
  let v782 : BitVec 32 := Scalar.addi v151 c112_i32_357
  let v783 : Index := Scalar.indexCast v782
  ![v783.toNat]

def k0_chk229 (v784 : IVec S16 32) : Prop :=
  (∀ a x, ((![v784] : Fin 1 → IVec S16 32) a x).toNat < S1008.size a)
theorem k0_idx307_inb : ∀ (v784 : IVec S16 32) (k0_hw229 : k0_chk229 v784), ∀ a x, ((![v784] : Fin 1 → IVec S16 32) a x).toNat < S1008.size a := fun v784 k0_hw229 => k0_hw229
def k0_off231 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c128_i32_358 : BitVec 32 := 128#32
  let v785 : BitVec 32 := Scalar.addi v151 c128_i32_358
  let v786 : Index := Scalar.indexCast v785
  ![v786.toNat]

def k0_chk230 (v787 : IVec S16 32) : Prop :=
  (∀ a x, ((![v787] : Fin 1 → IVec S16 32) a x).toNat < S1008.size a)
theorem k0_idx308_inb : ∀ (v787 : IVec S16 32) (k0_hw230 : k0_chk230 v787), ∀ a x, ((![v787] : Fin 1 → IVec S16 32) a x).toNat < S1008.size a := fun v787 k0_hw230 => k0_hw230
def k0_off232 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c144_i32_359 : BitVec 32 := 144#32
  let v788 : BitVec 32 := Scalar.addi v151 c144_i32_359
  let v789 : Index := Scalar.indexCast v788
  ![v789.toNat]

def k0_chk231 (v790 : IVec S16 32) : Prop :=
  (∀ a x, ((![v790] : Fin 1 → IVec S16 32) a x).toNat < S1008.size a)
theorem k0_idx309_inb : ∀ (v790 : IVec S16 32) (k0_hw231 : k0_chk231 v790), ∀ a x, ((![v790] : Fin 1 → IVec S16 32) a x).toNat < S1008.size a := fun v790 k0_hw231 => k0_hw231
def k0_off233 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c160_i32_360 : BitVec 32 := 160#32
  let v791 : BitVec 32 := Scalar.addi v151 c160_i32_360
  let v792 : Index := Scalar.indexCast v791
  ![v792.toNat]

def k0_chk232 (v793 : IVec S16 32) : Prop :=
  (∀ a x, ((![v793] : Fin 1 → IVec S16 32) a x).toNat < S1008.size a)
theorem k0_idx310_inb : ∀ (v793 : IVec S16 32) (k0_hw232 : k0_chk232 v793), ∀ a x, ((![v793] : Fin 1 → IVec S16 32) a x).toNat < S1008.size a := fun v793 k0_hw232 => k0_hw232
def k0_off234 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c176_i32_361 : BitVec 32 := 176#32
  let v794 : BitVec 32 := Scalar.addi v151 c176_i32_361
  let v795 : Index := Scalar.indexCast v794
  ![v795.toNat]

def k0_chk233 (v796 : IVec S16 32) : Prop :=
  (∀ a x, ((![v796] : Fin 1 → IVec S16 32) a x).toNat < S1008.size a)
theorem k0_idx311_inb : ∀ (v796 : IVec S16 32) (k0_hw233 : k0_chk233 v796), ∀ a x, ((![v796] : Fin 1 → IVec S16 32) a x).toNat < S1008.size a := fun v796 k0_hw233 => k0_hw233
def k0_off235 (k0_t3 : Fin k0_t3_loop.trips) : Fin 1 → Nat :=
  let c0_i32_79 : BitVec 32 := 0#32
  let c1_i32_81 : BitVec 32 := 1#32
  let arg16 : BitVec 32 := Scf.iv c0_i32_79 c1_i32_81 k0_t3
  let c200_i32_90 : BitVec 32 := 200#32
  let v151 : BitVec 32 := Scalar.muli arg16 c200_i32_90
  let c192_i32_362 : BitVec 32 := 192#32
  let v797 : BitVec 32 := Scalar.addi v151 c192_i32_362
  let v798 : Index := Scalar.indexCast v797
  ![v798.toNat]

def k0_chk234 (v799 : IVec S16 32) : Prop :=
  (∀ a x, ((![v799] : Fin 1 → IVec S16 32) a x).toNat < S1008.size a)
theorem k0_idx312_inb : ∀ (v799 : IVec S16 32) (k0_hw234 : k0_chk234 v799), ∀ a x, ((![v799] : Fin 1 → IVec S16 32) a x).toNat < S1008.size a := fun v799 k0_hw234 => k0_hw234
@[reducible] def k0_t4_loop : Scf.Loop 32 :=
  let c0_i32_86 : BitVec 32 := 0#32
  let c32_i32_87 : BitVec 32 := 32#32
  let v150 : BitVec 32 := Scalar.addi c0_i32_86 c32_i32_87
  let c1_i32_88 : BitVec 32 := 1#32
  ⟨c0_i32_86, v150, c1_i32_88⟩
def k0_off236 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_91 : BitVec 32 := 0#32
  let v152 : BitVec 32 := Scalar.addi v151 c0_i32_91
  let v153 : Index := Scalar.indexCast v152
  ![v153.toNat]

def k0_chk235 (v154 : IVec S16 32) : Prop :=
  (∀ a x, ((![v154] : Fin 1 → IVec S16 32) a x).toNat < S1008.size a)
theorem k0_idx313_inb : ∀ (v154 : IVec S16 32) (k0_hw235 : k0_chk235 v154), ∀ a x, ((![v154] : Fin 1 → IVec S16 32) a x).toNat < S1008.size a := fun v154 k0_hw235 => k0_hw235
def k0_off237 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32 : BitVec 32 := 16#32
  let v157 : BitVec 32 := Scalar.addi v151 c16_i32
  let v158 : Index := Scalar.indexCast v157
  ![v158.toNat]

def k0_chk236 (v159 : IVec S16 32) : Prop :=
  (∀ a x, ((![v159] : Fin 1 → IVec S16 32) a x).toNat < S1008.size a)
theorem k0_idx314_inb : ∀ (v159 : IVec S16 32) (k0_hw236 : k0_chk236 v159), ∀ a x, ((![v159] : Fin 1 → IVec S16 32) a x).toNat < S1008.size a := fun v159 k0_hw236 => k0_hw236
def k0_off238 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_95 : BitVec 32 := 32#32
  let v162 : BitVec 32 := Scalar.addi v151 c32_i32_95
  let v163 : Index := Scalar.indexCast v162
  ![v163.toNat]

def k0_chk237 (v164 : IVec S16 32) : Prop :=
  (∀ a x, ((![v164] : Fin 1 → IVec S16 32) a x).toNat < S1008.size a)
theorem k0_idx315_inb : ∀ (v164 : IVec S16 32) (k0_hw237 : k0_chk237 v164), ∀ a x, ((![v164] : Fin 1 → IVec S16 32) a x).toNat < S1008.size a := fun v164 k0_hw237 => k0_hw237
def k0_off239 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32 : BitVec 32 := 48#32
  let v167 : BitVec 32 := Scalar.addi v151 c48_i32
  let v168 : Index := Scalar.indexCast v167
  ![v168.toNat]

def k0_chk238 (v169 : IVec S16 32) : Prop :=
  (∀ a x, ((![v169] : Fin 1 → IVec S16 32) a x).toNat < S1008.size a)
theorem k0_idx316_inb : ∀ (v169 : IVec S16 32) (k0_hw238 : k0_chk238 v169), ∀ a x, ((![v169] : Fin 1 → IVec S16 32) a x).toNat < S1008.size a := fun v169 k0_hw238 => k0_hw238
def k0_off240 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_102 : BitVec 32 := 64#32
  let v172 : BitVec 32 := Scalar.addi v151 c64_i32_102
  let v173 : Index := Scalar.indexCast v172
  ![v173.toNat]

def k0_chk239 (v174 : IVec S16 32) : Prop :=
  (∀ a x, ((![v174] : Fin 1 → IVec S16 32) a x).toNat < S1008.size a)
theorem k0_idx317_inb : ∀ (v174 : IVec S16 32) (k0_hw239 : k0_chk239 v174), ∀ a x, ((![v174] : Fin 1 → IVec S16 32) a x).toNat < S1008.size a := fun v174 k0_hw239 => k0_hw239
def k0_off241 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32 : BitVec 32 := 80#32
  let v177 : BitVec 32 := Scalar.addi v151 c80_i32
  let v178 : Index := Scalar.indexCast v177
  ![v178.toNat]

def k0_chk240 (v179 : IVec S16 32) : Prop :=
  (∀ a x, ((![v179] : Fin 1 → IVec S16 32) a x).toNat < S1008.size a)
theorem k0_idx318_inb : ∀ (v179 : IVec S16 32) (k0_hw240 : k0_chk240 v179), ∀ a x, ((![v179] : Fin 1 → IVec S16 32) a x).toNat < S1008.size a := fun v179 k0_hw240 => k0_hw240
def k0_off242 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_109 : BitVec 32 := 96#32
  let v182 : BitVec 32 := Scalar.addi v151 c96_i32_109
  let v183 : Index := Scalar.indexCast v182
  ![v183.toNat]

def k0_chk241 (v184 : IVec S16 32) : Prop :=
  (∀ a x, ((![v184] : Fin 1 → IVec S16 32) a x).toNat < S1008.size a)
theorem k0_idx319_inb : ∀ (v184 : IVec S16 32) (k0_hw241 : k0_chk241 v184), ∀ a x, ((![v184] : Fin 1 → IVec S16 32) a x).toNat < S1008.size a := fun v184 k0_hw241 => k0_hw241
def k0_off243 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32 : BitVec 32 := 112#32
  let v187 : BitVec 32 := Scalar.addi v151 c112_i32
  let v188 : Index := Scalar.indexCast v187
  ![v188.toNat]

def k0_chk242 (v189 : IVec S16 32) : Prop :=
  (∀ a x, ((![v189] : Fin 1 → IVec S16 32) a x).toNat < S1008.size a)
theorem k0_idx320_inb : ∀ (v189 : IVec S16 32) (k0_hw242 : k0_chk242 v189), ∀ a x, ((![v189] : Fin 1 → IVec S16 32) a x).toNat < S1008.size a := fun v189 k0_hw242 => k0_hw242
def k0_off244 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_116 : BitVec 32 := 128#32
  let v192 : BitVec 32 := Scalar.addi v151 c128_i32_116
  let v193 : Index := Scalar.indexCast v192
  ![v193.toNat]

def k0_chk243 (v194 : IVec S16 32) : Prop :=
  (∀ a x, ((![v194] : Fin 1 → IVec S16 32) a x).toNat < S1008.size a)
theorem k0_idx321_inb : ∀ (v194 : IVec S16 32) (k0_hw243 : k0_chk243 v194), ∀ a x, ((![v194] : Fin 1 → IVec S16 32) a x).toNat < S1008.size a := fun v194 k0_hw243 => k0_hw243
def k0_off245 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32 : BitVec 32 := 144#32
  let v197 : BitVec 32 := Scalar.addi v151 c144_i32
  let v198 : Index := Scalar.indexCast v197
  ![v198.toNat]

def k0_chk244 (v199 : IVec S16 32) : Prop :=
  (∀ a x, ((![v199] : Fin 1 → IVec S16 32) a x).toNat < S1008.size a)
theorem k0_idx322_inb : ∀ (v199 : IVec S16 32) (k0_hw244 : k0_chk244 v199), ∀ a x, ((![v199] : Fin 1 → IVec S16 32) a x).toNat < S1008.size a := fun v199 k0_hw244 => k0_hw244
def k0_off246 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32 : BitVec 32 := 160#32
  let v202 : BitVec 32 := Scalar.addi v151 c160_i32
  let v203 : Index := Scalar.indexCast v202
  ![v203.toNat]

def k0_chk245 (v204 : IVec S16 32) : Prop :=
  (∀ a x, ((![v204] : Fin 1 → IVec S16 32) a x).toNat < S1008.size a)
theorem k0_idx323_inb : ∀ (v204 : IVec S16 32) (k0_hw245 : k0_chk245 v204), ∀ a x, ((![v204] : Fin 1 → IVec S16 32) a x).toNat < S1008.size a := fun v204 k0_hw245 => k0_hw245
def k0_off247 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32 : BitVec 32 := 176#32
  let v207 : BitVec 32 := Scalar.addi v151 c176_i32
  let v208 : Index := Scalar.indexCast v207
  ![v208.toNat]

def k0_chk246 (v209 : IVec S16 32) : Prop :=
  (∀ a x, ((![v209] : Fin 1 → IVec S16 32) a x).toNat < S1008.size a)
theorem k0_idx324_inb : ∀ (v209 : IVec S16 32) (k0_hw246 : k0_chk246 v209), ∀ a x, ((![v209] : Fin 1 → IVec S16 32) a x).toNat < S1008.size a := fun v209 k0_hw246 => k0_hw246
def k0_off248 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c192_i32 : BitVec 32 := 192#32
  let v212 : BitVec 32 := Scalar.addi v151 c192_i32
  let v213 : Index := Scalar.indexCast v212
  ![v213.toNat]

def k0_chk247 (v214 : IVec S16 32) : Prop :=
  (∀ a x, ((![v214] : Fin 1 → IVec S16 32) a x).toNat < S1008.size a)
theorem k0_idx325_inb : ∀ (v214 : IVec S16 32) (k0_hw247 : k0_chk247 v214), ∀ a x, ((![v214] : Fin 1 → IVec S16 32) a x).toNat < S1008.size a := fun v214 k0_hw247 => k0_hw247
def k0_off249 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_131 : BitVec 32 := 0#32
  let v216 : BitVec 32 := Scalar.addi v151 c0_i32_131
  let v217 : Index := Scalar.indexCast v216
  ![v217.toNat]

def k0_chk248 (v218 : IVec S16 32) : Prop :=
  (∀ a x, ((![v218] : Fin 1 → IVec S16 32) a x).toNat < S1008.size a)
theorem k0_idx326_inb : ∀ (v218 : IVec S16 32) (k0_hw248 : k0_chk248 v218), ∀ a x, ((![v218] : Fin 1 → IVec S16 32) a x).toNat < S1008.size a := fun v218 k0_hw248 => k0_hw248
def k0_off250 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32_135 : BitVec 32 := 16#32
  let v221 : BitVec 32 := Scalar.addi v151 c16_i32_135
  let v222 : Index := Scalar.indexCast v221
  ![v222.toNat]

def k0_chk249 (v223 : IVec S16 32) : Prop :=
  (∀ a x, ((![v223] : Fin 1 → IVec S16 32) a x).toNat < S1008.size a)
theorem k0_idx327_inb : ∀ (v223 : IVec S16 32) (k0_hw249 : k0_chk249 v223), ∀ a x, ((![v223] : Fin 1 → IVec S16 32) a x).toNat < S1008.size a := fun v223 k0_hw249 => k0_hw249
def k0_off251 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_139 : BitVec 32 := 32#32
  let v226 : BitVec 32 := Scalar.addi v151 c32_i32_139
  let v227 : Index := Scalar.indexCast v226
  ![v227.toNat]

def k0_chk250 (v228 : IVec S16 32) : Prop :=
  (∀ a x, ((![v228] : Fin 1 → IVec S16 32) a x).toNat < S1008.size a)
theorem k0_idx328_inb : ∀ (v228 : IVec S16 32) (k0_hw250 : k0_chk250 v228), ∀ a x, ((![v228] : Fin 1 → IVec S16 32) a x).toNat < S1008.size a := fun v228 k0_hw250 => k0_hw250
def k0_off252 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32_143 : BitVec 32 := 48#32
  let v231 : BitVec 32 := Scalar.addi v151 c48_i32_143
  let v232 : Index := Scalar.indexCast v231
  ![v232.toNat]

def k0_chk251 (v233 : IVec S16 32) : Prop :=
  (∀ a x, ((![v233] : Fin 1 → IVec S16 32) a x).toNat < S1008.size a)
theorem k0_idx329_inb : ∀ (v233 : IVec S16 32) (k0_hw251 : k0_chk251 v233), ∀ a x, ((![v233] : Fin 1 → IVec S16 32) a x).toNat < S1008.size a := fun v233 k0_hw251 => k0_hw251
def k0_off253 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_147 : BitVec 32 := 64#32
  let v236 : BitVec 32 := Scalar.addi v151 c64_i32_147
  let v237 : Index := Scalar.indexCast v236
  ![v237.toNat]

def k0_chk252 (v238 : IVec S16 32) : Prop :=
  (∀ a x, ((![v238] : Fin 1 → IVec S16 32) a x).toNat < S1008.size a)
theorem k0_idx330_inb : ∀ (v238 : IVec S16 32) (k0_hw252 : k0_chk252 v238), ∀ a x, ((![v238] : Fin 1 → IVec S16 32) a x).toNat < S1008.size a := fun v238 k0_hw252 => k0_hw252
def k0_off254 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32_151 : BitVec 32 := 80#32
  let v241 : BitVec 32 := Scalar.addi v151 c80_i32_151
  let v242 : Index := Scalar.indexCast v241
  ![v242.toNat]

def k0_chk253 (v243 : IVec S16 32) : Prop :=
  (∀ a x, ((![v243] : Fin 1 → IVec S16 32) a x).toNat < S1008.size a)
theorem k0_idx331_inb : ∀ (v243 : IVec S16 32) (k0_hw253 : k0_chk253 v243), ∀ a x, ((![v243] : Fin 1 → IVec S16 32) a x).toNat < S1008.size a := fun v243 k0_hw253 => k0_hw253
def k0_off255 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_155 : BitVec 32 := 96#32
  let v246 : BitVec 32 := Scalar.addi v151 c96_i32_155
  let v247 : Index := Scalar.indexCast v246
  ![v247.toNat]

def k0_chk254 (v248 : IVec S16 32) : Prop :=
  (∀ a x, ((![v248] : Fin 1 → IVec S16 32) a x).toNat < S1008.size a)
theorem k0_idx332_inb : ∀ (v248 : IVec S16 32) (k0_hw254 : k0_chk254 v248), ∀ a x, ((![v248] : Fin 1 → IVec S16 32) a x).toNat < S1008.size a := fun v248 k0_hw254 => k0_hw254
def k0_off256 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32_159 : BitVec 32 := 112#32
  let v251 : BitVec 32 := Scalar.addi v151 c112_i32_159
  let v252 : Index := Scalar.indexCast v251
  ![v252.toNat]

def k0_chk255 (v253 : IVec S16 32) : Prop :=
  (∀ a x, ((![v253] : Fin 1 → IVec S16 32) a x).toNat < S1008.size a)
theorem k0_idx333_inb : ∀ (v253 : IVec S16 32) (k0_hw255 : k0_chk255 v253), ∀ a x, ((![v253] : Fin 1 → IVec S16 32) a x).toNat < S1008.size a := fun v253 k0_hw255 => k0_hw255
def k0_off257 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_163 : BitVec 32 := 128#32
  let v256 : BitVec 32 := Scalar.addi v151 c128_i32_163
  let v257 : Index := Scalar.indexCast v256
  ![v257.toNat]

def k0_chk256 (v258 : IVec S16 32) : Prop :=
  (∀ a x, ((![v258] : Fin 1 → IVec S16 32) a x).toNat < S1008.size a)
theorem k0_idx334_inb : ∀ (v258 : IVec S16 32) (k0_hw256 : k0_chk256 v258), ∀ a x, ((![v258] : Fin 1 → IVec S16 32) a x).toNat < S1008.size a := fun v258 k0_hw256 => k0_hw256
def k0_off258 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32_167 : BitVec 32 := 144#32
  let v261 : BitVec 32 := Scalar.addi v151 c144_i32_167
  let v262 : Index := Scalar.indexCast v261
  ![v262.toNat]

def k0_chk257 (v263 : IVec S16 32) : Prop :=
  (∀ a x, ((![v263] : Fin 1 → IVec S16 32) a x).toNat < S1008.size a)
theorem k0_idx335_inb : ∀ (v263 : IVec S16 32) (k0_hw257 : k0_chk257 v263), ∀ a x, ((![v263] : Fin 1 → IVec S16 32) a x).toNat < S1008.size a := fun v263 k0_hw257 => k0_hw257
def k0_off259 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32_171 : BitVec 32 := 160#32
  let v266 : BitVec 32 := Scalar.addi v151 c160_i32_171
  let v267 : Index := Scalar.indexCast v266
  ![v267.toNat]

def k0_chk258 (v268 : IVec S16 32) : Prop :=
  (∀ a x, ((![v268] : Fin 1 → IVec S16 32) a x).toNat < S1008.size a)
theorem k0_idx336_inb : ∀ (v268 : IVec S16 32) (k0_hw258 : k0_chk258 v268), ∀ a x, ((![v268] : Fin 1 → IVec S16 32) a x).toNat < S1008.size a := fun v268 k0_hw258 => k0_hw258
def k0_off260 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32_175 : BitVec 32 := 176#32
  let v271 : BitVec 32 := Scalar.addi v151 c176_i32_175
  let v272 : Index := Scalar.indexCast v271
  ![v272.toNat]

def k0_chk259 (v273 : IVec S16 32) : Prop :=
  (∀ a x, ((![v273] : Fin 1 → IVec S16 32) a x).toNat < S1008.size a)
theorem k0_idx337_inb : ∀ (v273 : IVec S16 32) (k0_hw259 : k0_chk259 v273), ∀ a x, ((![v273] : Fin 1 → IVec S16 32) a x).toNat < S1008.size a := fun v273 k0_hw259 => k0_hw259
def k0_off261 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c192_i32_179 : BitVec 32 := 192#32
  let v276 : BitVec 32 := Scalar.addi v151 c192_i32_179
  let v277 : Index := Scalar.indexCast v276
  ![v277.toNat]

def k0_chk260 (v278 : IVec S16 32) : Prop :=
  (∀ a x, ((![v278] : Fin 1 → IVec S16 32) a x).toNat < S1008.size a)
theorem k0_idx338_inb : ∀ (v278 : IVec S16 32) (k0_hw260 : k0_chk260 v278), ∀ a x, ((![v278] : Fin 1 → IVec S16 32) a x).toNat < S1008.size a := fun v278 k0_hw260 => k0_hw260
def k0_off262 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_182 : BitVec 32 := 0#32
  let v280 : BitVec 32 := Scalar.addi v151 c0_i32_182
  let v281 : Index := Scalar.indexCast v280
  ![v281.toNat]

def k0_chk261 (v282 : IVec S16 32) : Prop :=
  (∀ a x, ((![v282] : Fin 1 → IVec S16 32) a x).toNat < S1008.size a) ∧
  (∀ a x, ((![v282] : Fin 1 → IVec S16 32) a x).toNat < S1008.size a)
theorem k0_idx339_inb : ∀ (v282 : IVec S16 32) (k0_hw261 : k0_chk261 v282), ∀ a x, ((![v282] : Fin 1 → IVec S16 32) a x).toNat < S1008.size a := fun v282 k0_hw261 => k0_hw261.1
theorem k0_idx340_inb : ∀ (v282 : IVec S16 32) (k0_hw261 : k0_chk261 v282), ∀ a x, ((![v282] : Fin 1 → IVec S16 32) a x).toNat < S1008.size a := fun v282 k0_hw261 => k0_hw261.2

def k0_chk262 (v285 : IVec S16 32) : Prop :=
  (∀ a x, ((![v285] : Fin 1 → IVec S16 32) a x).toNat < S1008.size a) ∧
  (∀ a x, ((![v285] : Fin 1 → IVec S16 32) a x).toNat < S1008.size a)
theorem k0_idx341_inb : ∀ (v285 : IVec S16 32) (k0_hw262 : k0_chk262 v285), ∀ a x, ((![v285] : Fin 1 → IVec S16 32) a x).toNat < S1008.size a := fun v285 k0_hw262 => k0_hw262.1
theorem k0_idx342_inb : ∀ (v285 : IVec S16 32) (k0_hw262 : k0_chk262 v285), ∀ a x, ((![v285] : Fin 1 → IVec S16 32) a x).toNat < S1008.size a := fun v285 k0_hw262 => k0_hw262.2
def k0_off263 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_187 : BitVec 32 := 0#32
  let v296 : BitVec 32 := Scalar.addi v151 c0_i32_187
  let v297 : Index := Scalar.indexCast v296
  ![v297.toNat]
def k0_off264 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32_194 : BitVec 32 := 16#32
  let v314 : BitVec 32 := Scalar.addi v151 c16_i32_194
  let v315 : Index := Scalar.indexCast v314
  ![v315.toNat]

def k0_chk263 (v316 : IVec S16 32) : Prop :=
  (∀ a x, ((![v316] : Fin 1 → IVec S16 32) a x).toNat < S1008.size a) ∧
  (∀ a x, ((![v316] : Fin 1 → IVec S16 32) a x).toNat < S1008.size a)
theorem k0_idx343_inb : ∀ (v316 : IVec S16 32) (k0_hw263 : k0_chk263 v316), ∀ a x, ((![v316] : Fin 1 → IVec S16 32) a x).toNat < S1008.size a := fun v316 k0_hw263 => k0_hw263.1
theorem k0_idx344_inb : ∀ (v316 : IVec S16 32) (k0_hw263 : k0_chk263 v316), ∀ a x, ((![v316] : Fin 1 → IVec S16 32) a x).toNat < S1008.size a := fun v316 k0_hw263 => k0_hw263.2

def k0_chk264 (v319 : IVec S16 32) : Prop :=
  (∀ a x, ((![v319] : Fin 1 → IVec S16 32) a x).toNat < S1008.size a) ∧
  (∀ a x, ((![v319] : Fin 1 → IVec S16 32) a x).toNat < S1008.size a)
theorem k0_idx345_inb : ∀ (v319 : IVec S16 32) (k0_hw264 : k0_chk264 v319), ∀ a x, ((![v319] : Fin 1 → IVec S16 32) a x).toNat < S1008.size a := fun v319 k0_hw264 => k0_hw264.1
theorem k0_idx346_inb : ∀ (v319 : IVec S16 32) (k0_hw264 : k0_chk264 v319), ∀ a x, ((![v319] : Fin 1 → IVec S16 32) a x).toNat < S1008.size a := fun v319 k0_hw264 => k0_hw264.2
def k0_off265 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32_199 : BitVec 32 := 16#32
  let v330 : BitVec 32 := Scalar.addi v151 c16_i32_199
  let v331 : Index := Scalar.indexCast v330
  ![v331.toNat]
def k0_off266 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_206 : BitVec 32 := 32#32
  let v348 : BitVec 32 := Scalar.addi v151 c32_i32_206
  let v349 : Index := Scalar.indexCast v348
  ![v349.toNat]

def k0_chk265 (v350 : IVec S16 32) : Prop :=
  (∀ a x, ((![v350] : Fin 1 → IVec S16 32) a x).toNat < S1008.size a) ∧
  (∀ a x, ((![v350] : Fin 1 → IVec S16 32) a x).toNat < S1008.size a)
theorem k0_idx347_inb : ∀ (v350 : IVec S16 32) (k0_hw265 : k0_chk265 v350), ∀ a x, ((![v350] : Fin 1 → IVec S16 32) a x).toNat < S1008.size a := fun v350 k0_hw265 => k0_hw265.1
theorem k0_idx348_inb : ∀ (v350 : IVec S16 32) (k0_hw265 : k0_chk265 v350), ∀ a x, ((![v350] : Fin 1 → IVec S16 32) a x).toNat < S1008.size a := fun v350 k0_hw265 => k0_hw265.2

def k0_chk266 (v353 : IVec S16 32) : Prop :=
  (∀ a x, ((![v353] : Fin 1 → IVec S16 32) a x).toNat < S1008.size a) ∧
  (∀ a x, ((![v353] : Fin 1 → IVec S16 32) a x).toNat < S1008.size a)
theorem k0_idx349_inb : ∀ (v353 : IVec S16 32) (k0_hw266 : k0_chk266 v353), ∀ a x, ((![v353] : Fin 1 → IVec S16 32) a x).toNat < S1008.size a := fun v353 k0_hw266 => k0_hw266.1
theorem k0_idx350_inb : ∀ (v353 : IVec S16 32) (k0_hw266 : k0_chk266 v353), ∀ a x, ((![v353] : Fin 1 → IVec S16 32) a x).toNat < S1008.size a := fun v353 k0_hw266 => k0_hw266.2
def k0_off267 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_211 : BitVec 32 := 32#32
  let v364 : BitVec 32 := Scalar.addi v151 c32_i32_211
  let v365 : Index := Scalar.indexCast v364
  ![v365.toNat]
def k0_off268 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32_218 : BitVec 32 := 48#32
  let v382 : BitVec 32 := Scalar.addi v151 c48_i32_218
  let v383 : Index := Scalar.indexCast v382
  ![v383.toNat]

def k0_chk267 (v384 : IVec S16 32) : Prop :=
  (∀ a x, ((![v384] : Fin 1 → IVec S16 32) a x).toNat < S1008.size a) ∧
  (∀ a x, ((![v384] : Fin 1 → IVec S16 32) a x).toNat < S1008.size a)
theorem k0_idx351_inb : ∀ (v384 : IVec S16 32) (k0_hw267 : k0_chk267 v384), ∀ a x, ((![v384] : Fin 1 → IVec S16 32) a x).toNat < S1008.size a := fun v384 k0_hw267 => k0_hw267.1
theorem k0_idx352_inb : ∀ (v384 : IVec S16 32) (k0_hw267 : k0_chk267 v384), ∀ a x, ((![v384] : Fin 1 → IVec S16 32) a x).toNat < S1008.size a := fun v384 k0_hw267 => k0_hw267.2

def k0_chk268 (v387 : IVec S16 32) : Prop :=
  (∀ a x, ((![v387] : Fin 1 → IVec S16 32) a x).toNat < S1008.size a) ∧
  (∀ a x, ((![v387] : Fin 1 → IVec S16 32) a x).toNat < S1008.size a)
theorem k0_idx353_inb : ∀ (v387 : IVec S16 32) (k0_hw268 : k0_chk268 v387), ∀ a x, ((![v387] : Fin 1 → IVec S16 32) a x).toNat < S1008.size a := fun v387 k0_hw268 => k0_hw268.1
theorem k0_idx354_inb : ∀ (v387 : IVec S16 32) (k0_hw268 : k0_chk268 v387), ∀ a x, ((![v387] : Fin 1 → IVec S16 32) a x).toNat < S1008.size a := fun v387 k0_hw268 => k0_hw268.2
def k0_off269 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32_223 : BitVec 32 := 48#32
  let v398 : BitVec 32 := Scalar.addi v151 c48_i32_223
  let v399 : Index := Scalar.indexCast v398
  ![v399.toNat]
def k0_off270 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_230 : BitVec 32 := 64#32
  let v416 : BitVec 32 := Scalar.addi v151 c64_i32_230
  let v417 : Index := Scalar.indexCast v416
  ![v417.toNat]

def k0_chk269 (v418 : IVec S16 32) : Prop :=
  (∀ a x, ((![v418] : Fin 1 → IVec S16 32) a x).toNat < S1008.size a) ∧
  (∀ a x, ((![v418] : Fin 1 → IVec S16 32) a x).toNat < S1008.size a)
theorem k0_idx355_inb : ∀ (v418 : IVec S16 32) (k0_hw269 : k0_chk269 v418), ∀ a x, ((![v418] : Fin 1 → IVec S16 32) a x).toNat < S1008.size a := fun v418 k0_hw269 => k0_hw269.1
theorem k0_idx356_inb : ∀ (v418 : IVec S16 32) (k0_hw269 : k0_chk269 v418), ∀ a x, ((![v418] : Fin 1 → IVec S16 32) a x).toNat < S1008.size a := fun v418 k0_hw269 => k0_hw269.2

def k0_chk270 (v421 : IVec S16 32) : Prop :=
  (∀ a x, ((![v421] : Fin 1 → IVec S16 32) a x).toNat < S1008.size a) ∧
  (∀ a x, ((![v421] : Fin 1 → IVec S16 32) a x).toNat < S1008.size a)
theorem k0_idx357_inb : ∀ (v421 : IVec S16 32) (k0_hw270 : k0_chk270 v421), ∀ a x, ((![v421] : Fin 1 → IVec S16 32) a x).toNat < S1008.size a := fun v421 k0_hw270 => k0_hw270.1
theorem k0_idx358_inb : ∀ (v421 : IVec S16 32) (k0_hw270 : k0_chk270 v421), ∀ a x, ((![v421] : Fin 1 → IVec S16 32) a x).toNat < S1008.size a := fun v421 k0_hw270 => k0_hw270.2
def k0_off271 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_235 : BitVec 32 := 64#32
  let v432 : BitVec 32 := Scalar.addi v151 c64_i32_235
  let v433 : Index := Scalar.indexCast v432
  ![v433.toNat]
def k0_off272 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32_242 : BitVec 32 := 80#32
  let v450 : BitVec 32 := Scalar.addi v151 c80_i32_242
  let v451 : Index := Scalar.indexCast v450
  ![v451.toNat]

def k0_chk271 (v452 : IVec S16 32) : Prop :=
  (∀ a x, ((![v452] : Fin 1 → IVec S16 32) a x).toNat < S1008.size a) ∧
  (∀ a x, ((![v452] : Fin 1 → IVec S16 32) a x).toNat < S1008.size a)
theorem k0_idx359_inb : ∀ (v452 : IVec S16 32) (k0_hw271 : k0_chk271 v452), ∀ a x, ((![v452] : Fin 1 → IVec S16 32) a x).toNat < S1008.size a := fun v452 k0_hw271 => k0_hw271.1
theorem k0_idx360_inb : ∀ (v452 : IVec S16 32) (k0_hw271 : k0_chk271 v452), ∀ a x, ((![v452] : Fin 1 → IVec S16 32) a x).toNat < S1008.size a := fun v452 k0_hw271 => k0_hw271.2

def k0_chk272 (v455 : IVec S16 32) : Prop :=
  (∀ a x, ((![v455] : Fin 1 → IVec S16 32) a x).toNat < S1008.size a) ∧
  (∀ a x, ((![v455] : Fin 1 → IVec S16 32) a x).toNat < S1008.size a)
theorem k0_idx361_inb : ∀ (v455 : IVec S16 32) (k0_hw272 : k0_chk272 v455), ∀ a x, ((![v455] : Fin 1 → IVec S16 32) a x).toNat < S1008.size a := fun v455 k0_hw272 => k0_hw272.1
theorem k0_idx362_inb : ∀ (v455 : IVec S16 32) (k0_hw272 : k0_chk272 v455), ∀ a x, ((![v455] : Fin 1 → IVec S16 32) a x).toNat < S1008.size a := fun v455 k0_hw272 => k0_hw272.2
def k0_off273 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32_247 : BitVec 32 := 80#32
  let v466 : BitVec 32 := Scalar.addi v151 c80_i32_247
  let v467 : Index := Scalar.indexCast v466
  ![v467.toNat]
def k0_off274 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_254 : BitVec 32 := 96#32
  let v484 : BitVec 32 := Scalar.addi v151 c96_i32_254
  let v485 : Index := Scalar.indexCast v484
  ![v485.toNat]

def k0_chk273 (v486 : IVec S16 32) : Prop :=
  (∀ a x, ((![v486] : Fin 1 → IVec S16 32) a x).toNat < S1008.size a) ∧
  (∀ a x, ((![v486] : Fin 1 → IVec S16 32) a x).toNat < S1008.size a)
theorem k0_idx363_inb : ∀ (v486 : IVec S16 32) (k0_hw273 : k0_chk273 v486), ∀ a x, ((![v486] : Fin 1 → IVec S16 32) a x).toNat < S1008.size a := fun v486 k0_hw273 => k0_hw273.1
theorem k0_idx364_inb : ∀ (v486 : IVec S16 32) (k0_hw273 : k0_chk273 v486), ∀ a x, ((![v486] : Fin 1 → IVec S16 32) a x).toNat < S1008.size a := fun v486 k0_hw273 => k0_hw273.2

def k0_chk274 (v489 : IVec S16 32) : Prop :=
  (∀ a x, ((![v489] : Fin 1 → IVec S16 32) a x).toNat < S1008.size a) ∧
  (∀ a x, ((![v489] : Fin 1 → IVec S16 32) a x).toNat < S1008.size a)
theorem k0_idx365_inb : ∀ (v489 : IVec S16 32) (k0_hw274 : k0_chk274 v489), ∀ a x, ((![v489] : Fin 1 → IVec S16 32) a x).toNat < S1008.size a := fun v489 k0_hw274 => k0_hw274.1
theorem k0_idx366_inb : ∀ (v489 : IVec S16 32) (k0_hw274 : k0_chk274 v489), ∀ a x, ((![v489] : Fin 1 → IVec S16 32) a x).toNat < S1008.size a := fun v489 k0_hw274 => k0_hw274.2
def k0_off275 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_259 : BitVec 32 := 96#32
  let v500 : BitVec 32 := Scalar.addi v151 c96_i32_259
  let v501 : Index := Scalar.indexCast v500
  ![v501.toNat]
def k0_off276 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32_266 : BitVec 32 := 112#32
  let v518 : BitVec 32 := Scalar.addi v151 c112_i32_266
  let v519 : Index := Scalar.indexCast v518
  ![v519.toNat]

def k0_chk275 (v520 : IVec S16 32) : Prop :=
  (∀ a x, ((![v520] : Fin 1 → IVec S16 32) a x).toNat < S1008.size a) ∧
  (∀ a x, ((![v520] : Fin 1 → IVec S16 32) a x).toNat < S1008.size a)
theorem k0_idx367_inb : ∀ (v520 : IVec S16 32) (k0_hw275 : k0_chk275 v520), ∀ a x, ((![v520] : Fin 1 → IVec S16 32) a x).toNat < S1008.size a := fun v520 k0_hw275 => k0_hw275.1
theorem k0_idx368_inb : ∀ (v520 : IVec S16 32) (k0_hw275 : k0_chk275 v520), ∀ a x, ((![v520] : Fin 1 → IVec S16 32) a x).toNat < S1008.size a := fun v520 k0_hw275 => k0_hw275.2

def k0_chk276 (v523 : IVec S16 32) : Prop :=
  (∀ a x, ((![v523] : Fin 1 → IVec S16 32) a x).toNat < S1008.size a) ∧
  (∀ a x, ((![v523] : Fin 1 → IVec S16 32) a x).toNat < S1008.size a)
theorem k0_idx369_inb : ∀ (v523 : IVec S16 32) (k0_hw276 : k0_chk276 v523), ∀ a x, ((![v523] : Fin 1 → IVec S16 32) a x).toNat < S1008.size a := fun v523 k0_hw276 => k0_hw276.1
theorem k0_idx370_inb : ∀ (v523 : IVec S16 32) (k0_hw276 : k0_chk276 v523), ∀ a x, ((![v523] : Fin 1 → IVec S16 32) a x).toNat < S1008.size a := fun v523 k0_hw276 => k0_hw276.2
def k0_off277 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32_271 : BitVec 32 := 112#32
  let v534 : BitVec 32 := Scalar.addi v151 c112_i32_271
  let v535 : Index := Scalar.indexCast v534
  ![v535.toNat]
def k0_off278 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_278 : BitVec 32 := 128#32
  let v552 : BitVec 32 := Scalar.addi v151 c128_i32_278
  let v553 : Index := Scalar.indexCast v552
  ![v553.toNat]

def k0_chk277 (v554 : IVec S16 32) : Prop :=
  (∀ a x, ((![v554] : Fin 1 → IVec S16 32) a x).toNat < S1008.size a) ∧
  (∀ a x, ((![v554] : Fin 1 → IVec S16 32) a x).toNat < S1008.size a)
theorem k0_idx371_inb : ∀ (v554 : IVec S16 32) (k0_hw277 : k0_chk277 v554), ∀ a x, ((![v554] : Fin 1 → IVec S16 32) a x).toNat < S1008.size a := fun v554 k0_hw277 => k0_hw277.1
theorem k0_idx372_inb : ∀ (v554 : IVec S16 32) (k0_hw277 : k0_chk277 v554), ∀ a x, ((![v554] : Fin 1 → IVec S16 32) a x).toNat < S1008.size a := fun v554 k0_hw277 => k0_hw277.2

def k0_chk278 (v557 : IVec S16 32) : Prop :=
  (∀ a x, ((![v557] : Fin 1 → IVec S16 32) a x).toNat < S1008.size a) ∧
  (∀ a x, ((![v557] : Fin 1 → IVec S16 32) a x).toNat < S1008.size a)
theorem k0_idx373_inb : ∀ (v557 : IVec S16 32) (k0_hw278 : k0_chk278 v557), ∀ a x, ((![v557] : Fin 1 → IVec S16 32) a x).toNat < S1008.size a := fun v557 k0_hw278 => k0_hw278.1
theorem k0_idx374_inb : ∀ (v557 : IVec S16 32) (k0_hw278 : k0_chk278 v557), ∀ a x, ((![v557] : Fin 1 → IVec S16 32) a x).toNat < S1008.size a := fun v557 k0_hw278 => k0_hw278.2
def k0_off279 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_283 : BitVec 32 := 128#32
  let v568 : BitVec 32 := Scalar.addi v151 c128_i32_283
  let v569 : Index := Scalar.indexCast v568
  ![v569.toNat]
def k0_off280 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32_290 : BitVec 32 := 144#32
  let v586 : BitVec 32 := Scalar.addi v151 c144_i32_290
  let v587 : Index := Scalar.indexCast v586
  ![v587.toNat]

def k0_chk279 (v588 : IVec S16 32) : Prop :=
  (∀ a x, ((![v588] : Fin 1 → IVec S16 32) a x).toNat < S1008.size a) ∧
  (∀ a x, ((![v588] : Fin 1 → IVec S16 32) a x).toNat < S1008.size a)
theorem k0_idx375_inb : ∀ (v588 : IVec S16 32) (k0_hw279 : k0_chk279 v588), ∀ a x, ((![v588] : Fin 1 → IVec S16 32) a x).toNat < S1008.size a := fun v588 k0_hw279 => k0_hw279.1
theorem k0_idx376_inb : ∀ (v588 : IVec S16 32) (k0_hw279 : k0_chk279 v588), ∀ a x, ((![v588] : Fin 1 → IVec S16 32) a x).toNat < S1008.size a := fun v588 k0_hw279 => k0_hw279.2

def k0_chk280 (v591 : IVec S16 32) : Prop :=
  (∀ a x, ((![v591] : Fin 1 → IVec S16 32) a x).toNat < S1008.size a) ∧
  (∀ a x, ((![v591] : Fin 1 → IVec S16 32) a x).toNat < S1008.size a)
theorem k0_idx377_inb : ∀ (v591 : IVec S16 32) (k0_hw280 : k0_chk280 v591), ∀ a x, ((![v591] : Fin 1 → IVec S16 32) a x).toNat < S1008.size a := fun v591 k0_hw280 => k0_hw280.1
theorem k0_idx378_inb : ∀ (v591 : IVec S16 32) (k0_hw280 : k0_chk280 v591), ∀ a x, ((![v591] : Fin 1 → IVec S16 32) a x).toNat < S1008.size a := fun v591 k0_hw280 => k0_hw280.2
def k0_off281 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32_295 : BitVec 32 := 144#32
  let v602 : BitVec 32 := Scalar.addi v151 c144_i32_295
  let v603 : Index := Scalar.indexCast v602
  ![v603.toNat]
def k0_off282 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32_302 : BitVec 32 := 160#32
  let v620 : BitVec 32 := Scalar.addi v151 c160_i32_302
  let v621 : Index := Scalar.indexCast v620
  ![v621.toNat]

def k0_chk281 (v622 : IVec S16 32) : Prop :=
  (∀ a x, ((![v622] : Fin 1 → IVec S16 32) a x).toNat < S1008.size a) ∧
  (∀ a x, ((![v622] : Fin 1 → IVec S16 32) a x).toNat < S1008.size a)
theorem k0_idx379_inb : ∀ (v622 : IVec S16 32) (k0_hw281 : k0_chk281 v622), ∀ a x, ((![v622] : Fin 1 → IVec S16 32) a x).toNat < S1008.size a := fun v622 k0_hw281 => k0_hw281.1
theorem k0_idx380_inb : ∀ (v622 : IVec S16 32) (k0_hw281 : k0_chk281 v622), ∀ a x, ((![v622] : Fin 1 → IVec S16 32) a x).toNat < S1008.size a := fun v622 k0_hw281 => k0_hw281.2

def k0_chk282 (v625 : IVec S16 32) : Prop :=
  (∀ a x, ((![v625] : Fin 1 → IVec S16 32) a x).toNat < S1008.size a) ∧
  (∀ a x, ((![v625] : Fin 1 → IVec S16 32) a x).toNat < S1008.size a)
theorem k0_idx381_inb : ∀ (v625 : IVec S16 32) (k0_hw282 : k0_chk282 v625), ∀ a x, ((![v625] : Fin 1 → IVec S16 32) a x).toNat < S1008.size a := fun v625 k0_hw282 => k0_hw282.1
theorem k0_idx382_inb : ∀ (v625 : IVec S16 32) (k0_hw282 : k0_chk282 v625), ∀ a x, ((![v625] : Fin 1 → IVec S16 32) a x).toNat < S1008.size a := fun v625 k0_hw282 => k0_hw282.2
def k0_off283 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32_307 : BitVec 32 := 160#32
  let v636 : BitVec 32 := Scalar.addi v151 c160_i32_307
  let v637 : Index := Scalar.indexCast v636
  ![v637.toNat]
def k0_off284 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32_314 : BitVec 32 := 176#32
  let v654 : BitVec 32 := Scalar.addi v151 c176_i32_314
  let v655 : Index := Scalar.indexCast v654
  ![v655.toNat]

def k0_chk283 (v656 : IVec S16 32) : Prop :=
  (∀ a x, ((![v656] : Fin 1 → IVec S16 32) a x).toNat < S1008.size a) ∧
  (∀ a x, ((![v656] : Fin 1 → IVec S16 32) a x).toNat < S1008.size a)
theorem k0_idx383_inb : ∀ (v656 : IVec S16 32) (k0_hw283 : k0_chk283 v656), ∀ a x, ((![v656] : Fin 1 → IVec S16 32) a x).toNat < S1008.size a := fun v656 k0_hw283 => k0_hw283.1
theorem k0_idx384_inb : ∀ (v656 : IVec S16 32) (k0_hw283 : k0_chk283 v656), ∀ a x, ((![v656] : Fin 1 → IVec S16 32) a x).toNat < S1008.size a := fun v656 k0_hw283 => k0_hw283.2

def k0_chk284 (v659 : IVec S16 32) : Prop :=
  (∀ a x, ((![v659] : Fin 1 → IVec S16 32) a x).toNat < S1008.size a) ∧
  (∀ a x, ((![v659] : Fin 1 → IVec S16 32) a x).toNat < S1008.size a)
theorem k0_idx385_inb : ∀ (v659 : IVec S16 32) (k0_hw284 : k0_chk284 v659), ∀ a x, ((![v659] : Fin 1 → IVec S16 32) a x).toNat < S1008.size a := fun v659 k0_hw284 => k0_hw284.1
theorem k0_idx386_inb : ∀ (v659 : IVec S16 32) (k0_hw284 : k0_chk284 v659), ∀ a x, ((![v659] : Fin 1 → IVec S16 32) a x).toNat < S1008.size a := fun v659 k0_hw284 => k0_hw284.2
def k0_off285 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32_319 : BitVec 32 := 176#32
  let v670 : BitVec 32 := Scalar.addi v151 c176_i32_319
  let v671 : Index := Scalar.indexCast v670
  ![v671.toNat]
def k0_off286 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c184_i32 : BitVec 32 := 184#32
  let v688 : BitVec 32 := Scalar.addi v151 c184_i32
  let v689 : Index := Scalar.indexCast v688
  ![v689.toNat]

def k0_chk285 (v690 : IVec S16 32) : Prop :=
  (∀ a x, ((![v690] : Fin 1 → IVec S16 32) a x).toNat < S1008.size a) ∧
  (∀ a x, ((![v690] : Fin 1 → IVec S16 32) a x).toNat < S1008.size a)
theorem k0_idx387_inb : ∀ (v690 : IVec S16 32) (k0_hw285 : k0_chk285 v690), ∀ a x, ((![v690] : Fin 1 → IVec S16 32) a x).toNat < S1008.size a := fun v690 k0_hw285 => k0_hw285.1
theorem k0_idx388_inb : ∀ (v690 : IVec S16 32) (k0_hw285 : k0_chk285 v690), ∀ a x, ((![v690] : Fin 1 → IVec S16 32) a x).toNat < S1008.size a := fun v690 k0_hw285 => k0_hw285.2

def k0_chk286 (v693 : IVec S16 32) : Prop :=
  (∀ a x, ((![v693] : Fin 1 → IVec S16 32) a x).toNat < S1008.size a) ∧
  (∀ a x, ((![v693] : Fin 1 → IVec S16 32) a x).toNat < S1008.size a)
theorem k0_idx389_inb : ∀ (v693 : IVec S16 32) (k0_hw286 : k0_chk286 v693), ∀ a x, ((![v693] : Fin 1 → IVec S16 32) a x).toNat < S1008.size a := fun v693 k0_hw286 => k0_hw286.1
theorem k0_idx390_inb : ∀ (v693 : IVec S16 32) (k0_hw286 : k0_chk286 v693), ∀ a x, ((![v693] : Fin 1 → IVec S16 32) a x).toNat < S1008.size a := fun v693 k0_hw286 => k0_hw286.2
def k0_off287 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c184_i32_330 : BitVec 32 := 184#32
  let v704 : BitVec 32 := Scalar.addi v151 c184_i32_330
  let v705 : Index := Scalar.indexCast v704
  ![v705.toNat]
def k0_off288 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_337 : BitVec 32 := 0#32
  let v722 : BitVec 32 := Scalar.addi v151 c0_i32_337
  let v723 : Index := Scalar.indexCast v722
  ![v723.toNat]

def k0_chk287 (v724 : IVec S16 32) : Prop :=
  (∀ a x, ((![v724] : Fin 1 → IVec S16 32) a x).toNat < S1008.size a)
theorem k0_idx391_inb : ∀ (v724 : IVec S16 32) (k0_hw287 : k0_chk287 v724), ∀ a x, ((![v724] : Fin 1 → IVec S16 32) a x).toNat < S1008.size a := fun v724 k0_hw287 => k0_hw287
def k0_off289 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32_338 : BitVec 32 := 16#32
  let v725 : BitVec 32 := Scalar.addi v151 c16_i32_338
  let v726 : Index := Scalar.indexCast v725
  ![v726.toNat]

def k0_chk288 (v727 : IVec S16 32) : Prop :=
  (∀ a x, ((![v727] : Fin 1 → IVec S16 32) a x).toNat < S1008.size a)
theorem k0_idx392_inb : ∀ (v727 : IVec S16 32) (k0_hw288 : k0_chk288 v727), ∀ a x, ((![v727] : Fin 1 → IVec S16 32) a x).toNat < S1008.size a := fun v727 k0_hw288 => k0_hw288
def k0_off290 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_339 : BitVec 32 := 32#32
  let v728 : BitVec 32 := Scalar.addi v151 c32_i32_339
  let v729 : Index := Scalar.indexCast v728
  ![v729.toNat]

def k0_chk289 (v730 : IVec S16 32) : Prop :=
  (∀ a x, ((![v730] : Fin 1 → IVec S16 32) a x).toNat < S1008.size a)
theorem k0_idx393_inb : ∀ (v730 : IVec S16 32) (k0_hw289 : k0_chk289 v730), ∀ a x, ((![v730] : Fin 1 → IVec S16 32) a x).toNat < S1008.size a := fun v730 k0_hw289 => k0_hw289
def k0_off291 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32_340 : BitVec 32 := 48#32
  let v731 : BitVec 32 := Scalar.addi v151 c48_i32_340
  let v732 : Index := Scalar.indexCast v731
  ![v732.toNat]

def k0_chk290 (v733 : IVec S16 32) : Prop :=
  (∀ a x, ((![v733] : Fin 1 → IVec S16 32) a x).toNat < S1008.size a)
theorem k0_idx394_inb : ∀ (v733 : IVec S16 32) (k0_hw290 : k0_chk290 v733), ∀ a x, ((![v733] : Fin 1 → IVec S16 32) a x).toNat < S1008.size a := fun v733 k0_hw290 => k0_hw290
def k0_off292 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_341 : BitVec 32 := 64#32
  let v734 : BitVec 32 := Scalar.addi v151 c64_i32_341
  let v735 : Index := Scalar.indexCast v734
  ![v735.toNat]

def k0_chk291 (v736 : IVec S16 32) : Prop :=
  (∀ a x, ((![v736] : Fin 1 → IVec S16 32) a x).toNat < S1008.size a)
theorem k0_idx395_inb : ∀ (v736 : IVec S16 32) (k0_hw291 : k0_chk291 v736), ∀ a x, ((![v736] : Fin 1 → IVec S16 32) a x).toNat < S1008.size a := fun v736 k0_hw291 => k0_hw291
def k0_off293 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32_342 : BitVec 32 := 80#32
  let v737 : BitVec 32 := Scalar.addi v151 c80_i32_342
  let v738 : Index := Scalar.indexCast v737
  ![v738.toNat]

def k0_chk292 (v739 : IVec S16 32) : Prop :=
  (∀ a x, ((![v739] : Fin 1 → IVec S16 32) a x).toNat < S1008.size a)
theorem k0_idx396_inb : ∀ (v739 : IVec S16 32) (k0_hw292 : k0_chk292 v739), ∀ a x, ((![v739] : Fin 1 → IVec S16 32) a x).toNat < S1008.size a := fun v739 k0_hw292 => k0_hw292
def k0_off294 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_343 : BitVec 32 := 96#32
  let v740 : BitVec 32 := Scalar.addi v151 c96_i32_343
  let v741 : Index := Scalar.indexCast v740
  ![v741.toNat]

def k0_chk293 (v742 : IVec S16 32) : Prop :=
  (∀ a x, ((![v742] : Fin 1 → IVec S16 32) a x).toNat < S1008.size a)
theorem k0_idx397_inb : ∀ (v742 : IVec S16 32) (k0_hw293 : k0_chk293 v742), ∀ a x, ((![v742] : Fin 1 → IVec S16 32) a x).toNat < S1008.size a := fun v742 k0_hw293 => k0_hw293
def k0_off295 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32_344 : BitVec 32 := 112#32
  let v743 : BitVec 32 := Scalar.addi v151 c112_i32_344
  let v744 : Index := Scalar.indexCast v743
  ![v744.toNat]

def k0_chk294 (v745 : IVec S16 32) : Prop :=
  (∀ a x, ((![v745] : Fin 1 → IVec S16 32) a x).toNat < S1008.size a)
theorem k0_idx398_inb : ∀ (v745 : IVec S16 32) (k0_hw294 : k0_chk294 v745), ∀ a x, ((![v745] : Fin 1 → IVec S16 32) a x).toNat < S1008.size a := fun v745 k0_hw294 => k0_hw294
def k0_off296 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_345 : BitVec 32 := 128#32
  let v746 : BitVec 32 := Scalar.addi v151 c128_i32_345
  let v747 : Index := Scalar.indexCast v746
  ![v747.toNat]

def k0_chk295 (v748 : IVec S16 32) : Prop :=
  (∀ a x, ((![v748] : Fin 1 → IVec S16 32) a x).toNat < S1008.size a)
theorem k0_idx399_inb : ∀ (v748 : IVec S16 32) (k0_hw295 : k0_chk295 v748), ∀ a x, ((![v748] : Fin 1 → IVec S16 32) a x).toNat < S1008.size a := fun v748 k0_hw295 => k0_hw295
def k0_off297 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32_346 : BitVec 32 := 144#32
  let v749 : BitVec 32 := Scalar.addi v151 c144_i32_346
  let v750 : Index := Scalar.indexCast v749
  ![v750.toNat]

def k0_chk296 (v751 : IVec S16 32) : Prop :=
  (∀ a x, ((![v751] : Fin 1 → IVec S16 32) a x).toNat < S1008.size a)
theorem k0_idx400_inb : ∀ (v751 : IVec S16 32) (k0_hw296 : k0_chk296 v751), ∀ a x, ((![v751] : Fin 1 → IVec S16 32) a x).toNat < S1008.size a := fun v751 k0_hw296 => k0_hw296
def k0_off298 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32_347 : BitVec 32 := 160#32
  let v752 : BitVec 32 := Scalar.addi v151 c160_i32_347
  let v753 : Index := Scalar.indexCast v752
  ![v753.toNat]

def k0_chk297 (v754 : IVec S16 32) : Prop :=
  (∀ a x, ((![v754] : Fin 1 → IVec S16 32) a x).toNat < S1008.size a)
theorem k0_idx401_inb : ∀ (v754 : IVec S16 32) (k0_hw297 : k0_chk297 v754), ∀ a x, ((![v754] : Fin 1 → IVec S16 32) a x).toNat < S1008.size a := fun v754 k0_hw297 => k0_hw297
def k0_off299 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32_348 : BitVec 32 := 176#32
  let v755 : BitVec 32 := Scalar.addi v151 c176_i32_348
  let v756 : Index := Scalar.indexCast v755
  ![v756.toNat]

def k0_chk298 (v757 : IVec S16 32) : Prop :=
  (∀ a x, ((![v757] : Fin 1 → IVec S16 32) a x).toNat < S1008.size a)
theorem k0_idx402_inb : ∀ (v757 : IVec S16 32) (k0_hw298 : k0_chk298 v757), ∀ a x, ((![v757] : Fin 1 → IVec S16 32) a x).toNat < S1008.size a := fun v757 k0_hw298 => k0_hw298
def k0_off300 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c192_i32_349 : BitVec 32 := 192#32
  let v758 : BitVec 32 := Scalar.addi v151 c192_i32_349
  let v759 : Index := Scalar.indexCast v758
  ![v759.toNat]

def k0_chk299 (v760 : IVec S16 32) : Prop :=
  (∀ a x, ((![v760] : Fin 1 → IVec S16 32) a x).toNat < S1008.size a)
theorem k0_idx403_inb : ∀ (v760 : IVec S16 32) (k0_hw299 : k0_chk299 v760), ∀ a x, ((![v760] : Fin 1 → IVec S16 32) a x).toNat < S1008.size a := fun v760 k0_hw299 => k0_hw299
def k0_off301 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c0_i32_350 : BitVec 32 := 0#32
  let v761 : BitVec 32 := Scalar.addi v151 c0_i32_350
  let v762 : Index := Scalar.indexCast v761
  ![v762.toNat]

def k0_chk300 (v763 : IVec S16 32) : Prop :=
  (∀ a x, ((![v763] : Fin 1 → IVec S16 32) a x).toNat < S1008.size a)
theorem k0_idx404_inb : ∀ (v763 : IVec S16 32) (k0_hw300 : k0_chk300 v763), ∀ a x, ((![v763] : Fin 1 → IVec S16 32) a x).toNat < S1008.size a := fun v763 k0_hw300 => k0_hw300
def k0_off302 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c16_i32_351 : BitVec 32 := 16#32
  let v764 : BitVec 32 := Scalar.addi v151 c16_i32_351
  let v765 : Index := Scalar.indexCast v764
  ![v765.toNat]

def k0_chk301 (v766 : IVec S16 32) : Prop :=
  (∀ a x, ((![v766] : Fin 1 → IVec S16 32) a x).toNat < S1008.size a)
theorem k0_idx405_inb : ∀ (v766 : IVec S16 32) (k0_hw301 : k0_chk301 v766), ∀ a x, ((![v766] : Fin 1 → IVec S16 32) a x).toNat < S1008.size a := fun v766 k0_hw301 => k0_hw301
def k0_off303 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c32_i32_352 : BitVec 32 := 32#32
  let v767 : BitVec 32 := Scalar.addi v151 c32_i32_352
  let v768 : Index := Scalar.indexCast v767
  ![v768.toNat]

def k0_chk302 (v769 : IVec S16 32) : Prop :=
  (∀ a x, ((![v769] : Fin 1 → IVec S16 32) a x).toNat < S1008.size a)
theorem k0_idx406_inb : ∀ (v769 : IVec S16 32) (k0_hw302 : k0_chk302 v769), ∀ a x, ((![v769] : Fin 1 → IVec S16 32) a x).toNat < S1008.size a := fun v769 k0_hw302 => k0_hw302
def k0_off304 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c48_i32_353 : BitVec 32 := 48#32
  let v770 : BitVec 32 := Scalar.addi v151 c48_i32_353
  let v771 : Index := Scalar.indexCast v770
  ![v771.toNat]

def k0_chk303 (v772 : IVec S16 32) : Prop :=
  (∀ a x, ((![v772] : Fin 1 → IVec S16 32) a x).toNat < S1008.size a)
theorem k0_idx407_inb : ∀ (v772 : IVec S16 32) (k0_hw303 : k0_chk303 v772), ∀ a x, ((![v772] : Fin 1 → IVec S16 32) a x).toNat < S1008.size a := fun v772 k0_hw303 => k0_hw303
def k0_off305 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c64_i32_354 : BitVec 32 := 64#32
  let v773 : BitVec 32 := Scalar.addi v151 c64_i32_354
  let v774 : Index := Scalar.indexCast v773
  ![v774.toNat]

def k0_chk304 (v775 : IVec S16 32) : Prop :=
  (∀ a x, ((![v775] : Fin 1 → IVec S16 32) a x).toNat < S1008.size a)
theorem k0_idx408_inb : ∀ (v775 : IVec S16 32) (k0_hw304 : k0_chk304 v775), ∀ a x, ((![v775] : Fin 1 → IVec S16 32) a x).toNat < S1008.size a := fun v775 k0_hw304 => k0_hw304
def k0_off306 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c80_i32_355 : BitVec 32 := 80#32
  let v776 : BitVec 32 := Scalar.addi v151 c80_i32_355
  let v777 : Index := Scalar.indexCast v776
  ![v777.toNat]

def k0_chk305 (v778 : IVec S16 32) : Prop :=
  (∀ a x, ((![v778] : Fin 1 → IVec S16 32) a x).toNat < S1008.size a)
theorem k0_idx409_inb : ∀ (v778 : IVec S16 32) (k0_hw305 : k0_chk305 v778), ∀ a x, ((![v778] : Fin 1 → IVec S16 32) a x).toNat < S1008.size a := fun v778 k0_hw305 => k0_hw305
def k0_off307 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c96_i32_356 : BitVec 32 := 96#32
  let v779 : BitVec 32 := Scalar.addi v151 c96_i32_356
  let v780 : Index := Scalar.indexCast v779
  ![v780.toNat]

def k0_chk306 (v781 : IVec S16 32) : Prop :=
  (∀ a x, ((![v781] : Fin 1 → IVec S16 32) a x).toNat < S1008.size a)
theorem k0_idx410_inb : ∀ (v781 : IVec S16 32) (k0_hw306 : k0_chk306 v781), ∀ a x, ((![v781] : Fin 1 → IVec S16 32) a x).toNat < S1008.size a := fun v781 k0_hw306 => k0_hw306
def k0_off308 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c112_i32_357 : BitVec 32 := 112#32
  let v782 : BitVec 32 := Scalar.addi v151 c112_i32_357
  let v783 : Index := Scalar.indexCast v782
  ![v783.toNat]

def k0_chk307 (v784 : IVec S16 32) : Prop :=
  (∀ a x, ((![v784] : Fin 1 → IVec S16 32) a x).toNat < S1008.size a)
theorem k0_idx411_inb : ∀ (v784 : IVec S16 32) (k0_hw307 : k0_chk307 v784), ∀ a x, ((![v784] : Fin 1 → IVec S16 32) a x).toNat < S1008.size a := fun v784 k0_hw307 => k0_hw307
def k0_off309 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c128_i32_358 : BitVec 32 := 128#32
  let v785 : BitVec 32 := Scalar.addi v151 c128_i32_358
  let v786 : Index := Scalar.indexCast v785
  ![v786.toNat]

def k0_chk308 (v787 : IVec S16 32) : Prop :=
  (∀ a x, ((![v787] : Fin 1 → IVec S16 32) a x).toNat < S1008.size a)
theorem k0_idx412_inb : ∀ (v787 : IVec S16 32) (k0_hw308 : k0_chk308 v787), ∀ a x, ((![v787] : Fin 1 → IVec S16 32) a x).toNat < S1008.size a := fun v787 k0_hw308 => k0_hw308
def k0_off310 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c144_i32_359 : BitVec 32 := 144#32
  let v788 : BitVec 32 := Scalar.addi v151 c144_i32_359
  let v789 : Index := Scalar.indexCast v788
  ![v789.toNat]

def k0_chk309 (v790 : IVec S16 32) : Prop :=
  (∀ a x, ((![v790] : Fin 1 → IVec S16 32) a x).toNat < S1008.size a)
theorem k0_idx413_inb : ∀ (v790 : IVec S16 32) (k0_hw309 : k0_chk309 v790), ∀ a x, ((![v790] : Fin 1 → IVec S16 32) a x).toNat < S1008.size a := fun v790 k0_hw309 => k0_hw309
def k0_off311 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c160_i32_360 : BitVec 32 := 160#32
  let v791 : BitVec 32 := Scalar.addi v151 c160_i32_360
  let v792 : Index := Scalar.indexCast v791
  ![v792.toNat]

def k0_chk310 (v793 : IVec S16 32) : Prop :=
  (∀ a x, ((![v793] : Fin 1 → IVec S16 32) a x).toNat < S1008.size a)
theorem k0_idx414_inb : ∀ (v793 : IVec S16 32) (k0_hw310 : k0_chk310 v793), ∀ a x, ((![v793] : Fin 1 → IVec S16 32) a x).toNat < S1008.size a := fun v793 k0_hw310 => k0_hw310
def k0_off312 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c176_i32_361 : BitVec 32 := 176#32
  let v794 : BitVec 32 := Scalar.addi v151 c176_i32_361
  let v795 : Index := Scalar.indexCast v794
  ![v795.toNat]

def k0_chk311 (v796 : IVec S16 32) : Prop :=
  (∀ a x, ((![v796] : Fin 1 → IVec S16 32) a x).toNat < S1008.size a)
theorem k0_idx415_inb : ∀ (v796 : IVec S16 32) (k0_hw311 : k0_chk311 v796), ∀ a x, ((![v796] : Fin 1 → IVec S16 32) a x).toNat < S1008.size a := fun v796 k0_hw311 => k0_hw311
def k0_off313 (k0_t4 : Fin k0_t4_loop.trips) : Fin 1 → Nat :=
  let c0_i32_86 : BitVec 32 := 0#32
  let c1_i32_88 : BitVec 32 := 1#32
  let arg16 : BitVec 32 := Scf.iv c0_i32_86 c1_i32_88 k0_t4
  let c200_i32_90 : BitVec 32 := 200#32
  let v151 : BitVec 32 := Scalar.muli arg16 c200_i32_90
  let c192_i32_362 : BitVec 32 := 192#32
  let v797 : BitVec 32 := Scalar.addi v151 c192_i32_362
  let v798 : Index := Scalar.indexCast v797
  ![v798.toNat]

def k0_chk312 (v799 : IVec S16 32) : Prop :=
  (∀ a x, ((![v799] : Fin 1 → IVec S16 32) a x).toNat < S1008.size a)
theorem k0_idx416_inb : ∀ (v799 : IVec S16 32) (k0_hw312 : k0_chk312 v799), ∀ a x, ((![v799] : Fin 1 → IVec S16 32) a x).toNat < S1008.size a := fun v799 k0_hw312 => k0_hw312
abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8192x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S2x64 : Shape := ⟨2, ![2, 64]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S_ : Shape := ⟨0, ![]⟩
abbrev S4096x1000 : Shape := ⟨2, ![4096, 1000]⟩
abbrev S4096x200x1 : Shape := ⟨3, ![4096, 200, 1]⟩
abbrev S4096x200x2 : Shape := ⟨3, ![4096, 200, 2]⟩
abbrev S4096x200x64 : Shape := ⟨3, ![4096, 200, 64]⟩
abbrev S1x1x64 : Shape := ⟨3, ![1, 1, 64]⟩

abbrev nBuf : Space → Nat
  | .hbm => 182
  | .vmem => 0
  | .smem => 0
  | _ => 0

abbrev hbmTy0_0 (i : Nat) : BufTy := match i % 128 with
  | 0 => ⟨S4096x200, .i32⟩
  | 1 => ⟨S4096x200, .i32⟩
  | 2 => ⟨S2x64, .f32⟩
  | 3 => ⟨S64, .f32⟩
  | 4 => ⟨S64x64, .f32⟩
  | 5 => ⟨S64, .f32⟩
  | 6 => ⟨S4096, .i32⟩
  | 7 => ⟨S4096x1, .i32⟩
  | 8 => ⟨S_, .f32⟩
  | 9 => ⟨S4096x1000, .f32⟩
  | 10 => ⟨S_, .i32⟩
  | 11 => ⟨S4096x1, .i32⟩
  | 12 => ⟨S4096x1, .i1⟩
  | 13 => ⟨S_, .i32⟩
  | 14 => ⟨S4096x1, .i32⟩
  | 15 => ⟨S4096x1, .i32⟩
  | 16 => ⟨S4096x1, .i32⟩
  | 17 => ⟨S_, .i32⟩
  | 18 => ⟨S4096x200, .i32⟩
  | 19 => ⟨S4096x200, .i1⟩
  | 20 => ⟨S_, .i32⟩
  | 21 => ⟨S4096x200, .i32⟩
  | 22 => ⟨S4096x200, .i32⟩
  | 23 => ⟨S4096x200, .i32⟩
  | 24 => ⟨S4096x200, .i32⟩
  | 25 => ⟨S4096x200x1, .i32⟩
  | 26 => ⟨S4096x200x1, .i32⟩
  | 27 => ⟨S4096x200x2, .i32⟩
  | 28 => ⟨S_, .f32⟩
  | 29 => ⟨S4096x200, .f32⟩
  | 30 => ⟨S4096x1000, .f32⟩
  | 31 => ⟨S4096, .i32⟩
  | 32 => ⟨S4096x1, .i32⟩
  | 33 => ⟨S_, .f32⟩
  | 34 => ⟨S4096x1000, .f32⟩
  | 35 => ⟨S_, .i32⟩
  | 36 => ⟨S4096x1, .i32⟩
  | 37 => ⟨S4096x1, .i1⟩
  | 38 => ⟨S_, .i32⟩
  | 39 => ⟨S4096x1, .i32⟩
  | 40 => ⟨S4096x1, .i32⟩
  | 41 => ⟨S4096x1, .i32⟩
  | 42 => ⟨S_, .i32⟩
  | 43 => ⟨S4096x200, .i32⟩
  | 44 => ⟨S4096x200, .i1⟩
  | 45 => ⟨S_, .i32⟩
  | 46 => ⟨S4096x200, .i32⟩
  | 47 => ⟨S4096x200, .i32⟩
  | 48 => ⟨S4096x200, .i32⟩
  | 49 => ⟨S4096x200, .i32⟩
  | 50 => ⟨S4096x200x1, .i32⟩
  | 51 => ⟨S4096x200x1, .i32⟩
  | 52 => ⟨S4096x200x2, .i32⟩
  | 53 => ⟨S_, .f32⟩
  | 54 => ⟨S4096x200, .f32⟩
  | 55 => ⟨S4096x1000, .f32⟩
  | 56 => ⟨S4096, .i32⟩
  | 57 => ⟨S4096x1, .i32⟩
  | 58 => ⟨S_, .i32⟩
  | 59 => ⟨S4096x1, .i32⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S_, .i32⟩
  | 66 => ⟨S4096x200, .i32⟩
  | 67 => ⟨S4096x200, .i1⟩
  | 68 => ⟨S_, .i32⟩
  | 69 => ⟨S4096x200, .i32⟩
  | 70 => ⟨S4096x200, .i32⟩
  | 71 => ⟨S4096x200, .i32⟩
  | 72 => ⟨S4096x200, .i32⟩
  | 73 => ⟨S4096x200x1, .i32⟩
  | 74 => ⟨S4096x200x1, .i32⟩
  | 75 => ⟨S4096x200x2, .i32⟩
  | 76 => ⟨S4096x200, .f32⟩
  | 77 => ⟨S4096, .i32⟩
  | 78 => ⟨S4096x1, .i32⟩
  | 79 => ⟨S_, .i32⟩
  | 80 => ⟨S4096x1, .i32⟩
  | 81 => ⟨S4096x1, .i1⟩
  | 82 => ⟨S_, .i32⟩
  | 83 => ⟨S4096x1, .i32⟩
  | 84 => ⟨S4096x1, .i32⟩
  | 85 => ⟨S4096x1, .i32⟩
  | 86 => ⟨S_, .i32⟩
  | 87 => ⟨S4096x200, .i32⟩
  | 88 => ⟨S4096x200, .i1⟩
  | 89 => ⟨S_, .i32⟩
  | 90 => ⟨S4096x200, .i32⟩
  | 91 => ⟨S4096x200, .i32⟩
  | 92 => ⟨S4096x200, .i32⟩
  | 93 => ⟨S4096x200, .i32⟩
  | 94 => ⟨S4096x200x1, .i32⟩
  | 95 => ⟨S4096x200x1, .i32⟩
  | 96 => ⟨S4096x200x2, .i32⟩
  | 97 => ⟨S4096x200, .f32⟩
  | 98 => ⟨S4096, .i32⟩
  | 99 => ⟨S4096x1, .i32⟩
  | 100 => ⟨S_, .i32⟩
  | 101 => ⟨S4096x1, .i32⟩
  | 102 => ⟨S4096x1, .i1⟩
  | 103 => ⟨S_, .i32⟩
  | 104 => ⟨S4096x1, .i32⟩
  | 105 => ⟨S4096x1, .i32⟩
  | 106 => ⟨S4096x1, .i32⟩
  | 107 => ⟨S_, .i32⟩
  | 108 => ⟨S4096x200, .i32⟩
  | 109 => ⟨S4096x200, .i1⟩
  | 110 => ⟨S_, .i32⟩
  | 111 => ⟨S4096x200, .i32⟩
  | 112 => ⟨S4096x200, .i32⟩
  | 113 => ⟨S4096x200, .i32⟩
  | 114 => ⟨S4096x200, .i32⟩
  | 115 => ⟨S4096x200x1, .i32⟩
  | 116 => ⟨S4096x200x1, .i32⟩
  | 117 => ⟨S4096x200x2, .i32⟩
  | 118 => ⟨S4096x200, .f32⟩
  | 119 => ⟨S4096, .i32⟩
  | 120 => ⟨S4096x1, .i32⟩
  | 121 => ⟨S_, .i32⟩
  | 122 => ⟨S4096x1, .i32⟩
  | 123 => ⟨S4096x1, .i1⟩
  | 124 => ⟨S_, .i32⟩
  | 125 => ⟨S4096x1, .i32⟩
  | 126 => ⟨S4096x1, .i32⟩
  | 127 => ⟨S4096x1, .i32⟩
  | _ => ⟨S4096x200, .i32⟩

abbrev hbmTy0_1 (i : Nat) : BufTy := match i % 128 with
  | 0 => ⟨S_, .i32⟩
  | 1 => ⟨S4096x200, .i32⟩
  | 2 => ⟨S4096x200, .i1⟩
  | 3 => ⟨S_, .i32⟩
  | 4 => ⟨S4096x200, .i32⟩
  | 5 => ⟨S4096x200, .i32⟩
  | 6 => ⟨S4096x200, .i32⟩
  | 7 => ⟨S4096x200, .i32⟩
  | 8 => ⟨S4096x200x1, .i32⟩
  | 9 => ⟨S4096x200x1, .i32⟩
  | 10 => ⟨S4096x200x2, .i32⟩
  | 11 => ⟨S4096x200, .f32⟩
  | 12 => ⟨S4096x200x1, .f32⟩
  | 13 => ⟨S4096x200x1, .f32⟩
  | 14 => ⟨S4096x200x2, .f32⟩
  | 15 => ⟨S4096x200x1, .f32⟩
  | 16 => ⟨S4096x200x1, .f32⟩
  | 17 => ⟨S4096x200x2, .f32⟩
  | 18 => ⟨S_, .i32⟩
  | 19 => ⟨S4096x200, .i32⟩
  | 20 => ⟨S4096x200, .i1⟩
  | 21 => ⟨S4096x200, .f32⟩
  | 22 => ⟨S4096x200x1, .f32⟩
  | 23 => ⟨S_, .i32⟩
  | 24 => ⟨S4096x200, .i32⟩
  | 25 => ⟨S4096x200, .i1⟩
  | 26 => ⟨S4096x200, .f32⟩
  | 27 => ⟨S4096x200x1, .f32⟩
  | 28 => ⟨S4096x200x2, .f32⟩
  | 29 => ⟨S4096x200x2, .f32⟩
  | 30 => ⟨S4096x200x2, .f32⟩
  | 31 => ⟨S4096x200x2, .f32⟩
  | 32 => ⟨S4096x200x64, .f32⟩
  | 33 => ⟨S1x1x64, .f32⟩
  | 34 => ⟨S4096x200x64, .f32⟩
  | 35 => ⟨S4096x200x64, .f32⟩
  | 36 => ⟨S_, .f32⟩
  | 37 => ⟨S4096x200x64, .f32⟩
  | 38 => ⟨S4096x200x64, .f32⟩
  | 39 => ⟨S4096x200x64, .f32⟩
  | 40 => ⟨S1x1x64, .f32⟩
  | 41 => ⟨S4096x200x64, .f32⟩
  | 42 => ⟨S4096x200x64, .f32⟩
  | 43 => ⟨S4096x200x64, .f32⟩
  | 44 => ⟨S1x1x64, .f32⟩
  | 45 => ⟨S4096x200x64, .f32⟩
  | 46 => ⟨S4096x200x64, .f32⟩
  | 47 => ⟨S_, .f32⟩
  | 48 => ⟨S4096x200x64, .f32⟩
  | 49 => ⟨S4096x200x64, .f32⟩
  | 50 => ⟨S4096x200x64, .f32⟩
  | 51 => ⟨S1x1x64, .f32⟩
  | 52 => ⟨S4096x200x64, .f32⟩
  | 53 => ⟨S4096x200x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_c_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_c_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_c_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_20 : Ref sig .tc := ⟨.hbm, 107, rfl⟩
abbrev main_v79 : Ref sig .tc := ⟨.hbm, 108, rfl⟩
abbrev main_v80 : Ref sig .tc := ⟨.hbm, 109, rfl⟩
abbrev main_c_21 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_22 : Ref sig .tc := ⟨.hbm, 121, rfl⟩
abbrev main_v91 : Ref sig .tc := ⟨.hbm, 122, rfl⟩
abbrev main_v92 : Ref sig .tc := ⟨.hbm, 123, rfl⟩
abbrev main_c_23 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_24 : Ref sig .tc := ⟨.hbm, 128, rfl⟩
abbrev main_v96 : Ref sig .tc := ⟨.hbm, 129, rfl⟩
abbrev main_v97 : Ref sig .tc := ⟨.hbm, 130, rfl⟩
abbrev main_c_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_26 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_27 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call0_cst : Ref sig .tc := ⟨.hbm, 164, rfl⟩
abbrev main_call0_v0 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_call1_cst : Ref sig .tc := ⟨.hbm, 175, rfl⟩
abbrev main_call1_v0 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩

abbrev nD : Nat := 1
abbrev τ : Topo := Topo.v7x

variable {F : FTy → Type} [FloatOps F]
-- ==== Proof.RowProg.lean ====
/- The work one trip of a tile's row loop does, written once: thirteen sixteen-lane blocks of `scan_count` and scatter-add
   per histogram, thirteen blocks of gathers, selects and stores, and the scatters of zeros that empty the two histograms. -/
module

public import proofs.«01_k».proof.Proof.Gen.KernelIdeal

@[expose] public section

noncomputable section

namespace Cert.Proof.Row

open Cert.KernelIdeal Cert.KernelIdeal.Gen
open Idealize.ShloMosaic Idealize.SL.Sem

variable {F : FTy → Type} [FloatOps F]

/-- Where lane zero of a block sits in the chunk: row `t` of the chunk, column `c` of the row. -/
def at_ (t : Fin 32) (c : Nat) : Fin 1 → Nat :=
  ![(Scalar.indexCast (Scalar.addi (Scalar.muli (Scf.iv 0#32 1#32 t.val) 200#32) (BitVec.ofNat 32 c))).toNat]

theorem at_eq (t : Fin 32) (c : Nat) (hc : c ≤ 192) : at_ t c 0 = t.val * 200 + c := by
  have := t.isLt
  simp only [at_, Scf.iv, Scalar.indexCast, Scalar.addi, Scalar.muli, IntOp.addi, IntOp.muli]
  show BitVec.toNat _ = _
  simp only [BitVec.toNat_add, BitVec.toNat_mul, BitVec.toNat_ofNat, BitVec.toNat_signExtend]
  omega

/-- A column a block may start at: sixteen lanes fit in the id buffer. -/
abbrev Col : Type := { c : Nat // c ≤ 192 }
/-- A column a stored block may start at: sixteen lanes fit in the row. -/
abbrev ColB : Type := { c : Nat // c ≤ 184 }

theorem inbI (t : Fin 32) (c : Col) : ∀ a, at_ t c.1 a + S16.size a ≤ S6416.size a := by
  intro a
  obtain rfl : a = 0 := Subsingleton.elim _ _
  rw [at_eq t c.1 c.2]
  have := t.isLt; have := c.2
  show _ + 16 ≤ 6416
  omega

theorem inbO (t : Fin 32) (c : ColB) : ∀ a, at_ t c.1 a + S16.size a ≤ S6400.size a := by
  intro a
  obtain rfl : a = 0 := Subsingleton.elim _ _
  have := t.isLt; have := c.2
  rw [at_eq t c.1 (by omega)]
  show _ + 16 ≤ 6400
  omega

/-- Every lane names a word of the histogram. -/
def Chk (v : IVec S16 32) : Prop := ∀ a x, ((![v] : Fin 1 → IVec S16 32) a x).toNat < S1008.size a

instance Chk.dec (v : IVec S16 32) : Decidable (Chk v) := decidable_of_iff' _ (Iff.of_eq (Chk.eq_1 v))

/-- The same said twice, as the body asks it of an id vector that two gathers use. -/
def Chk₂ (v : IVec S16 32) : Prop :=
  (∀ a x, ((![v] : Fin 1 → IVec S16 32) a x).toNat < S1008.size a) ∧ ∀ a x, ((![v] : Fin 1 → IVec S16 32) a x).toNat < S1008.size a

instance Chk₂.dec (v : IVec S16 32) : Decidable (Chk₂ v) := decidable_of_iff' _ (Iff.of_eq (Chk₂.eq_1 v))

section
variable {a : Fin τ.nSC} {b : Fin τ.nSub}

/-- A program of one vector subcore. -/
abbrev P (F : FTy → Type) [FloatOps F] (a : Fin τ.nSC) (b : Fin τ.nSub) : Type 1 :=
  Prog (TpuEff nD τ sig (Elt F) Λ₀ (.scVector a b)) Unit

/-- Sixteen ids counted into a histogram. -/
def blockA (ids : Memref sig .scVector .vmem S6416 .i32) (H : Memref sig .scVector .vmem S1008 .f32) (t : Fin 32) (c : Col)
    (mask : IVec S16 1) (k : P F a b) : P F a b :=
  Prog.lift (.load ids (Rect.unit (s := S6416) (at_ t c.1) S16.size (inbI t c)).toLoadRect (View.loadsAt_vmem h_S16)) >>= fun (v : Vec F S16 .i32) =>
  .op (.assume (Chk v) (Chk.dec v)) fun h =>
  SparseCore.vectorStoreIdx H ![v] (sitofp .f32 (scanCount mask v).2) (scanCount mask v).1 true h.down (View.stores_vmem_bits_univ h_S1008 rfl) >>= fun _ => k

/-- Sixteen ids' histogram words set to `z`. -/
def blockC (z : FVec F S16 .f32) (ids : Memref sig .scVector .vmem S6416 .i32) (H : Memref sig .scVector .vmem S1008 .f32) (t : Fin 32) (c : Col)
    (k : P F a b) : P F a b :=
  Prog.lift (.load ids (Rect.unit (s := S6416) (at_ t c.1) S16.size (inbI t c)).toLoadRect (View.loadsAt_vmem h_S16)) >>= fun (v : Vec F S16 .i32) =>
  .op (.assume (Chk v) (Chk.dec v)) fun h =>
  SparseCore.vectorStoreIdx H ![v] z (fun _ => 1#1) false h.down (View.stores_vmem_bits_univ h_S1008 rfl) >>= fun _ => k

/-- The count kept where the id is a real node, zero at padding. -/
def sel (v : IVec S16 32) (g : FVec F S16 .f32) : FVec F S16 .f32 :=
  select (cmpi .ne v (broadcast S16 0#32)) g (broadcast S16 (Scalar.ofBits .f32 0x00000000#32))

/-- Sixteen positions' four counts looked up and stored. -/
def blockB (si di : Memref sig .scVector .vmem S6416 .i32) (hs hd : Memref sig .scVector .vmem S1008 .f32)
    (o₁ o₂ o₃ o₄ : Memref sig .scVector .vmem S6400 .f32) (t : Fin 32) (c : ColB) (k : P F a b) : P F a b :=
  Prog.lift (.load si (Rect.unit (s := S6416) (at_ t c.1) S16.size (inbI t ⟨c.1, by omega⟩)).toLoadRect (View.loadsAt_vmem h_S16)) >>= fun (u : Vec F S16 .i32) =>
  .op (.assume (Chk₂ u) (Chk₂.dec u)) fun hu =>
  Prog.lift (.load di (Rect.unit (s := S6416) (at_ t c.1) S16.size (inbI t ⟨c.1, by omega⟩)).toLoadRect (View.loadsAt_vmem h_S16)) >>= fun (v : Vec F S16 .i32) =>
  .op (.assume (Chk₂ v) (Chk₂.dec v)) fun hv =>
  SparseCore.vectorLoadIdx hs ![u] hu.down.1 (View.loads_vmem h_S1008) >>= fun g₁ =>
  SparseCore.vectorLoadIdx hd ![u] hu.down.1 (View.loads_vmem h_S1008) >>= fun g₂ =>
  SparseCore.vectorLoadIdx hs ![v] hv.down.1 (View.loads_vmem h_S1008) >>= fun g₃ =>
  SparseCore.vectorLoadIdx hd ![v] hv.down.1 (View.loads_vmem h_S1008) >>= fun g₄ =>
  Prog.lift (.load o₁ (Rect.unit (s := S6400) (at_ t c.1) S16.size (inbO t c)).toLoadRect (View.loadsAt_vmem h_S16)) >>= fun (_ : Vec F S16 .f32) =>
  .op (.store o₁ (Rect.unit (s := S6400) (at_ t c.1) S16.size (inbO t c)) (sel u g₁) Finset.univ (View.stores_vmem_bits_univ h_S16 rfl) (.inl rfl)) fun _ =>
  Prog.lift (.load o₂ (Rect.unit (s := S6400) (at_ t c.1) S16.size (inbO t c)).toLoadRect (View.loadsAt_vmem h_S16)) >>= fun (_ : Vec F S16 .f32) =>
  .op (.store o₂ (Rect.unit (s := S6400) (at_ t c.1) S16.size (inbO t c)) (sel u g₂) Finset.univ (View.stores_vmem_bits_univ h_S16 rfl) (.inl rfl)) fun _ =>
  Prog.lift (.load o₃ (Rect.unit (s := S6400) (at_ t c.1) S16.size (inbO t c)).toLoadRect (View.loadsAt_vmem h_S16)) >>= fun (_ : Vec F S16 .f32) =>
  .op (.store o₃ (Rect.unit (s := S6400) (at_ t c.1) S16.size (inbO t c)) (sel v g₃) Finset.univ (View.stores_vmem_bits_univ h_S16 rfl) (.inl rfl)) fun _ =>
  Prog.lift (.load o₄ (Rect.unit (s := S6400) (at_ t c.1) S16.size (inbO t c)).toLoadRect (View.loadsAt_vmem h_S16)) >>= fun (_ : Vec F S16 .f32) =>
  .op (.store o₄ (Rect.unit (s := S6400) (at_ t c.1) S16.size (inbO t c)) (sel v g₄) Finset.univ (View.stores_vmem_bits_univ h_S16 rfl) (.inl rfl)) fun _ => k

/-- The blocks of the listed columns, in order, then `k`. -/
def blocksA (ids : Memref sig .scVector .vmem S6416 .i32) (H : Memref sig .scVector .vmem S1008 .f32) (t : Fin 32) :
    List (Col × IVec S16 1) → P F a b → P F a b
  | [], k => k
  | c :: cs, k => blockA ids H t c.1 c.2 (blocksA ids H t cs k)
def blocksB (si di : Memref sig .scVector .vmem S6416 .i32) (hs hd : Memref sig .scVector .vmem S1008 .f32)
    (o₁ o₂ o₃ o₄ : Memref sig .scVector .vmem S6400 .f32) (t : Fin 32) : List ColB → P F a b → P F a b
  | [], k => k
  | c :: cs, k => blockB si di hs hd o₁ o₂ o₃ o₄ t c (blocksB si di hs hd o₁ o₂ o₃ o₄ t cs k)
def blocksC (z : FVec F S16 .f32) (ids : Memref sig .scVector .vmem S6416 .i32) (H : Memref sig .scVector .vmem S1008 .f32) (t : Fin 32) :
    List Col → P F a b → P F a b
  | [], k => k
  | c :: cs, k => blockC z ids H t c (blocksC z ids H t cs k)

/-- The thirteen column blocks of a row; the last reaches eight words past the row. -/
def cols : List Col := [⟨0, by omega⟩, ⟨16, by omega⟩, ⟨32, by omega⟩, ⟨48, by omega⟩, ⟨64, by omega⟩, ⟨80, by omega⟩, ⟨96, by omega⟩,
  ⟨112, by omega⟩, ⟨128, by omega⟩, ⟨144, by omega⟩, ⟨160, by omega⟩, ⟨176, by omega⟩, ⟨192, by omega⟩]
/-- The same for the stored blocks: the last one starts at 184 and overlaps the one before. -/
def colsB : List ColB := [⟨0, by omega⟩, ⟨16, by omega⟩, ⟨32, by omega⟩, ⟨48, by omega⟩, ⟨64, by omega⟩, ⟨80, by omega⟩, ⟨96, by omega⟩,
  ⟨112, by omega⟩, ⟨128, by omega⟩, ⟨144, by omega⟩, ⟨160, by omega⟩, ⟨176, by omega⟩, ⟨184, by omega⟩]
/-- The column blocks with their masks: all lanes, except in the last block. -/
def colsA (tail : IVec S16 1) : List (Col × IVec S16 1) :=
  [(⟨0, by omega⟩, broadcast S16 1#1), (⟨16, by omega⟩, broadcast S16 1#1), (⟨32, by omega⟩, broadcast S16 1#1), (⟨48, by omega⟩, broadcast S16 1#1),
   (⟨64, by omega⟩, broadcast S16 1#1), (⟨80, by omega⟩, broadcast S16 1#1), (⟨96, by omega⟩, broadcast S16 1#1), (⟨112, by omega⟩, broadcast S16 1#1),
   (⟨128, by omega⟩, broadcast S16 1#1), (⟨144, by omega⟩, broadcast S16 1#1), (⟨160, by omega⟩, broadcast S16 1#1), (⟨176, by omega⟩, broadcast S16 1#1),
   (⟨192, by omega⟩, tail)]

/-- Trip `t` of the row loop. -/
def rowBody (si di : Memref sig .scVector .vmem S6416 .i32) (hs hd : Memref sig .scVector .vmem S1008 .f32)
    (o₁ o₂ o₃ o₄ : Memref sig .scVector .vmem S6400 .f32) (z : FVec F S16 .f32) (tail : IVec S16 1) (t : Fin 32) : P F a b :=
  blocksA si hs t (colsA tail) <| blocksA di hd t (colsA tail) <| blocksB si di hs hd o₁ o₂ o₃ o₄ t colsB <|
    blocksC z si hs t cols <| blocksC z di hd t cols <| .ret ⟨⟩

end

/-! ## The tile's whole program -/

section
variable {a : Fin τ.nSC} {b : Fin τ.nSub}

/-- Column `16 * n` fits in a histogram of 63 blocks. -/
theorem inbZ (n : Nat) (h : n < 63) : ∀ a, (![16 * n] : Fin 1 → Nat) a + S16.size a ≤ S1008.size a := by
  intro a
  obtain rfl : a = 0 := Subsingleton.elim _ _
  show 16 * n + 16 ≤ 1008
  omega

/-- The last `m` blocks of the two histograms set to `z`, in order, then `k`. -/
def zeros (hs hd : Memref sig .scVector .vmem S1008 .f32) (z : FVec F S16 .f32) (k : P F a b) : (m : Nat) → m ≤ 63 → P F a b
  | 0, _ => k
  | m + 1, h =>
    Prog.lift (.load hs (Rect.unit (s := S1008) ![16 * (62 - m)] S16.size (inbZ (62 - m) (by omega))).toLoadRect (View.loadsAt_vmem h_S16)) >>= fun (_ : Vec F S16 .f32) =>
    .op (.store hs (Rect.unit (s := S1008) ![16 * (62 - m)] S16.size (inbZ (62 - m) (by omega))) z Finset.univ (View.stores_vmem_bits_univ h_S16 rfl) (.inl rfl)) fun _ =>
    Prog.lift (.load hd (Rect.unit (s := S1008) ![16 * (62 - m)] S16.size (inbZ (62 - m) (by omega))).toLoadRect (View.loadsAt_vmem h_S16)) >>= fun (_ : Vec F S16 .f32) =>
    .op (.store hd (Rect.unit (s := S1008) ![16 * (62 - m)] S16.size (inbZ (62 - m) (by omega))) z Finset.univ (View.stores_vmem_bits_univ h_S16 rfl) (.inl rfl)) fun _ =>
    zeros hs hd z k m (by omega)

/-- The sixteen words past the chunk in an id buffer set to zero. -/
def padZero (ids : Memref sig .scVector .vmem S6416 .i32) (k : P F a b) : P F a b :=
  Prog.lift (.load ids (Rect.unit (s := S6416) ![6400] S16.size inb_S6416_S16_6400).toLoadRect (View.loadsAt_vmem h_S16)) >>= fun (_ : Vec F S16 .i32) =>
  .op (.store ids (Rect.unit (s := S6416) ![6400] S16.size inb_S6416_S16_6400) (broadcast S16 0#32 : IVec S16 32) Finset.univ (View.stores_vmem_bits_univ h_S16 rfl) (.inl rfl)) fun _ => k

variable (i : grid0.Coords)

/-- The four chunks of a tile, as the row of the tile's 128 they start at. -/
abbrev chunkRow (c : Fin 4) : BitVec 32 := BitVec.ofNat 32 (32 * c.val)

/-- Chunk `c` of the tile of coordinates `i` in an array of ids or counts. -/
abbrev chunkRect (c : Fin 4) : Rect S819200 := Rect.unit (s := S819200) (k0_off1 i (chunkRow c)) S6400.size (k0_off1_inb i c)

/-- The chunk of an array. -/
abbrev chunkOf {e : EltTy} (x : Memref sig .scVector .hbm S819200 e) (c : Fin 4) : Memref sig .scVector .hbm S6400 e :=
  x.slice (chunkRect i c) (fun _ => rfl)

/-- The part of an id buffer a chunk is copied into. -/
abbrev headOf (x : Memref sig .scVector .vmem S6416 .i32) : Memref sig .scVector .vmem S6400 .i32 :=
  x.slice (Rect.unit (s := S6416) ![0] S6400.size inb_S6416_S6400_0) (fun _ => rfl)

/-- The start of a chunk's copy into an id buffer. -/
def startIn (src : Memref sig .scVector .hbm S819200 .i32) (dst : Memref sig .scVector .vmem S6416 .i32) (s : DmaSems sig S_) (c : Fin 4) : P F a b :=
  Prog.lift (.enqueueDma (chunkOf i src c) (.here (headOf dst)) (.dma s.sem) (View.wordExact_bits rfl) (View.wordExact_bits rfl) ⟨Or.inl rfl, trivial⟩)

/-- The wait for it. -/
def waitIn (src : Memref sig .scVector .hbm S819200 .i32) (dst : Memref sig .scVector .vmem S6416 .i32) (s : DmaSems sig S_) (c : Fin 4) : P F a b :=
  Prog.lift (.waitDma2 s.sem (chunkOf i src c) (headOf dst) (View.wordExact_bits rfl) (View.wordExact_bits rfl))

/-- The start of a copy of a buffer of counts to its chunk. -/
def startOut (src : Memref sig .scVector .vmem S6400 .f32) (hsrc : src.IsWhole) (dst : Memref sig .scVector .hbm S819200 .f32) (s : DmaSems sig S_) (c : Fin 4) : P F a b :=
  Prog.lift (.enqueueDma src (.here (chunkOf i dst c)) (.dma s.sem) hsrc.wordExact (View.wordExact_bits rfl) ⟨Or.inl rfl, trivial⟩)

/-- The wait for it. -/
def waitOut (src : Memref sig .scVector .vmem S6400 .f32) (hsrc : src.IsWhole) (dst : Memref sig .scVector .hbm S819200 .f32) (s : DmaSems sig S_) (c : Fin 4) : P F a b :=
  Prog.lift (.waitDma2 s.sem src (chunkOf i dst c) hsrc.wordExact (View.wordExact_bits rfl))

/-- The lanes of a row's last column block that are in the row. -/
def tailMask : IVec S16 1 := cmpi .slt (iota .scVector S16 32 [0] iota_S16_d0_w32_scVector) (broadcast S16 8#32)

/-- Sixteen float zeros. -/
def zero16 : FVec F S16 .f32 := broadcast S16 (Scalar.ofBits .f32 0x00000000#32)

/-- The 32 rows of a chunk. -/
def rows (sb db : Memref sig .scVector .vmem S6416 .i32) (hs hd : Memref sig .scVector .vmem S1008 .f32)
    (b₁ b₂ b₃ b₄ : Memref sig .scVector .vmem S6400 .f32) : P F a b :=
  Scf.Loop.for k0_t1_loop k0_t1_ok ⟨⟩ (fun t _ => rowBody sb db hs hd b₁ b₂ b₃ b₄ zero16 tailMask t)

/-- One chunk: the ids in, its 32 rows, the four arrays of counts out. -/
def chunk (si di : Memref sig .scVector .hbm S819200 .i32) (o₁ o₂ o₃ o₄ : Memref sig .scVector .hbm S819200 .f32)
    (sb db : Memref sig .scVector .vmem S6416 .i32) (hs hd : Memref sig .scVector .vmem S1008 .f32)
    (b₁ b₂ b₃ b₄ : Memref sig .scVector .vmem S6400 .f32) (h₁ : b₁.IsWhole) (h₂ : b₂.IsWhole) (h₃ : b₃.IsWhole) (h₄ : b₄.IsWhole)
    (s : Fin 6 → DmaSems sig S_) (c : Fin 4) : P F a b := do
  startIn i si sb (s 0) c
  waitIn i si sb (s 0) c
  startIn i di db (s 1) c
  waitIn i di db (s 1) c
  rows sb db hs hd b₁ b₂ b₃ b₄
  startOut i b₁ h₁ o₁ (s 2) c
  waitOut i b₁ h₁ o₁ (s 2) c
  startOut i b₂ h₂ o₂ (s 3) c
  waitOut i b₂ h₂ o₂ (s 3) c
  startOut i b₃ h₃ o₃ (s 4) c
  waitOut i b₃ h₃ o₃ (s 4) c
  startOut i b₄ h₄ o₄ (s 5) c
  waitOut i b₄ h₄ o₄ (s 5) c

/-- The tile's program. -/
def tile (si di : Memref sig .scVector .hbm S819200 .i32) (o₁ o₂ o₃ o₄ : Memref sig .scVector .hbm S819200 .f32)
    (sb db : Memref sig .scVector .vmem S6416 .i32) (hs hd : Memref sig .scVector .vmem S1008 .f32)
    (b₁ b₂ b₃ b₄ : Memref sig .scVector .vmem S6400 .f32) (h₁ : b₁.IsWhole) (h₂ : b₂.IsWhole) (h₃ : b₃.IsWhole) (h₄ : b₄.IsWhole)
    (s : Fin 4 → Fin 6 → DmaSems sig S_) : P F a b :=
  zeros hs hd zero16 (padZero sb <| padZero db <| do
    chunk i si di o₁ o₂ o₃ o₄ sb db hs hd b₁ b₂ b₃ b₄ h₁ h₂ h₃ h₄ (s 0) 0
    chunk i si di o₁ o₂ o₃ o₄ sb db hs hd b₁ b₂ b₃ b₄ h₁ h₂ h₃ h₄ (s 1) 1
    chunk i si di o₁ o₂ o₃ o₄ sb db hs hd b₁ b₂ b₃ b₄ h₁ h₂ h₃ h₄ (s 2) 2
    chunk i si di o₁ o₂ o₃ o₄ sb db hs hd b₁ b₂ b₃ b₄ h₁ h₂ h₃ h₄ (s 3) 3) 63 le_rfl

end

end Cert.Proof.Row

end
-- ==== Proof.Base.lean ====
/- The setting every later module works in: the program as the launch theorem sees it, the resource algebra (the
   handshakes' rounds beside the counters of the local copies), and what it means for a tile to hold a memref at some
   contents. -/
module

public import proofs.«01_k».proof.Proof.Gen.KernelIdeal
public import proofs.«01_k».proof.Proof.RowProg
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the pipelined call's staging cells. -/
abbrev UP : Type := URounds (GSem nD τ sig) Unit
abbrev UU : Type := UH × (UP × Counters)

/-- The resources of the proof. -/
abbrev MM (F : FTy → Type) : Type := MT nD τ sig (HIx 1) (Elt F) ℕ UU ℕ

abbrev EH : Emb UH (MM F) := embL

/-- The pipeline's rounds in them. -/
def EP : Emb UP (MM F) := (Emb.inl : Emb UP (UP × Counters)).trans embR

instance EP_landsIn : (EP : Emb UP (MM F)).LandsIn (upEmb : UEmb _ (MM F)) := by unfold EP; infer_instance

variable [FloatOps F]

/-! ## A tile's buffers -/

section Has

variable (d : Dev nD) (a : Fin τ.nSC) (b : Fin τ.nSub)

/-- The tile holds the memref outright and it reads `x`. -/
def has {sp : Space} {s : Shape} {e : EltTy} (m : Memref sig .scVector sp s e) (x : Vec F s e) : sProp (MM F) :=
  iprop(∃ f, ⌜m.view.read (Elt F) f = x⌝ ∗ (m.view.loc (V d a b) ↦[m.view.set]{fullShare} f))

/-- The weakest precondition of a tile's program. -/
abbrev wpT (p : Row.P F a b) (Q : sProp (MM F)) : sProp (MM F) :=
  wp frame (wpE (defs₀ (F := F)) 𝒱₀ (V d a b) none) Set.univ p fun _ => Q

variable {d a b} {s : Shape} {e : EltTy} {Q : sProp (MM F)}

theorem has_load {m : Memref sig .scVector .vmem s e} {x : Vec F s e} {r : LoadRect s} {hl : m.view.LoadsAt r}
    {k : (r.shape.Idx → Elt F e) → Row.P F a b} :
    has d a b m x ⊢ iprop((has d a b m x -∗ wpT d a b (k fun j => x (r.idx j)) Q) -∗ wpT d a b (.op (.load m r hl) k) Q) := by
  unfold has
  iintro ⟨%f, %hf, H⟩ Hk
  iapply (wp_load (defs := defs₀ (F := F)) 𝒱₀ (V d a b) none Set.univ (m := m) (S := m.view.set) (q := fullShare) (f := f)
    (Finset.map_subset_map.mpr (Finset.subset_univ _))) $$ H
  iintro H
  rw [show m.view.readAt (Elt F) r f = fun j => x (r.idx j) from by rw [← hf]; rfl]
  iapply Hk
  iexists f; isplitr; · ipureintro; exact hf
  iexact H

theorem has_store {m : Memref sig .scVector .vmem s e} {x y : Vec F s e} {r : Rect s} {w : r.shape.Idx → Elt F e}
    {hx : (m.access r).Stores Finset.univ} {hm} {k : PUnit → Row.P F a b}
    (hy : ∀ j, y (r.emb j) = w j) (hn : ∀ i, i ∉ r.set → y i = x i) :
    has d a b m x ⊢ iprop((has d a b m y -∗ wpT d a b (k ⟨⟩) Q) -∗ wpT d a b (.op (.store m r w Finset.univ hx hm) k) Q) := by
  unfold has
  iintro ⟨%f, %hf, H⟩ Hk
  iapply (wp_store (defs := defs₀ (F := F)) 𝒱₀ (V d a b) none Set.univ (m := m) (r := r) (w := w) (Mk := Finset.univ) (S := m.view.set) (f := f)
    (View.set_slice_subset _ _)) $$ H
  iintro H
  iapply Hk
  iexists _; isplitr
  rotate_left
  · iexact H
  ipureintro
  funext i
  by_cases hi : i ∈ r.set
  · obtain ⟨j, rfl⟩ := r.exists_idx_of_mem hi
    rw [show r.idx j = r.emb j from rfl, hy]
    exact View.read_slice_write_emb r _ w (Finset.mem_univ j)
  · rw [hn i hi, ← hf]
    exact View.read_slice_write_of_not_mem r _ w _ (by rwa [Rect.map_emb_univ])

theorem has_loadIdx {n : Nat} {m : Memref sig .scVector .vmem s e} {x : Vec F s e} {idxs : Fin s.rank → IVec ⟨1, ![n]⟩ 32}
    {h : ∀ a x, (idxs a x).toNat < s.size a} {hl : m.view.Loads} {k : Vec F ⟨1, ![n]⟩ e → Row.P F a b} :
    has d a b m x ⊢ iprop((has d a b m x -∗ wpT d a b (k (loadIdx x idxs h)) Q)
      -∗ wpT d a b (SparseCore.vectorLoadIdx m idxs h hl >>= k) Q) := by
  refine (has_load (Q := Q) (r := (Rect.whole s).toLoadRect) (hl := View.loadsAt_whole hl) (k := fun f => k (loadIdx f idxs h))).trans ?_
  rw [show (fun j => x ((Rect.whole s).toLoadRect.idx j)) = x from funext fun j => congrArg x (by
    funext a; apply Fin.ext; rw [LoadRect.idx_apply]; show 0 + 1 * (j a).val = _; omega)]
  exact .rfl

theorem has_storeIdx {n : Nat} {m : Memref sig .scVector .vmem s e} {x : Vec F s e} {idxs : Fin s.rank → IVec ⟨1, ![n]⟩ 32}
    {v : Vec F ⟨1, ![n]⟩ e} {mask : IVec ⟨1, ![n]⟩ 1} {add : Bool} {h : ∀ a x, (idxs a x).toNat < s.size a}
    {hs : (m.access (.whole s)).Stores Finset.univ} {k : PUnit → Row.P F a b} :
    has d a b m x ⊢ iprop((has d a b m (storeIdx x idxs v mask add h) -∗ wpT d a b (k ⟨⟩) Q)
      -∗ wpT d a b (SparseCore.vectorStoreIdx m idxs v mask add h hs >>= k) Q) := by
  have hw : ∀ j : s.Idx, (Rect.whole s).toLoadRect.idx j = j := fun j => by
    funext a; apply Fin.ext; rw [LoadRect.idx_apply]; show 0 + 1 * (j a).val = _; omega
  iintro H Hk
  iapply (has_load (r := (Rect.whole s).toLoadRect) (hl := View.loadsAt_rect hs.loads)
    (k := fun f' => .op (.store m (.whole s) (storeIdx f' idxs v mask add h) Finset.univ hs (.inl rfl)) k)) $$ H
  iintro H
  rw [show (fun j => x ((Rect.whole s).toLoadRect.idx j)) = x from funext fun j => congrArg x (hw j)]
  iapply (has_store (r := .whole s) (w := storeIdx x idxs v mask add h) (y := storeIdx x idxs v mask add h)
    (fun j => congrArg (storeIdx x idxs v mask add h) (hw j)) (fun i hi => absurd (by rw [Rect.set_whole]; exact Finset.mem_univ i) hi)) $$ H
  iexact Hk

end Has

end Cert.Proof

end
-- ==== Proof.Mlp.lean ====
/- The TensorCore kernel's body: eight groups of 1024 positions, each taking a row of either array of counts through the
   two layers, for either result. -/
module

public import proofs.«01_k».proof.Proof.Base
public import Idealize.ShloMosaic.Lib.Memref

@[expose] public section

set_option maxRecDepth 65536

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program of the TensorCore. -/
abbrev TcP (F : FTy → Type) : Type 1 := Prog (TpuEff nD τ sig (Elt F) Λ₀ .tc) PUnit

/-! ## The program -/

theorem row_inb (s : Fin 8) : ∀ a, (![s.val, 0] : Fin 2 → ℕ) a + S1x1024.size a ≤ S8x1024.size a
  | 0 => by show s.val + 1 ≤ 8; omega
  | 1 => by show 0 + 1024 ≤ 1024; omega
theorem rows_inb (s : Fin 8) : ∀ a, (![1024 * s.val, 0] : Fin 2 → ℕ) a + S1024x64.size a ≤ S8192x64.size a
  | 0 => by show 1024 * s.val + 1024 ≤ 8192; omega
  | 1 => by show 0 + 64 ≤ 64; omega

/-- Row `s` of a block of counts, and the positions of that row in a block of results. -/
abbrev rowR (s : Fin 8) : Rect S8x1024 := Rect.unit (s := S8x1024) ![s.val, 0] S1x1024.size (row_inb s)
abbrev rowsR (s : Fin 8) : Rect S8192x64 := Rect.unit (s := S8192x64) ![1024 * s.val, 0] S1024x64.size (rows_inb s)

/-- The two layers over one row of counts of either kind: the first with its bias as a third weight, the rectifier, and the
    second with its bias. -/
def layers (w1 : Vec F S3x64 .f32) (w2 : Vec F S64x64 .f32) (b2 : Vec F S1x64 .f32) (x y : Vec F S1x1024 .f32) : FVec F S1024x64 .f32 :=
  addf (matmul dot_S64x1024_S64x64_S1024x64_0_0_1_1_n_n none
      (maximumf (matmul dot_S3x64_S3x1024_S64x1024_0_0_1_1_n_n none (shapeCast S3x64 w1 shapeCasts_S3x64_S3x64)
          (concatenate S3x1024 0 [⟨S1x1024, shapeCast S1x1024 x shapeCasts_S1x1024_S1x1024⟩, ⟨S1x1024, shapeCast S1x1024 y shapeCasts_S1x1024_S1x1024⟩,
            ⟨S1x1024, broadcast S1x1024 (Scalar.ofBits .f32 0x3F800000#32 : F .f32)⟩] concatenates_S1x1024_S1x1024_S1x1024_S3x1024_d0)
          (constant S64x1024 .f32 0x00000000#32))
        (broadcast S64x1024 (Scalar.ofBits .f32 0x00000000#32 : F .f32)))
      w2 (constant S1024x64 .f32 0x00000000#32))
    (broadcastTo S1024x64 (shapeCast S1x64 b2 shapeCasts_S1x64_S1x64) broadcasts_S1x64_S1024x64)

section Prog

variable (s : Fin 8) (m1 m2 : Memref sig .tc .vmem S8x1024 .f32) (o : Memref sig .tc .vmem S8192x64 .f32)
  (w1 : Vec F S3x64 .f32) (w2 : Vec F S64x64 .f32) (b2 : Vec F S1x64 .f32) (k : TcP F)

/-- One row of one result, and then `k`. -/
def rowThen : TcP F :=
  .op (.load m1 (rowR s).toLoadRect (View.loadsAt_vmem h_S1x1024)) fun x =>
  .op (.load m2 (rowR s).toLoadRect (View.loadsAt_vmem h_S1x1024)) fun y =>
  .op (.load o (rowsR s).toLoadRect (View.loadsAt_vmem h_S1024x64)) fun _ =>
  .op (.store o (rowsR s) (layers w1 w2 b2 x y) Finset.univ (View.stores_vmem_bits_univ h_S1024x64 rfl) (.inl rfl)) fun _ => k

end Prog

section Body

variable (m1 m2 m3 m4 : Memref sig .tc .vmem S8x1024 .f32) (n1 : Memref sig .tc .vmem S3x64 .f32) (n2 : Memref sig .tc .vmem S64x64 .f32)
  (n3 : Memref sig .tc .vmem S1x64 .f32) (o1 o2 : Memref sig .tc .vmem S8192x64 .f32)

/-- Row `s` of both results, and then `k`. -/
def pairThen (s : Fin 8) (w1 : Vec F S3x64 .f32) (w2 : Vec F S64x64 .f32) (b2 : Vec F S1x64 .f32) (k : TcP F) : TcP F :=
  rowThen s m1 m2 o1 w1 w2 b2 (rowThen s m3 m4 o2 w1 w2 b2 k)

/-- The whole body. -/
def mlp : TcP F :=
  .op (.load n1 (Rect.unit (s := S3x64) ![0, 0] S3x64.size inb_S3x64_S3x64_0_0).toLoadRect (View.loadsAt_vmem h_S3x64)) fun w1 =>
  .op (.load n2 (Rect.unit (s := S64x64) ![0, 0] S64x64.size inb_S64x64_S64x64_0_0).toLoadRect (View.loadsAt_vmem h_S64x64)) fun w2 =>
  .op (.load n3 (Rect.unit (s := S1x64) ![0, 0] S1x64.size inb_S1x64_S1x64_0_0).toLoadRect (View.loadsAt_vmem h_S1x64)) fun b2 =>
  pairThen m1 m2 m3 m4 o1 o2 0 w1 w2 b2 <| pairThen m1 m2 m3 m4 o1 o2 1 w1 w2 b2 <| pairThen m1 m2 m3 m4 o1 o2 2 w1 w2 b2 <|
  pairThen m1 m2 m3 m4 o1 o2 3 w1 w2 b2 <| pairThen m1 m2 m3 m4 o1 o2 4 w1 w2 b2 <| pairThen m1 m2 m3 m4 o1 o2 5 w1 w2 b2 <|
  pairThen m1 m2 m3 m4 o1 o2 6 w1 w2 b2 <| pairThen m1 m2 m3 m4 o1 o2 7 w1 w2 b2 <| .ret ⟨⟩

theorem mlp_eq (i : grid1.Coords) (h1 : m1.IsWhole) (h2 : m2.IsWhole) (h3 : m3.IsWhole) (h4 : m4.IsWhole) (h5 : n1.IsWhole) (h6 : n2.IsWhole)
    (h7 : n3.IsWhole) (h8 : o1.IsWhole) (h9 : o2.IsWhole) :
    cc1__mlp_kernel (F := F) i m1 h1 m2 h2 m3 h3 m4 h4 n1 h5 n2 h6 n3 h7 o1 h8 o2 h9 = mlp m1 m2 m3 m4 n1 n2 n3 o1 o2 := rfl

end Body

/-! ## What it makes -/

/-- Position `i` of `1024` and column `j`. -/
def at64 (i : ℕ) (hi : i < 1024) (j : Fin 64) : S1024x64.Idx := fun | 0 => ⟨i, hi⟩ | 1 => j

theorem row_lt (p : S8192x64.Idx) : (p 0).val / 1024 < 8 := by
  have : (p 0).val < 8192 := (p 0).isLt
  omega

/-- The block of results of two blocks of counts. -/
def block (w1 : Vec F S3x64 .f32) (w2 : Vec F S64x64 .f32) (b2 : Vec F S1x64 .f32) (X Y : Vec F S8x1024 .f32) : Vec F S8192x64 .f32 := fun p =>
  layers w1 w2 b2 (fun j => X ((rowR ⟨(p 0).val / 1024, row_lt p⟩).emb j)) (fun j => Y ((rowR ⟨(p 0).val / 1024, row_lt p⟩).emb j))
    (at64 ((p 0).val % 1024) (Nat.mod_lt _ (by decide)) (p 1))

theorem mem_rowsR (s : Fin 8) (p : S8192x64.Idx) : p ∈ (rowsR s).set ↔ (p 0).val / 1024 = s.val := by
  rw [Rect.mem_set_unit]
  have h1 : (p 1).val < 64 := (p 1).isLt
  constructor
  · intro h
    have := h 0
    have e1 : 1024 * s.val ≤ (p 0).val := this.1
    have e2 : (p 0).val < 1024 * s.val + 1024 := this.2
    omega
  · intro h a
    match a with
    | 0 => exact ⟨show 1024 * s.val ≤ (p 0).val by omega, show (p 0).val < 1024 * s.val + 1024 by omega⟩
    | 1 => exact ⟨Nat.zero_le _, show (p 1).val < 0 + 64 by omega⟩

theorem block_rows (w1 : Vec F S3x64 .f32) (w2 : Vec F S64x64 .f32) (b2 : Vec F S1x64 .f32) (X Y : Vec F S8x1024 .f32) (s : Fin 8) (j : (rowsR s).shape.Idx) :
    block w1 w2 b2 X Y ((rowsR s).emb j) = layers w1 w2 b2 (fun j => X ((rowR s).emb j)) (fun j => Y ((rowR s).emb j)) j := by
  have h0 : (((rowsR s).emb j) 0).val = 1024 * s.val + (j 0).val := by rw [Rect.emb_apply]; show 1024 * s.val + 1 * (j 0).val = _; omega
  have h1 : (((rowsR s).emb j) 1).val = (j 1).val := by rw [Rect.emb_apply]; show 0 + 1 * (j 1).val = _; omega
  have hj : (j 0).val < 1024 := (j 0).isLt
  have hs : (⟨(((rowsR s).emb j) 0).val / 1024, row_lt _⟩ : Fin 8) = s := Fin.ext (by show _ / 1024 = _; omega)
  unfold block
  rw [hs]
  congr 1
  funext a
  match a with
  | 0 => exact Fin.ext (by show (((rowsR s).emb j) 0).val % 1024 = (j 0).val; omega)
  | 1 => exact Fin.ext h1

/-! ## The run -/

section Run

variable (d : Dev nD)

abbrev wpC (p : TcP F) (Q : sProp (MM F)) : sProp (MM F) :=
  wp frame (wpE (defs₀ (F := F)) 𝒱₀ (d : Thread nD τ) none) Set.univ p fun _ => Q

/-- The TensorCore holds the memref outright and it reads `x`. -/
abbrev hasC {sp : Space} {s : Shape} {e : EltTy} (m : Memref sig .tc sp s e) (x : Vec F s e) : sProp (MM F) :=
  owns (d : Thread nD τ) m fullShare x

variable {d} {s : Shape} {e : EltTy} {Q : sProp (MM F)}

theorem hasC_load {m : Memref sig .tc .vmem s e} {x : Vec F s e} {r : Rect s} {hl : m.view.LoadsAt r.toLoadRect}
    {k : (r.toLoadRect.shape.Idx → Elt F e) → TcP F} :
    hasC d m x ⊢ iprop((hasC d m x -∗ wpC d (k fun j => x (r.emb j)) Q) -∗ wpC d (.op (.load m r.toLoadRect hl) k) Q) := by
  unfold hasC owns
  iintro ⟨%f, %hf, H⟩ Hk
  iapply (wp_load (defs := defs₀ (F := F)) 𝒱₀ (d : Thread nD τ) none Set.univ (m := m) (S := m.view.set) (q := fullShare) (f := f)
    (Finset.map_subset_map.mpr (Finset.subset_univ _))) $$ H
  iintro H
  rw [show m.view.readAt (Elt F) r.toLoadRect f = fun j => x (r.emb j) from by rw [← hf]; rfl]
  iapply Hk
  iexists f; isplitr; · ipureintro; exact hf
  iexact H

theorem hasC_load_all {m : Memref sig .tc .vmem s e} {x : Vec F s e} {hz : Fin s.rank → ℕ} (h0 : ∀ a, hz a = 0)
    {inb : ∀ a, hz a + s.size a ≤ s.size a} {hl : m.view.LoadsAt (Rect.unit (s := s) hz s.size inb).toLoadRect}
    {k : (s.Idx → Elt F e) → TcP F} :
    hasC d m x ⊢ iprop((hasC d m x -∗ wpC d (k x) Q) -∗ wpC d (.op (.load m (Rect.unit (s := s) hz s.size inb).toLoadRect hl) k) Q) := by
  refine (hasC_load (Q := Q) (r := Rect.unit (s := s) hz s.size inb) (hl := hl) (k := k)).trans ?_
  rw [show (fun j => x ((Rect.unit (s := s) hz s.size inb).emb j)) = x from funext fun j => congrArg x (by
    funext a; apply Fin.ext; rw [Rect.emb_apply]; show hz a + 1 * (j a).val = _; rw [h0]; omega)]

theorem hasC_store {m : Memref sig .tc .vmem s e} {x : Vec F s e} {r : Rect s} {w : r.shape.Idx → Elt F e}
    {hx : (m.access r).Stores Finset.univ} {hm} {k : PUnit → TcP F} :
    hasC d m x ⊢ iprop((hasC d m (r.overlay x w) -∗ wpC d (k ⟨⟩) Q) -∗ wpC d (.op (.store m r w Finset.univ hx hm) k) Q) := by
  unfold hasC owns
  iintro ⟨%f, %hf, H⟩ Hk
  iapply (wp_store (defs := defs₀ (F := F)) 𝒱₀ (d : Thread nD τ) none Set.univ (m := m) (r := r) (w := w) (Mk := Finset.univ) (S := m.view.set) (f := f)
    (View.set_slice_subset _ _)) $$ H
  iintro H
  iapply Hk
  iexists _; isplitr
  rotate_left
  · iexact H
  ipureintro
  funext i
  by_cases hi : i ∈ r.set
  · obtain ⟨j, rfl⟩ := r.exists_idx_of_mem hi
    rw [show r.idx j = r.emb j from rfl, Rect.overlay_emb]
    exact View.read_slice_write_emb r _ w (Finset.mem_univ j)
  · rw [Rect.overlay_of_not_mem _ _ _ hi, ← hf]
    exact View.read_slice_write_of_not_mem r _ w _ (by rwa [Rect.map_emb_univ])

/-- The rows below `n` of `o` hold those of `G`. -/
def upTo (d : Dev nD) (n : ℕ) (o : Memref sig .tc .vmem S8192x64 .f32) (G : Vec F S8192x64 .f32) : sProp (MM F) :=
  iprop(∃ g, ⌜∀ p : S8192x64.Idx, (p 0).val / 1024 < n → g p = G p⌝ ∗ hasC d o g)

variable {m1 m2 m3 m4 : Memref sig .tc .vmem S8x1024 .f32} {n1 : Memref sig .tc .vmem S3x64 .f32} {n2 : Memref sig .tc .vmem S64x64 .f32}
  {n3 : Memref sig .tc .vmem S1x64 .f32} {o o1 o2 : Memref sig .tc .vmem S8192x64 .f32}
  {W1 : Vec F S3x64 .f32} {W2 : Vec F S64x64 .f32} {B2 : Vec F S1x64 .f32} {X1 X2 X3 X4 : Vec F S8x1024 .f32}

theorem wp_row (s : Fin 8) {k : TcP F} :
    iprop(hasC d m1 X1 ∗ hasC d m2 X2 ∗ upTo d s.val o (block W1 W2 B2 X1 X2))
      ⊢ iprop((iprop(hasC d m1 X1 ∗ hasC d m2 X2 ∗ upTo d (s.val + 1) o (block W1 W2 B2 X1 X2)) -∗ wpC d k Q) -∗ wpC d (rowThen s m1 m2 o W1 W2 B2 k) Q) := by
  unfold rowThen upTo
  iintro ⟨H1, H2, ⟨%g, %hg, Ho⟩⟩ Hk
  iapply (hasC_load (r := rowR s)) $$ H1
  iintro H1
  iapply (hasC_load (r := rowR s)) $$ H2
  iintro H2
  iapply (hasC_load (r := rowsR s)) $$ Ho
  iintro Ho
  iapply (hasC_store (r := rowsR s)) $$ Ho
  iintro Ho
  iapply Hk
  isplitl [H1]; · iexact H1
  isplitl [H2]; · iexact H2
  iexists _; isplitr
  rotate_left
  · iexact Ho
  ipureintro
  intro p hp
  by_cases h : p ∈ (rowsR s).set
  · obtain ⟨j, rfl⟩ := (rowsR s).exists_idx_of_mem h
    rw [show (rowsR s).idx j = (rowsR s).emb j from rfl, Rect.overlay_emb, block_rows]
    rfl
  · rw [Rect.overlay_of_not_mem _ _ _ h]
    exact hg p (by have := mt (mem_rowsR s p).mpr h; omega)

theorem wp_pair (s : Fin 8) (n : ℕ) (hn : s.val = n) {k : TcP F} :
    iprop(hasC d m1 X1 ∗ hasC d m2 X2 ∗ hasC d m3 X3 ∗ hasC d m4 X4 ∗ upTo d n o1 (block W1 W2 B2 X1 X2) ∗ upTo d n o2 (block W1 W2 B2 X3 X4))
      ⊢ iprop((iprop(hasC d m1 X1 ∗ hasC d m2 X2 ∗ hasC d m3 X3 ∗ hasC d m4 X4 ∗ upTo d (n + 1) o1 (block W1 W2 B2 X1 X2) ∗ upTo d (n + 1) o2 (block W1 W2 B2 X3 X4))
        -∗ wpC d k Q) -∗ wpC d (pairThen m1 m2 m3 m4 o1 o2 s W1 W2 B2 k) Q) := by
  subst hn
  unfold pairThen
  iintro ⟨H1, H2, H3, H4, Ho1, Ho2⟩ Hk
  iapply (wp_row s) $$ [H1 H2 Ho1]
  · isplitl [H1]; · iexact H1
    isplitl [H2]; · iexact H2
    iexact Ho1
  iintro ⟨H1, H2, Ho1⟩
  iapply (wp_row s) $$ [H3 H4 Ho2]
  · isplitl [H3]; · iexact H3
    isplitl [H4]; · iexact H4
    iexact Ho2
  iintro ⟨H3, H4, Ho2⟩
  iapply Hk
  isplitl [H1]; · iexact H1
  isplitl [H2]; · iexact H2
  isplitl [H3]; · iexact H3
  isplitl [H4]; · iexact H4
  isplitl [Ho1]; · iexact Ho1
  iexact Ho2

theorem upTo_zero (G g : Vec F S8192x64 .f32) : hasC d o g ⊢ upTo d 0 o G := by
  unfold upTo
  iintro H
  iexists g; isplitr; · ipureintro; intro p hp; exact absurd hp (Nat.not_lt_zero _)
  iexact H

theorem upTo_all (G : Vec F S8192x64 .f32) : upTo d 8 o G ⊢ hasC d o G := by
  unfold upTo
  iintro ⟨%g, %hg, H⟩
  obtain rfl : g = G := funext fun p => hg p (row_lt p)
  iexact H

theorem wp_mlp {g1 g2 : Vec F S8192x64 .f32} :
    iprop(hasC d m1 X1 ∗ hasC d m2 X2 ∗ hasC d m3 X3 ∗ hasC d m4 X4 ∗ hasC d n1 W1 ∗ hasC d n2 W2 ∗ hasC d n3 B2 ∗ hasC d o1 g1 ∗ hasC d o2 g2)
      ⊢ iprop((iprop(hasC d m1 X1 ∗ hasC d m2 X2 ∗ hasC d m3 X3 ∗ hasC d m4 X4 ∗ hasC d n1 W1 ∗ hasC d n2 W2 ∗ hasC d n3 B2
          ∗ hasC d o1 (block W1 W2 B2 X1 X2) ∗ hasC d o2 (block W1 W2 B2 X3 X4)) -∗ Q) -∗ wpC d (mlp m1 m2 m3 m4 n1 n2 n3 o1 o2) Q) := by
  unfold mlp
  iintro ⟨H1, H2, H3, H4, Hn1, Hn2, Hn3, Ho1, Ho2⟩ Hk
  iapply (hasC_load_all (x := W1) (by decide)) $$ Hn1
  iintro Hn1
  iapply (hasC_load_all (x := W2) (by decide)) $$ Hn2
  iintro Hn2
  iapply (hasC_load_all (x := B2) (by decide)) $$ Hn3
  iintro Hn3
  ihave Ho1 := (upTo_zero (block W1 W2 B2 X1 X2) g1) $$ Ho1
  ihave Ho2 := (upTo_zero (block W1 W2 B2 X3 X4) g2) $$ Ho2
  ihave H := (show iprop(hasC d m1 X1 ∗ hasC d m2 X2 ∗ hasC d m3 X3 ∗ hasC d m4 X4 ∗ upTo d 0 o1 (block W1 W2 B2 X1 X2) ∗ upTo d 0 o2 (block W1 W2 B2 X3 X4))
    ⊢ iprop(hasC d m1 X1 ∗ hasC d m2 X2 ∗ hasC d m3 X3 ∗ hasC d m4 X4 ∗ upTo d 0 o1 (block W1 W2 B2 X1 X2) ∗ upTo d 0 o2 (block W1 W2 B2 X3 X4)) from .rfl) $$ [H1 H2 H3 H4 Ho1 Ho2]
  · isplitl [H1]; · iexact H1
    isplitl [H2]; · iexact H2
    isplitl [H3]; · iexact H3
    isplitl [H4]; · iexact H4
    isplitl [Ho1]; · iexact Ho1
    iexact Ho2
  iapply (wp_pair 0 0 rfl) $$ H
  iintro H
  iapply (wp_pair 1 1 rfl) $$ H
  iintro H
  iapply (wp_pair 2 2 rfl) $$ H
  iintro H
  iapply (wp_pair 3 3 rfl) $$ H
  iintro H
  iapply (wp_pair 4 4 rfl) $$ H
  iintro H
  iapply (wp_pair 5 5 rfl) $$ H
  iintro H
  iapply (wp_pair 6 6 rfl) $$ H
  iintro H
  iapply (wp_pair 7 7 rfl) $$ H
  iintro ⟨H1, H2, H3, H4, Ho1, Ho2⟩
  unfold wpC
  rw [show (Prog.ret PUnit.unit : TcP F) = .ret ⟨⟩ from rfl, wp_ret]
  imodintro
  iapply Hk
  isplitl [H1]; · iexact H1
  isplitl [H2]; · iexact H2
  isplitl [H3]; · iexact H3
  isplitl [H4]; · iexact H4
  isplitl [Hn1]; · iexact Hn1
  isplitl [Hn2]; · iexact Hn2
  isplitl [Hn3]; · iexact Hn3
  isplitl [Ho1]; · iapply (upTo_all (block W1 W2 B2 X1 X2)) $$ Ho1
  iapply (upTo_all (block W1 W2 B2 X3 X4)) $$ Ho2

end Run

end Cert.Proof

end
-- ==== Proof.Region.lean ====
/- The TensorCore call: its proof data from any contents of the arrays, and the call as one step of the host's program. -/
module

public import proofs.«01_k».proof.Proof.Mlp
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Frame
public import Idealize.ShloMosaic.Lib.Pipeline.ValueKit

@[expose] public section

set_option maxRecDepth 65536

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-! ## What the call makes of its arrays -/

/-- Row `i` of an array of counts. -/
def lineOf (X : Vec F S800x1024 .f32) (i : ℕ) (hi : i < 800) : Vec F S1x1024 .f32 := fun j => X fun | 0 => ⟨i, hi⟩ | 1 => j 1

theorem wide_lt (p : S819200x64.Idx) : (p 0).val / 1024 < 800 := by
  have : (p 0).val < 819200 := (p 0).isLt
  omega

/-- A whole result. -/
def wide (w1 : Vec F S3x64 .f32) (w2 : Vec F S64x64 .f32) (b2 : Vec F S1x64 .f32) (X Y : Vec F S800x1024 .f32) : Vec F S819200x64 .f32 := fun p =>
  layers w1 w2 b2 (lineOf X ((p 0).val / 1024) (wide_lt p)) (lineOf Y ((p 0).val / 1024) (wide_lt p))
    (at64 ((p 0).val % 1024) (Nat.mod_lt _ (by decide)) (p 1))

/-! ## The proof data -/

section Data

variable (V : (c : Dev nD) → (b : Ref sig .tc) → Buf (Elt F) ((c : Thread nD τ).loc b)) (c : Dev nD)

def blk0 (t : Fin cfg1.N) : Vec F S8x1024 .f32 := ((cfg1.win 0).blk t).view.read (Elt F) (V c main_v6)
def blk1 (t : Fin cfg1.N) : Vec F S8x1024 .f32 := ((cfg1.win 1).blk t).view.read (Elt F) (V c main_v7)
def blk2 (t : Fin cfg1.N) : Vec F S8x1024 .f32 := ((cfg1.win 2).blk t).view.read (Elt F) (V c main_v8)
def blk3 (t : Fin cfg1.N) : Vec F S8x1024 .f32 := ((cfg1.win 3).blk t).view.read (Elt F) (V c main_v9)
def blk4 (t : Fin cfg1.N) : Vec F S3x64 .f32 := ((cfg1.win 4).blk t).view.read (Elt F) (V c main_v4)
def blk5 (t : Fin cfg1.N) : Vec F S64x64 .f32 := ((cfg1.win 5).blk t).view.read (Elt F) (V c main_arg4)
def blk6 (t : Fin cfg1.N) : Vec F S1x64 .f32 := ((cfg1.win 6).blk t).view.read (Elt F) (V c main_v5)

/-- The waits the host may have recorded by then. -/
def waited : Set (SemLoc sig × HIx 1) := {p | (K (F := F)).lev ((SparseCore.T c), p.1) p.2 ≤ 8 * (SparseCore.Cfg.Blocks.one 1).fst 1}

def dat : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => block (blk4 V c t) (blk5 V c t) (blk6 V c t) (blk0 V c t) (blk1 V c t)
    | ⟨8, _⟩ => block (blk4 V c t) (blk5 V c t) (blk6 V c t) (blk2 V c t) (blk3 V c t)
  Φ _ := BI.emp
  q _ := fullShare
  owed _ := (K (F := F)).Otc c 1
  recorded _ := waited (F := F) c

def dats (_ : Fin 1) (c : Dev nD) : Dat τ (Elt F) (HIx 1) ℕ UU ℕ cfg1 c := dat V c

theorem before0 (t : Fin cfg1.N) (d) : (dat V c).before 0 t d = blk0 V c t :=
  (Dat.before_in_eq_fetched (dat V c) 0 rfl (fun _ => rfl) (fun _ _ _ => rfl) (fun _ => rfl) t d).trans rfl
theorem before1 (t : Fin cfg1.N) (d) : (dat V c).before 1 t d = blk1 V c t :=
  (Dat.before_in_eq_fetched (dat V c) 1 rfl (fun _ => rfl) (fun _ _ _ => rfl) (fun _ => rfl) t d).trans rfl
theorem before2 (t : Fin cfg1.N) (d) : (dat V c).before 2 t d = blk2 V c t :=
  (Dat.before_in_eq_fetched (dat V c) 2 rfl (fun _ => rfl) (fun _ _ _ => rfl) (fun _ => rfl) t d).trans rfl
theorem before3 (t : Fin cfg1.N) (d) : (dat V c).before 3 t d = blk3 V c t :=
  (Dat.before_in_eq_fetched (dat V c) 3 rfl (fun _ => rfl) (fun _ _ _ => rfl) (fun _ => rfl) t d).trans rfl
theorem before4 (t : Fin cfg1.N) (d) : (dat V c).before 4 t d = blk4 V c t :=
  (Dat.before_in_eq_fetched (dat V c) 4 rfl (fun _ => rfl) (fun _ _ _ => rfl) (fun _ => rfl) t d).trans rfl
theorem before5 (t : Fin cfg1.N) (d) : (dat V c).before 5 t d = blk5 V c t :=
  (Dat.before_in_eq_fetched (dat V c) 5 rfl (fun _ => rfl) (fun _ _ _ => rfl) (fun _ => rfl) t d).trans rfl
theorem before6 (t : Fin cfg1.N) (d) : (dat V c).before 6 t d = blk6 V c t :=
  (Dat.before_in_eq_fetched (dat V c) 6 rfl (fun _ => rfl) (fun _ _ _ => rfl) (fun _ => rfl) t d).trans rfl

theorem body_obligation : BodyObligation (dat V c) (defs₀ (F := F)) 𝒱₀ none Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨-, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0, before1, before2, before3, before4, before5, before6]
  rw [show defs₀ (F := F) .tc cfg1.body (cfg1.bodyArgs t (cfg1.slots t))
    = mlp (st1_0 t) (st1_1 t) (st1_2 t) (st1_3 t) (st1_4 t) (st1_5 t) (st1_6 t) (st1_7 t) (st1_8 t) from rfl]
  iapply (wp_mlp (d := c) (m1 := st1_0 t) (m2 := st1_1 t) (m3 := st1_2 t) (m4 := st1_3 t) (n1 := st1_4 t) (n2 := st1_5 t) (n3 := st1_6 t)
    (o1 := st1_7 t) (o2 := st1_8 t)) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitr; · iempintro
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Data

end Cert.Proof

end
-- ==== Proof.Final.lean ====
/- The TensorCore call's arrays after it, and the call as one step of the host's program. -/
module

public import proofs.«01_k».proof.Proof.Region

@[expose] public section

set_option maxRecDepth 65536

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

theorem index0 : ∀ t : Fin cfg1.N, win1_0.index t = ![t.val, 0] := (by decide +kernel : ∀ t : Fin grid1.N, win1_0.index t = ![t.val, 0])
theorem index1 : ∀ t : Fin cfg1.N, win1_1.index t = ![t.val, 0] := (by decide +kernel : ∀ t : Fin grid1.N, win1_1.index t = ![t.val, 0])
theorem index2 : ∀ t : Fin cfg1.N, win1_2.index t = ![t.val, 0] := (by decide +kernel : ∀ t : Fin grid1.N, win1_2.index t = ![t.val, 0])
theorem index3 : ∀ t : Fin cfg1.N, win1_3.index t = ![t.val, 0] := (by decide +kernel : ∀ t : Fin grid1.N, win1_3.index t = ![t.val, 0])
theorem index4 : ∀ t : Fin cfg1.N, win1_4.index t = ![0, 0] := (by decide +kernel : ∀ t : Fin grid1.N, win1_4.index t = ![0, 0])
theorem index5 : ∀ t : Fin cfg1.N, win1_5.index t = ![0, 0] := (by decide +kernel : ∀ t : Fin grid1.N, win1_5.index t = ![0, 0])
theorem index6 : ∀ t : Fin cfg1.N, win1_6.index t = ![0, 0] := (by decide +kernel : ∀ t : Fin grid1.N, win1_6.index t = ![0, 0])
theorem index7 : ∀ t : Fin cfg1.N, win1_7.index t = ![t.val, 0] := (by decide +kernel : ∀ t : Fin grid1.N, win1_7.index t = ![t.val, 0])
theorem index8 : ∀ t : Fin cfg1.N, win1_8.index t = ![t.val, 0] := (by decide +kernel : ∀ t : Fin grid1.N, win1_8.index t = ![t.val, 0])

section

variable (V : (c : Dev nD) → (b : Ref sig .tc) → Buf (Elt F) ((c : Thread nD τ).loc b)) (c : Dev nD)

theorem t_lt (t : Fin cfg1.N) : t.val < 100 := t.isLt

/-- Row `8 t + i`, as read through a block of rows. -/
theorem row_blk (X : Vec F S800x1024 .f32) (t i : ℕ) (hi : i < 8) (k : ℕ) (hk : k < 800) (e : k = t * 8 + i) (B : Vec F S8x1024 .f32)
    (hB : ∀ (y : S8x1024.Idx) (z : S800x1024.Idx), (z 0).val = t * 8 + (y 0).val → (z 1).val = (y 1).val → B y = X z) :
    (fun j => B ((rowR ⟨i, hi⟩).emb j)) = lineOf X k hk := by
  funext j
  have h0 : (((rowR ⟨i, hi⟩).emb j) 0).val = i := by
    rw [Rect.emb_apply]
    show i + 1 * (j 0).val = _
    have : (j 0).val < 1 := (j 0).isLt
    omega
  have h1 : (((rowR ⟨i, hi⟩).emb j) 1).val = (j 1).val := by rw [Rect.emb_apply]; show 0 + 1 * (j 1).val = _; omega
  exact hB _ _ (by rw [h0]; exact e) h1.symm

theorem blk0_at (t : Fin cfg1.N) (y : S8x1024.Idx) (z : S800x1024.Idx) (h0 : (z 0).val = t.val * 8 + (y 0).val) (h1 : (z 1).val = (y 1).val) :
    blk0 V c t y = V c main_v6 z := by
  show V c main_v6 (((cfg1.win 0).blk t).view.emb y) = _
  congr 1; funext a; apply Fin.ext
  match a with
  | 0 => blk_simp [index0]; exact h0.symm
  | 1 => blk_simp [index0]; exact h1.symm
theorem blk1_at (t : Fin cfg1.N) (y : S8x1024.Idx) (z : S800x1024.Idx) (h0 : (z 0).val = t.val * 8 + (y 0).val) (h1 : (z 1).val = (y 1).val) :
    blk1 V c t y = V c main_v7 z := by
  show V c main_v7 (((cfg1.win 1).blk t).view.emb y) = _
  congr 1; funext a; apply Fin.ext
  match a with
  | 0 => blk_simp [index1]; exact h0.symm
  | 1 => blk_simp [index1]; exact h1.symm
theorem blk2_at (t : Fin cfg1.N) (y : S8x1024.Idx) (z : S800x1024.Idx) (h0 : (z 0).val = t.val * 8 + (y 0).val) (h1 : (z 1).val = (y 1).val) :
    blk2 V c t y = V c main_v8 z := by
  show V c main_v8 (((cfg1.win 2).blk t).view.emb y) = _
  congr 1; funext a; apply Fin.ext
  match a with
  | 0 => blk_simp [index2]; exact h0.symm
  | 1 => blk_simp [index2]; exact h1.symm
theorem blk3_at (t : Fin cfg1.N) (y : S8x1024.Idx) (z : S800x1024.Idx) (h0 : (z 0).val = t.val * 8 + (y 0).val) (h1 : (z 1).val = (y 1).val) :
    blk3 V c t y = V c main_v9 z := by
  show V c main_v9 (((cfg1.win 3).blk t).view.emb y) = _
  congr 1; funext a; apply Fin.ext
  match a with
  | 0 => blk_simp [index3]; exact h0.symm
  | 1 => blk_simp [index3]; exact h1.symm
theorem blk4_eq (t : Fin cfg1.N) : blk4 V c t = V c main_v4 := by
  funext y
  show V c main_v4 (((cfg1.win 4).blk t).view.emb y) = _
  congr 1; funext a; apply Fin.ext
  match a with
  | 0 => blk_simp [index4]
  | 1 => blk_simp [index4]
theorem blk5_eq (t : Fin cfg1.N) : blk5 V c t = V c main_arg4 := by
  funext y
  show V c main_arg4 (((cfg1.win 5).blk t).view.emb y) = _
  congr 1; funext a; apply Fin.ext
  match a with
  | 0 => blk_simp [index5]
  | 1 => blk_simp [index5]
theorem blk6_eq (t : Fin cfg1.N) : blk6 V c t = V c main_v5 := by
  funext y
  show V c main_v5 (((cfg1.win 6).blk t).view.emb y) = _
  congr 1; funext a; apply Fin.ext
  match a with
  | 0 => blk_simp [index6]
  | 1 => blk_simp [index6]

theorem block_wide (w1 : Vec F S3x64 .f32) (w2 : Vec F S64x64 .f32) (b2 : Vec F S1x64 .f32) (X Y : Vec F S800x1024 .f32) (B C : Vec F S8x1024 .f32) (t : ℕ)
    (hB : ∀ (y : S8x1024.Idx) (z : S800x1024.Idx), (z 0).val = t * 8 + (y 0).val → (z 1).val = (y 1).val → B y = X z)
    (hC : ∀ (y : S8x1024.Idx) (z : S800x1024.Idx), (z 0).val = t * 8 + (y 0).val → (z 1).val = (y 1).val → C y = Y z)
    (y : S8192x64.Idx) (z : S819200x64.Idx) (h0 : (z 0).val = t * 8192 + (y 0).val) (h1 : (z 1).val = (y 1).val) :
    block w1 w2 b2 B C y = wide w1 w2 b2 X Y z := by
  have e : (z 0).val / 1024 = t * 8 + (y 0).val / 1024 := by omega
  unfold block wide
  refine (congrFun (congr (congrArg (layers w1 w2 b2) (row_blk X t _ (row_lt y) _ (wide_lt z) e B hB))
    (row_blk Y t _ (row_lt y) _ (wide_lt z) e C hC)) _).trans (congrArg (layers w1 w2 b2 _ _) ?_)
  funext a
  match a with
  | 0 => exact Fin.ext (by show (y 0).val % 1024 = (z 0).val % 1024; omega)
  | 1 => exact Fin.ext h1.symm

theorem final7 : (dat V c).arrAt 7 cfg1.N = wide (V c main_v4) (V c main_arg4) (V c main_v5) (V c main_v6) (V c main_v7) := by
  refine (dat V c).arrAt_eq_of_covers 7 _ (by decide +kernel) fun t _ y => ?_
  show block (blk4 V c t) (blk5 V c t) (blk6 V c t) (blk0 V c t) (blk1 V c t) y = wide (V c main_v4) (V c main_arg4) (V c main_v5) (V c main_v6) (V c main_v7) (((cfg1.win 7).blk t).view.emb y)
  rw [blk4_eq, blk5_eq, blk6_eq]
  refine block_wide _ _ _ _ _ _ _ t.val (blk0_at V c t) (blk1_at V c t) _ _ ?_ ?_ <;> blk_simp [index7]

theorem final8 : (dat V c).arrAt 8 cfg1.N = wide (V c main_v4) (V c main_arg4) (V c main_v5) (V c main_v8) (V c main_v9) := by
  refine (dat V c).arrAt_eq_of_covers 8 _ (by decide +kernel) fun t _ y => ?_
  show block (blk4 V c t) (blk5 V c t) (blk6 V c t) (blk2 V c t) (blk3 V c t) y = wide (V c main_v4) (V c main_arg4) (V c main_v5) (V c main_v8) (V c main_v9) (((cfg1.win 8).blk t).view.emb y)
  rw [blk4_eq, blk5_eq, blk6_eq]
  refine block_wide _ _ _ _ _ _ _ t.val (blk2_at V c t) (blk3_at V c t) _ _ ?_ ?_ <;> blk_simp [index8]

end

end Cert.Proof

end
-- ==== Proof.Step.lean ====
/- The TensorCore call as one step of the host's program. -/
module

public import proofs.«01_k».proof.Proof.Final

@[expose] public section

set_option maxRecDepth 65536

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

variable (V V' : (c : Dev nD) → (b : Ref sig .tc) → Buf (Elt F) ((c : Thread nD τ).loc b))

/-- What the host owes after the SparseCore call, and that what it has waited for lies low enough. -/
def owesTc (c : Dev nD) : sProp (MM F) :=
  iprop(∃ W, ⌜(K (F := F)).WBelow (SparseCore.T c) W (8 * (SparseCore.Cfg.Blocks.one 1).fst 1)⌝ ∗ owes (SparseCore.T c) ((K (F := F)).Otc c 1) W)

theorem Otc_none (c : Dev nD) (g) : (K (F := F)).Otc c 1 g none = 0 := by
  have : (K (F := F)).Otc c 1 = 0 := by
    unfold SparseCore.Cfg.Otc
    exact Finset.sum_eq_zero fun q _ => if_neg (by have := q.isLt; omega)
  rw [this]; rfl

abbrev adm : (p : Fin 1) → (pcfgs (F := F) p).Adm := fun p => (cfgs p).toPCfg_adm

set_option backward.isDefEq.respectTransparency.types false in
def seg (h7 : ∀ c, V' c main_v10_0 = wide (V c main_v4) (V c main_arg4) (V c main_v5) (V c main_v6) (V c main_v7))
    (h8 : ∀ c, V' c main_v10_1 = wide (V c main_v4) (V c main_arg4) (V c main_v5) (V c main_v8) (V c main_v9))
    (hne : ∀ c (b : Ref sig .tc), b ≠ main_v10_0 → b ≠ main_v10_1 → V' c b = V c b) :
    Pipeline.RegionSeg (pcfgs (F := F)) adm (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ owesTc c)
  post c := iprop(unscopedBufs c (V' c) ∗ owesTc c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (dats V) launch1.win launch1.arr_whole c
      ((dats V 0 c).share_full fun _ => rfl) (V c) fun _ => rfl
    unfold owesTc
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr
      · ipureintro; exact fun p hp => Or.inl (hW p hp)
      iexact HO
    isplitr; · iempintro
    iexact Hrest
  hin c := by
    rw [show (dats V 0 c).Φ 0 = BI.emp from rfl]
    rw [show (Pipeline.scopedRest (Pipeline.pin (pcfgs (F := F)) adm 0).spec c : sProp (MM F)) = BI.emp from scopedRest1_eq c]
    iintro ⟨-, -, Hr⟩; iexact Hr
  hout c := by
    rw [Pipeline.ownSems0_none, show (dats V 0 c).Φ (Fin.last _) = BI.emp from rfl]
    rw [show (Pipeline.scopedRest (Pipeline.pin (pcfgs (F := F)) adm 0).spec c : sProp (MM F)) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (dats V) ((dats V 0 c).share_full fun _ => rfl) (V c) (V' c) ((dats V 0 c).arrAt · cfg1.N)
      (fun w => by
        fin_cases w
        · exact ((dats V 0 c).arrAt_in 0 rfl _).trans (hne c main_v6 (by decide) (by decide)).symm
        · exact ((dats V 0 c).arrAt_in 1 rfl _).trans (hne c main_v7 (by decide) (by decide)).symm
        · exact ((dats V 0 c).arrAt_in 2 rfl _).trans (hne c main_v8 (by decide) (by decide)).symm
        · exact ((dats V 0 c).arrAt_in 3 rfl _).trans (hne c main_v9 (by decide) (by decide)).symm
        · exact ((dats V 0 c).arrAt_in 4 rfl _).trans (hne c main_v4 (by decide) (by decide)).symm
        · exact ((dats V 0 c).arrAt_in 5 rfl _).trans (hne c main_arg4 (by decide) (by decide)).symm
        · exact ((dats V 0 c).arrAt_in 6 rfl _).trans (hne c main_v5 (by decide) (by decide)).symm
        · exact (final7 V c).trans (h7 c).symm
        · exact (final8 V c).trans (h8 c).symm)
      (fun b hb => hne c b (fun h => hb (h ▸ Finset.mem_image.mpr ⟨7, Finset.mem_univ _, rfl⟩)) fun h => hb (h ▸ Finset.mem_image.mpr ⟨8, Finset.mem_univ _, rfl⟩))
    unfold owesTc
    iintro ⟨Ha, ⟨%W, %hW, HO⟩, -, Hrest⟩
    imodintro
    isplitl [Ha Hrest]
    · iapply hjoin; isplitl [Ha]; · iexact Ha
      iexact Hrest
    iexists W; isplitr
    · ipureintro
      intro p hp
      rcases hW hp with h | ⟨w, s, rfl⟩
      · exact h
      · exact Nat.zero_le _
    iexact HO

/-- The call, entered from the host's program. -/
theorem wp_region (h7 : ∀ c, V' c main_v10_0 = wide (V c main_v4) (V c main_arg4) (V c main_v5) (V c main_v6) (V c main_v7))
    (h8 : ∀ c, V' c main_v10_1 = wide (V c main_v4) (V c main_arg4) (V c main_v5) (V c main_v8) (V c main_v9))
    (hne : ∀ c (b : Ref sig .tc), b ≠ main_v10_0 → b ≠ main_v10_1 → V' c b = V c b) (d : Dev nD) :
    iprop(boundary (SparseCore.T d) ∗ unscopedBufs d (V d) ∗ owesTc d ∗ levAts (K (F := F)).L (K (F := F)).lev
        ∗ Pipeline.cellsGhost cfgs (EP (F := F)) 0 d ∗ Pipeline.toksInit cfgs (EP (F := F)) 0 d)
      ⊢ wp frame (wpE ((K (F := F)).defs D) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (SparseCore.T d) ∗ unscopedBufs d (V' d) ∗ owesTc d) := by
  have h := (seg V V' h7 h8 hne).wp (pcfgs (F := F)) adm (dats V) none cellOf_inj EP defs₀ 𝒱₀ (K (F := F)).L (K (F := F)).lev d none
    (fun u hu => nomatch hu) Prog.ret fun _ => iprop(boundary (SparseCore.T d) ∗ unscopedBufs d (V' d) ∗ owesTc d)
  have hl := (K (F := F)).wp_liftProg D 𝒱 (SparseCore.T d) Set.univ none (.op (.customCall (Pipeline.entry 0) ()) .ret)
    fun _ => iprop(boundary (SparseCore.T d) ∗ unscopedBufs d (V' d) ∗ owesTc d)
  refine BIBase.Entails.trans (BIBase.Entails.trans ?_ h) hl
  iintro ⟨Hb, Hu, HO, Hl, Hc, Ht⟩
  isplitr
  · rw [show (seg V V' h7 h8 hne).post d = iprop(unscopedBufs d (V' d) ∗ owesTc d) from rfl]
    iintro ⟨Hb, Hu, HO⟩
    rw [wp_ret]
    imodintro
    isplitl [Hb]; · iexact Hb
    isplitl [Hu]; · iexact Hu
    iexact HO
  isplitl [Hb]; · iexact Hb
  isplitl [Hu HO]
  · iapply (show iprop(unscopedBufs d (V d) ∗ owesTc d) ⊢ (seg V V' h7 h8 hne).pre d from .rfl)
    isplitl [Hu]; · iexact Hu
    iexact HO
  isplitl [Hl]; · iexact Hl
  isplitl [Hc]; · iexact Hc
  iexact Ht

end Cert.Proof

end
-- ==== Proof.RowWp.lean ====
/- What the blocks of a row do, with values: a histogram after its thirteen scatter-adds, the four arrays of counts after
   the gathers, and the two histograms all zero again at the end of the row. -/
module

public import proofs.«01_k».proof.Proof.Base

@[expose] public section

noncomputable section

namespace Cert.Proof

open Cert.KernelIdeal Cert.KernelIdeal.Gen Cert.Proof.Row
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- Every id names a word of a histogram. -/
def InR {s : Shape} (x : IVec s 32) : Prop := ∀ i, (x i).toNat < 1008

theorem InR.chk {v : IVec S16 32} (h : InR v) : Chk v := fun a x => by
  obtain rfl : a = 0 := Subsingleton.elim _ _
  exact h x

theorem InR.ok {v : IVec S16 32} (h : InR v) : ∀ a x, ((![v] : Fin 1 → IVec S16 32) a x).toNat < S1008.size a := h.chk

/-- The sixteen ids at column `c` of row `t`. -/
def win (x : IVec S6416 32) (t : Fin 32) (c : Col) : IVec S16 32 :=
  fun j => x ((Rect.unit (s := S6416) (at_ t c.1) S16.size (inbI t c)).toLoadRect.idx j)

theorem InR.win {x : IVec S6416 32} (h : InR x) (t : Fin 32) (c : Col) : InR (win x t c) := fun _ => h _

/-- A histogram after one block's scatter-add. -/
def addBlk (mask : IVec S16 1) (v : IVec S16 32) (hv : InR v) (h : Vec F S1008 .f32) : Vec F S1008 .f32 :=
  storeIdx h ![v] (sitofp .f32 (scanCount mask v).2) (scanCount mask v).1 true hv.ok

/-- A histogram after one block's scatter of zeros. -/
def zeroBlk (z : FVec F S16 .f32) (v : IVec S16 32) (hv : InR v) (h : Vec F S1008 .f32) : Vec F S1008 .f32 :=
  storeIdx h ![v] z (fun _ => 1#1) false hv.ok

/-- A histogram after the listed blocks' scatter-adds. -/
def addAll (x : IVec S6416 32) (hx : InR x) (t : Fin 32) : List (Col × IVec S16 1) → Vec F S1008 .f32 → Vec F S1008 .f32
  | [], h => h
  | c :: cs, h => addAll x hx t cs (addBlk c.2 (win x t c.1) (hx.win t c.1) h)

/-- A histogram after the listed blocks' scatters of zeros. -/
def zeroAll (z : FVec F S16 .f32) (x : IVec S6416 32) (hx : InR x) (t : Fin 32) : List Col → Vec F S1008 .f32 → Vec F S1008 .f32
  | [], h => h
  | c :: cs, h => zeroAll z x hx t cs (zeroBlk z (win x t c) (hx.win t c) h)

/-- The empty histogram. -/
def noCounts : Vec F S1008 .f32 := fun _ => Scalar.ofBits (F := F) .f32 0x00000000#32

/-- The histogram of row `t` of a chunk. -/
def cnt (x : IVec S6416 32) (hx : InR x) (t : Fin 32) : Vec F S1008 .f32 := addAll x hx t (colsA tailMask) noCounts

/-- A histogram's word at an id. -/
def look (h : Vec F S1008 .f32) (v : BitVec 32) : F .f32 := h fun | 0 => ⟨v.toNat % 1008, Nat.mod_lt _ (show 0 < 1008 by decide)⟩

/-- The count at a real node, zero at padding. -/
def selAt (v : BitVec 32) (g : F .f32) : F .f32 := sel (F := F) (fun _ => v) (fun _ => g) (fun | 0 => ⟨0, show 0 < 16 by decide⟩)

theorem sel_apply (v : IVec S16 32) (g : FVec F S16 .f32) (j : S16.Idx) : sel v g j = selAt (v j) (g j) := rfl

/-- Position `p` of a chunk in its id buffer. -/
def posI (p : S6400.Idx) : S6416.Idx := fun | 0 => ⟨(p 0).val, Nat.lt_trans (p 0).isLt (show 6400 < 6416 by decide)⟩

/-- The row of a position. -/
def rowOf (p : S6400.Idx) : Fin 32 := ⟨(p 0).val / 200, by have : (p 0).val < 6400 := (p 0).isLt; omega⟩

/-- At every position, its id's count in its row's histogram, zero at padding. -/
def outV (x : IVec S6416 32) (H : Fin 32 → Vec F S1008 .f32) : Vec F S6400 .f32 :=
  fun p => selAt (x (posI p)) (look (H (rowOf p)) (x (posI p)))

theorem at_idxI (t : Fin 32) (c : Col) (j : S16.Idx) :
    ((Rect.unit (s := S6416) (at_ t c.1) S16.size (inbI t c)).toLoadRect.idx j 0).val = t.val * 200 + c.1 + (j 0).val := by
  rw [LoadRect.idx_apply]
  show at_ t c.1 0 + 1 * (j 0).val = _
  rw [at_eq t c.1 c.2]; omega

theorem at_idxO (t : Fin 32) (c : ColB) (j : S16.Idx) :
    ((Rect.unit (s := S6400) (at_ t c.1) S16.size (inbO t c)).emb j 0).val = t.val * 200 + c.1 + (j 0).val := by
  show at_ t c.1 0 + 1 * (j 0).val = _
  have := c.2
  rw [at_eq t c.1 (by omega)]; omega

theorem loadIdx_apply (h : Vec F S1008 .f32) (v : IVec S16 32) (hv : InR v) (j : S16.Idx) :
    loadIdx h ![v] hv.ok j = look h (v j) := by
  unfold loadIdx look
  congr 1
  funext a; apply Fin.ext
  obtain rfl : a = 0 := Subsingleton.elim _ _
  exact (Nat.mod_eq_of_lt (hv j)).symm

theorem sel_out (x : IVec S6416 32) (hx : InR x) (H : Fin 32 → Vec F S1008 .f32) (t : Fin 32) (c : ColB) (j : S16.Idx) :
    sel (win x t ⟨c.1, by omega⟩) (loadIdx (H t) ![win x t ⟨c.1, by omega⟩] (hx.win t ⟨c.1, by omega⟩).ok) j
      = outV x H ((Rect.unit (s := S6400) (at_ t c.1) S16.size (inbO t c)).emb j) := by
  have hj : (j 0).val < 16 := (j 0).isLt
  have hc := c.2
  rw [sel_apply, loadIdx_apply _ _ (hx.win t ⟨c.1, by omega⟩)]
  have e₁ : win x t ⟨c.1, by omega⟩ j = x (posI ((Rect.unit (s := S6400) (at_ t c.1) S16.size (inbO t c)).emb j)) := by
    unfold win; congr 1; funext a; apply Fin.ext
    obtain rfl : a = 0 := Subsingleton.elim _ _
    rw [at_idxI]; exact (at_idxO t c j).symm
  have e₂ : rowOf ((Rect.unit (s := S6400) (at_ t c.1) S16.size (inbO t c)).emb j) = t := by
    apply Fin.ext; show (_ : Nat) / 200 = _
    rw [at_idxO]; omega
  unfold outV; rw [e₁, e₂]

/-! ## The blocks -/

section
variable {d : Dev nD} {a : Fin τ.nSC} {b : Fin τ.nSub} {Q : sProp (MM F)}

/-- The memref holds `G`'s words up to position `n`. -/
def upto (d : Dev nD) (a : Fin τ.nSC) (b : Fin τ.nSub) (m : Memref sig .scVector .vmem S6400 .f32) (G : Vec F S6400 .f32) (n : Nat) : sProp (MM F) :=
  iprop(∃ y, ⌜∀ p : S6400.Idx, (p 0).val < n → y p = G p⌝ ∗ has d a b m y)

theorem wp_upto {m : Memref sig .scVector .vmem S6400 .f32} {G : Vec F S6400 .f32} {n : Nat} (t : Fin 32) (c : ColB)
    {w : Vec F S16 .f32} {k : P F a b} (hn : t.val * 200 + c.1 ≤ n)
    (hw : ∀ j, w j = G ((Rect.unit (s := S6400) (at_ t c.1) S16.size (inbO t c)).emb j)) :
    upto d a b m G n ⊢ iprop((upto d a b m G (t.val * 200 + c.1 + 16) -∗ wpT d a b k Q) -∗ wpT d a b
      (Prog.lift (.load m (Rect.unit (s := S6400) (at_ t c.1) S16.size (inbO t c)).toLoadRect (View.loadsAt_vmem h_S16)) >>= fun (_ : Vec F S16 .f32) =>
       .op (.store m (Rect.unit (s := S6400) (at_ t c.1) S16.size (inbO t c)) w Finset.univ (View.stores_vmem_bits_univ h_S16 rfl) (.inl rfl)) fun _ => k) Q) := by
  unfold upto
  iintro ⟨%y, %hy, H⟩ Hk
  iapply (has_load (r := (Rect.unit (s := S6400) (at_ t c.1) S16.size (inbO t c)).toLoadRect) (hl := View.loadsAt_vmem h_S16)
    (k := fun _ => .op (.store m (Rect.unit (s := S6400) (at_ t c.1) S16.size (inbO t c)) w Finset.univ (View.stores_vmem_bits_univ h_S16 rfl) (.inl rfl)) fun _ => k)) $$ H
  iintro H
  classical
  iapply (has_store (r := Rect.unit (s := S6400) (at_ t c.1) S16.size (inbO t c)) (w := w)
    (y := fun p => if p ∈ (Rect.unit (s := S6400) (at_ t c.1) S16.size (inbO t c)).set then G p else y p) (k := fun _ => k)
    (fun j => (if_pos (Rect.map_emb_univ _ ▸ Finset.mem_map_of_mem _ (Finset.mem_univ j))).trans (hw j).symm) (fun p hp => if_neg hp)) $$ H
  iintro H
  iapply Hk
  iexists _; isplitr
  rotate_left
  · iexact H
  ipureintro
  intro p hp
  by_cases hi : p ∈ (Rect.unit (s := S6400) (at_ t c.1) S16.size (inbO t c)).set
  · exact if_pos hi
  · refine (if_neg hi).trans (hy p ?_)
    by_contra hlt
    apply hi
    have hc := c.2
    refine Rect.mem_set_unit.mpr fun a => ?_
    obtain rfl : a = 0 := Subsingleton.elim _ _
    rw [at_eq t c.1 (by omega)]
    show _ ≤ (p 0).val ∧ (p 0).val < _ + 16
    omega

theorem wp_blockA {ids : Memref sig .scVector .vmem S6416 .i32} {H : Memref sig .scVector .vmem S1008 .f32} {t : Fin 32} {c : Col}
    {mask : IVec S16 1} {k : P F a b} {x : IVec S6416 32} (hx : InR x) {h : Vec F S1008 .f32} :
    iprop(has (F := F) d a b ids x ∗ has d a b H h)
      ⊢ iprop((iprop(has (F := F) d a b ids x ∗ has d a b H (addBlk mask (win x t c) (hx.win t c) h)) -∗ wpT d a b k Q)
          -∗ wpT d a b (blockA ids H t c mask k) Q) := by
  unfold blockA
  iintro ⟨Hi, HH⟩ Hk
  iapply (has_load (F := F) (x := x) (r := (Rect.unit (s := S6416) (at_ t c.1) S16.size (inbI t c)).toLoadRect) (hl := View.loadsAt_vmem h_S16)) $$ Hi
  iintro Hi
  iapply (wp_assume (defs := defs₀ (F := F)) 𝒱₀ (V d a b) none Set.univ (hx.win t c).chk)
  iapply has_storeIdx $$ HH
  iintro HH
  iapply Hk
  isplitl [Hi]; · iexact Hi
  iexact HH

theorem wp_blockC {z : FVec F S16 .f32} {ids : Memref sig .scVector .vmem S6416 .i32} {H : Memref sig .scVector .vmem S1008 .f32} {t : Fin 32} {c : Col}
    {k : P F a b} {x : IVec S6416 32} (hx : InR x) {h : Vec F S1008 .f32} :
    iprop(has (F := F) d a b ids x ∗ has d a b H h)
      ⊢ iprop((iprop(has (F := F) d a b ids x ∗ has d a b H (zeroBlk z (win x t c) (hx.win t c) h)) -∗ wpT d a b k Q)
          -∗ wpT d a b (blockC z ids H t c k) Q) := by
  unfold blockC
  iintro ⟨Hi, HH⟩ Hk
  iapply (has_load (F := F) (x := x) (r := (Rect.unit (s := S6416) (at_ t c.1) S16.size (inbI t c)).toLoadRect) (hl := View.loadsAt_vmem h_S16)) $$ Hi
  iintro Hi
  iapply (wp_assume (defs := defs₀ (F := F)) 𝒱₀ (V d a b) none Set.univ (hx.win t c).chk)
  iapply has_storeIdx $$ HH
  iintro HH
  iapply Hk
  isplitl [Hi]; · iexact Hi
  iexact HH

theorem wp_blocksA {ids : Memref sig .scVector .vmem S6416 .i32} {H : Memref sig .scVector .vmem S1008 .f32} {t : Fin 32}
    {k : P F a b} {x : IVec S6416 32} (hx : InR x) (cs : List (Col × IVec S16 1)) : ∀ {h : Vec F S1008 .f32},
    iprop(has (F := F) d a b ids x ∗ has d a b H h)
      ⊢ iprop((iprop(has (F := F) d a b ids x ∗ has d a b H (addAll x hx t cs h)) -∗ wpT d a b k Q)
          -∗ wpT d a b (blocksA ids H t cs k) Q) := by
  induction cs with
  | nil => intro h; iintro HH Hk; iapply Hk; iexact HH
  | cons c cs ih =>
    intro h
    iintro HH Hk
    iapply (wp_blockA hx) $$ HH
    iintro HH
    iapply ih $$ HH
    iexact Hk

theorem wp_blocksC {z : FVec F S16 .f32} {ids : Memref sig .scVector .vmem S6416 .i32} {H : Memref sig .scVector .vmem S1008 .f32} {t : Fin 32}
    {k : P F a b} {x : IVec S6416 32} (hx : InR x) (cs : List Col) : ∀ {h : Vec F S1008 .f32},
    iprop(has (F := F) d a b ids x ∗ has d a b H h)
      ⊢ iprop((iprop(has (F := F) d a b ids x ∗ has d a b H (zeroAll z x hx t cs h)) -∗ wpT d a b k Q)
          -∗ wpT d a b (blocksC z ids H t cs k) Q) := by
  induction cs with
  | nil => intro h; iintro HH Hk; iapply Hk; iexact HH
  | cons c cs ih =>
    intro h
    iintro HH Hk
    iapply (wp_blockC hx) $$ HH
    iintro HH
    iapply ih $$ HH
    iexact Hk

/-- The four arrays of counts, each right up to `n`. -/
def outs (d : Dev nD) (a : Fin τ.nSC) (b : Fin τ.nSub) (o₁ o₂ o₃ o₄ : Memref sig .scVector .vmem S6400 .f32) (x y : IVec S6416 32)
    (A B : Fin 32 → Vec F S1008 .f32) (n : Nat) : sProp (MM F) :=
  iprop(upto d a b o₁ (outV x A) n ∗ upto d a b o₂ (outV x B) n ∗ upto d a b o₃ (outV y A) n ∗ upto d a b o₄ (outV y B) n)

/-- The ids and the two histograms. -/
def ins (d : Dev nD) (a : Fin τ.nSC) (b : Fin τ.nSub) (si di : Memref sig .scVector .vmem S6416 .i32) (hs hd : Memref sig .scVector .vmem S1008 .f32)
    (x y : IVec S6416 32) (h g : Vec F S1008 .f32) : sProp (MM F) :=
  iprop(has (F := F) d a b si x ∗ has (F := F) d a b di y ∗ has d a b hs h ∗ has d a b hd g)

theorem wp_blockB {si di : Memref sig .scVector .vmem S6416 .i32} {hs hd : Memref sig .scVector .vmem S1008 .f32}
    {o₁ o₂ o₃ o₄ : Memref sig .scVector .vmem S6400 .f32} {t : Fin 32} {c : ColB} {k : P F a b} {x y : IVec S6416 32} (hx : InR x) (hy : InR y)
    {A B : Fin 32 → Vec F S1008 .f32} {n : Nat} (hn : t.val * 200 + c.1 ≤ n) :
    iprop(ins d a b si di hs hd x y (A t) (B t) ∗ outs d a b o₁ o₂ o₃ o₄ x y A B n)
      ⊢ iprop((iprop(ins d a b si di hs hd x y (A t) (B t) ∗ outs d a b o₁ o₂ o₃ o₄ x y A B (t.val * 200 + c.1 + 16)) -∗ wpT d a b k Q)
          -∗ wpT d a b (blockB si di hs hd o₁ o₂ o₃ o₄ t c k) Q) := by
  unfold blockB ins outs
  iintro ⟨⟨Hi, Hj, HA, HB⟩, H₁, H₂, H₃, H₄⟩ Hk
  iapply (has_load (F := F) (x := x) (r := (Rect.unit (s := S6416) (at_ t c.1) S16.size (inbI t ⟨c.1, by omega⟩)).toLoadRect) (hl := View.loadsAt_vmem h_S16)) $$ Hi
  iintro Hi
  iapply (wp_assume (defs := defs₀ (F := F)) 𝒱₀ (V d a b) none Set.univ (P := Chk₂ _) ⟨(hx.win t ⟨c.1, by omega⟩).chk, (hx.win t ⟨c.1, by omega⟩).chk⟩)
  iapply (has_load (F := F) (x := y) (r := (Rect.unit (s := S6416) (at_ t c.1) S16.size (inbI t ⟨c.1, by omega⟩)).toLoadRect) (hl := View.loadsAt_vmem h_S16)) $$ Hj
  iintro Hj
  iapply (wp_assume (defs := defs₀ (F := F)) 𝒱₀ (V d a b) none Set.univ (P := Chk₂ _) ⟨(hy.win t ⟨c.1, by omega⟩).chk, (hy.win t ⟨c.1, by omega⟩).chk⟩)
  iapply has_loadIdx $$ HA; iintro HA
  iapply has_loadIdx $$ HB; iintro HB
  iapply has_loadIdx $$ HA; iintro HA
  iapply has_loadIdx $$ HB; iintro HB
  iapply (wp_upto t c hn (sel_out x hx A t c)) $$ H₁; iintro H₁
  iapply (wp_upto t c hn (sel_out x hx B t c)) $$ H₂; iintro H₂
  iapply (wp_upto t c hn (sel_out y hy A t c)) $$ H₃; iintro H₃
  iapply (wp_upto t c hn (sel_out y hy B t c)) $$ H₄; iintro H₄
  iapply Hk
  isplitl [Hi Hj HA HB]
  · isplitl [Hi]; · iexact Hi
    isplitl [Hj]; · iexact Hj
    isplitl [HA] <;> iassumption
  isplitl [H₁]; · iexact H₁
  isplitl [H₂]; · iexact H₂
  isplitl [H₃] <;> iassumption

/-- Columns that leave no gap from `n` on. -/
def NoGap (t : Fin 32) : Nat → List ColB → Prop
  | _, [] => True
  | n, c :: cs => t.val * 200 + c.1 ≤ n ∧ NoGap t (t.val * 200 + c.1 + 16) cs

/-- Where they end. -/
def endOf (t : Fin 32) : Nat → List ColB → Nat
  | n, [] => n
  | _, c :: cs => endOf t (t.val * 200 + c.1 + 16) cs

theorem wp_blocksB {si di : Memref sig .scVector .vmem S6416 .i32} {hs hd : Memref sig .scVector .vmem S1008 .f32}
    {o₁ o₂ o₃ o₄ : Memref sig .scVector .vmem S6400 .f32} {t : Fin 32} {k : P F a b} {x y : IVec S6416 32} (hx : InR x) (hy : InR y)
    {A B : Fin 32 → Vec F S1008 .f32} (cs : List ColB) : ∀ {n : Nat}, NoGap t n cs →
    (iprop(ins d a b si di hs hd x y (A t) (B t) ∗ outs d a b o₁ o₂ o₃ o₄ x y A B n)
      ⊢ iprop((iprop(ins d a b si di hs hd x y (A t) (B t) ∗ outs d a b o₁ o₂ o₃ o₄ x y A B (endOf t n cs)) -∗ wpT d a b k Q)
          -∗ wpT d a b (blocksB si di hs hd o₁ o₂ o₃ o₄ t cs k) Q)) := by
  induction cs with
  | nil => intro n _; iintro HH Hk; iapply Hk; iexact HH
  | cons c cs ih =>
    intro n hn
    iintro HH Hk
    iapply (wp_blockB hx hy hn.1) $$ HH
    iintro HH
    iapply (ih hn.2) $$ HH
    iexact Hk

end

end Cert.Proof

end
-- ==== Proof.RowEmpty.lean ====
/- One whole row: its body takes two empty histograms to two empty histograms and fills in the row's positions of the four
   arrays of counts. The histograms are empty again because the scatters of zeros name every word that the scatter-adds named. -/
module

public import proofs.«01_k».proof.Proof.RowWp

@[expose] public section

set_option maxRecDepth 65536

noncomputable section

namespace Cert.Proof

open Cert.KernelIdeal Cert.KernelIdeal.Gen Cert.Proof.Row
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Words that no lane names keep their contents. -/
theorem storeIdx_of_not_named (h : Vec F S1008 .f32) (v : IVec S16 32) (hv : InR v) (w : Vec F S16 .f32) (mask : IVec S16 1) (add : Bool)
    (i : S1008.Idx) (hi : ∀ j, (v j).toNat ≠ (i 0).val) : storeIdx h ![v] w mask add hv.ok i = h i := by
  unfold storeIdx
  generalize List.finRange _ = l
  induction l generalizing h with
  | nil => rfl
  | cons k l ih =>
    rw [List.foldl_cons, ih]
    dsimp only
    split
    · exact if_neg fun e => hi _ (e 0).symm
    · rfl

/-- A word that some lane names, or that held the value already, holds it after that value is scattered. -/
theorem storeIdx_const (h : Vec F S1008 .f32) (v : IVec S16 32) (hv : InR v) (z : F .f32) (i : S1008.Idx)
    (hi : (∃ j, (v j).toNat = (i 0).val) ∨ h i = z) :
    storeIdx (F := F) (e := .f32) h ![v] (fun _ => z) (fun _ => 1#1) false hv.ok i = z := by
  have hi' : (∃ k ∈ List.finRange (![16] 0), (v (Shape.ofLane (d := ![16]) k)).toNat = (i 0).val) ∨ h i = z := by
    rcases hi with ⟨j, hj⟩ | hz
    · refine .inl ⟨j 0, List.mem_finRange _, ?_⟩
      rw [← hj]; congr 2
      funext a; obtain rfl : a = 0 := Subsingleton.elim _ _; rfl
    · exact .inr hz
  unfold storeIdx
  revert hi'; clear hi
  generalize List.finRange _ = l
  induction l generalizing h with
  | nil =>
    rintro (⟨k, hk, -⟩ | hz)
    · exact absurd hk List.not_mem_nil
    · exact hz
  | cons k l ih =>
    intro hk
    rw [List.foldl_cons]
    apply ih
    dsimp only
    rw [if_pos (show (1#1 : BitVec 1) = 1 from rfl)]
    by_cases e : ∀ a, (i a).val = (idxAt (s := S1008) ![v] hv.ok (Shape.ofLane (d := ![16]) k) a).val
    · exact .inr (if_pos e)
    · rcases hk with ⟨k', hk', e'⟩ | hz
      · rcases List.mem_cons.mp hk' with rfl | hm
        · exact absurd (fun a => by obtain rfl : a = 0 := Subsingleton.elim _ _; exact e'.symm) e
        · exact .inl ⟨k', hm, e'⟩
      · exact .inr ((if_neg e).trans hz)

/-- Words that no listed block names keep their contents. -/
theorem addAll_of_not_named (x : IVec S6416 32) (hx : InR x) (t : Fin 32) (i : S1008.Idx) : ∀ (cs : List (Col × IVec S16 1)) (h : Vec F S1008 .f32),
    (∀ c ∈ cs, ∀ j, (win x t c.1 j).toNat ≠ (i 0).val) → addAll x hx t cs h i = h i
  | [], _, _ => rfl
  | c :: cs, h, hn => (addAll_of_not_named x hx t i cs _ fun c' hc' => hn c' (List.mem_cons_of_mem _ hc')).trans
      (storeIdx_of_not_named h _ (hx.win t c.1) _ _ _ i (hn c List.mem_cons_self))

theorem zeroAll_of (z : F .f32) (x : IVec S6416 32) (hx : InR x) (t : Fin 32) (i : S1008.Idx) : ∀ (cs : List Col) (h : Vec F S1008 .f32),
    ((∃ c ∈ cs, ∃ j, (win x t c j).toNat = (i 0).val) ∨ h i = z) → zeroAll (fun _ => z) x hx t cs h i = z
  | [], h, hn => by
    rcases hn with ⟨c, hc, -⟩ | hz
    · exact absurd hc List.not_mem_nil
    · exact hz
  | c :: cs, h, hn => by
    refine zeroAll_of z x hx t i cs _ ?_
    rcases hn with ⟨c', hc', j, hj⟩ | hz
    · rcases List.mem_cons.mp hc' with rfl | hm
      · exact .inr (storeIdx_const h _ (hx.win t c') z i (.inl ⟨j, hj⟩))
      · exact .inl ⟨c', hm, j, hj⟩
    · exact .inr (storeIdx_const h _ (hx.win t c) z i (.inr hz))

/-- The scatters of zeros empty a row's histogram. -/
theorem zeroAll_cnt (x : IVec S6416 32) (hx : InR x) (t : Fin 32) : zeroAll (F := F) zero16 x hx t cols (cnt x hx t) = noCounts := by
  classical
  funext i
  refine zeroAll_of (F := F) (Scalar.ofBits .f32 0x00000000#32) x hx t i cols _ ?_
  by_cases h : ∃ c ∈ cols, ∃ j, (win x t c j).toNat = (i 0).val
  · exact .inl h
  · refine .inr ?_
    unfold cnt
    rw [addAll_of_not_named]
    · rfl
    · intro c hc j e
      refine h ⟨c.1, ?_, j, e⟩
      have : cols = (colsA tailMask).map Prod.fst := rfl
      rw [this]
      exact List.mem_map_of_mem hc

section
variable {d : Dev nD} {a : Fin τ.nSC} {b : Fin τ.nSub} {Q : sProp (MM F)}

theorem noGap (t : Fin 32) : NoGap t (t.val * 200) colsB := by
  simp only [NoGap, colsB, and_true]
  omega

theorem endOf_colsB (t : Fin 32) (n : Nat) : endOf t n colsB = (t.val + 1) * 200 := by
  simp only [endOf, colsB]
  omega

/-- What holds between two rows: the ids, two empty histograms, and the four arrays of counts right up to row `n`. -/
def between (d : Dev nD) (a : Fin τ.nSC) (b : Fin τ.nSub) (si di : Memref sig .scVector .vmem S6416 .i32) (hs hd : Memref sig .scVector .vmem S1008 .f32)
    (o₁ o₂ o₃ o₄ : Memref sig .scVector .vmem S6400 .f32) (x y : IVec S6416 32) (hx : InR x) (hy : InR y) (n : Nat) : sProp (MM F) :=
  iprop(ins d a b si di hs hd x y noCounts noCounts ∗ outs d a b o₁ o₂ o₃ o₄ x y (cnt x hx) (cnt y hy) (n * 200))

theorem wp_rowBody {si di : Memref sig .scVector .vmem S6416 .i32} {hs hd : Memref sig .scVector .vmem S1008 .f32}
    {o₁ o₂ o₃ o₄ : Memref sig .scVector .vmem S6400 .f32} (t : Fin 32) {x y : IVec S6416 32} (hx : InR x) (hy : InR y) :
    between d a b si di hs hd o₁ o₂ o₃ o₄ x y hx hy t.val
      ⊢ wpT d a b (rowBody (F := F) si di hs hd o₁ o₂ o₃ o₄ zero16 tailMask t) (between d a b si di hs hd o₁ o₂ o₃ o₄ x y hx hy (t.val + 1)) := by
  unfold rowBody between ins
  iintro ⟨⟨Hi, Hj, HA, HB⟩, HO⟩
  iapply (wp_blocksA hx (colsA tailMask)) $$ [Hi HA]
  · isplitl [Hi]; · iexact Hi
    iexact HA
  iintro ⟨Hi, HA⟩
  iapply (wp_blocksA hy (colsA tailMask)) $$ [Hj HB]
  · isplitl [Hj]; · iexact Hj
    iexact HB
  iintro ⟨Hj, HB⟩
  iapply (wp_blocksB hx hy (A := cnt x hx) (B := cnt y hy) colsB (noGap t)) $$ [Hi Hj HA HB HO]
  · isplitr [HO]
    · unfold ins
      isplitl [Hi]; · iexact Hi
      isplitl [Hj]; · iexact Hj
      isplitl [HA]; · iexact HA
      iexact HB
    · iexact HO
  unfold ins
  iintro ⟨⟨Hi, Hj, HA, HB⟩, HO⟩
  iapply (wp_blocksC hx cols) $$ [Hi HA]
  · isplitl [Hi]; · iexact Hi
    iexact HA
  iintro ⟨Hi, HA⟩
  iapply (wp_blocksC hy cols) $$ [Hj HB]
  · isplitl [Hj]; · iexact Hj
    iexact HB
  iintro ⟨Hj, HB⟩
  rw [zeroAll_cnt, zeroAll_cnt, endOf_colsB]
  unfold wpT
  rw [wp_ret]
  imodintro
  isplitr [HO]
  · isplitl [Hi]; · iexact Hi
    isplitl [Hj]; · iexact Hj
    isplitl [HA]; · iexact HA
    iexact HB
  · iexact HO

/-- A chunk's 32 rows. -/
theorem wp_rows {si di : Memref sig .scVector .vmem S6416 .i32} {hs hd : Memref sig .scVector .vmem S1008 .f32}
    {o₁ o₂ o₃ o₄ : Memref sig .scVector .vmem S6400 .f32} {x y : IVec S6416 32} (hx : InR x) (hy : InR y) {k : Unit → P F a b} :
    between d a b si di hs hd o₁ o₂ o₃ o₄ x y hx hy 0
      ⊢ iprop((between d a b si di hs hd o₁ o₂ o₃ o₄ x y hx hy 32 -∗ wpT d a b (k ⟨⟩) Q)
          -∗ wpT d a b (rows si di hs hd o₁ o₂ o₃ o₄ >>= k) Q) := by
  unfold rows
  iintro H Hk
  iapply (Scf.wp_for_bind frame (wpE (defs₀ (F := F)) 𝒱₀ (V d a b) none) Set.univ k0_t1_loop.lb k0_t1_loop.ub k0_t1_loop.st k0_t1_ok ⟨⟩
    (fun t _ => rowBody si di hs hd o₁ o₂ o₃ o₄ zero16 tailMask t)
    (fun n _ => between d a b si di hs hd o₁ o₂ o₃ o₄ x y hx hy n)
    (fun t _ => wp_rowBody t hx hy)) $$ H
  rw [show Scf.trips k0_t1_loop.lb k0_t1_loop.ub k0_t1_loop.st = 32 by decide]
  iintro %_ H
  iapply Hk
  iexact H

/-- The histograms emptied at the start. -/
theorem wp_zeros {hs hd : Memref sig .scVector .vmem S1008 .f32} {k : P F a b} : ∀ (m : Nat) (hm : m ≤ 63) {h g : Vec F S1008 .f32},
    (∀ i : S1008.Idx, (i 0).val < 16 * (63 - m) → h i = noCounts i) → (∀ i : S1008.Idx, (i 0).val < 16 * (63 - m) → g i = noCounts i) →
    (iprop(has d a b hs h ∗ has d a b hd g)
      ⊢ iprop((iprop(has (F := F) d a b hs noCounts ∗ has (F := F) d a b hd noCounts) -∗ wpT d a b k Q)
          -∗ wpT d a b (zeros hs hd zero16 k m hm) Q)) := by
  intro m
  induction m with
  | zero =>
    intro hm h g hh hg
    have e : ∀ {h : Vec F S1008 .f32}, (∀ i : S1008.Idx, (i 0).val < 16 * (63 - 0) → h i = noCounts i) → h = noCounts :=
      fun hh => funext fun i => hh i (show (i 0).val < 1008 from (i 0).isLt)
    rw [e hh, e hg]
    iintro H Hk
    iapply Hk; iexact H
  | succ m ih =>
    intro hm h g hh hg
    classical
    unfold zeros
    have step : ∀ {h : Vec F S1008 .f32}, (∀ i : S1008.Idx, (i 0).val < 16 * (63 - (m + 1)) → h i = noCounts i) → ∀ i : S1008.Idx, (i 0).val < 16 * (63 - m) →
        (if i ∈ (Rect.unit (s := S1008) ![16 * (62 - m)] S16.size (inbZ (62 - m) (by omega))).set then noCounts (F := F) i else h i) = noCounts i := by
      intro h hh i hi
      by_cases hm' : i ∈ (Rect.unit (s := S1008) ![16 * (62 - m)] S16.size (inbZ (62 - m) (by omega))).set
      · exact if_pos hm'
      · refine (if_neg hm').trans (hh i ?_)
        by_contra hlt
        apply hm'
        refine Rect.mem_set_unit.mpr fun a => ?_
        obtain rfl : a = 0 := Subsingleton.elim _ _
        show 16 * (62 - m) ≤ (i 0).val ∧ (i 0).val < 16 * (62 - m) + 16
        omega
    iintro ⟨H, G⟩ Hk
    iapply (has_load (F := F) (r := (Rect.unit (s := S1008) ![16 * (62 - m)] S16.size (inbZ (62 - m) (by omega))).toLoadRect) (hl := View.loadsAt_vmem h_S16)) $$ H
    iintro H
    iapply (has_store (r := Rect.unit (s := S1008) ![16 * (62 - m)] S16.size (inbZ (62 - m) (by omega))) (w := zero16)
      (y := fun i => if i ∈ (Rect.unit (s := S1008) ![16 * (62 - m)] S16.size (inbZ (62 - m) (by omega))).set then noCounts (F := F) i else h i)
      (fun j => if_pos (Rect.map_emb_univ _ ▸ Finset.mem_map_of_mem _ (Finset.mem_univ j))) (fun p hp => if_neg hp)) $$ H
    iintro H
    iapply (has_load (F := F) (r := (Rect.unit (s := S1008) ![16 * (62 - m)] S16.size (inbZ (62 - m) (by omega))).toLoadRect) (hl := View.loadsAt_vmem h_S16)) $$ G
    iintro G
    iapply (has_store (r := Rect.unit (s := S1008) ![16 * (62 - m)] S16.size (inbZ (62 - m) (by omega))) (w := zero16)
      (y := fun i => if i ∈ (Rect.unit (s := S1008) ![16 * (62 - m)] S16.size (inbZ (62 - m) (by omega))).set then noCounts (F := F) i else g i)
      (fun j => if_pos (Rect.map_emb_univ _ ▸ Finset.mem_map_of_mem _ (Finset.mem_univ j))) (fun p hp => if_neg hp)) $$ G
    iintro G
    iapply (ih (Nat.le_of_succ_le hm) (step hh) (step hg)) $$ [H G]
    · isplitl [H]; · iexact H
      iexact G
    iexact Hk

/-- An id buffer whose sixteen last words are zero. -/
def Padded (x : IVec S6416 32) : Prop := ∀ i : S6416.Idx, 6400 ≤ (i 0).val → x i = 0#32

theorem wp_padZero {ids : Memref sig .scVector .vmem S6416 .i32} {k : P F a b} {x : IVec S6416 32} :
    has (F := F) d a b ids x
      ⊢ iprop((iprop(∃ y : IVec S6416 32, ⌜Padded y⌝ ∗ has (F := F) d a b ids y) -∗ wpT d a b k Q)
          -∗ wpT d a b (padZero ids k) Q) := by
  classical
  have hset : ∀ i : S6416.Idx, i ∈ (Rect.unit (s := S6416) ![6400] S16.size inb_S6416_S16_6400).set ↔ 6400 ≤ (i 0).val := fun i => by
    rw [Rect.mem_set_unit]
    have : (i 0).val < 6416 := (i 0).isLt
    constructor
    · intro h
      have := (h 0).1
      exact this
    · intro h a
      obtain rfl : a = 0 := Subsingleton.elim _ _
      show 6400 ≤ (i 0).val ∧ (i 0).val < 6400 + 16
      omega
  obtain ⟨y, hy⟩ : ∃ y : IVec S6416 32, y = fun i => if 6400 ≤ (i 0).val then 0#32 else x i := ⟨_, rfl⟩
  have hw : ∀ j, y ((Rect.unit (s := S6416) ![6400] S16.size inb_S6416_S16_6400).emb j) = (broadcast S16 0#32 : IVec S16 32) j := fun j => by
    rw [hy]
    exact if_pos ((hset _).mp (Rect.map_emb_univ _ ▸ Finset.mem_map_of_mem _ (Finset.mem_univ j)))
  have hn : ∀ i, i ∉ (Rect.unit (s := S6416) ![6400] S16.size inb_S6416_S16_6400).set → y i = x i := fun i hi => by
    rw [hy]
    exact if_neg fun h => hi ((hset i).mpr h)
  have hp : Padded y := fun i hi => by rw [hy]; exact if_pos hi
  clear hset hy
  unfold padZero
  iintro H Hk
  iapply (has_load (F := F) (x := x) (r := (Rect.unit (s := S6416) ![6400] S16.size inb_S6416_S16_6400).toLoadRect) (hl := View.loadsAt_vmem h_S16)) $$ H
  iintro H
  iapply (@has_store F _ d a b S6416 .i32 Q ids x y (Rect.unit (s := S6416) ![6400] S16.size inb_S6416_S16_6400) (broadcast S16 0#32 : IVec S16 32) (View.stores_vmem_bits_univ h_S16 rfl)
    (.inl rfl) (fun _ => k) hw hn) $$ H
  iintro H
  iapply Hk
  iexists y; isplitr
  · ipureintro; exact hp
  · iexact H

end

end Cert.Proof

end
-- ==== Proof.Tile.lean ====
/- A tile's whole program: the copies in and out with their waits, one chunk, and the four chunks in turn. -/
module

public import proofs.«01_k».proof.Proof.RowEmpty
public import Idealize.ShloMosaic.Lib.Transfers

@[expose] public section

set_option maxRecDepth 65536

noncomputable section

namespace Cert.Proof

open Cert.KernelIdeal Cert.KernelIdeal.Gen Cert.Proof.Row
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A chunk's ids in an id buffer, zeros after them. -/
def pad (X : IVec S6400 32) : IVec S6416 32 := fun i => if h : (i 0).val < 6400 then X (fun | 0 => ⟨(i 0).val, h⟩) else 0#32

theorem InR.pad {X : IVec S6400 32} (h : InR X) : InR (pad X) := fun i => by
  unfold Cert.Proof.pad
  split
  · exact h _
  · show (0 : Nat) < 1008; decide

/-- The padded ids at a place of the chunk. -/
theorem pad_head (X : IVec S6400 32) (j : S6400.Idx) : pad X ((Rect.unit (s := S6416) ![0] S6400.size inb_S6416_S6400_0).emb j) = X j := by
  have e : (((Rect.unit (s := S6416) ![0] S6400.size inb_S6416_S6400_0).emb j) 0).val = (j 0).val := by
    show 0 + 1 * (j 0).val = _; omega
  have hj : (j 0).val < 6400 := (j 0).isLt
  unfold pad
  rw [dif_pos (by omega)]
  congr 1
  funext c
  obtain rfl : c = 0 := Subsingleton.elim _ _
  exact Fin.ext e

section
variable (d : Dev nD) (a : Fin τ.nSC) (b : Fin τ.nSub)

/-- What the tile owes, with the evidence that its waits are admissible; waits recorded at no index beyond `W`. -/
def due (O : CellTallies nD τ sig (HIx 1)) (W : Waits sig (HIx 1)) : sProp (MM F) :=
  iprop(Transfers.MayWaits (V d a b) (none : HIx 1) O ∗ ∃ W', ⌜∀ p ∈ W', p ∈ W ∨ p.2 = none⌝ ∗ owes (V d a b) O W')

/-- The counter of a copy's semaphore is at zero. -/
abbrev free (s : DmaSems sig S_) : sProp (MM F) := semVal (V d a b, SemLoc.dma s.sem) 0

variable {d a b} {O : CellTallies nD τ sig (HIx 1)} {W : Waits sig (HIx 1)} {Q : sProp (MM F)}

/-- Waits recorded so far, one more added at no index. -/
theorem mem_insert_none {W' : Waits sig (HIx 1)} {s : SemLoc sig} (h : ∀ p ∈ W', p ∈ W ∨ p.2 = none) : ∀ p ∈ insert (s, (none : HIx 1)) W', p ∈ W ∨ p.2 = none := by
  intro p hp
  rcases Finset.mem_insert.mp hp with rfl | hp
  · exact .inr rfl
  · exact h p hp

/-- A copy and the wait for it: the destination's buffer is rewritten with what the source reads. -/
theorem wp_copyRaw {sp sp' : Space} {s : Shape} {e : EltTy} {src : Memref sig .scVector sp s e} {dst : Memref sig .scVector sp' s e} {sm : DmaSems sig S_}
    {hsrc : src.view.WordExact} {hdst : dst.view.WordExact} {hsem : DmaTarget.Typed (nD := nD) (τ := τ) (p := .scVector a b) sp (.dma sm.sem) (.here dst)}
    {hsrc' : src.view.WordExact} {hdst' : dst.view.WordExact} (hs : 0 < s.numel)
    {x : Vec F s e} {Sd : Finset (Idx (dst.view.loc (V d a b)))} {g : Buf (Elt F) (dst.view.loc (V d a b))} (hSd : dst.view.set ⊆ Sd) {k : P F a b} :
    iprop(has d a b src x ∗ (dst.view.loc (V d a b) ↦[Sd]{fullShare} g) ∗ free d a b sm ∗ due d a b O W)
      ⊢ iprop((iprop(has d a b src x ∗ (dst.view.loc (V d a b) ↦[Sd]{fullShare} (dst.view.write (Elt F) g x Finset.univ)) ∗ free d a b sm ∗ due d a b O W) -∗ wpT d a b k Q)
          -∗ wpT d a b (.op (.enqueueDma src (.here dst) (.dma sm.sem) hsrc hdst hsem) fun _ => .op (.waitDma2 sm.sem src dst hsrc' hdst') fun _ => k) Q) := by
  unfold has due
  iintro ⟨⟨%f, %hf, Hs⟩, Hd, Hv, #Hmw, %W', %hW', HO⟩ Hk
  iapply (Transfers.wp_dmaLocal (defs := defs₀ (F := F)) countersEmb 𝒱₀ (V d a b) none (via := .same) none dst.view.dmaCredit rfl (View.dmaCredit_pos _ hs)
    hSd) $$ [Hs Hd Hv]
  · isplitl [Hs]; · iexact Hs
    isplitl [Hd]; · iexact Hd
    iexact Hv
  iintro HF
  iapply (Transfers.wp_waitLocalO (defs := defs₀ (F := F)) countersEmb 𝒱₀ (V d a b) none (none : HIx 1) rfl) $$ [HF HO]
  · isplitl [HF]; · iexact HF
    isplitl [HO]; · iexact HO
    iapply (Transfers.MayWaits.elim _); iexact Hmw
  subst hf
  iintro ⟨⟨Hd, Hs⟩, Hv, HO⟩
  iapply Hk
  isplitl [Hs]
  · iexists f; isplitr; · ipureintro; rfl
    iexact Hs
  isplitl [Hd]; · iexact Hd
  isplitl [Hv]; · iexact Hv
  isplitr; · iexact Hmw
  iexists _; isplitr
  rotate_left
  · iexact HO
  ipureintro; exact mem_insert_none hW'

/-- A copy of a whole memref over another, and the wait for it. -/
theorem wp_copy {sp sp' : Space} {s : Shape} {e : EltTy} {src : Memref sig .scVector sp s e} {dst : Memref sig .scVector sp' s e} {sm : DmaSems sig S_}
    {hsrc : src.view.WordExact} {hdst : dst.view.WordExact} {hsem : DmaTarget.Typed (nD := nD) (τ := τ) (p := .scVector a b) sp (.dma sm.sem) (.here dst)}
    {hsrc' : src.view.WordExact} {hdst' : dst.view.WordExact} (hs : 0 < s.numel)
    {x y : Vec F s e} {k : P F a b} :
    iprop(has d a b src x ∗ has d a b dst y ∗ free d a b sm ∗ due d a b O W)
      ⊢ iprop((iprop(has d a b src x ∗ has d a b dst x ∗ free d a b sm ∗ due d a b O W) -∗ wpT d a b k Q)
          -∗ wpT d a b (.op (.enqueueDma src (.here dst) (.dma sm.sem) hsrc hdst hsem) fun _ => .op (.waitDma2 sm.sem src dst hsrc' hdst') fun _ => k) Q) := by
  iintro ⟨Hs, Hd, Hv, HD⟩ Hk
  ihave Hd' := (show has d a b dst y ⊢ iprop(∃ g, ⌜dst.view.read (Elt F) g = y⌝ ∗ (dst.view.loc (V d a b) ↦[dst.view.set]{fullShare} g)) from .rfl) $$ Hd
  icases Hd' with ⟨%g, -, Hd⟩
  iapply (wp_copyRaw (O := O) (W := W) (x := x) hs (Finset.Subset.refl _)) $$ [Hs Hd Hv HD]
  · isplitl [Hs]; · iexact Hs
    isplitl [Hd]; · iexact Hd
    isplitl [Hv]; · iexact Hv
    iexact HD
  iintro ⟨Hs, Hd, Hv, HD⟩
  iapply Hk
  isplitl [Hs]; · iexact Hs
  isplitl [Hd]
  · unfold has
    iexists _; isplitr
    rotate_left
    · iexact Hd
    ipureintro; exact View.read_write_univ _ _
  isplitl [Hv]; · iexact Hv
  iexact HD

/-- A chunk's ids copied into an id buffer whose pad words are zero. -/
theorem wp_copyIn {i : grid0.Coords} {src : Memref sig .scVector .hbm S819200 .i32} {dst : Memref sig .scVector .vmem S6416 .i32} {sm : DmaSems sig S_} {c : Fin 4}
    {X : IVec S6400 32} {y : IVec S6416 32} (hy : Padded y) {k : P F a b} :
    iprop(has (F := F) d a b (chunkOf i src c) X ∗ has (F := F) d a b dst y ∗ free d a b sm ∗ due d a b O W)
      ⊢ iprop((iprop(has (F := F) d a b (chunkOf i src c) X ∗ has (F := F) d a b dst (pad X) ∗ free d a b sm ∗ due d a b O W) -∗ wpT d a b k Q)
          -∗ wpT d a b (startIn i src dst sm c >>= fun _ => waitIn i src dst sm c >>= fun _ => k) Q) := by
  iintro ⟨Hs, Hd, Hv, HD⟩ Hk
  ihave Hd' := (show has (F := F) d a b dst y ⊢ iprop(∃ g, ⌜dst.view.read (Elt F) g = y⌝ ∗ ((headOf dst).view.loc (V d a b) ↦[dst.view.set]{fullShare} g)) from .rfl) $$ Hd
  icases Hd' with ⟨%g, %hg, Hd⟩
  iapply (wp_copyRaw (O := O) (W := W) (src := chunkOf i src c) (dst := headOf dst) (x := X) (by decide) (View.set_slice_subset _ _)) $$ [Hs Hd Hv HD]
  · isplitl [Hs]; · iexact Hs
    isplitl [Hd]; · iexact Hd
    isplitl [Hv]; · iexact Hv
    iexact HD
  iintro ⟨Hs, Hd, Hv, HD⟩
  iapply Hk
  isplitl [Hs]; · iexact Hs
  isplitl [Hd]
  · unfold has
    iexists _; isplitr
    rotate_left
    · iexact Hd
    ipureintro
    funext p
    by_cases hp : p ∈ (Rect.unit (s := S6416) ![0] S6400.size inb_S6416_S6400_0).set
    · obtain ⟨j, rfl⟩ := LoadRect.exists_idx_of_mem (Rect.toLoadRect _) hp
      refine (View.read_slice_write_emb _ _ _ (Finset.mem_univ j)).trans ?_
      exact (pad_head X j).symm
    · refine (View.read_slice_write_of_not_mem _ _ _ _ (by rwa [Rect.map_emb_univ])).trans ?_
      have hp' : 6400 ≤ (p 0).val := by
        by_contra hc
        refine hp (Rect.mem_set_unit.mpr fun c => ?_)
        obtain rfl : c = 0 := Subsingleton.elim _ _
        exact ⟨Nat.zero_le _, (by show (p 0).val < 0 + 6400; omega)⟩
      rw [hg, hy p hp']
      unfold pad
      rw [dif_neg (by omega)]
  isplitl [Hv]; · iexact Hv
  iexact HD

/-- A memref with some contents. -/
def any {sp : Space} {s : Shape} {e : EltTy} (d : Dev nD) (a : Fin τ.nSC) (b : Fin τ.nSub) (m : Memref sig .scVector sp s e) : sProp (MM F) :=
  iprop(∃ y : Vec F s e, has d a b m y)

/-- A buffer's counts copied to their chunk. -/
theorem wp_copyOut {i : grid0.Coords} {src : Memref sig .scVector .vmem S6400 .f32} {h : src.IsWhole} {dst : Memref sig .scVector .hbm S819200 .f32} {sm : DmaSems sig S_} {c : Fin 4}
    {x : Vec F S6400 .f32} {k : P F a b} :
    iprop(has d a b src x ∗ any d a b (chunkOf i dst c) ∗ free d a b sm ∗ due d a b O W)
      ⊢ iprop((iprop(any d a b src ∗ has d a b (chunkOf i dst c) x ∗ free d a b sm ∗ due d a b O W) -∗ wpT d a b k Q)
          -∗ wpT d a b (startOut i src h dst sm c >>= fun _ => waitOut i src h dst sm c >>= fun _ => k) Q) := by
  unfold any
  iintro ⟨Hs, ⟨%y, Hd⟩, Hv, HD⟩ Hk
  iapply (wp_copy (O := O) (W := W) (src := src) (dst := chunkOf i dst c) (x := x) (y := y) (by decide)) $$ [Hs Hd Hv HD]
  · isplitl [Hs]; · iexact Hs
    isplitl [Hd]; · iexact Hd
    isplitl [Hv]; · iexact Hv
    iexact HD
  iintro ⟨Hs, Hd, Hv, HD⟩
  iapply Hk
  isplitl [Hs]; · iexists x; iexact Hs
  isplitl [Hd]; · iexact Hd
  isplitl [Hv]; · iexact Hv
  iexact HD

theorem padded_pad (X : IVec S6400 32) : Padded (pad X) := fun i h => by
  unfold pad; rw [dif_neg (by omega)]

theorem upto_zero {m : Memref sig .scVector .vmem S6400 .f32} {G : Vec F S6400 .f32} : any d a b m ⊢ upto d a b m G (0 * 200) := by
  unfold any upto
  iintro ⟨%y, H⟩
  iexists y; isplitr; · ipureintro; exact fun p hp => absurd hp (by omega)
  iexact H

theorem upto_full {m : Memref sig .scVector .vmem S6400 .f32} {G : Vec F S6400 .f32} : upto d a b m G (32 * 200) ⊢ has d a b m G := by
  unfold upto
  iintro ⟨%y, %hy, H⟩
  obtain rfl : y = G := funext fun p => hy p (by have : (p 0).val < 6400 := (p 0).isLt; omega)
  iexact H

/-- The tile's own buffers between two chunks. -/
def bufs (d : Dev nD) (a : Fin τ.nSC) (b : Fin τ.nSub) (sb db : Memref sig .scVector .vmem S6416 .i32) (hs hd : Memref sig .scVector .vmem S1008 .f32)
    (b₁ b₂ b₃ b₄ : Memref sig .scVector .vmem S6400 .f32) : sProp (MM F) :=
  iprop((∃ y : IVec S6416 32, ⌜Padded y⌝ ∗ has (F := F) d a b sb y) ∗ (∃ y : IVec S6416 32, ⌜Padded y⌝ ∗ has (F := F) d a b db y)
    ∗ has (F := F) d a b hs noCounts ∗ has (F := F) d a b hd noCounts ∗ any d a b b₁ ∗ any d a b b₂ ∗ any d a b b₃ ∗ any d a b b₄)

/-- A chunk's semaphores. -/
def frees (d : Dev nD) (a : Fin τ.nSC) (b : Fin τ.nSub) (s : Fin 6 → DmaSems sig S_) : sProp (MM F) :=
  iprop(free d a b (s 0) ∗ free d a b (s 1) ∗ free d a b (s 2) ∗ free d a b (s 3) ∗ free d a b (s 4) ∗ free d a b (s 5))

/-- A chunk of the arrays before its rows. -/
def todo (d : Dev nD) (a : Fin τ.nSC) (b : Fin τ.nSub) (i : grid0.Coords) (si di : Memref sig .scVector .hbm S819200 .i32)
    (o₁ o₂ o₃ o₄ : Memref sig .scVector .hbm S819200 .f32) (X Y : IVec S6400 32) (c : Fin 4) : sProp (MM F) :=
  iprop(has (F := F) d a b (chunkOf i si c) X ∗ has (F := F) d a b (chunkOf i di c) Y
    ∗ any d a b (chunkOf i o₁ c) ∗ any d a b (chunkOf i o₂ c) ∗ any d a b (chunkOf i o₃ c) ∗ any d a b (chunkOf i o₄ c))

/-- The counts of a chunk: the histograms are of the ids `Y`, taken at the ids `X`. -/
def counts (X Y : IVec S6400 32) (hY : InR Y) : Vec F S6400 .f32 := outV (pad X) (cnt (pad Y) hY.pad)

/-- A chunk of the arrays after them. -/
def made (d : Dev nD) (a : Fin τ.nSC) (b : Fin τ.nSub) (i : grid0.Coords) (si di : Memref sig .scVector .hbm S819200 .i32)
    (o₁ o₂ o₃ o₄ : Memref sig .scVector .hbm S819200 .f32) (X Y : IVec S6400 32) (hX : InR X) (hY : InR Y) (c : Fin 4) : sProp (MM F) :=
  iprop(has (F := F) d a b (chunkOf i si c) X ∗ has (F := F) d a b (chunkOf i di c) Y
    ∗ has d a b (chunkOf i o₁ c) (counts X X hX) ∗ has d a b (chunkOf i o₂ c) (counts X Y hY)
    ∗ has d a b (chunkOf i o₃ c) (counts Y X hX) ∗ has d a b (chunkOf i o₄ c) (counts Y Y hY))

/-- One chunk: its four arrays of counts are made, the tile's buffers as before. -/
theorem wp_chunk {i : grid0.Coords} {si di : Memref sig .scVector .hbm S819200 .i32} {o₁ o₂ o₃ o₄ : Memref sig .scVector .hbm S819200 .f32}
    {sb db : Memref sig .scVector .vmem S6416 .i32} {hs hd : Memref sig .scVector .vmem S1008 .f32}
    {b₁ b₂ b₃ b₄ : Memref sig .scVector .vmem S6400 .f32} {h₁ : b₁.IsWhole} {h₂ : b₂.IsWhole} {h₃ : b₃.IsWhole} {h₄ : b₄.IsWhole}
    {s : Fin 6 → DmaSems sig S_} {c : Fin 4} {X Y : IVec S6400 32} (hX : InR X) (hY : InR Y) {k : P F a b} :
    iprop(bufs d a b sb db hs hd b₁ b₂ b₃ b₄ ∗ frees d a b s ∗ todo d a b i si di o₁ o₂ o₃ o₄ X Y c ∗ due d a b O W)
      ⊢ iprop((iprop(bufs d a b sb db hs hd b₁ b₂ b₃ b₄ ∗ frees d a b s ∗ made d a b i si di o₁ o₂ o₃ o₄ X Y hX hY c ∗ due d a b O W) -∗ wpT d a b k Q)
          -∗ wpT d a b (chunk i si di o₁ o₂ o₃ o₄ sb db hs hd b₁ b₂ b₃ b₄ h₁ h₂ h₃ h₄ s c >>= fun _ => k) Q) := by
  unfold bufs frees todo made chunk
  simp only [bind_assoc]
  iintro ⟨⟨⟨%y, %hy, Hsb⟩, ⟨%z, %hz, Hdb⟩, Hhs, Hhd, H₁, H₂, H₃, H₄⟩, ⟨F₀, F₁, F₂, F₃, F₄, F₅⟩, ⟨Hsi, Hdi, HO₁, HO₂, HO₃, HO₄⟩, HD⟩ Hk
  iapply (wp_copyIn (O := O) (W := W) (X := X) hy) $$ [Hsi Hsb F₀ HD]
  · isplitl [Hsi]; · iexact Hsi
    isplitl [Hsb]; · iexact Hsb
    isplitl [F₀]; · iexact F₀
    iexact HD
  iintro ⟨Hsi, Hsb, F₀, HD⟩
  iapply (wp_copyIn (O := O) (W := W) (X := Y) hz) $$ [Hdi Hdb F₁ HD]
  · isplitl [Hdi]; · iexact Hdi
    isplitl [Hdb]; · iexact Hdb
    isplitl [F₁]; · iexact F₁
    iexact HD
  iintro ⟨Hdi, Hdb, F₁, HD⟩
  iapply (wp_rows hX.pad hY.pad) $$ [Hsb Hdb Hhs Hhd H₁ H₂ H₃ H₄]
  · unfold between ins outs
    isplitl [Hsb Hdb Hhs Hhd]
    · isplitl [Hsb]; · iexact Hsb
      isplitl [Hdb]; · iexact Hdb
      isplitl [Hhs]; · iexact Hhs
      iexact Hhd
    isplitl [H₁]; · iapply upto_zero; iexact H₁
    isplitl [H₂]; · iapply upto_zero; iexact H₂
    isplitl [H₃]; · iapply upto_zero; iexact H₃
    iapply upto_zero; iexact H₄
  unfold between ins outs
  iintro ⟨⟨Hsb, Hdb, Hhs, Hhd⟩, H₁, H₂, H₃, H₄⟩
  ihave H₁ := upto_full $$ H₁
  ihave H₂ := upto_full $$ H₂
  ihave H₃ := upto_full $$ H₃
  ihave H₄ := upto_full $$ H₄
  iapply (wp_copyOut (O := O) (W := W)) $$ [H₁ HO₁ F₂ HD]
  · isplitl [H₁]; · iexact H₁
    isplitl [HO₁]; · iexact HO₁
    isplitl [F₂]; · iexact F₂
    iexact HD
  iintro ⟨H₁, HO₁, F₂, HD⟩
  iapply (wp_copyOut (O := O) (W := W)) $$ [H₂ HO₂ F₃ HD]
  · isplitl [H₂]; · iexact H₂
    isplitl [HO₂]; · iexact HO₂
    isplitl [F₃]; · iexact F₃
    iexact HD
  iintro ⟨H₂, HO₂, F₃, HD⟩
  iapply (wp_copyOut (O := O) (W := W)) $$ [H₃ HO₃ F₄ HD]
  · isplitl [H₃]; · iexact H₃
    isplitl [HO₃]; · iexact HO₃
    isplitl [F₄]; · iexact F₄
    iexact HD
  iintro ⟨H₃, HO₃, F₄, HD⟩
  iapply (wp_copyOut (O := O) (W := W)) $$ [H₄ HO₄ F₅ HD]
  · isplitl [H₄]; · iexact H₄
    isplitl [HO₄]; · iexact HO₄
    isplitl [F₅]; · iexact F₅
    iexact HD
  iintro ⟨H₄, HO₄, F₅, HD⟩
  iapply Hk
  isplitl [Hsb Hdb Hhs Hhd H₁ H₂ H₃ H₄]
  · isplitl [Hsb]
    · iexists (pad X); isplitr; · ipureintro; exact padded_pad X
      iexact Hsb
    isplitl [Hdb]
    · iexists (pad Y); isplitr; · ipureintro; exact padded_pad Y
      iexact Hdb
    isplitl [Hhs]; · iexact Hhs
    isplitl [Hhd]; · iexact Hhd
    isplitl [H₁]; · iexact H₁
    isplitl [H₂]; · iexact H₂
    isplitl [H₃]; · iexact H₃
    iexact H₄
  isplitl [F₀ F₁ F₂ F₃ F₄ F₅]
  · isplitl [F₀]; · iexact F₀
    isplitl [F₁]; · iexact F₁
    isplitl [F₂]; · iexact F₂
    isplitl [F₃]; · iexact F₃
    isplitl [F₄]; · iexact F₄
    iexact F₅
  isplitr [HD]
  · isplitl [Hsi]; · iexact Hsi
    isplitl [Hdi]; · iexact Hdi
    isplitl [HO₁]; · iexact HO₁
    isplitl [HO₂]; · iexact HO₂
    isplitl [HO₃]; · iexact HO₃
    iexact HO₄
  iexact HD

/-- The tile's buffers at its start. -/
def bufs₀ (d : Dev nD) (a : Fin τ.nSC) (b : Fin τ.nSub) (sb db : Memref sig .scVector .vmem S6416 .i32) (hs hd : Memref sig .scVector .vmem S1008 .f32)
    (b₁ b₂ b₃ b₄ : Memref sig .scVector .vmem S6400 .f32) : sProp (MM F) :=
  iprop(any d a b sb ∗ any d a b db ∗ any d a b hs ∗ any d a b hd ∗ any d a b b₁ ∗ any d a b b₂ ∗ any d a b b₃ ∗ any d a b b₄)

/-- Its program over its four chunks. -/
theorem wp_tile {i : grid0.Coords} {si di : Memref sig .scVector .hbm S819200 .i32} {o₁ o₂ o₃ o₄ : Memref sig .scVector .hbm S819200 .f32}
    {sb db : Memref sig .scVector .vmem S6416 .i32} {hs hd : Memref sig .scVector .vmem S1008 .f32}
    {b₁ b₂ b₃ b₄ : Memref sig .scVector .vmem S6400 .f32} {h₁ : b₁.IsWhole} {h₂ : b₂.IsWhole} {h₃ : b₃.IsWhole} {h₄ : b₄.IsWhole}
    {s : Fin 4 → Fin 6 → DmaSems sig S_} {X Y : Fin 4 → IVec S6400 32} (hX : ∀ c, InR (X c)) (hY : ∀ c, InR (Y c)) :
    iprop(bufs₀ d a b sb db hs hd b₁ b₂ b₃ b₄ ∗ (frees d a b (s 0) ∗ frees d a b (s 1) ∗ frees d a b (s 2) ∗ frees d a b (s 3))
        ∗ (todo d a b i si di o₁ o₂ o₃ o₄ (X 0) (Y 0) 0 ∗ todo d a b i si di o₁ o₂ o₃ o₄ (X 1) (Y 1) 1
          ∗ todo d a b i si di o₁ o₂ o₃ o₄ (X 2) (Y 2) 2 ∗ todo d a b i si di o₁ o₂ o₃ o₄ (X 3) (Y 3) 3) ∗ due d a b O W)
      ⊢ wpT d a b (tile (F := F) i si di o₁ o₂ o₃ o₄ sb db hs hd b₁ b₂ b₃ b₄ h₁ h₂ h₃ h₄ s)
        iprop(bufs₀ d a b sb db hs hd b₁ b₂ b₃ b₄ ∗ (frees d a b (s 0) ∗ frees d a b (s 1) ∗ frees d a b (s 2) ∗ frees d a b (s 3))
        ∗ (made d a b i si di o₁ o₂ o₃ o₄ (X 0) (Y 0) (hX 0) (hY 0) 0 ∗ made d a b i si di o₁ o₂ o₃ o₄ (X 1) (Y 1) (hX 1) (hY 1) 1
          ∗ made d a b i si di o₁ o₂ o₃ o₄ (X 2) (Y 2) (hX 2) (hY 2) 2 ∗ made d a b i si di o₁ o₂ o₃ o₄ (X 3) (Y 3) (hX 3) (hY 3) 3) ∗ due d a b O W) := by
  unfold tile bufs₀ any
  iintro ⟨⟨⟨%u, Hsb⟩, ⟨%v, Hdb⟩, ⟨%h, Hhs⟩, ⟨%g, Hhd⟩, HB⟩, ⟨F₀, F₁, F₂, F₃⟩, ⟨T₀, T₁, T₂, T₃⟩, HD⟩
  iapply (wp_zeros 63 le_rfl (h := h) (g := g) (fun j hj => absurd hj (by omega)) (fun j hj => absurd hj (by omega))) $$ [Hhs Hhd]
  · isplitl [Hhs]; · iexact Hhs
    iexact Hhd
  iintro ⟨Hhs, Hhd⟩
  iapply wp_padZero $$ Hsb
  iintro Hsb
  iapply wp_padZero $$ Hdb
  iintro Hdb
  ihave HB := (show iprop((∃ y : IVec S6416 32, ⌜Padded y⌝ ∗ has (F := F) d a b sb y) ∗ (∃ y : IVec S6416 32, ⌜Padded y⌝ ∗ has (F := F) d a b db y)
    ∗ has (F := F) d a b hs noCounts ∗ has (F := F) d a b hd noCounts ∗ any d a b b₁ ∗ any d a b b₂ ∗ any d a b b₃ ∗ any d a b b₄) ⊢ bufs d a b sb db hs hd b₁ b₂ b₃ b₄ from .rfl) $$ [Hsb Hdb Hhs Hhd HB]
  · isplitl [Hsb]; · iexact Hsb
    isplitl [Hdb]; · iexact Hdb
    isplitl [Hhs]; · iexact Hhs
    isplitl [Hhd]; · iexact Hhd
    unfold any
    iexact HB
  iapply (wp_chunk (O := O) (W := W) (hX 0) (hY 0)) $$ [HB F₀ T₀ HD]
  · isplitl [HB]; · iexact HB
    isplitl [F₀]; · iexact F₀
    isplitl [T₀]; · iexact T₀
    iexact HD
  iintro ⟨HB, F₀, T₀, HD⟩
  iapply (wp_chunk (O := O) (W := W) (hX 1) (hY 1)) $$ [HB F₁ T₁ HD]
  · isplitl [HB]; · iexact HB
    isplitl [F₁]; · iexact F₁
    isplitl [T₁]; · iexact T₁
    iexact HD
  iintro ⟨HB, F₁, T₁, HD⟩
  iapply (wp_chunk (O := O) (W := W) (hX 2) (hY 2)) $$ [HB F₂ T₂ HD]
  · isplitl [HB]; · iexact HB
    isplitl [F₂]; · iexact F₂
    isplitl [T₂]; · iexact T₂
    iexact HD
  iintro ⟨HB, F₂, T₂, HD⟩
  rw [← bind_pure (chunk i si di o₁ o₂ o₃ o₄ sb db hs hd b₁ b₂ b₃ b₄ h₁ h₂ h₃ h₄ (s 3) 3)]
  iapply (wp_chunk (O := O) (W := W) (hX 3) (hY 3) (k := pure ⟨⟩)) $$ [HB F₃ T₃ HD]
  · isplitl [HB]; · iexact HB
    isplitl [F₃]; · iexact F₃
    isplitl [T₃]; · iexact T₃
    iexact HD
  unfold bufs
  iintro ⟨⟨⟨%y, -, Hsb⟩, ⟨%z, -, Hdb⟩, Hhs, Hhd, HB⟩, F₃, T₃, HD⟩
  unfold wpT
  rw [show (pure ⟨⟩ : P F a b) = .ret ⟨⟩ from rfl, wp_ret]
  imodintro
  isplitl [Hsb Hdb Hhs Hhd HB]
  · isplitl [Hsb]; · iexists y; iexact Hsb
    isplitl [Hdb]; · iexists z; iexact Hdb
    isplitl [Hhs]; · iexists _; iexact Hhs
    isplitl [Hhd]; · iexists _; iexact Hhd
    unfold any
    iexact HB
  isplitl [F₀ F₁ F₂ F₃]
  · isplitl [F₀]; · iexact F₀
    isplitl [F₁]; · iexact F₁
    isplitl [F₂]; · iexact F₂
    iexact F₃
  isplitl [T₀ T₁ T₂ T₃]
  · isplitl [T₀]; · iexact T₀
    isplitl [T₁]; · iexact T₁
    isplitl [T₂]; · iexact T₂
    iexact T₃
  iexact HD

end

end Cert.Proof

end
-- ==== Proof.RowEq.lean ====
/- Each of the four printed row loops runs `Row.rowBody` at every trip. -/
module

public import proofs.«01_k».proof.Proof.Gen.KernelIdeal
public import proofs.«01_k».proof.Proof.RowProg

@[expose] public section

set_option maxRecDepth 65536

noncomputable section

namespace Cert.Proof.Row

open Cert.KernelIdeal Cert.KernelIdeal.Gen
open Idealize.ShloMosaic Idealize.SL.Sem

variable {F : FTy → Type} [FloatOps F]

set_option maxHeartbeats 4000000 in
theorem part80_eq (i : grid0.Coords) (arg2 : Memref sig .scVector .hbm S819200 .i32) (harg2 : arg2.IsWhole) (arg3 : Memref sig .scVector .hbm S819200 .i32) (harg3 : arg3.IsWhole) (arg4 : Memref sig .scVector .hbm S819200 .f32) (harg4 : arg4.IsWhole) (arg5 : Memref sig .scVector .hbm S819200 .f32) (harg5 : arg5.IsWhole) (arg6 : Memref sig .scVector .hbm S819200 .f32) (harg6 : arg6.IsWhole) (arg7 : Memref sig .scVector .hbm S819200 .f32) (harg7 : arg7.IsWhole) (arg8 : Memref sig .scVector .vmem S6416 .i32) (harg8 : arg8.IsWhole) (arg9 : Memref sig .scVector .vmem S6416 .i32) (harg9 : arg9.IsWhole) (arg10 : Memref sig .scVector .vmem S1008 .f32) (harg10 : arg10.IsWhole) (arg11 : Memref sig .scVector .vmem S1008 .f32) (harg11 : arg11.IsWhole) (arg12 : Memref sig .scVector .vmem S6400 .f32) (harg12 : arg12.IsWhole) (arg13 : Memref sig .scVector .vmem S6400 .f32) (harg13 : arg13.IsWhole) (arg14 : Memref sig .scVector .vmem S6400 .f32) (harg14 : arg14.IsWhole) (arg15 : Memref sig .scVector .vmem S6400 .f32) (harg15 : arg15.IsWhole) (v151_r0 : DmaSems sig S_) (v151_r1 : DmaSems sig S_) (v151_r2 : DmaSems sig S_) (v151_r3 : DmaSems sig S_) (v151_r4 : DmaSems sig S_) (v151_r5 : DmaSems sig S_) (v151_r6 : DmaSems sig S_) (v151_r7 : DmaSems sig S_) (v151_r8 : DmaSems sig S_) (v151_r9 : DmaSems sig S_) (v151_r10 : DmaSems sig S_) (v151_r11 : DmaSems sig S_) (v151_r12 : DmaSems sig S_) (v151_r13 : DmaSems sig S_) (v151_r14 : DmaSems sig S_) (v151_r15 : DmaSems sig S_) (v151_r16 : DmaSems sig S_) (v151_r17 : DmaSems sig S_) (v151_r18 : DmaSems sig S_) (v151_r19 : DmaSems sig S_) (v151_r20 : DmaSems sig S_) (v151_r21 : DmaSems sig S_) (v151_r22 : DmaSems sig S_) (v151_r23 : DmaSems sig S_)  (v1 : BitVec 32) :
    k0_part80 (F := F) i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 v1 zero16 tailMask = (do
      startIn i arg3 arg9 v151_r1 0
      waitIn i arg3 arg9 v151_r1 0
      rows arg8 arg9 arg10 arg11 arg12 arg13 arg14 arg15
      startOut i arg12 harg12 arg4 v151_r2 0
      waitOut i arg12 harg12 arg4 v151_r2 0
      startOut i arg13 harg13 arg5 v151_r3 0
      waitOut i arg13 harg13 arg5 v151_r3 0
      startOut i arg14 harg14 arg6 v151_r4 0
      waitOut i arg14 harg14 arg6 v151_r4 0
      startOut i arg15 harg15 arg7 v151_r5 0
      waitOut i arg15 harg15 arg7 v151_r5 0
      startIn i arg2 arg8 v151_r6 1) := rfl

set_option maxHeartbeats 4000000 in
theorem part81_eq (i : grid0.Coords) (arg2 : Memref sig .scVector .hbm S819200 .i32) (harg2 : arg2.IsWhole) (arg3 : Memref sig .scVector .hbm S819200 .i32) (harg3 : arg3.IsWhole) (arg4 : Memref sig .scVector .hbm S819200 .f32) (harg4 : arg4.IsWhole) (arg5 : Memref sig .scVector .hbm S819200 .f32) (harg5 : arg5.IsWhole) (arg6 : Memref sig .scVector .hbm S819200 .f32) (harg6 : arg6.IsWhole) (arg7 : Memref sig .scVector .hbm S819200 .f32) (harg7 : arg7.IsWhole) (arg8 : Memref sig .scVector .vmem S6416 .i32) (harg8 : arg8.IsWhole) (arg9 : Memref sig .scVector .vmem S6416 .i32) (harg9 : arg9.IsWhole) (arg10 : Memref sig .scVector .vmem S1008 .f32) (harg10 : arg10.IsWhole) (arg11 : Memref sig .scVector .vmem S1008 .f32) (harg11 : arg11.IsWhole) (arg12 : Memref sig .scVector .vmem S6400 .f32) (harg12 : arg12.IsWhole) (arg13 : Memref sig .scVector .vmem S6400 .f32) (harg13 : arg13.IsWhole) (arg14 : Memref sig .scVector .vmem S6400 .f32) (harg14 : arg14.IsWhole) (arg15 : Memref sig .scVector .vmem S6400 .f32) (harg15 : arg15.IsWhole) (v151_r0 : DmaSems sig S_) (v151_r1 : DmaSems sig S_) (v151_r2 : DmaSems sig S_) (v151_r3 : DmaSems sig S_) (v151_r4 : DmaSems sig S_) (v151_r5 : DmaSems sig S_) (v151_r6 : DmaSems sig S_) (v151_r7 : DmaSems sig S_) (v151_r8 : DmaSems sig S_) (v151_r9 : DmaSems sig S_) (v151_r10 : DmaSems sig S_) (v151_r11 : DmaSems sig S_) (v151_r12 : DmaSems sig S_) (v151_r13 : DmaSems sig S_) (v151_r14 : DmaSems sig S_) (v151_r15 : DmaSems sig S_) (v151_r16 : DmaSems sig S_) (v151_r17 : DmaSems sig S_) (v151_r18 : DmaSems sig S_) (v151_r19 : DmaSems sig S_) (v151_r20 : DmaSems sig S_) (v151_r21 : DmaSems sig S_) (v151_r22 : DmaSems sig S_) (v151_r23 : DmaSems sig S_)  (v1 : BitVec 32) :
    k0_part81 (F := F) i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 v1 zero16 tailMask = (do
      waitIn i arg2 arg8 v151_r6 1
      startIn i arg3 arg9 v151_r7 1
      waitIn i arg3 arg9 v151_r7 1
      rows arg8 arg9 arg10 arg11 arg12 arg13 arg14 arg15
      startOut i arg12 harg12 arg4 v151_r8 1
      waitOut i arg12 harg12 arg4 v151_r8 1
      startOut i arg13 harg13 arg5 v151_r9 1
      waitOut i arg13 harg13 arg5 v151_r9 1
      startOut i arg14 harg14 arg6 v151_r10 1
      waitOut i arg14 harg14 arg6 v151_r10 1
      startOut i arg15 harg15 arg7 v151_r11 1
      waitOut i arg15 harg15 arg7 v151_r11 1
      startIn i arg2 arg8 v151_r12 2) := rfl

set_option maxHeartbeats 4000000 in
theorem part82_eq (i : grid0.Coords) (arg2 : Memref sig .scVector .hbm S819200 .i32) (harg2 : arg2.IsWhole) (arg3 : Memref sig .scVector .hbm S819200 .i32) (harg3 : arg3.IsWhole) (arg4 : Memref sig .scVector .hbm S819200 .f32) (harg4 : arg4.IsWhole) (arg5 : Memref sig .scVector .hbm S819200 .f32) (harg5 : arg5.IsWhole) (arg6 : Memref sig .scVector .hbm S819200 .f32) (harg6 : arg6.IsWhole) (arg7 : Memref sig .scVector .hbm S819200 .f32) (harg7 : arg7.IsWhole) (arg8 : Memref sig .scVector .vmem S6416 .i32) (harg8 : arg8.IsWhole) (arg9 : Memref sig .scVector .vmem S6416 .i32) (harg9 : arg9.IsWhole) (arg10 : Memref sig .scVector .vmem S1008 .f32) (harg10 : arg10.IsWhole) (arg11 : Memref sig .scVector .vmem S1008 .f32) (harg11 : arg11.IsWhole) (arg12 : Memref sig .scVector .vmem S6400 .f32) (harg12 : arg12.IsWhole) (arg13 : Memref sig .scVector .vmem S6400 .f32) (harg13 : arg13.IsWhole) (arg14 : Memref sig .scVector .vmem S6400 .f32) (harg14 : arg14.IsWhole) (arg15 : Memref sig .scVector .vmem S6400 .f32) (harg15 : arg15.IsWhole) (v151_r0 : DmaSems sig S_) (v151_r1 : DmaSems sig S_) (v151_r2 : DmaSems sig S_) (v151_r3 : DmaSems sig S_) (v151_r4 : DmaSems sig S_) (v151_r5 : DmaSems sig S_) (v151_r6 : DmaSems sig S_) (v151_r7 : DmaSems sig S_) (v151_r8 : DmaSems sig S_) (v151_r9 : DmaSems sig S_) (v151_r10 : DmaSems sig S_) (v151_r11 : DmaSems sig S_) (v151_r12 : DmaSems sig S_) (v151_r13 : DmaSems sig S_) (v151_r14 : DmaSems sig S_) (v151_r15 : DmaSems sig S_) (v151_r16 : DmaSems sig S_) (v151_r17 : DmaSems sig S_) (v151_r18 : DmaSems sig S_) (v151_r19 : DmaSems sig S_) (v151_r20 : DmaSems sig S_) (v151_r21 : DmaSems sig S_) (v151_r22 : DmaSems sig S_) (v151_r23 : DmaSems sig S_)  (v1 : BitVec 32) :
    k0_part82 (F := F) i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 v1 zero16 tailMask = (do
      waitIn i arg2 arg8 v151_r12 2
      startIn i arg3 arg9 v151_r13 2
      waitIn i arg3 arg9 v151_r13 2
      rows arg8 arg9 arg10 arg11 arg12 arg13 arg14 arg15
      startOut i arg12 harg12 arg4 v151_r14 2
      waitOut i arg12 harg12 arg4 v151_r14 2
      startOut i arg13 harg13 arg5 v151_r15 2
      waitOut i arg13 harg13 arg5 v151_r15 2
      startOut i arg14 harg14 arg6 v151_r16 2
      waitOut i arg14 harg14 arg6 v151_r16 2
      startOut i arg15 harg15 arg7 v151_r17 2
      waitOut i arg15 harg15 arg7 v151_r17 2) := rfl

set_option maxHeartbeats 4000000 in
theorem kernel_eq' (i : grid0.Coords) (arg2 : Memref sig .scVector .hbm S819200 .i32) (harg2 : arg2.IsWhole) (arg3 : Memref sig .scVector .hbm S819200 .i32) (harg3 : arg3.IsWhole) (arg4 : Memref sig .scVector .hbm S819200 .f32) (harg4 : arg4.IsWhole) (arg5 : Memref sig .scVector .hbm S819200 .f32) (harg5 : arg5.IsWhole) (arg6 : Memref sig .scVector .hbm S819200 .f32) (harg6 : arg6.IsWhole) (arg7 : Memref sig .scVector .hbm S819200 .f32) (harg7 : arg7.IsWhole) (arg8 : Memref sig .scVector .vmem S6416 .i32) (harg8 : arg8.IsWhole) (arg9 : Memref sig .scVector .vmem S6416 .i32) (harg9 : arg9.IsWhole) (arg10 : Memref sig .scVector .vmem S1008 .f32) (harg10 : arg10.IsWhole) (arg11 : Memref sig .scVector .vmem S1008 .f32) (harg11 : arg11.IsWhole) (arg12 : Memref sig .scVector .vmem S6400 .f32) (harg12 : arg12.IsWhole) (arg13 : Memref sig .scVector .vmem S6400 .f32) (harg13 : arg13.IsWhole) (arg14 : Memref sig .scVector .vmem S6400 .f32) (harg14 : arg14.IsWhole) (arg15 : Memref sig .scVector .vmem S6400 .f32) (harg15 : arg15.IsWhole) (v151_r0 : DmaSems sig S_) (v151_r1 : DmaSems sig S_) (v151_r2 : DmaSems sig S_) (v151_r3 : DmaSems sig S_) (v151_r4 : DmaSems sig S_) (v151_r5 : DmaSems sig S_) (v151_r6 : DmaSems sig S_) (v151_r7 : DmaSems sig S_) (v151_r8 : DmaSems sig S_) (v151_r9 : DmaSems sig S_) (v151_r10 : DmaSems sig S_) (v151_r11 : DmaSems sig S_) (v151_r12 : DmaSems sig S_) (v151_r13 : DmaSems sig S_) (v151_r14 : DmaSems sig S_) (v151_r15 : DmaSems sig S_) (v151_r16 : DmaSems sig S_) (v151_r17 : DmaSems sig S_) (v151_r18 : DmaSems sig S_) (v151_r19 : DmaSems sig S_) (v151_r20 : DmaSems sig S_) (v151_r21 : DmaSems sig S_) (v151_r22 : DmaSems sig S_) (v151_r23 : DmaSems sig S_)  :
    cc0__sc_counts_kernel (F := F) i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 =
      zeros arg10 arg11 zero16 (padZero arg8 <| padZero arg9 <| (do
        startIn i arg2 arg8 v151_r0 0
        waitIn i arg2 arg8 v151_r0 0
        k0_part80 i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 (Scalar.addi (Scalar.muli (BitVec.ofNat 32 (i 1).val) 2#32) (BitVec.ofNat 32 (i 0).val)) zero16 tailMask
        k0_part81 i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 (Scalar.addi (Scalar.muli (BitVec.ofNat 32 (i 1).val) 2#32) (BitVec.ofNat 32 (i 0).val)) zero16 tailMask
        k0_part82 i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 (Scalar.addi (Scalar.muli (BitVec.ofNat 32 (i 1).val) 2#32) (BitVec.ofNat 32 (i 0).val)) zero16 tailMask
        startIn i arg2 arg8 v151_r18 3
        waitIn i arg2 arg8 v151_r18 3
        startIn i arg3 arg9 v151_r19 3
        waitIn i arg3 arg9 v151_r19 3
        rows arg8 arg9 arg10 arg11 arg12 arg13 arg14 arg15
        startOut i arg12 harg12 arg4 v151_r20 3
        waitOut i arg12 harg12 arg4 v151_r20 3
        startOut i arg13 harg13 arg5 v151_r21 3
        waitOut i arg13 harg13 arg5 v151_r21 3
        startOut i arg14 harg14 arg6 v151_r22 3 : P F ((i 0).castLE hcore0) ((i 1).castLE hsub0)) >>= fun _ => do
        waitOut i arg14 harg14 arg6 v151_r22 3
        startOut i arg15 harg15 arg7 v151_r23 3
        waitOut i arg15 harg15 arg7 v151_r23 3) 63 le_rfl := rfl

/-- The printed body of the SparseCore kernel is the tile's program. -/
theorem kernel_eq (i : grid0.Coords) (arg2 : Memref sig .scVector .hbm S819200 .i32) (harg2 : arg2.IsWhole) (arg3 : Memref sig .scVector .hbm S819200 .i32) (harg3 : arg3.IsWhole) (arg4 : Memref sig .scVector .hbm S819200 .f32) (harg4 : arg4.IsWhole) (arg5 : Memref sig .scVector .hbm S819200 .f32) (harg5 : arg5.IsWhole) (arg6 : Memref sig .scVector .hbm S819200 .f32) (harg6 : arg6.IsWhole) (arg7 : Memref sig .scVector .hbm S819200 .f32) (harg7 : arg7.IsWhole) (arg8 : Memref sig .scVector .vmem S6416 .i32) (harg8 : arg8.IsWhole) (arg9 : Memref sig .scVector .vmem S6416 .i32) (harg9 : arg9.IsWhole) (arg10 : Memref sig .scVector .vmem S1008 .f32) (harg10 : arg10.IsWhole) (arg11 : Memref sig .scVector .vmem S1008 .f32) (harg11 : arg11.IsWhole) (arg12 : Memref sig .scVector .vmem S6400 .f32) (harg12 : arg12.IsWhole) (arg13 : Memref sig .scVector .vmem S6400 .f32) (harg13 : arg13.IsWhole) (arg14 : Memref sig .scVector .vmem S6400 .f32) (harg14 : arg14.IsWhole) (arg15 : Memref sig .scVector .vmem S6400 .f32) (harg15 : arg15.IsWhole) (v151_r0 : DmaSems sig S_) (v151_r1 : DmaSems sig S_) (v151_r2 : DmaSems sig S_) (v151_r3 : DmaSems sig S_) (v151_r4 : DmaSems sig S_) (v151_r5 : DmaSems sig S_) (v151_r6 : DmaSems sig S_) (v151_r7 : DmaSems sig S_) (v151_r8 : DmaSems sig S_) (v151_r9 : DmaSems sig S_) (v151_r10 : DmaSems sig S_) (v151_r11 : DmaSems sig S_) (v151_r12 : DmaSems sig S_) (v151_r13 : DmaSems sig S_) (v151_r14 : DmaSems sig S_) (v151_r15 : DmaSems sig S_) (v151_r16 : DmaSems sig S_) (v151_r17 : DmaSems sig S_) (v151_r18 : DmaSems sig S_) (v151_r19 : DmaSems sig S_) (v151_r20 : DmaSems sig S_) (v151_r21 : DmaSems sig S_) (v151_r22 : DmaSems sig S_) (v151_r23 : DmaSems sig S_)  :
    cc0__sc_counts_kernel (F := F) i arg2 harg2 arg3 harg3 arg4 harg4 arg5 harg5 arg6 harg6 arg7 harg7 arg8 harg8 arg9 harg9 arg10 harg10 arg11 harg11 arg12 harg12 arg13 harg13 arg14 harg14 arg15 harg15 v151_r0 v151_r1 v151_r2 v151_r3 v151_r4 v151_r5 v151_r6 v151_r7 v151_r8 v151_r9 v151_r10 v151_r11 v151_r12 v151_r13 v151_r14 v151_r15 v151_r16 v151_r17 v151_r18 v151_r19 v151_r20 v151_r21 v151_r22 v151_r23 =
      tile i arg2 arg3 arg4 arg5 arg6 arg7 arg8 arg9 arg10 arg11 arg12 arg13 arg14 arg15 harg12 harg13 harg14 harg15
        ![![v151_r0, v151_r1, v151_r2, v151_r3, v151_r4, v151_r5], ![v151_r6, v151_r7, v151_r8, v151_r9, v151_r10, v151_r11], ![v151_r12, v151_r13, v151_r14, v151_r15, v151_r16, v151_r17], ![v151_r18, v151_r19, v151_r20, v151_r21, v151_r22, v151_r23]] := by
  rw [kernel_eq', part80_eq, part81_eq, part82_eq]
  simp only [tile, chunk, bind_assoc]
  rfl

end Cert.Proof.Row

end
-- ==== Proof.Chunks.lean ====
/- The long arrays cut into the tiles' chunks: the chunks of all tiles are disjoint and cover, so an array is its chunks,
   and the arrays of counts have, at every position, the counts of the position's chunk. -/
module

public import proofs.«01_k».proof.Proof.Tile
public import proofs.«01_k».proof.Proof.RowEq

@[expose] public section

set_option maxRecDepth 65536

noncomputable section

namespace Cert.Proof

open Cert.KernelIdeal Cert.KernelIdeal.Gen Cert.Proof.Row
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- The coordinates of tile `s` of SparseCore `c`. -/
def tileAt (c : Fin 2) (s : Fin 16) : grid0.Coords := fun
  | 0 => c
  | 1 => s
  | ⟨_ + 2, h⟩ => absurd h (Nat.not_lt.2 (Nat.le_add_left _ _))

/-- The number of a tile's chunk among all. -/
abbrev chunkNo (c : Fin 2) (s : Fin 16) (h : Fin 4) : ℕ := (2 * s.val + c.val) * 4 + h.val

theorem off_eq : ∀ (c : Fin 2) (s : Fin 16) (h : Fin 4), k0_off1 (tileAt c s) (chunkRow h) 0 = 6400 * chunkNo c s h := by decide +kernel

theorem mem_chunk {c : Fin 2} {s : Fin 16} {h : Fin 4} {p : S819200.Idx} :
    p ∈ (chunkRect (tileAt c s) h).set ↔ (p 0).val / 6400 = chunkNo c s h := by
  rw [Rect.mem_set_unit]
  have e := off_eq c s h
  constructor
  · intro H
    have := H 0
    rw [e] at this
    have : 6400 * chunkNo c s h ≤ (p 0).val ∧ (p 0).val < 6400 * chunkNo c s h + 6400 := this
    omega
  · intro H a
    obtain rfl : a = 0 := Subsingleton.elim _ _
    rw [e]
    show 6400 * chunkNo c s h ≤ (p 0).val ∧ (p 0).val < 6400 * chunkNo c s h + 6400
    omega

/-- A separating conjunction over every chunk of every tile. -/
def overAll (Φ : Fin 2 → Fin 16 → Fin 4 → sProp (MM F)) : sProp (MM F) :=
  bigSep Finset.univ fun c => bigSep Finset.univ fun s => bigSep Finset.univ fun h => Φ c s h

theorem overAll_sep (Φ Ψ : Fin 2 → Fin 16 → Fin 4 → sProp (MM F)) :
    overAll (fun c s h => iprop(Φ c s h ∗ Ψ c s h)) = iprop(overAll Φ ∗ overAll Ψ) := by
  unfold overAll
  simp only [bigSep_sep']

theorem overAll_mono {Φ Ψ : Fin 2 → Fin 16 → Fin 4 → sProp (MM F)} (h : ∀ c s k, Φ c s k ⊢ Ψ c s k) : overAll Φ ⊢ overAll Ψ :=
  bigSep_mono fun _ _ => bigSep_mono fun _ _ => bigSep_mono fun _ _ => h _ _ _

/-- A long array is its chunks. -/
theorem chunks (ℓ : Loc nD τ sig) (e : S819200.Idx ↪ Idx ℓ) (he : Function.Surjective e) (f : Buf (Elt F) ℓ) :
    (ℓ ↦{fullShare} f : sProp (MM F)) = overAll fun c s h => ℓ ↦[(chunkRect (tileAt c s) h).set.map e]{fullShare} f := by
  have hU : (Finset.univ : Finset (Idx ℓ)) = (Finset.univ : Finset (Fin 2 × Fin 16 × Fin 4)).biUnion
      fun t => (chunkRect (tileAt t.1 t.2.1) t.2.2).set.map e := by
    ext p
    obtain ⟨p, rfl⟩ := he p
    simp only [Finset.mem_univ, Finset.mem_biUnion, true_and, true_iff, Finset.mem_map']
    have hp : (p 0).val < 819200 := (p 0).isLt
    refine ⟨(⟨(p 0).val / 6400 / 4 % 2, by omega⟩, ⟨(p 0).val / 6400 / 8, by omega⟩, ⟨(p 0).val / 6400 % 4, by omega⟩), mem_chunk.mpr ?_⟩
    show (p 0).val / 6400 = (2 * ((p 0).val / 6400 / 8) + (p 0).val / 6400 / 4 % 2) * 4 + (p 0).val / 6400 % 4
    omega
  unfold overAll
  rw [hU, pointsTo_biUnion, bigSep_univ_prod]
  · refine bigSep_congr fun c _ => ?_
    rw [bigSep_univ_prod]
  · intro t _ t' _ hne
    refine (Finset.disjoint_map e).mpr (Finset.disjoint_left.mpr ?_)
    intro p hp hp'
    rw [mem_chunk] at hp hp'
    apply hne
    obtain ⟨c, s, h⟩ := t
    obtain ⟨c', s', h'⟩ := t'
    have : chunkNo c s h = chunkNo c' s' h' := hp.symm.trans hp'
    unfold chunkNo at this
    have : c = c' ∧ s = s' ∧ h = h' := ⟨Fin.ext (by omega), Fin.ext (by omega), Fin.ext (by omega)⟩
    obtain ⟨rfl, rfl, rfl⟩ := this
    rfl

/-! ## The arrays of counts -/

/-- The ids of chunk `q`. -/
def idsOf (A : IVec S819200 32) (q : ℕ) : IVec S6400 32 := fun j => if h : 6400 * q + (j 0).val < 819200 then A (fun | 0 => ⟨6400 * q + (j 0).val, h⟩) else 0#32

theorem idsOf_of_lt (A : IVec S819200 32) {q : ℕ} {j : S6400.Idx} (h : 6400 * q + (j 0).val < 819200) :
    idsOf A q j = A (fun | 0 => ⟨6400 * q + (j 0).val, h⟩) := by
  unfold idsOf
  exact dif_pos h

theorem InR.idsOf {A : IVec S819200 32} (h : InR A) (q : ℕ) : InR (idsOf A q) := fun j => by
  unfold Cert.Proof.idsOf
  split
  · exact h _
  · show 0 < 1008; omega

variable [FloatOps F]

/-- The counts of the whole array: at every position its chunk's. -/
def countsAll (A B : IVec S819200 32) (hB : InR B) : Vec F S819200 .f32 := fun p =>
  counts (F := F) (idsOf A ((p 0).val / 6400)) (idsOf B ((p 0).val / 6400)) (hB.idsOf _) (fun | 0 => ⟨(p 0).val % 6400, Nat.mod_lt _ (by show 0 < 6400; omega)⟩)

theorem countsAll_at {A B : IVec S819200 32} (hB : InR B) {c : Fin 2} {s : Fin 16} {h : Fin 4} (j : S6400.Idx) :
    countsAll (F := F) A B hB ((chunkRect (tileAt c s) h).emb j) = counts (F := F) (idsOf A (chunkNo c s h)) (idsOf B (chunkNo c s h)) (hB.idsOf _) j := by
  have hv : (((chunkRect (tileAt c s) h).emb j) 0).val = 6400 * chunkNo c s h + (j 0).val := by
    rw [← off_eq]; show k0_off1 _ _ 0 + 1 * (j 0).val = _; rw [one_mul]
  have hj : (j 0).val < 6400 := (j 0).isLt
  unfold countsAll
  have hq : (((chunkRect (tileAt c s) h).emb j) 0).val / 6400 = chunkNo c s h := by omega
  have hr : (fun | 0 => ⟨(((chunkRect (tileAt c s) h).emb j) 0).val % 6400, Nat.mod_lt _ (by show 0 < 6400; omega)⟩ : S6400.Idx) = j := by
    funext a
    obtain rfl : a = 0 := Subsingleton.elim _ _
    apply Fin.ext
    show (((chunkRect (tileAt c s) h).emb j) 0).val % 6400 = (j 0).val
    omega
  rw [hr]
  have : ∀ q q' (_ : q = q') (j : S6400.Idx), counts (F := F) (idsOf A q) (idsOf B q) (hB.idsOf _) j = counts (F := F) (idsOf A q') (idsOf B q') (hB.idsOf _) j := by
    rintro q q' rfl j; rfl
  exact this _ _ hq j

theorem idsOf_at (A : IVec S819200 32) {c : Fin 2} {s : Fin 16} {h : Fin 4} (j : S6400.Idx) :
    A ((chunkRect (tileAt c s) h).emb j) = idsOf A (chunkNo c s h) j := by
  have hv : (((chunkRect (tileAt c s) h).emb j) 0).val = 6400 * chunkNo c s h + (j 0).val := by
    rw [← off_eq]; show k0_off1 _ _ 0 + 1 * (j 0).val = _; rw [one_mul]
  have hlt := (((chunkRect (tileAt c s) h).emb j) 0).isLt
  rw [hv] at hlt
  refine Eq.trans (congrArg A ?_) (idsOf_of_lt A hlt).symm
  funext a
  obtain rfl : a = 0 := Subsingleton.elim _ _
  exact Fin.ext hv

end Cert.Proof

end
-- ==== Proof.Call.lean ====
/- The SparseCore call: what its handshakes carry (each tile its four chunks of the six long arrays), the tiles'
   obligations, and the two directions between whole arrays and what the call takes and gives back. -/
module

public import proofs.«01_k».proof.Proof.Chunks
public import Idealize.ShloMosaic.Lib.StableHlo.Run

@[expose] public section

set_option maxRecDepth 65536

noncomputable section

namespace Cert.Proof

open Cert.KernelIdeal Cert.KernelIdeal.Gen Cert.Proof.Row
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev srcV : Memref sig .scVector .hbm S819200 .i32 := Memref.whole main_v0_scv
abbrev dstV : Memref sig .scVector .hbm S819200 .i32 := Memref.whole main_v1_scv
abbrev ssV : Memref sig .scVector .hbm S819200 .f32 := Memref.whole main_v2_0_scv
abbrev sdV : Memref sig .scVector .hbm S819200 .f32 := Memref.whole main_v2_1_scv
abbrev dsV : Memref sig .scVector .hbm S819200 .f32 := Memref.whole main_v2_2_scv
abbrev ddV : Memref sig .scVector .hbm S819200 .f32 := Memref.whole main_v2_3_scv

/-- The processor that runs tile `s` of SparseCore `c`. -/
abbrev cV (c : Fin 2) : Fin τ.nSC := Fin.castLE hcore0 c
abbrev jV (s : Fin 16) : Fin τ.nSub := Fin.castLE hsub0 s

/-! ## A tile's own buffers and semaphores -/

/-- The semaphores of its copies, by chunk. -/
def sems : Fin 4 → Fin 6 → DmaSems sig S_ :=
  ![![cc0_scoped0, cc0_scoped1, cc0_scoped2, cc0_scoped3, cc0_scoped4, cc0_scoped5], ![cc0_scoped6, cc0_scoped7, cc0_scoped8, cc0_scoped9, cc0_scoped10, cc0_scoped11],
    ![cc0_scoped12, cc0_scoped13, cc0_scoped14, cc0_scoped15, cc0_scoped16, cc0_scoped17], ![cc0_scoped18, cc0_scoped19, cc0_scoped20, cc0_scoped21, cc0_scoped22, cc0_scoped23]]

theorem sems_inj : ∀ t t' : Fin 4 × Fin 6, (sems t.1 t.2).sem = (sems t'.1 t'.2).sem → t = t' := by decide
theorem sems_scoped : ∀ t : Fin 4 × Fin 6, (SemLoc.dma (sems t.1 t.2).sem : SemLoc sig).isScoped .scVector = true := by decide

section Own

variable (d : Dev nD) (a : Fin τ.nSC) (b : Fin τ.nSub)

abbrev semCell (t : Fin 4 × Fin 6) : GSem nD τ sig := (V d a b, SemLoc.dma (sems t.1 t.2).sem)
abbrev semCells : Finset (GSem nD τ sig) := Finset.univ.image (semCell d a b)

theorem frees_eq (t : Fin 4) : (frees d a b (sems t) : sProp (MM F)) = bigSep Finset.univ fun k : Fin 6 => semVal (semCell d a b (t, k)) 0 := by
  rw [bigSep_univ_eq_bigSepL [(0 : Fin 6), 1, 2, 3, 4, 5] (by decide) (by decide)]
  rfl

theorem ownSems_eq : (ownSems0 (V d a b) : sProp (MM F))
    = iprop((frees d a b (sems 0) ∗ frees d a b (sems 1) ∗ frees d a b (sems 2) ∗ frees d a b (sems 3))
        ∗ bigSep (ownCells (V d a b) \ semCells d a b) fun g => semVal g 0) := by
  unfold SparseCore.Cfg.ownSems0
  have hs : semCells d a b ⊆ ownCells (V d a b) := by
    intro g hg
    obtain ⟨t, -, rfl⟩ := Finset.mem_image.mp hg
    exact mem_ownCells.mpr ⟨rfl, sems_scoped t⟩
  rw [bigSep_sdiff_split hs, SparseCore.bigSep_image_of_injOn (fun t _ t' _ e => sems_inj t t' (SemLoc.dma.inj (Prod.mk.inj e).2)), bigSep_univ_prod,
    bigSep_univ_eq_bigSepL [(0 : Fin 4), 1, 2, 3] (by decide) (by decide), frees_eq, frees_eq, frees_eq, frees_eq]
  rfl

/-- Its scratch buffers. -/
def scratch : Fin 8 → Ref sig .scVector :=
  ![cc0_scratch0, cc0_scratch1, cc0_scratch2, cc0_scratch3, cc0_scratch4, cc0_scratch5, cc0_scratch6, cc0_scratch7]

theorem scratch_inj : ∀ t t' : Fin 8, scratch t = scratch t' → t = t' := by decide

abbrev bufCells : Finset (DevRef τ sig) := Finset.univ.image fun t => (Proc.scVector a b).devRef (scratch t)

/-- A whole buffer at some contents. -/
theorem any_whole (r : Ref sig .scVector) :
    (any (F := F) d a b (Memref.whole r)) = iprop(∃ f, ((d, (Proc.scVector a b).devRef r) : Loc nD τ sig) ↦{fullShare} f) := by
  unfold any has
  rw [show (Memref.whole r).view.set = Finset.univ from View.set_whole _]
  have h₁ : (iprop(∃ y f, ⌜View.read (Elt F) (Memref.whole r).view f = y⌝ ∗ ((d, (Proc.scVector a b).devRef r) : Loc nD τ sig) ↦{fullShare} f) : sProp (MM F))
      ⊢ iprop(∃ f, ((d, (Proc.scVector a b).devRef r) : Loc nD τ sig) ↦{fullShare} f) := by
    iintro ⟨%y, %f, -, H⟩; iexists f; iexact H
  have h₂ : (iprop(∃ f, ((d, (Proc.scVector a b).devRef r) : Loc nD τ sig) ↦{fullShare} f) : sProp (MM F))
      ⊢ iprop(∃ y f, ⌜View.read (Elt F) (Memref.whole r).view f = y⌝ ∗ ((d, (Proc.scVector a b).devRef r) : Loc nD τ sig) ↦{fullShare} f) := by
    iintro ⟨%f, H⟩; iexists _, f; isplitr; · ipureintro; rfl
    iexact H
  exact BI.Entails.antisymm h₁ h₂

theorem ownBufs_eq : (ownBufs (V d a b) : sProp (MM F))
    = iprop(bufs₀ d a b (Memref.whole cc0_scratch0) (Memref.whole cc0_scratch1) (Memref.whole cc0_scratch2) (Memref.whole cc0_scratch3)
          (Memref.whole cc0_scratch4) (Memref.whole cc0_scratch5) (Memref.whole cc0_scratch6) (Memref.whole cc0_scratch7)
        ∗ bigSep (ownRefs (τ := τ) (.scVector a b) \ bufCells a b) fun r => iprop(∃ f, ((d, r) : Loc nD τ sig) ↦{fullShare} f)) := by
  unfold SparseCore.Cfg.ownBufs
  have hs : bufCells a b ⊆ ownRefs (τ := τ) (sig := sig) (.scVector a b) := by
    intro g hg
    obtain ⟨t, -, rfl⟩ := Finset.mem_image.mp hg
    exact SparseCore.Cfg.mem_ownRefs_of_owner (by clear hg; fin_cases t <;> rfl)
  refine (bigSep_sdiff_split hs).trans ?_
  rw [SparseCore.bigSep_image_of_injOn (fun t _ t' _ e => scratch_inj t t' (Proc.devRef_injective _ e)),
    bigSep_univ_eq_bigSepL [(0 : Fin 8), 1, 2, 3, 4, 5, 6, 7] (by decide) (by decide)]
  unfold bufs₀
  simp only [any_whole]
  rfl

end Own

/-! ## The call's handshakes -/

variable (A B : Dev nD → IVec S819200 32) (hA : ∀ d, InR (A d)) (hB : ∀ d, InR (B d))

/-- What a tile takes for a chunk, and brings back. -/
def takes (d : Dev nD) (c : Fin 2) (s : Fin 16) (h : Fin 4) : sProp (MM F) :=
  todo d (cV c) (jV s) (tileAt c s) srcV dstV ssV sdV dsV ddV (idsOf (A d) (chunkNo c s h)) (idsOf (B d) (chunkNo c s h)) h
def brings (d : Dev nD) (c : Fin 2) (s : Fin 16) (h : Fin 4) : sProp (MM F) :=
  made d (cV c) (jV s) (tileAt c s) srcV dstV ssV sdV dsV ddV (idsOf (A d) (chunkNo c s h)) (idsOf (B d) (chunkNo c s h)) ((hA d).idsOf _) ((hB d).idsOf _) h

instance has_storable (d : Dev nD) (a : Fin τ.nSC) (b : Fin τ.nSub) {sp : Space} {s : Shape} {e : EltTy} (m : Memref sig .scVector sp s e) (x : Vec F s e) :
    BI.Storable (upEmb : UEmb _ (MM F)) (has d a b m x) := by unfold has; infer_instance
instance any_storable (d : Dev nD) (a : Fin τ.nSC) (b : Fin τ.nSub) {sp : Space} {s : Shape} {e : EltTy} (m : Memref sig .scVector sp s e) :
    BI.Storable (upEmb : UEmb _ (MM F)) (any d a b m) := by unfold any; infer_instance
instance takes_storable (d : Dev nD) (c : Fin 2) (s : Fin 16) (h : Fin 4) : BI.Storable (upEmb : UEmb _ (MM F)) (takes (F := F) A B d c s h) := by
  unfold takes todo; infer_instance
instance brings_storable (d : Dev nD) (c : Fin 2) (s : Fin 16) (h : Fin 4) : BI.Storable (upEmb : UEmb _ (MM F)) (brings (F := F) A B hA hB d c s h) := by
  unfold brings made; infer_instance

/-- What the call's signals carry. -/
def P : (K (F := F)).Pay (nD := nD) (Val := Elt F) (Name := ℕ) (U := UU) where
  st := fun q d c => match q with | 0 => bigSep Finset.univ fun s : Fin 16 => bigSep Finset.univ fun h : Fin 4 => takes A B d c s h
  dn := fun q d c => match q with | 0 => bigSep Finset.univ fun s : Fin 16 => bigSep Finset.univ fun h : Fin 4 => brings A B hA hB d c s h
  go := fun q d c s => match q with | 0 => bigSep Finset.univ fun h : Fin 4 => takes A B d c s h
  td := fun q d c s => match q with | 0 => bigSep Finset.univ fun h : Fin 4 => brings A B hA hB d c s h
  x := fun _ _ => iprop(emp)

instance P_storable : (P (F := F) A B hA hB).IsStorable where
  st q d c := match q with
    | 0 => (inferInstance : BI.Storable (upEmb : UEmb _ (MM F)) (bigSep Finset.univ fun s : Fin 16 => bigSep Finset.univ fun h : Fin 4 => takes A B d c s h))
  dn q d c := match q with
    | 0 => (inferInstance : BI.Storable (upEmb : UEmb _ (MM F)) (bigSep Finset.univ fun s : Fin 16 => bigSep Finset.univ fun h : Fin 4 => brings A B hA hB d c s h))
  go q d c s := match q with
    | 0 => (inferInstance : BI.Storable (upEmb : UEmb _ (MM F)) (bigSep Finset.univ fun h : Fin 4 => takes A B d c s h))
  td q d c s := match q with
    | 0 => (inferInstance : BI.Storable (upEmb : UEmb _ (MM F)) (bigSep Finset.univ fun h : Fin 4 => brings A B hA hB d c s h))

theorem vecSplit : (K (F := F)).VecSplit' (P A B hA hB) 0 := by
  intro d c
  show (bigSep Finset.univ fun s : Fin 16 => bigSep Finset.univ fun h : Fin 4 => takes A B d c s h) ⊢ |={Set.univ}=> iprop(
      (bigSep Finset.univ fun s : Fin 16 => bigSep Finset.univ fun h : Fin 4 => takes (F := F) A B d c s h)
      ∗ ((bigSep Finset.univ fun s : Fin 16 => bigSep Finset.univ fun h : Fin 4 => brings (F := F) A B hA hB d c s h)
          -∗ (bigSep Finset.univ fun s : Fin 16 => bigSep Finset.univ fun h : Fin 4 => brings A B hA hB d c s h)))
  iintro H; imodintro
  isplitl [H]; · iexact H
  iintro H; iexact H

/-! ## A tile's obligation -/

theorem takes4 (d : Dev nD) (c : Fin 2) (s : Fin 16) : (bigSep Finset.univ fun h : Fin 4 => takes (F := F) A B d c s h)
    = iprop(takes A B d c s 0 ∗ takes A B d c s 1 ∗ takes A B d c s 2 ∗ takes A B d c s 3) :=
  bigSep_univ_eq_bigSepL [(0 : Fin 4), 1, 2, 3] (by decide) (by decide) _
theorem brings4 (d : Dev nD) (c : Fin 2) (s : Fin 16) : (bigSep Finset.univ fun h : Fin 4 => brings (F := F) A B hA hB d c s h)
    = iprop(brings A B hA hB d c s 0 ∗ brings A B hA hB d c s 1 ∗ brings A B hA hB d c s 2 ∗ brings A B hA hB d c s 3) :=
  bigSep_univ_eq_bigSepL [(0 : Fin 4), 1, 2, 3] (by decide) (by decide) _

theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ (bigSep Finset.univ fun h : Fin 4 => takes (F := F) A B d c s h)
        ∗ scopedBufs (V d (cV c) (jV s)) ∗ scopedSems0 (V d (cV c) (jV s)) ∗ owes (V d (cV c) (jV s)) O W)
      ⊢ wp frame (wpE (defs₀ (F := F)) 𝒱₀ (V d (cV c) (jV s)) none) Set.univ
          (tile (tileAt c s) srcV dstV ssV sdV dsV ddV (Memref.whole cc0_scratch0) (Memref.whole cc0_scratch1) (Memref.whole cc0_scratch2) (Memref.whole cc0_scratch3)
            (Memref.whole cc0_scratch4) (Memref.whole cc0_scratch5) (Memref.whole cc0_scratch6) (Memref.whole cc0_scratch7)
            (Memref.isWhole_whole _) (Memref.isWhole_whole _) (Memref.isWhole_whole _) (Memref.isWhole_whole _) sems)
          fun _ => iprop((bigSep Finset.univ fun h : Fin 4 => brings (F := F) A B hA hB d c s h) ∗ scopedBufs (V d (cV c) (jV s)) ∗ scopedSems0 (V d (cV c) (jV s))
            ∗ ∃ W', ⌜∀ p ∈ W', p ∈ W ∨ p.2 = none ∨ p.2 = some 0⌝ ∗ owes (V d (cV c) (jV s)) O W') := by
  rw [(K (F := F)).scopedBufs_V facts d (cV c) (jV s), SparseCore.Cfg.scopedSems0_V (Val := Elt F) d (cV c) (jV s), ownSems_eq, ownBufs_eq,
    takes4, brings4]
  unfold takes brings
  iintro ⟨#Hlv, -, Ht, ⟨Hb, Hb'⟩, ⟨Hs, Hs'⟩, HO⟩
  iapply (wp_wand_r frame _ Set.univ)
  isplitl [Ht Hb Hs HO]
  · iapply (wp_tile (O := O) (W := W) (d := d) (a := cV c) (b := jV s) (i := tileAt c s) (s := sems)
      (X := fun h => idsOf (A d) (chunkNo c s h)) (Y := fun h => idsOf (B d) (chunkNo c s h)) (fun h => (hA d).idsOf _) (fun h => (hB d).idsOf _)) $$ [Ht Hb Hs HO]
    isplitl [Hb]; · iexact Hb
    isplitl [Hs]; · iexact Hs
    isplitl [Ht]; · iexact Ht
    unfold due
    isplitr
    · iapply ((K (F := F)).mayWaits_none (thr := V d (cV c) (jV s)) hO); iexact Hlv
    iexists W
    isplitr; · ipureintro; exact fun p hp => .inl hp
    iexact HO
  iintro %_ ⟨Hb, Hs, Ht, HD⟩
  isplitl [Ht]; · iexact Ht
  isplitl [Hb Hb']
  · isplitl [Hb]; · iexact Hb
    iexact Hb'
  isplitl [Hs Hs']
  · isplitl [Hs]; · iexact Hs
    iexact Hs'
  unfold due
  icases HD with ⟨-, %W', %hW, HO⟩
  iexists W'
  isplitr; · ipureintro; exact fun p hp => (hW p hp).imp_right Or.inl
  iexact HO

theorem defs₀_vector (a : Fin τ.nSC) (b : Fin τ.nSub) : defs₀ (F := F) (.scVector a b) 0 ()
    = SparseCore.onTile hcore0 hsub0 (fun c s => cc0__sc_counts_kernel (F := F) (tileAt c s) srcV (Memref.isWhole_whole _) dstV (Memref.isWhole_whole _) ssV (Memref.isWhole_whole _) sdV (Memref.isWhole_whole _)
      dsV (Memref.isWhole_whole _) ddV (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scoped0 cc0_scoped1 cc0_scoped2 cc0_scoped3 cc0_scoped4 cc0_scoped5 cc0_scoped6 cc0_scoped7 cc0_scoped8 cc0_scoped9 cc0_scoped10 cc0_scoped11
      cc0_scoped12 cc0_scoped13 cc0_scoped14 cc0_scoped15 cc0_scoped16 cc0_scoped17 cc0_scoped18 cc0_scoped19 cc0_scoped20 cc0_scoped21 cc0_scoped22 cc0_scoped23) ⟨⟩ a b := rfl

theorem tileObl : (K (F := F)).TileObl (D (F := F)) 𝒱 (P A B hA hB) v₀ 0 := by
  intro d c i O W hO _ _
  simp only [show (P (F := F) A B hA hB).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  have hd : defs₀ (F := F) (.scVector ((K (F := F)).core 0 c) ((K (F := F)).sub 0 i)) 0 ()
      = tile (tileAt c i) srcV dstV ssV sdV dsV ddV (Memref.whole cc0_scratch0) (Memref.whole cc0_scratch1) (Memref.whole cc0_scratch2) (Memref.whole cc0_scratch3)
            (Memref.whole cc0_scratch4) (Memref.whole cc0_scratch5) (Memref.whole cc0_scratch6) (Memref.whole cc0_scratch7)
            (Memref.isWhole_whole _) (Memref.isWhole_whole _) (Memref.isWhole_whole _) (Memref.isWhole_whole _) sems := by
    refine Eq.trans ?_ (kernel_eq (F := F) (tileAt c i) srcV (Memref.isWhole_whole _) dstV (Memref.isWhole_whole _) ssV (Memref.isWhole_whole _) sdV (Memref.isWhole_whole _)
      dsV (Memref.isWhole_whole _) ddV (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scoped0 cc0_scoped1 cc0_scoped2 cc0_scoped3 cc0_scoped4 cc0_scoped5 cc0_scoped6 cc0_scoped7 cc0_scoped8 cc0_scoped9 cc0_scoped10 cc0_scoped11
      cc0_scoped12 cc0_scoped13 cc0_scoped14 cc0_scoped15 cc0_scoped16 cc0_scoped17 cc0_scoped18 cc0_scoped19 cc0_scoped20 cc0_scoped21 cc0_scoped22 cc0_scoped23)
    rw [defs₀_vector]
    simp only [SparseCore.onTile, hc, and_self, ↓reduceDIte]
    rfl
  rw [hd]
  exact tile_body A B hA hB d c i O W hO

end Cert.Proof

end
-- ==== Proof.Arrays.lean ====
/- What the SparseCore call takes and gives back, as whole arrays: the two arrays of ids in, the same and the four arrays
   of counts out. -/
module

public import proofs.«01_k».proof.Proof.Call

@[expose] public section

set_option maxRecDepth 65536

noncomputable section

namespace Cert.Proof

open Cert.KernelIdeal Cert.KernelIdeal.Gen Cert.Proof.Row
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local irreducible] countsAll counts idsOf

section Chunk

variable {d : Dev nD} {c : Fin 2} {s : Fin 16} {h : Fin 4} {e : EltTy}

theorem has_of {m : Memref sig .scVector .hbm S819200 e} {x : Vec F S6400 e}
    (f : Buf (Elt F) (m.view.loc (V d (cV c) (jV s)))) (hx : (chunkOf (tileAt c s) m h).view.read (Elt F) f = x) :
    (m.view.loc (V d (cV c) (jV s)) ↦[(chunkRect (tileAt c s) h).set.map m.view.emb]{fullShare} f : sProp (MM F)) ⊢ has d (cV c) (jV s) (chunkOf (tileAt c s) m h) x := by
  unfold has
  rw [show (chunkOf (tileAt c s) m h).view.set = (chunkRect (tileAt c s) h).set.map m.view.emb from View.set_slice _ _]
  iintro H
  iexists f
  isplitr; · ipureintro; exact hx
  iexact H

theorem of_has {m : Memref sig .scVector .hbm S819200 e} {x : Vec F S6400 e}
    (G : Buf (Elt F) (m.view.loc (V d (cV c) (jV s)))) (hx : (chunkOf (tileAt c s) m h).view.read (Elt F) G = x) :
    has d (cV c) (jV s) (chunkOf (tileAt c s) m h) x ⊢ (m.view.loc (V d (cV c) (jV s)) ↦[(chunkRect (tileAt c s) h).set.map m.view.emb]{fullShare} G : sProp (MM F)) := by
  unfold has
  rw [show (chunkOf (tileAt c s) m h).view.set = (chunkRect (tileAt c s) h).set.map m.view.emb from View.set_slice _ _]
  iintro ⟨%f, %hf, H⟩
  rw [pointsTo_congr (f := G) (g := f) (I := (chunkRect (tileAt c s) h).set.map m.view.emb)]
  · iexact H
  intro i hi
  rw [← View.set_slice, View.set, Finset.mem_map] at hi
  obtain ⟨j, -, rfl⟩ := hi
  have e := congrFun (hx.trans hf.symm) j
  rw [View.read_apply, View.read_apply] at e
  exact cast_inj _ |>.mp e

end Chunk

variable (A B : Dev nD → IVec S819200 32) (hA : ∀ d, InR (A d)) (hB : ∀ d, InR (B d))

/-- The six arrays before the call, and after it. -/
def arraysIn (d : Dev nD) : sProp (MM F) :=
  iprop((((SparseCore.T d).loc main_v0) ↦{fullShare} A d) ∗ (((SparseCore.T d).loc main_v1) ↦{fullShare} B d)
    ∗ (∃ f, ((SparseCore.T d).loc main_v2_0) ↦{fullShare} f) ∗ (∃ f, ((SparseCore.T d).loc main_v2_1) ↦{fullShare} f) ∗ (∃ f, ((SparseCore.T d).loc main_v2_2) ↦{fullShare} f) ∗ ∃ f, ((SparseCore.T d).loc main_v2_3) ↦{fullShare} f)
def arraysOut (d : Dev nD) : sProp (MM F) :=
  iprop((((SparseCore.T d).loc main_v0) ↦{fullShare} A d) ∗ (((SparseCore.T d).loc main_v1) ↦{fullShare} B d)
    ∗ (((SparseCore.T d).loc main_v2_0) ↦{fullShare} countsAll (F := F) (A d) (A d) (hA d)) ∗ (((SparseCore.T d).loc main_v2_1) ↦{fullShare} countsAll (F := F) (A d) (B d) (hB d))
    ∗ (((SparseCore.T d).loc main_v2_2) ↦{fullShare} countsAll (F := F) (B d) (A d) (hA d)) ∗ ((SparseCore.T d).loc main_v2_3) ↦{fullShare} countsAll (F := F) (B d) (B d) (hB d))

theorem whole_surj (r : Ref sig .scVector) : Function.Surjective (View.whole r).emb := fun i => by
  have : i ∈ (View.whole r).set := by rw [View.set_whole]; exact Finset.mem_univ i
  obtain ⟨j, -, e⟩ := Finset.mem_map.mp this
  exact ⟨j, e⟩

theorem takes_of (d : Dev nD) : arraysIn A B d ⊢ bigSep Finset.univ fun c : Fin ((K (F := F)).nCore 0) => (P A B hA hB).st 0 d c := by
  show _ ⊢ overAll (takes (F := F) A B d)
  unfold arraysIn
  iintro ⟨Ha, Hb, ⟨%f₁, H₁⟩, ⟨%f₂, H₂⟩, ⟨%f₃, H₃⟩, ⟨%f₄, H₄⟩⟩
  ihave Ha := (Entails.of_eq (chunks (F := F) ((SparseCore.T d).loc main_v0) srcV.view.emb (whole_surj _) (A d))) $$ Ha
  ihave Hb := (Entails.of_eq (chunks (F := F) ((SparseCore.T d).loc main_v1) dstV.view.emb (whole_surj _) (B d))) $$ Hb
  ihave H₁ := (Entails.of_eq (chunks (F := F) ((SparseCore.T d).loc main_v2_0) ssV.view.emb (whole_surj _) f₁)) $$ H₁
  ihave H₂ := (Entails.of_eq (chunks (F := F) ((SparseCore.T d).loc main_v2_1) sdV.view.emb (whole_surj _) f₂)) $$ H₂
  ihave H₃ := (Entails.of_eq (chunks (F := F) ((SparseCore.T d).loc main_v2_2) dsV.view.emb (whole_surj _) f₃)) $$ H₃
  ihave H₄ := (Entails.of_eq (chunks (F := F) ((SparseCore.T d).loc main_v2_3) ddV.view.emb (whole_surj _) f₄)) $$ H₄
  unfold takes todo any
  rw [overAll_sep, overAll_sep, overAll_sep, overAll_sep, overAll_sep]
  isplitl [Ha]
  · iapply (overAll_mono (F := F) fun c s h => has_of (F := F) (m := srcV) (A d) (funext fun j => (View.read_apply _ _).trans ((cast_eq _ _).trans (idsOf_at (A d) j)))) $$ Ha
  isplitl [Hb]
  · iapply (overAll_mono (F := F) fun c s h => has_of (F := F) (m := dstV) (B d) (funext fun j => (View.read_apply _ _).trans ((cast_eq _ _).trans (idsOf_at (B d) j)))) $$ Hb
  isplitl [H₁]
  · iapply (overAll_mono (F := F) fun c s h => (has_of (F := F) (m := ssV) f₁ rfl).trans (exists_intro (Φ := fun y => has d (cV c) (jV s) (chunkOf (tileAt c s) ssV h) y) _)) $$ H₁
  isplitl [H₂]
  · iapply (overAll_mono (F := F) fun c s h => (has_of (F := F) (m := sdV) f₂ rfl).trans (exists_intro (Φ := fun y => has d (cV c) (jV s) (chunkOf (tileAt c s) sdV h) y) _)) $$ H₂
  isplitl [H₃]
  · iapply (overAll_mono (F := F) fun c s h => (has_of (F := F) (m := dsV) f₃ rfl).trans (exists_intro (Φ := fun y => has d (cV c) (jV s) (chunkOf (tileAt c s) dsV h) y) _)) $$ H₃
  iapply (overAll_mono (F := F) fun c s h => (has_of (F := F) (m := ddV) f₄ rfl).trans (exists_intro (Φ := fun y => has d (cV c) (jV s) (chunkOf (tileAt c s) ddV h) y) _)) $$ H₄

theorem of_brings (d : Dev nD) : (bigSep Finset.univ fun c : Fin ((K (F := F)).nCore 0) => (P A B hA hB).dn 0 d c) ⊢ arraysOut A B hA hB d := by
  show overAll (brings (F := F) A B hA hB d) ⊢ _
  unfold brings made arraysOut
  rw [overAll_sep, overAll_sep, overAll_sep, overAll_sep, overAll_sep]
  iintro ⟨Ha, Hb, H₁, H₂, H₃, H₄⟩
  isplitl [Ha]
  · iapply (Entails.of_eq (chunks (F := F) ((SparseCore.T d).loc main_v0) srcV.view.emb (whole_surj _) (A d)).symm)
    iapply (overAll_mono (F := F) fun c s h => of_has (F := F) (m := srcV) (A d) (funext fun j => (View.read_apply _ _).trans ((cast_eq _ _).trans (idsOf_at (A d) j)))) $$ Ha
  isplitl [Hb]
  · iapply (Entails.of_eq (chunks (F := F) ((SparseCore.T d).loc main_v1) dstV.view.emb (whole_surj _) (B d)).symm)
    iapply (overAll_mono (F := F) fun c s h => of_has (F := F) (m := dstV) (B d) (funext fun j => (View.read_apply _ _).trans ((cast_eq _ _).trans (idsOf_at (B d) j)))) $$ Hb
  isplitl [H₁]
  · iapply (Entails.of_eq (chunks (F := F) ((SparseCore.T d).loc main_v2_0) ssV.view.emb (whole_surj _) (countsAll (F := F) (A d) (A d) (hA d))).symm)
    iapply (overAll_mono (F := F) fun c s h => of_has (F := F) (m := ssV) (countsAll (F := F) (A d) (A d) (hA d))
      (funext fun j => (View.read_apply _ _).trans ((cast_eq _ _).trans (countsAll_at (hA d) j)))) $$ H₁
  isplitl [H₂]
  · iapply (Entails.of_eq (chunks (F := F) ((SparseCore.T d).loc main_v2_1) sdV.view.emb (whole_surj _) (countsAll (F := F) (A d) (B d) (hB d))).symm)
    iapply (overAll_mono (F := F) fun c s h => of_has (F := F) (m := sdV) (countsAll (F := F) (A d) (B d) (hB d))
      (funext fun j => (View.read_apply _ _).trans ((cast_eq _ _).trans (countsAll_at (hB d) j)))) $$ H₂
  isplitl [H₃]
  · iapply (Entails.of_eq (chunks (F := F) ((SparseCore.T d).loc main_v2_2) dsV.view.emb (whole_surj _) (countsAll (F := F) (B d) (A d) (hA d))).symm)
    iapply (overAll_mono (F := F) fun c s h => of_has (F := F) (m := dsV) (countsAll (F := F) (B d) (A d) (hA d))
      (funext fun j => (View.read_apply _ _).trans ((cast_eq _ _).trans (countsAll_at (hA d) j)))) $$ H₃
  · iapply (Entails.of_eq (chunks (F := F) ((SparseCore.T d).loc main_v2_3) ddV.view.emb (whole_surj _) (countsAll (F := F) (B d) (B d) (hB d))).symm)
    iapply (overAll_mono (F := F) fun c s h => of_has (F := F) (m := ddV) (countsAll (F := F) (B d) (B d) (hB d))
      (funext fun j => (View.read_apply _ _).trans ((cast_eq _ _).trans (countsAll_at (hB d) j)))) $$ H₄

end Cert.Proof

end
-- ==== Proof.Main.lean ====
/- The host's program: what every array of the device holds as it goes on, and its run. -/
module

public import proofs.«01_k».proof.Proof.Step
public import proofs.«01_k».proof.Proof.Arrays
public import Idealize.ShloMosaic.Lib.StableHlo.Run
public import Idealize.ShloMosaic.Lib.Pipeline.Frame

@[expose] public section

set_option maxRecDepth 65536

noncomputable section

namespace Cert.Proof

open Cert.KernelIdeal Cert.KernelIdeal.Gen Cert.Proof.Row
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held after seq)
open Idealize.ShloMosaic.Rounds (initOf)

variable {F : FTy → Type} [FloatOps F]

attribute [local irreducible] countsAll counts idsOf wide

/-! ## The host's operations -/

/-- Before the SparseCore call: the ids as one row. -/
def opsA : List (HloOp τ sig (Elt F)) :=
  [ StableHlo.reshape main_arg0 main_v0 (rfl : (.i32 : EltTy) = .i32) shapeCasts_S4096x200_S819200,
    StableHlo.reshape main_arg1 main_v1 (rfl : (.i32 : EltTy) = .i32) shapeCasts_S4096x200_S819200 ]

/-- Between the two calls: the biases as rows, the first beneath its weights, and the counts as rows of 1024. -/
def opsB : List (HloOp τ sig (Elt F)) :=
  [ StableHlo.unary main_arg3 main_v3 (broadcastInDim S1x64 ![1] bcast_S64_S1x64_1 : (⟨S64, .f32⟩ : BufTy).Contents (Elt F) → (⟨S1x64, .f32⟩ : BufTy).Contents (Elt F)),
    StableHlo.binary main_arg2 main_v3 main_v4 ((fun a b => concatenate S3x64 0 [⟨S2x64, a⟩, ⟨S1x64, b⟩] concatenates_S2x64_S1x64_S3x64_d0) : (⟨S2x64, .f32⟩ : BufTy).Contents (Elt F) → (⟨S1x64, .f32⟩ : BufTy).Contents (Elt F) → (⟨S3x64, .f32⟩ : BufTy).Contents (Elt F)),
    StableHlo.unary main_arg5 main_v5 (broadcastInDim S1x64 ![1] bcast_S64_S1x64_1 : (⟨S64, .f32⟩ : BufTy).Contents (Elt F) → (⟨S1x64, .f32⟩ : BufTy).Contents (Elt F)),
    StableHlo.reshape main_v2_0 main_v6 (rfl : (.f32 : EltTy) = .f32) shapeCasts_S819200_S800x1024,
    StableHlo.reshape main_v2_1 main_v7 (rfl : (.f32 : EltTy) = .f32) shapeCasts_S819200_S800x1024,
    StableHlo.reshape main_v2_2 main_v8 (rfl : (.f32 : EltTy) = .f32) shapeCasts_S819200_S800x1024,
    StableHlo.reshape main_v2_3 main_v9 (rfl : (.f32 : EltTy) = .f32) shapeCasts_S819200_S800x1024 ]

/-- After the TensorCore call: the two results. -/
def opsC : List (HloOp τ sig (Elt F)) :=
  [ StableHlo.reshape main_v10_0 main_v11 (rfl : (.f32 : EltTy) = .f32) shapeCasts_S819200x64_S4096x200x64,
    StableHlo.reshape main_v10_1 main_v12 (rfl : (.f32 : EltTy) = .f32) shapeCasts_S819200x64_S4096x200x64 ]

theorem main_eq (d : Dev nD) : main (F := F) d
    = (seq opsA >>= fun _ => (K (F := F)).run d 0 >>= fun _ => seq opsB >>= fun _ =>
        (Prog.lift (.customCall (SparseCore.inner (Pipeline.entry 0)) ()) : Prog (TpuEff nD τ sig (Elt F) (SparseCore.Sig (ΛP (F := F)) 1) .tc) PUnit)
          >>= fun _ => seq opsC >>= fun _ => pure ⟨⟩) := rfl

theorem opsA_sub : ∀ op ∈ (opsA (F := F)), op.bufs ⊆ Pipeline.ucRefs τ sig := fun op h => by
  fin_cases h <;> exact Pipeline.sub_ucRefs _ (by simp)
theorem opsB_sub : ∀ op ∈ (opsB (F := F)), op.bufs ⊆ Pipeline.ucRefs τ sig := fun op h => by
  fin_cases h <;> exact Pipeline.sub_ucRefs _ (by simp)
theorem opsC_sub : ∀ op ∈ (opsC (F := F)), op.bufs ⊆ Pipeline.ucRefs τ sig := fun op h => by
  fin_cases h <;> exact Pipeline.sub_ucRefs _ (by simp)
theorem opsA_fresh : ∀ op ∈ (opsA (F := F)), op.fresh = ∅ := fun op h => by fin_cases h <;> rfl
theorem opsB_fresh : ∀ op ∈ (opsB (F := F)), op.fresh = ∅ := fun op h => by fin_cases h <;> rfl
theorem opsC_fresh : ∀ op ∈ (opsC (F := F)), op.fresh = ∅ := fun op h => by fin_cases h <;> rfl

/-! ## What the arrays hold -/

variable (m : (ℓ : Loc nD τ sig) → Buf (Elt F) ℓ)

/-- At the launch, and before the SparseCore call. -/
def W0 (d : Dev nD) : Valuation τ sig (Elt F) := fun b => m (d, b)
def W1 (d : Dev nD) : Valuation τ sig (Elt F) := after opsA (W0 m d)

/-- The two rows of ids. -/
def srcIds (d : Dev nD) : IVec S819200 32 := W1 m d (Proc.devRef .tc main_v0)
def dstIds (d : Dev nD) : IVec S819200 32 := W1 m d (Proc.devRef .tc main_v1)

variable (hA : ∀ d, InR (srcIds m d)) (hB : ∀ d, InR (dstIds m d))

/-- After the SparseCore call. -/
def W2 (d : Dev nD) : Valuation τ sig (Elt F) :=
  Function.update (Function.update (Function.update (Function.update (W1 m d)
    (Proc.devRef .tc main_v2_0) (countsAll (F := F) (srcIds m d) (srcIds m d) (hA d)))
    (Proc.devRef .tc main_v2_1) (countsAll (F := F) (srcIds m d) (dstIds m d) (hB d)))
    (Proc.devRef .tc main_v2_2) (countsAll (F := F) (dstIds m d) (srcIds m d) (hA d)))
    (Proc.devRef .tc main_v2_3) (countsAll (F := F) (dstIds m d) (dstIds m d) (hB d))

/-- Before the TensorCore call. -/
def W3 (d : Dev nD) : Valuation τ sig (Elt F) := after opsB (W2 m hA hB d)

/-- After it. -/
def W4 (d : Dev nD) : Valuation τ sig (Elt F) :=
  Function.update (Function.update (W3 m hA hB d)
    (Proc.devRef .tc main_v10_0) (wide (W3 m hA hB d (Proc.devRef .tc main_v4)) (W3 m hA hB d (Proc.devRef .tc main_arg4)) (W3 m hA hB d (Proc.devRef .tc main_v5))
      (W3 m hA hB d (Proc.devRef .tc main_v6)) (W3 m hA hB d (Proc.devRef .tc main_v7))))
    (Proc.devRef .tc main_v10_1) (wide (W3 m hA hB d (Proc.devRef .tc main_v4)) (W3 m hA hB d (Proc.devRef .tc main_arg4)) (W3 m hA hB d (Proc.devRef .tc main_v5))
      (W3 m hA hB d (Proc.devRef .tc main_v8)) (W3 m hA hB d (Proc.devRef .tc main_v9)))

/-- At the end. -/
def W5 (d : Dev nD) : Valuation τ sig (Elt F) := after opsC (W4 m hA hB d)

/-! ## The arrays of the SparseCore call, out of all the arrays -/

def six : Finset (DevRef τ sig) :=
  {Proc.devRef .tc main_v0, Proc.devRef .tc main_v1, Proc.devRef .tc main_v2_0, Proc.devRef .tc main_v2_1, Proc.devRef .tc main_v2_2, Proc.devRef .tc main_v2_3}

theorem mem_uc {r : Ref sig .tc} (h : (Proc.devRef .tc r : DevRef τ sig).isScoped = false) : (Proc.devRef .tc r : DevRef τ sig) ∈ Pipeline.ucRefs τ sig :=
  Finset.mem_filter.mpr ⟨StableHlo.devRef_mem_tcRefs r, by rw [h]; exact Bool.false_ne_true⟩

theorem six_sub : six ⊆ Pipeline.ucRefs τ sig := fun b hb => by
  simp only [six, Finset.mem_insert, Finset.mem_singleton] at hb
  rcases hb with rfl | rfl | rfl | rfl | rfl | rfl <;> exact mem_uc (by decide)

theorem held_six (d : Dev nD) (V : Valuation τ sig (Elt F)) : (held (SparseCore.T d) six V : sProp (MM F))
    = iprop((((SparseCore.T d).loc main_v0) ↦{fullShare} V (Proc.devRef .tc main_v0)) ∗ (((SparseCore.T d).loc main_v1) ↦{fullShare} V (Proc.devRef .tc main_v1))
      ∗ (((SparseCore.T d).loc main_v2_0) ↦{fullShare} V (Proc.devRef .tc main_v2_0)) ∗ (((SparseCore.T d).loc main_v2_1) ↦{fullShare} V (Proc.devRef .tc main_v2_1))
      ∗ (((SparseCore.T d).loc main_v2_2) ↦{fullShare} V (Proc.devRef .tc main_v2_2)) ∗ ((SparseCore.T d).loc main_v2_3) ↦{fullShare} V (Proc.devRef .tc main_v2_3)) := by
  unfold held six
  rw [SparseCore.bigSep_insert' (by decide), SparseCore.bigSep_insert' (by decide), SparseCore.bigSep_insert' (by decide), SparseCore.bigSep_insert' (by decide),
    SparseCore.bigSep_insert' (by decide), bigSep_singleton]

theorem dr_ne {r s : Ref sig .tc} (h : r ≠ s) : (Proc.devRef .tc r : DevRef τ sig) ≠ Proc.devRef .tc s := fun e => h (Proc.devRef_injective _ e)

theorem W2_ne (d : Dev nD) {b : DevRef τ sig} (h : b ∉ six) : W2 m hA hB d b = W1 m d b := by
  simp only [six, Finset.mem_insert, Finset.mem_singleton, not_or] at h
  unfold W2
  rw [Function.update_of_ne h.2.2.2.2.2, Function.update_of_ne h.2.2.2.2.1, Function.update_of_ne h.2.2.2.1, Function.update_of_ne h.2.2.1]
theorem W2_v0 (d : Dev nD) : W2 m hA hB d (Proc.devRef .tc main_v0) = srcIds m d := by
  unfold W2 srcIds
  rw [Function.update_of_ne (dr_ne (by decide)), Function.update_of_ne (dr_ne (by decide)), Function.update_of_ne (dr_ne (by decide)), Function.update_of_ne (dr_ne (by decide))]
theorem W2_v1 (d : Dev nD) : W2 m hA hB d (Proc.devRef .tc main_v1) = dstIds m d := by
  unfold W2 dstIds
  rw [Function.update_of_ne (dr_ne (by decide)), Function.update_of_ne (dr_ne (by decide)), Function.update_of_ne (dr_ne (by decide)), Function.update_of_ne (dr_ne (by decide))]
theorem W2_ss (d : Dev nD) : W2 m hA hB d (Proc.devRef .tc main_v2_0) = countsAll (F := F) (srcIds m d) (srcIds m d) (hA d) := by
  unfold W2
  rw [Function.update_of_ne (dr_ne (by decide)), Function.update_of_ne (dr_ne (by decide)), Function.update_of_ne (dr_ne (by decide)), Function.update_self]
theorem W2_sd (d : Dev nD) : W2 m hA hB d (Proc.devRef .tc main_v2_1) = countsAll (F := F) (srcIds m d) (dstIds m d) (hB d) := by
  unfold W2
  rw [Function.update_of_ne (dr_ne (by decide)), Function.update_of_ne (dr_ne (by decide)), Function.update_self]
theorem W2_ds (d : Dev nD) : W2 m hA hB d (Proc.devRef .tc main_v2_2) = countsAll (F := F) (dstIds m d) (srcIds m d) (hA d) := by
  unfold W2
  rw [Function.update_of_ne (dr_ne (by decide)), Function.update_self]
theorem W2_dd (d : Dev nD) : W2 m hA hB d (Proc.devRef .tc main_v2_3) = countsAll (F := F) (dstIds m d) (dstIds m d) (hB d) := by
  unfold W2
  rw [Function.update_self]

abbrev uc (d : Dev nD) (V : Valuation τ sig (Elt F)) : sProp (MM F) := held (SparseCore.T d) (Pipeline.ucRefs τ sig) V

theorem give (d : Dev nD) : uc d (W1 m d) ⊢ iprop(arraysIn (srcIds m) (dstIds m) d ∗ (held (SparseCore.T d) (Pipeline.ucRefs τ sig \ six) (W1 m d) : sProp (MM F))) := by
  unfold uc arraysIn
  rw [StableHlo.held_sub_split _ six_sub, held_six]
  iintro ⟨⟨H0, H1, H2, H3, H4, H5⟩, HR⟩
  isplitr [HR]
  · isplitl [H0]; · iexact H0
    isplitl [H1]; · iexact H1
    isplitl [H2]; · iexists _; iexact H2
    isplitl [H3]; · iexists _; iexact H3
    isplitl [H4]; · iexists _; iexact H4
    iexists _; iexact H5
  iexact HR

theorem take (d : Dev nD) : iprop(arraysOut (srcIds m) (dstIds m) hA hB d ∗ (held (SparseCore.T d) (Pipeline.ucRefs τ sig \ six) (W1 m d) : sProp (MM F))) ⊢ uc d (W2 m hA hB d) := by
  unfold uc arraysOut
  rw [StableHlo.held_sub_split _ six_sub (W2 m hA hB d), held_six, W2_v0, W2_v1, W2_ss, W2_sd, W2_ds, W2_dd,
    StableHlo.held_congr (S := Pipeline.ucRefs τ sig \ six) (V := W2 m hA hB d) (V' := W1 m d) _ fun b hb => W2_ne m hA hB d (Finset.mem_sdiff.mp hb).2]

/-! ## The run of the host's program -/

theorem W4_ne (d : Dev nD) {b : Ref sig .tc} (h0 : b ≠ main_v10_0) (h1 : b ≠ main_v10_1) : W4 m hA hB d (Proc.devRef .tc b) = W3 m hA hB d (Proc.devRef .tc b) := by
  unfold W4; rw [Function.update_of_ne (dr_ne h1), Function.update_of_ne (dr_ne h0)]

variable (ρ : Dev nD → PrngReg)

/-- What the TensorCore call's staging needs of the launch. -/
def G (d : Dev nD) : sProp (MM F) := iprop(Pipeline.cellsGhost cfgs (EP (F := F)) 0 d ∗ Pipeline.toksInit cfgs (EP (F := F)) 0 d)

set_option backward.isDefEq.respectTransparency.types false in
theorem hmain (κ : GSem nD τ sig → ℕ) (d : Dev nD) :
    iprop((K (F := F)).ctx EH (P (srcIds m) (dstIds m) hA hB) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 1 ∗ uc d (W5 m hA hB d) ∗ (K (F := F)).tcEnd d) := by
  have hreg := wp_region (F := F) (fun c b => W3 m hA hB c (Proc.devRef .tc b)) (fun c b => W4 m hA hB c (Proc.devRef .tc b))
    (fun c => by unfold W4; rw [Function.update_of_ne (dr_ne (by decide)), Function.update_self])
    (fun c => by unfold W4; rw [Function.update_self])
    (fun c b h0 h1 => W4_ne m hA hB c h0 h1) d
  have h0 : (unscopedBufs d (fun b => m ((SparseCore.T d).loc b)) : sProp (MM F)) = uc d (W0 m d) := Pipeline.unscopedBufs_held d (W0 m d)
  have h3 : (unscopedBufs d (fun b => W3 m hA hB d (Proc.devRef .tc b)) : sProp (MM F)) = uc d (W3 m hA hB d) := Pipeline.unscopedBufs_held d _
  have h4 : (unscopedBufs d (fun b => W4 m hA hB d (Proc.devRef .tc b)) : sProp (MM F)) = uc d (W4 m hA hB d) := Pipeline.unscopedBufs_held d _
  rw [h3, h4] at hreg
  unfold SparseCore.Cfg.tcRes SparseCore.Cfg.tcEnd G
  rw [main_eq, h0]
  iintro ⟨#Hctx, Hst, ⟨Hb, Hu, Hts, -⟩, Hc, Ht⟩
  iapply (StableHlo.wp_seq 𝒱 none Set.univ d (Pipeline.ucRefs τ sig) _ opsA opsA_sub opsA_fresh (W0 m d)) $$ [Hb Hu]
  · isplitl [Hb]; · iexact Hb
    iexact Hu
  iintro ⟨Hb, Hu⟩
  ihave Hu := (show (held (d : Thread nD τ) (Pipeline.ucRefs τ sig) (after opsA (W0 m d)) : sProp (MM F)) ⊢ _ from give m d) $$ Hu
  icases Hu with ⟨Ha, Hrest⟩
  rw [wp_bind]
  iapply ((K (F := F)).wp_run D 𝒱 (EH := EH) (P := P (srcIds m) (dstIds m) hA hB) κ d 0) $$ [Hst Ha Hrest Hb Hts Hc Ht]
  isplitr; · iexact Hctx
  isplitl [Hst]; · iexact Hst
  isplitl [Ha]
  · iapply (takes_of (srcIds m) (dstIds m) hA hB d); iexact Ha
  iintro ⟨Hst, Hdn⟩
  ihave Ha := (of_brings (srcIds m) (dstIds m) hA hB d) $$ Hdn
  ihave Hu := (take m hA hB d) $$ [Ha Hrest]
  · isplitl [Ha]; · iexact Ha
    iexact Hrest
  iapply (StableHlo.wp_seq 𝒱 none Set.univ d (Pipeline.ucRefs τ sig) _ opsB opsB_sub opsB_fresh (W2 m hA hB d)) $$ [Hb Hu]
  · isplitl [Hb]; · iexact Hb
    iexact Hu
  iintro ⟨Hb, Hu⟩
  rw [wp_bind]
  unfold SparseCore.Cfg.tcSt
  icases Hst with ⟨HO, Hst⟩
  ihave Hl := ((K (F := F)).ctx_levAts κ) $$ Hctx
  iapply (wp_wand_r frame _ Set.univ)
  isplitl [Hb Hu HO Hl Hc Ht]
  · iapply hreg
    isplitl [Hb]; · iexact Hb
    isplitl [Hu]; · iexact Hu
    isplitl [HO]
    · iapply (show iprop(∃ W, ⌜(K (F := F)).WBelow (SparseCore.T d) W (8 * (SparseCore.Cfg.Blocks.one 1).fst 1)⌝ ∗ owes (SparseCore.T d) ((K (F := F)).Otc d 1) W) ⊢ (owesTc d : sProp (MM F)) from .rfl)
      iexact HO
    isplitl [Hl]; · iexact Hl
    isplitl [Hc]; · iexact Hc
    iexact Ht
  iintro %_ ⟨Hb, Hu, HO⟩
  iapply (StableHlo.wp_seq 𝒱 none Set.univ d (Pipeline.ucRefs τ sig) _ opsC opsC_sub opsC_fresh (W4 m hA hB d)) $$ [Hb Hu]
  · isplitl [Hb]; · iexact Hb
    iexact Hu
  iintro ⟨Hb, Hu⟩
  rw [wp_pure]
  imodintro
  isplitl [HO Hst]
  · isplitl [HO]
    · iapply (show (owesTc d : sProp (MM F)) ⊢ iprop(∃ W, ⌜(K (F := F)).WBelow (SparseCore.T d) W (8 * (SparseCore.Cfg.Blocks.one 1).fst 1)⌝ ∗ owes (SparseCore.T d) ((K (F := F)).Otc d 1) W) from .rfl)
      iexact HO
    iexact Hst
  isplitl [Hu]; · iexact Hu
  isplitl [Hb]; · iexact Hb
  iexact Hts

/-! ## The launch -/

def u₀ : UU := (initOf (K (F := F)).hsCells (K (F := F)).hsToks, (initOf (Pipeline.cells cfgs cellOf_inj) (Pipeline.launchToks cfgs cellOf_inj), 1))

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (srcIds m) (dstIds m) hA hB).x q thr) := by
  unfold u₀
  iintro Hu
  ihave H := (ownU_pair _ _) $$ Hu
  icases H with ⟨HH, HR⟩
  ihave H := (own_pair_emb embR _ _) $$ HR
  icases H with ⟨HP, -⟩
  ihave HP := (show BI.own (((Emb.inl : Emb UP (UP × Counters)).trans embR) (initOf (Pipeline.cells cfgs cellOf_inj) (Pipeline.launchToks cfgs cellOf_inj))) ⊢
    (BI.own ((EP (F := F)) (initOf (Pipeline.cells cfgs cellOf_inj) (Pipeline.launchToks cfgs cellOf_inj))) : sProp (MM F)) from .rfl) $$ HP
  imod (Pipeline.fund_ghost cfgs (EP (F := F)) cellOf_inj) $$ HP with ⟨Hc, Ht⟩
  imodintro
  isplitl [HH]; · iexact HH
  isplitl [Hc Ht]
  · unfold G
    rw [bigSep_sep']
    have h1 : ∀ Φ : Dev nD → Fin 1 → sProp (MM F), (bigSep Finset.univ fun c => bigSep Finset.univ fun p => Φ c p) = bigSep Finset.univ fun c => Φ c 0 :=
      fun Φ => bigSep_congr fun c _ => bigSep_univ_of_subsingleton (0 : Fin 1)
    rw [← h1 fun c p => Pipeline.cellsGhost cfgs (EP (F := F)) p c, ← h1 fun c p => Pipeline.toksInit cfgs (EP (F := F)) p c]
    isplitl [Hc]; · iexact Hc
    iexact Ht
  rw [show (bigSep Finset.univ fun thr : Thread nD τ => bigSep Finset.univ fun q : Fin 1 => (P (F := F) (srcIds m) (dstIds m) hA hB).x q thr) = iprop(emp) from
    (bigSep_congr fun thr _ => bigSep_emp_const _).trans (bigSep_emp_const _)]
  iempintro

/-- At the end, every array that is not a call's own holds what `W5` says. -/
def fq (d : Dev nD) (s' : Phys nD τ sig (Elt F)) : Prop :=
  ∀ r : Ref sig .tc, (Proc.devRef .tc r : DevRef τ sig).isScoped = false → s'.mem.mem ((SparseCore.T d).loc r) = W5 m hA hB d (Proc.devRef .tc r)

theorem hfin (d : Dev nD) (s' : Phys nD τ sig (Elt F)) : iprop(uc d (W5 m hA hB d) ∗ SI s') ⊢ (⌜fq m hA hB d s'⌝ : sProp (MM F)) := by
  unfold fq
  refine BIBase.Entails.trans (forall_intro fun r => ?_) pure_forall.2
  refine BIBase.Entails.trans (forall_intro fun h => ?_) pure_forall.2
  unfold uc
  rw [StableHlo.held_sub_split _ (Finset.singleton_subset_iff.mpr (mem_uc h)), show (held (SparseCore.T d) {Proc.devRef .tc r} (W5 m hA hB d) : sProp (MM F))
    = (((SparseCore.T d).loc r) ↦{fullShare} W5 m hA hB d (Proc.devRef .tc r)) from bigSep_singleton]
  iintro ⟨⟨Hr, -⟩, HSI⟩
  ihave H := (SI_pointsTo_agree (st := s') (ℓ := (SparseCore.T d).loc r) (I := Finset.univ) (q := fullShare) (f := W5 m hA hB d (Proc.devRef .tc r))) $$ [HSI Hr]
  · isplitl [HSI]; · iexact HSI
    iexact Hr
  icases H with %h
  ipureintro; exact funext fun i => h i (Finset.mem_univ i)

def QC : PUnit × MemSt nD τ sig (Elt F) → Prop := fun r =>
  (∀ (d : Dev nD) (b : Ref sig .tc), (Proc.devRef .tc b : DevRef τ sig).isScoped = false → r.2.mem ((SparseCore.T d).loc b) = W5 m hA hB d (Proc.devRef .tc b))
    ∧ r.2.sem = fun _ => 0

theorem run_main [∀ e, Nonempty (Elt F e)] :
    θ_run (Cert.KernelIdeal.defs (F := F)) (Cert.KernelIdeal.threads (F := F)) ⟨m, fun _ => 0, ρ⟩ (QC m hA hB) :=
  SparseCore.Cfg.θ_run_sc_quiescent (K := K (F := F)) (D := D (F := F)) (𝒱 := 𝒱) (EH := EH) (P := P (srcIds m) (dstIds m) hA hB) (A := ∅) facts v₀
    (fun q hq => match q with | 0 => nomatch hq)
    (fun q _ => match q with | 0 => tileObl (srcIds m) (dstIds m) hA hB)
    (fun q _ => match q with | 0 => SparseCore.Cfg.VecSplit.of_plain (vecSplit (srcIds m) (dstIds m) hA hB))
    m ρ main (fun d => G d) (fun d => uc d (W5 m hA hB d)) (u₀ (F := F)) (sep_elim_left.trans (hu₀ m hA hB)) (hmain m hA hB ρ)
    (fq m hA hB) (hfin m hA hB) (QC m hA hB) (fun _ h hz => ⟨h, hz⟩)

end Cert.Proof

end
-- ==== Proof.Same.lean ====
/- The two printings of the kernel's program are one: the same table of bodies, the same threads. -/
module

public import proofs.«01_k».proof.Proof.Gen.Kernel
public import proofs.«01_k».proof.Proof.Call

@[expose] public section

set_option maxRecDepth 65536

namespace Cert.Proof

open Cert.KernelIdeal Cert.KernelIdeal.Gen
open Idealize.ShloMosaic
open Idealize.SL.Sem

variable {F : FTy → Type} [FloatOps F]

theorem counts_same : Cert.Kernel.cc0__sc_counts_kernel (F := F) = cc0__sc_counts_kernel (F := F) := rfl

/-- A vector subcore's body with the counting kernel `k`. -/
def vecBody (k : type_of% (cc0__sc_counts_kernel (F := F))) (a : Fin τ.nSC) (b : Fin τ.nSub) : Prog (TpuEff nD τ sig (Elt F) Λ₀ (.scVector a b)) PUnit :=
  SparseCore.onTile hcore0 hsub0 (fun c s => k (tileAt c s) srcV (Memref.isWhole_whole _) dstV (Memref.isWhole_whole _) ssV (Memref.isWhole_whole _) sdV (Memref.isWhole_whole _)
      dsV (Memref.isWhole_whole _) ddV (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scoped0 cc0_scoped1 cc0_scoped2 cc0_scoped3 cc0_scoped4 cc0_scoped5 cc0_scoped6 cc0_scoped7 cc0_scoped8 cc0_scoped9 cc0_scoped10 cc0_scoped11
      cc0_scoped12 cc0_scoped13 cc0_scoped14 cc0_scoped15 cc0_scoped16 cc0_scoped17 cc0_scoped18 cc0_scoped19 cc0_scoped20 cc0_scoped21 cc0_scoped22 cc0_scoped23) ⟨⟩ a b

theorem vector_same (a : Fin τ.nSC) (b : Fin τ.nSub) : Cert.Kernel.defs₀ (F := F) (.scVector a b) 0 () = defs₀ (F := F) (.scVector a b) 0 () := by
  have h1 : Cert.Kernel.defs₀ (F := F) (.scVector a b) 0 () = vecBody (Cert.Kernel.cc0__sc_counts_kernel (F := F)) a b := rfl
  have h2 : defs₀ (F := F) (.scVector a b) 0 () = vecBody (cc0__sc_counts_kernel (F := F)) a b := rfl
  exact h1.trans ((congrArg (fun k => vecBody (F := F) k a b) (counts_same (F := F))).trans h2.symm)

theorem bodies_same : Cert.Kernel.defs₀ (F := F) = defs₀ (F := F) := by
  funext p l a
  match p, l, a with
  | .tc, 0, _ => rfl
  | .tc, 1, (t, s) => rfl
  | .scScalar c, 0, _ => rfl
  | .scScalar c, 1, _ => rfl
  | .scVector c s, 0, _ => exact vector_same c s
  | .scVector c s, 1, _ => rfl

theorem defs_same : Cert.Kernel.defs (F := F) = defs (F := F) :=
  congrArg (fun b => (sc (F := F)).defs (Pipeline.defs pcfgs b)) (bodies_same (F := F))

theorem threads_same : Cert.Kernel.threads (F := F) = threads (F := F) := rfl

end Cert.Proof

end
-- ==== Proof.Frames.lean ====
/- The two rows of ids are in range under the precondition; the programs run and leave their arguments alone. -/
module

public import proofs.«01_k».proof.Defs
public import proofs.«01_k».proof.Proof.Main
public import proofs.«01_k».proof.Proof.Same
public import proofs.«01_k».proof.Proof.Gen.ReferenceIdeal.Run
public import Idealize.ShloMosaic.Lib.ReduceAll
public import Idealize.ShloMosaic.Adequacy

@[expose] public section

set_option maxRecDepth 65536

noncomputable section

namespace Cert.Proof

open Cert.KernelIdeal Cert.KernelIdeal.Gen Cert.Proof.Row
open Idealize.ShloMosaic Idealize.ShloMosaic.TcCoe
open Idealize.SL Idealize.SL.Sem
open Idealize.ShloMosaic.StableHlo (held after seq)

variable {F : FTy → Type} [FloatOps F]

attribute [local irreducible] countsAll counts idsOf wide

/-! ## The precondition -/

instance preFacts : Cert.Pre_ids_in_range.Facts := ⟨by decide, by decide, by decide⟩

theorem small_of_bits (v : BitVec 32) (e : IntOp.andi (IntOp.cmpi .sge v 0#32) (IntOp.cmpi .slt v 1000#32) = 1#1) : v.toNat < 1000 := by
  obtain ⟨h0, h1⟩ := IntOp.andi_eq_one.1 e
  have h0 := IntOp.cmpi_sge.1 h0
  have h1 := IntOp.cmpi_slt.1 h1
  rw [show (0#32).toInt = 0 from rfl] at h0
  rw [show (1000#32).toInt = 1000 by decide] at h1
  have := v.isLt
  rw [BitVec.toInt_eq_toNat_cond] at h0 h1
  split at h0 <;> omega

theorem small_of_pre {x y : IVec S4096x200 32} {a : FVec F S2x64 .f32} {b : FVec F S64 .f32} {c : FVec F S64x64 .f32} {e : FVec F S64 .f32}
    (h : Cert.Pre_ids_in_range.fn (F := F) x y a b c e = fun _ => 1#1) : (∀ i, (x i).toNat < 1000) ∧ ∀ i, (y i).toNat < 1000 := by
  have h' := congrFun h (fun i => i.elim0)
  unfold Cert.Pre_ids_in_range.fn at h'
  obtain ⟨h0, h1⟩ := IntOp.andi_eq_one.1 h'
  haveI : Subsingleton Cert.Pre_ids_in_range.S_.Idx := ⟨fun a b => funext fun i => i.elim0⟩
  exact ⟨fun i => small_of_bits _ (Host.reduce_andi_all _ _ _ _ _ h0 i), fun i => small_of_bits _ (Host.reduce_andi_all _ _ _ _ _ h1 i)⟩

variable (m : (ℓ : Loc nD τ sig) → Buf (Elt F) ℓ)

/-- Every node id of the launch is a node. -/
def Small : Prop := ∀ d : Dev nD, (∀ i : S4096x200.Idx, BitVec.toNat (w := 32) (m ((SparseCore.T d).loc main_arg0) i) < 1000)
  ∧ ∀ i : S4096x200.Idx, BitVec.toNat (w := 32) (m ((SparseCore.T d).loc main_arg1) i) < 1000

theorem srcIds_eq (d : Dev nD) : srcIds m d = shapeCast S819200 (m ((SparseCore.T d).loc main_arg0) : IVec S4096x200 32) shapeCasts_S4096x200_S819200 := by
  unfold srcIds W1 W0 opsA
  after_results
  rfl
theorem dstIds_eq (d : Dev nD) : dstIds m d = shapeCast S819200 (m ((SparseCore.T d).loc main_arg1) : IVec S4096x200 32) shapeCasts_S4096x200_S819200 := by
  unfold dstIds W1 W0 opsA
  after_results
  rfl

variable {m}

theorem srcIds_in (h : Small m) (d : Dev nD) : InR (srcIds m d) := fun i => by
  rw [srcIds_eq]; exact Nat.lt_trans ((h d).1 _) (by decide)
theorem dstIds_in (h : Small m) (d : Dev nD) : InR (dstIds m d) := fun i => by
  rw [dstIds_eq]; exact Nat.lt_trans ((h d).2 _) (by decide)

/-! ## The arguments -/

theorem W5_arg (h : Small m) (d : Dev nD) {b : Ref sig .tc} (hb : b ∈ [main_arg0, main_arg1, main_arg2, main_arg3, main_arg4, main_arg5]) :
    W5 m (srcIds_in h) (dstIds_in h) d (Proc.devRef .tc b) = m ((SparseCore.T d).loc b) := by
  have hA : W1 m d (Proc.devRef .tc b) = m ((SparseCore.T d).loc b) :=
    StableHlo.after_of_writes_sub opsA (W0 m d) (W := [main_v0, main_v1]) (StableHlo.forall_writes_sub_of_map rfl) (by clear * - hb; revert hb; revert b; decide)
  have h2 : W2 m (srcIds_in h) (dstIds_in h) d (Proc.devRef .tc b) = W1 m d (Proc.devRef .tc b) :=
    W2_ne _ _ _ d (by
      simp only [six, Finset.mem_insert, Finset.mem_singleton, not_or]
      simp only [List.mem_cons, List.not_mem_nil, or_false] at hb
      rcases hb with rfl | rfl | rfl | rfl | rfl | rfl <;> exact ⟨dr_ne (by decide), dr_ne (by decide), dr_ne (by decide), dr_ne (by decide), dr_ne (by decide), dr_ne (by decide)⟩)
  have h3 : W3 m (srcIds_in h) (dstIds_in h) d (Proc.devRef .tc b) = W2 m (srcIds_in h) (dstIds_in h) d (Proc.devRef .tc b) :=
    StableHlo.after_of_writes_sub opsB _ (W := [main_v3, main_v4, main_v5, main_v6, main_v7, main_v8, main_v9]) (StableHlo.forall_writes_sub_of_map rfl) (by clear * - hb; revert hb; revert b; decide)
  have h4 := W4_ne m (srcIds_in h) (dstIds_in h) d (b := b) (by rintro rfl; revert hb; decide) (by rintro rfl; revert hb; decide)
  have h5 : W5 m (srcIds_in h) (dstIds_in h) d (Proc.devRef .tc b) = W4 m (srcIds_in h) (dstIds_in h) d (Proc.devRef .tc b) :=
    StableHlo.after_of_writes_sub opsC _ (W := [main_v11, main_v12]) (StableHlo.forall_writes_sub_of_map rfl) (by clear * - hb; revert hb; revert b; decide)
  rw [h5, h4, h3, h2, hA]

theorem small_kernel {m : (ℓ : Loc Cert.Kernel.nD Cert.Kernel.τ Cert.Kernel.sig) → Buf (Elt Bits) ℓ} (h : Cert.Pre_Kernel m) : Small (F := Bits) m := fun d => small_of_pre (h d)
theorem small_ideal {m : (ℓ : Loc nD τ sig) → Buf (Elt Ideal) ℓ} (h : Cert.Pre_KernelIdeal m) : Small (F := Ideal) m := fun d => small_of_pre (h d)

/-- The arguments end unchanged and no semaphore is left raised. -/
theorem args_kept (h : Small m) {r : PUnit × MemSt nD τ sig (Elt F)} (hr : QC m (srcIds_in h) (dstIds_in h) r) (d : Dev nD) {b : Ref sig .tc}
    (hb : b ∈ [main_arg0, main_arg1, main_arg2, main_arg3, main_arg4, main_arg5]) : r.2.mem ((SparseCore.T d).loc b) = m ((SparseCore.T d).loc b) :=
  (hr.1 d b (by clear * - hb; revert hb; revert b; decide)).trans (W5_arg h d hb)

/-- The kernel runs, its arguments end unchanged, and no semaphore is left raised. -/
theorem run_kept (h : Small m) (ρ : Dev nD → PrngReg) [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run Cert.KernelIdeal.defs _ _).mono (fun _ hr => ⟨fun c => ⟨args_kept h hr c (by decide), args_kept h hr c (by decide),
    args_kept h hr c (by decide), args_kept h hr c (by decide), args_kept h hr c (by decide), args_kept h hr c (by decide)⟩, hr.2⟩)
    (run_main (F := F) m (srcIds_in h) (dstIds_in h) ρ)

theorem frame_kernelIdeal : Cert.quiescent_KernelIdeal := fun m ρ hp => run_kept (F := Ideal) (m := m) (small_ideal hp) ρ
theorem frame_kernel : Cert.quiescent_Kernel := fun m ρ hp => by
  have h := run_kept (F := Bits) (m := m) (small_kernel hp) ρ
  rw [← defs_same] at h
  exact h

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre : Cert.quiescent_ReferenceIdeal_pre_ids_in_range := fun m ρ _ => frame_reference m ρ trivial

end Cert.Proof

end
-- ==== Proof.Counting.lean ====
/- The counts as numbers, over the extended reals: a block's scatter-add of running counts at last occurrences adds to each
   word the number of its lanes that name the word, so a row's histogram has at each word the number of the row's ids that
   are the word, and an array of counts has at each position the number of times its id is met in the other row. -/
module

public import proofs.«01_k».proof.Proof.Chunks
public import Idealize.ShloMosaic.Lib.IdealHost
public import Idealize.ShloMosaic.Lib.ValueIdx

@[expose] public section

set_option maxRecDepth 65536

noncomputable section

namespace Cert.Proof

open Cert.KernelIdeal Cert.KernelIdeal.Gen Cert.Proof.Row
open Idealize.ShloMosaic

/-! ## A block's scatter-add -/

/-- Adding at the last place alone how many places there are is adding one at every place. -/
theorem sum_last {n : ℕ} (p : Fin n → Prop) [DecidablePred p] :
    (∑ k : Fin n, if p k ∧ ∀ j, k < j → ¬ p j then (((Finset.univ.filter fun j => j ≤ k ∧ p j).card : ℕ) : EReal) else 0)
      = ((Finset.univ.filter p).card : EReal) := by
  rcases (Finset.univ.filter p).eq_empty_or_nonempty with he | hne
  · have hp : ∀ k, ¬ p k := fun k hk => by
      have : k ∈ Finset.univ.filter p := by simpa using hk
      rw [he] at this; simp at this
    rw [he]
    simp [hp]
  · obtain ⟨k₀, hk₀, hmax⟩ := (Finset.univ.filter p).exists_maximal hne
    have hpk : p k₀ := by simpa using hk₀
    have hm : ∀ j, p j → j ≤ k₀ := fun j hj => by
      rcases le_total k₀ j with h | h
      · exact hmax (by simpa using hj) h
      · exact h
    rw [Finset.sum_eq_single k₀]
    · rw [if_pos ⟨hpk, fun j hj hp => absurd (hm j hp) (not_le.2 hj)⟩]
      congr 2
      ext j
      simp only [Finset.mem_filter, Finset.mem_univ, true_and]
      exact ⟨fun h => h.2, fun h => ⟨hm j h, h⟩⟩
    · intro k _ hk
      rw [if_neg]
      rintro ⟨h1, h2⟩
      exact h2 k₀ (lt_of_le_of_ne (hm k h1) hk) hpk
    · intro h; exact absurd (Finset.mem_univ _) h

/-- Indexed adds one after another, at one word: the sum of what is added there. -/
theorem fold_add {s : Shape} {n : ℕ} (m : Fin n → Prop) [DecidablePred m] (i : Fin n → s.Idx) (y : Fin n → EReal) (w : s.Idx)
    [∀ (k : Fin n) (j : s.Idx), Decidable (∀ a, (j a).val = (i k a).val)] (L : List (Fin n)) (f : s.Idx → EReal) :
    (L.foldl (fun g k => if m k then fun j => if (∀ a, (j a).val = (i k a).val) then g (i k) + y k else g j else g) f) w
      = f w + (L.map fun k => if m k ∧ (∀ a, (w a).val = (i k a).val) then y k else 0).sum := by
  induction L generalizing f with
  | nil => simp
  | cons k L ih =>
    rw [List.foldl_cons, ih, List.map_cons, List.sum_cons, ← add_assoc]
    congr 1
    by_cases hm : m k
    · rw [if_pos hm]
      by_cases hw : ∀ a, (w a).val = (i k a).val
      · have : i k = w := funext fun a => Fin.ext (hw a).symm
        rw [if_pos hw, if_pos ⟨hm, hw⟩, this]
      · rw [if_neg hw, if_neg (fun h => hw h.2), add_zero]
    · rw [if_neg hm, if_neg (fun h => hm h.1), add_zero]

/-- A lane by its number. -/
def lane (k : Fin 16) : S16.Idx := Shape.ofLane (d := ![16]) k

theorem lane_zero (k : Fin 16) : (lane k 0).val = k.val := rfl

theorem lane_of (j : S16.Idx) : lane (j 0) = j := by
  funext a
  obtain rfl : a = 0 := Subsingleton.elim _ _
  rfl

theorem card_lanes (p : S16.Idx → Prop) [DecidablePred p] :
    (Finset.univ.filter p).card = (Finset.univ.filter fun k : Fin 16 => p (lane k)).card := by
  refine Finset.card_bij (fun j _ => j 0) (fun j hj => ?_) (fun j _ j' _ h => ?_) (fun k hk => ⟨lane k, ?_, rfl⟩)
  · exact Finset.mem_filter.2 ⟨Finset.mem_univ _, by rw [lane_of]; exact (Finset.mem_filter.1 hj).2⟩
  · rw [← lane_of j, ← lane_of j', h]
  · simpa using hk

theorem pos_lane (k : Fin 16) : (S16.rowMajor (lane k)).val = k.val := Shape.rowMajor_val_one _

theorem forall_lanes (p : S16.Idx → Prop) : (∀ j, p j) ↔ ∀ k : Fin 16, p (lane k) :=
  ⟨fun h k => h _, fun h j => lane_of j ▸ h (j 0)⟩

theorem scan_last (mask : IVec S16 1) (v : IVec S16 32) (k : Fin 16) :
    (scanCount mask v).1 (lane k) = 1#1 ↔ mask (lane k) = 1#1 ∧ ∀ j : Fin 16, k < j → ¬(mask (lane j) = 1#1 ∧ v (lane j) = v (lane k)) := by
  have e : (scanCount mask v).1 (lane k) = 1#1 ↔ mask (lane k) = 1#1 ∧ ∀ j : S16.Idx, (S16.rowMajor (lane k)).val < (S16.rowMajor j).val → ¬(mask j = 1#1 ∧ v j = v (lane k)) := by
    by_cases c : mask (lane k) = 1#1 ∧ ∀ j : S16.Idx, (S16.rowMajor (lane k)).val < (S16.rowMajor j).val → ¬(mask j = 1#1 ∧ v j = v (lane k))
    · exact ⟨fun _ => c, fun _ => if_pos c⟩
    · refine ⟨fun h => ?_, fun h => absurd h c⟩
      have h0 : (scanCount mask v).1 (lane k) = 0#1 := if_neg c
      rw [h0] at h
      exact absurd h (by decide)
  rw [e, forall_lanes]
  simp only [pos_lane]
  rfl

theorem scan_count (mask : IVec S16 1) (v : IVec S16 32) (k : Fin 16) (h : mask (lane k) = 1#1) :
    (scanCount mask v).2 (lane k)
      = BitVec.ofNat 32 (Finset.univ.filter fun j : Fin 16 => j ≤ k ∧ mask (lane j) = 1#1 ∧ v (lane j) = v (lane k)).card := by
  refine (if_pos h).trans (congrArg (BitVec.ofNat 32) ?_)
  rw [card_lanes]
  simp only [pos_lane]
  rfl

/-- After a block's scatter-add, a word has more by the number of the block's masked lanes that name it. -/
theorem addBlk_apply (mask : IVec S16 1) (v : IVec S16 32) (hv : InR v) (h : S1008.Idx → EReal) (w : S1008.Idx) :
    addBlk (F := Ideal) mask v hv h w
      = h w + (((Finset.univ.filter fun k : Fin 16 => mask (lane k) = 1#1 ∧ (v (lane k)).toNat = (w 0).val).card : ℕ) : EReal) := by
  unfold addBlk storeIdx
  simp only [if_true, Elt.idxAdd_f32, Ideal.idxAddf_def]
  refine (fold_add (s := S1008) (n := 16) (fun k => (scanCount mask v).1 (lane k) = 1) (fun k => idxAt ![v] hv.ok (lane k))
    (fun k => sitofp (F := Ideal) .f32 (scanCount mask v).2 (lane k)) w (List.finRange 16) h).trans ?_
  congr 1
  rw [← Fin.sum_univ_def, ← sum_last]
  refine Finset.sum_congr rfl fun k _ => ?_
  have hw : (∀ a, (w a).val = (idxAt ![v] hv.ok (lane k) a).val) ↔ (v (lane k)).toNat = (w 0).val :=
    ⟨fun h => (h 0).symm, fun h a => by obtain rfl : a = 0 := Subsingleton.elim _ _; exact h.symm⟩
  have hval : (v (lane k)).toNat = (w 0).val → ∀ j : Fin 16,
      ((mask (lane j) = 1#1 ∧ v (lane j) = v (lane k)) ↔ (mask (lane j) = 1#1 ∧ (v (lane j)).toNat = (w 0).val)) := fun hk j => by
    rw [← hk]
    exact and_congr_right fun _ => BitVec.toNat_inj.symm
  have hiff : ((scanCount mask v).1 (lane k) = 1 ∧ ∀ a, (w a).val = (idxAt ![v] hv.ok (lane k) a).val)
      ↔ ((mask (lane k) = 1#1 ∧ (v (lane k)).toNat = (w 0).val) ∧ ∀ j, k < j → ¬(mask (lane j) = 1#1 ∧ (v (lane j)).toNat = (w 0).val)) := by
    refine (and_congr (scan_last mask v k) hw).trans ?_
    constructor
    · rintro ⟨⟨h1, h2⟩, h3⟩
      exact ⟨⟨h1, h3⟩, fun j hj hq => h2 j hj ((hval h3 j).2 hq)⟩
    · rintro ⟨⟨h1, h3⟩, h2⟩
      exact ⟨⟨h1, fun j hj hq => h2 j hj ((hval h3 j).1 hq)⟩, h3⟩
  by_cases hp : ((mask (lane k) = 1#1 ∧ (v (lane k)).toNat = (w 0).val) ∧ ∀ j, k < j → ¬(mask (lane j) = 1#1 ∧ (v (lane j)).toNat = (w 0).val))
  swap
  · exact (if_neg (fun h => hp (hiff.1 h))).trans (if_neg hp).symm
  · refine (if_pos (hiff.2 hp)).trans (Eq.trans ?_ (if_pos hp).symm)
    have h2 : (scanCount mask v).2 (lane k)
        = BitVec.ofNat 32 (Finset.univ.filter fun j : Fin 16 => j ≤ k ∧ mask (lane j) = 1#1 ∧ (v (lane j)).toNat = (w 0).val).card := by
      rw [scan_count mask v k hp.1.1]
      simp only [hval hp.1.2]
    show FloatOps.sitofp (F := Ideal) .f32 ((scanCount mask v).2 (lane k)) = _
    rw [h2]
    generalize hc : (Finset.univ.filter fun j : Fin 16 => j ≤ k ∧ mask (lane j) = 1#1 ∧ (v (lane j)).toNat = (w 0).val).card = c
    have hc16 : c ≤ 16 := by rw [← hc]; exact (Finset.card_le_univ _).trans (by simp)
    have hi : (BitVec.ofNat 32 c).toInt = (c : ℤ) := by
      rw [BitVec.toInt_eq_toNat_cond, BitVec.toNat_ofNat]
      omega
    show (((BitVec.ofNat 32 c).toInt : ℝ) : EReal) = _
    rw [hi]
    simp

/-! ## A row's histogram -/

/-- How many of the `n` numbers from place `a` on are `w`. -/
def occ (x : ℕ → ℕ) (w a n : ℕ) : ℕ := ((Finset.range n).filter fun i => x (a + i) = w).card

theorem occ_add (x : ℕ → ℕ) (w a n m : ℕ) : occ x w a (n + m) = occ x w a n + occ x w (a + n) m := by
  unfold occ
  rw [Finset.card_filter, Finset.card_filter, Finset.card_filter, Finset.sum_range_add]
  simp only [Nat.add_assoc]

theorem occ_fin (x : ℕ → ℕ) (w a n : ℕ) : occ x w a n = (Finset.univ.filter fun k : Fin n => x (a + k.val) = w).card := by
  unfold occ
  rw [Finset.card_filter, Finset.card_filter, Finset.sum_range (fun i => if x (a + i) = w then 1 else 0)]

theorem occ_congr {x y : ℕ → ℕ} {w a b n : ℕ} (h : ∀ i, i < n → x (a + i) = y (b + i)) : occ x w a n = occ y w b n := by
  unfold occ
  congr 1
  ext i
  simp only [Finset.mem_filter, Finset.mem_range]
  exact and_congr_right fun hi => by rw [h i hi]

/-- The ids of a buffer as numbers. -/
def nums {n : ℕ} (x : IVec ⟨1, ![n]⟩ 32) (i : ℕ) : ℕ := if h : i < n then (x (fun | 0 => ⟨i, h⟩)).toNat else 0

theorem nums_of_lt {n : ℕ} (x : IVec ⟨1, ![n]⟩ 32) {i : ℕ} (h : i < n) : nums x i = (x (fun | 0 => ⟨i, h⟩)).toNat := dif_pos h

theorem win_num (x : IVec S6416 32) (t : Fin 32) (c : Col) (k : Fin 16) : (win x t c (lane k)).toNat = nums (n := 6416) x (t.val * 200 + c.1 + k.val) := by
  have := t.isLt; have := c.2; have := k.isLt
  rw [nums_of_lt x (by omega)]
  unfold win
  refine congrArg (fun i => (x i).toNat) (funext fun a => ?_)
  obtain rfl : a = 0 := Subsingleton.elim _ _
  exact Fin.ext (at_idxI t c (lane k))

theorem full_blk (x : IVec S6416 32) (hx : InR x) (t : Fin 32) (c : Col) (h : S1008.Idx → EReal) (w : S1008.Idx) (m : ℕ)
    (hh : h w = ((m : ℕ) : EReal)) :
    addBlk (F := Ideal) (broadcast S16 1#1) (win x t c) (hx.win t c) h w = ((m + occ (nums (n := 6416) x) (w 0).val (t.val * 200 + c.1) 16 : ℕ) : EReal) := by
  rw [addBlk_apply, occ_fin, Nat.cast_add]
  rw [hh]
  congr 3
  ext k
  simp only [Finset.mem_filter, Finset.mem_univ, true_and]
  rw [win_num]
  exact ⟨fun h => h.2, fun h => ⟨rfl, h⟩⟩

theorem tail_lane : ∀ k : Fin 16, tailMask (lane k) = 1#1 ↔ k.val < 8 := by decide

theorem tail_blk (x : IVec S6416 32) (hx : InR x) (t : Fin 32) (c : Col) (h : S1008.Idx → EReal) (w : S1008.Idx) (m : ℕ)
    (hh : h w = ((m : ℕ) : EReal)) :
    addBlk (F := Ideal) tailMask (win x t c) (hx.win t c) h w = ((m + occ (nums (n := 6416) x) (w 0).val (t.val * 200 + c.1) 8 : ℕ) : EReal) := by
  rw [addBlk_apply, occ_fin, Nat.cast_add]
  rw [hh]
  congr 2
  refine Finset.card_bij (fun k hk => ⟨k.val, ?_⟩) (fun k hk => ?_) (fun k _ k' _ e => ?_) (fun k hk => ⟨⟨k.val, by omega⟩, ?_, rfl⟩)
  · exact (tail_lane k).1 (Finset.mem_filter.1 hk).2.1
  · have := (Finset.mem_filter.1 hk).2.2
    rw [win_num] at this
    simpa using this
  · exact Fin.ext (congrArg (fun z : Fin 8 => z.val) e)
  · have := (Finset.mem_filter.1 hk).2
    simp only [Finset.mem_filter, Finset.mem_univ, true_and]
    exact ⟨(tail_lane _).2 k.isLt, by rw [win_num]; exact this⟩

/-- A row's histogram has at each word how many of the row's two hundred ids are the word. -/
theorem cnt_apply (x : IVec S6416 32) (hx : InR x) (t : Fin 32) (w : S1008.Idx) :
    cnt (F := Ideal) x hx t w = ((occ (nums (n := 6416) x) (w 0).val (t.val * 200) 200 : ℕ) : EReal) := by
  have h0 : (noCounts (F := Ideal)) w = ((0 : ℕ) : EReal) := by
    show Ideal.ofBits .f32 0x00000000#32 = _
    rw [Ideal.ofBits_zero_f32]; simp
  have e : occ (nums (n := 6416) x) (w 0).val (t.val * 200) 200 =
      0 + occ (nums (n := 6416) x) (w 0).val (t.val * 200 + 0) 16 + occ (nums (n := 6416) x) (w 0).val (t.val * 200 + 16) 16
        + occ (nums (n := 6416) x) (w 0).val (t.val * 200 + 32) 16 + occ (nums (n := 6416) x) (w 0).val (t.val * 200 + 48) 16
        + occ (nums (n := 6416) x) (w 0).val (t.val * 200 + 64) 16 + occ (nums (n := 6416) x) (w 0).val (t.val * 200 + 80) 16
        + occ (nums (n := 6416) x) (w 0).val (t.val * 200 + 96) 16 + occ (nums (n := 6416) x) (w 0).val (t.val * 200 + 112) 16
        + occ (nums (n := 6416) x) (w 0).val (t.val * 200 + 128) 16 + occ (nums (n := 6416) x) (w 0).val (t.val * 200 + 144) 16
        + occ (nums (n := 6416) x) (w 0).val (t.val * 200 + 160) 16 + occ (nums (n := 6416) x) (w 0).val (t.val * 200 + 176) 16
        + occ (nums (n := 6416) x) (w 0).val (t.val * 200 + 192) 8 := by
    rw [show (200 : ℕ) = 16 + 16 + 16 + 16 + 16 + 16 + 16 + 16 + 16 + 16 + 16 + 16 + 8 from rfl]
    simp only [occ_add]
    simp only [Nat.zero_add, Nat.add_zero, Nat.add_assoc, Nat.reduceAdd]
  rw [e]
  unfold cnt colsA
  simp only [addAll]
  exact tail_blk x hx t _ _ w _ <| full_blk x hx t _ _ w _ <| full_blk x hx t _ _ w _ <| full_blk x hx t _ _ w _ <|
    full_blk x hx t _ _ w _ <| full_blk x hx t _ _ w _ <| full_blk x hx t _ _ w _ <| full_blk x hx t _ _ w _ <|
    full_blk x hx t _ _ w _ <| full_blk x hx t _ _ w _ <| full_blk x hx t _ _ w _ <| full_blk x hx t _ _ w _ <|
    full_blk x hx t _ _ w _ h0

/-! ## The arrays of counts -/

/-- A number at an id that is not zero, zero at zero. -/
def atNonzero (v : BitVec 32) (g : EReal) : EReal := if v = 0#32 then 0 else g

theorem selAt_eq (v : BitVec 32) (g : Ideal .f32) : selAt (F := Ideal) v g = atNonzero v g := by
  show Scalar.select (IntOp.cmpi .ne v 0#32) g (Ideal.ofBits .f32 0x00000000#32) = _
  rw [Ideal.ofBits_zero_f32]
  unfold atNonzero
  by_cases h : v = 0#32
  · subst h; rfl
  · rw [if_neg h]
    have : IntOp.cmpi .ne v 0#32 = 1#1 := by
      unfold IntOp.cmpi
      show BitVec.ofBool (v != 0#32) = 1#1
      rw [show (v != 0#32) = true by simpa using h]; rfl
    rw [this]; rfl

theorem pad_posI (X : IVec S6400 32) (j : S6400.Idx) : pad X (posI j) = X j := by
  unfold pad
  rw [dif_pos (show (posI j 0).val < 6400 from (j 0).isLt)]
  refine congrArg X (funext fun a => ?_)
  obtain rfl : a = 0 := Subsingleton.elim _ _
  rfl

/-- At every position, how often its id is among the other array's ids of the same row; zero at padding. -/
theorem countsAll_apply (A B : IVec S819200 32) (hB : InR B) (hA : InR A) (p : S819200.Idx) :
    countsAll (F := Ideal) A B hB p
      = atNonzero (A p) ((occ (nums (n := 819200) B) (A p).toNat ((p 0).val / 200 * 200) 200 : ℕ) : EReal) := by
  have hp : (p 0).val < 819200 := (p 0).isLt
  obtain ⟨j, hj, e⟩ : ∃ j : S6400.Idx, (j 0).val = (p 0).val % 6400
      ∧ countsAll (F := Ideal) A B hB p = counts (F := Ideal) (idsOf A ((p 0).val / 6400)) (idsOf B ((p 0).val / 6400)) (hB.idsOf _) j := ⟨_, rfl, rfl⟩
  rw [e]
  unfold counts outV
  have hx : idsOf A ((p 0).val / 6400) j = A p := by
    rw [idsOf_of_lt A (by omega)]
    refine congrArg A (funext fun a => ?_)
    obtain rfl : a = 0 := Subsingleton.elim _ _
    exact Fin.ext (show 6400 * ((p 0).val / 6400) + (j 0).val = (p 0).val by omega)
  rw [selAt_eq, pad_posI, hx]
  refine congrArg (atNonzero (A p)) ?_
  unfold look
  rw [cnt_apply]
  refine congrArg Nat.cast ?_
  show occ _ ((A p).toNat % 1008) ((j 0).val / 200 * 200) 200 = _
  rw [Nat.mod_eq_of_lt (hA p)]
  refine occ_congr fun i hi => ?_
  have hl : (j 0).val / 200 * 200 + i < 6400 := by omega
  rw [nums_of_lt _ (show (j 0).val / 200 * 200 + i < 6416 by omega), nums_of_lt _ (show (p 0).val / 200 * 200 + i < 819200 by omega)]
  obtain ⟨j', hj', e'⟩ : ∃ j' : S6400.Idx, (j' 0).val = (j 0).val / 200 * 200 + i ∧ posI j' = fun | 0 => ⟨(j 0).val / 200 * 200 + i, by show _ < 6416; omega⟩ :=
    ⟨fun | 0 => ⟨(j 0).val / 200 * 200 + i, hl⟩, rfl, funext fun a => by obtain rfl : a = 0 := Subsingleton.elim _ _; rfl⟩
  refine congrArg BitVec.toNat ((congrArg (pad (idsOf B ((p 0).val / 6400))) e'.symm).trans ?_)
  rw [pad_posI, idsOf_of_lt B (by omega)]
  refine congrArg B (funext fun a => ?_)
  obtain rfl : a = 0 := Subsingleton.elim _ _
  exact Fin.ext (show 6400 * ((p 0).val / 6400) + (j' 0).val = (p 0).val / 200 * 200 + i by omega)

end Cert.Proof
-- ==== Proof.RefCount.lean ====
/- The reference's counts as numbers: a histogram per row scattered from the row's ids and gathered back at ids has, at each
   position, how often the id is in the row. -/
module

public import proofs.«01_k».proof.Proof.Counting
public import proofs.«01_k».proof.Proof.Gen.ReferenceIdeal.Run
public import Idealize.ShloMosaic.Lib.Routing.OpsPair
public import Idealize.ShloMosaic.Lib.Pointwise

@[expose] public section

set_option maxRecDepth 65536

noncomputable section

namespace Cert.Proof.Ref

open Cert.ReferenceIdeal Cert.ReferenceIdeal.Gen
open Idealize.ShloMosaic hiding ix1 ix2 ix3 eq_ix1 eq_ix2 eq_ix3
open Idealize.ShloMosaic.ValueIdx
open Idealize.ShloMosaic.Routing (shape2 shape3)

/-! ## A gather by pairs of words -/

/-- Entry `(a, b)` of a gather of scalars out of a matrix by pairs of words: the matrix at the pair. -/
theorem gather_pair {α : Type} {R C A B : ℕ} (d : GatherDims (shape2 R C) (shape3 A B 2) (shape2 A B)) (ho : d.offsetDims = [])
    (hc : d.collapsedSliceDims = [0, 1]) (hb : d.operandBatchingDims = []) (hs : d.startIndexMap = [0, 1]) (hv : d.indexVectorDim = 2)
    (hz : d.sliceSizes = ![1, 1]) (x : (shape2 R C).Idx → α) (idx : IVec (shape3 A B 2) 32) (a : Fin A) (b : Fin B) (r : Fin R) (c : Fin C)
    (h0 : (idx (ix3 a b 0)).toInt = r.val) (h1 : (idx (ix3 a b 1)).toInt = c.val) :
    Host.gather d x idx (ix2 a b) = x (ix2 r c) := by
  have hm : ∀ q : Fin 2, q ∈ d.startIndexMap := fun q => by rw [hs]; fin_cases q <;> simp
  have hk : d.siKept = [0, 1] := by
    show (List.finRange 3).filter (fun x => decide (x.val ≠ d.indexVectorDim)) = _
    rw [hv]
    rfl
  have hu : d.batchDims = [0, 1] := by
    show (shape2 A B).kept d.offsetDims = _
    rw [ho]
    rfl
  have e : ∀ (l : List (Fin 2)) (n : ℕ) (h : n < l.length) (m : Fin 2), l = [0, 1] → n = m.val → l[n]'h = m := by
    intro l n h m hl hn
    subst hl
    subst hn
    fin_cases m <;> rfl
  have hsi : ∀ q : Fin 2, d.siIdx (ix2 a b) ⟨d.startIndexMap.idxOf q, List.idxOf_lt_length_iff.2 (hm q)⟩ = ix3 a b q := fun q => by
    funext p
    apply Fin.ext
    match p with
    | ⟨0, _⟩ =>
      unfold GatherDims.siIdx
      rw [dif_neg (by rw [hv]; exact (by decide : (0 : ℕ) ≠ 2))]
      unfold GatherDims.siCoord
      simp only [Fin.val_cast]
      rw [e _ _ _ 0 hu (by rw [hk]; rfl)]
    | ⟨1, _⟩ =>
      unfold GatherDims.siIdx
      rw [dif_neg (by rw [hv]; exact (by decide : (1 : ℕ) ≠ 2))]
      unfold GatherDims.siCoord
      simp only [Fin.val_cast]
      rw [e _ _ _ 1 hu (by rw [hk]; rfl)]
    | ⟨2, _⟩ =>
      unfold GatherDims.siIdx
      rw [dif_pos (by rw [hv])]
      show d.startIndexMap.idxOf q = q.val
      rw [hs]
      fin_cases q <;> rfl
  have hst : ∀ q : Fin 2, d.start (ix2 a b) idx q = min (idx (ix3 a b q)).toInt.toNat ((shape2 R C).size q - 1) := fun q => by
    unfold GatherDims.start
    rw [dif_pos (hm q), hsi q, hz]
    fin_cases q <;> rfl
  have hbc : ∀ q : Fin 2, d.batchCoord (ix2 a b) q = 0 := fun q => d.batchCoord_eq_zero _ _ (by rw [hb]; simp)
  have hoc : ∀ q : Fin 2, d.offCoord (ix2 a b) q = 0 := fun q => d.offCoord_eq_zero _ _ (fun h => by
    have := ((d.mem_sKept q).1 h).1
    rw [hc] at this
    revert this
    fin_cases q <;> simp)
  unfold Host.gather
  refine congrArg x (funext fun q => Fin.ext ?_)
  show d.start (ix2 a b) idx q + d.batchCoord (ix2 a b) q + d.offCoord (ix2 a b) q = _
  rw [hst, hbc, hoc]
  have hr := r.isLt; have hcl := c.isLt
  match q with
  | ⟨0, _⟩ =>
    show min (idx (ix3 a b 0)).toInt.toNat (R - 1) + 0 + 0 = r.val
    rw [h0]; omega
  | ⟨1, _⟩ =>
    show min (idx (ix3 a b 1)).toInt.toNat (C - 1) + 0 + 0 = c.val
    rw [h1]; omega

/-! ## The reference's parts -/

variable {F : FTy → Type} [FloatOps F]

/-- Each position's row. -/
def rowsR : IVec S4096x200x1 32 :=
  broadcastInDim S4096x200x1 ![0, 1] bcast_S4096x200_S4096x200x1_0_1 (broadcastInDim S4096x200 ![0, 1] bcast_S4096x1_S4096x200_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0))))

/-- Each position's id. -/
def idsR (X : IVec S4096x200 32) : IVec S4096x200x1 32 :=
  broadcastInDim S4096x200x1 ![0, 1] bcast_S4096x200_S4096x200x1_0_1 (select (cmpi .slt X (broadcastInDim S4096x200 ![] bcast_S_S4096x200 (constantI S_ 32 0#32))) (addi X (broadcastInDim S4096x200 ![] bcast_S_S4096x200 (constantI S_ 32 1000#32))) X)

/-- Each position's row and id. -/
def pairs (X : IVec S4096x200 32) : IVec S4096x200x2 32 :=
  concatenate S4096x200x2 2 [⟨S4096x200x1, rowsR⟩, ⟨S4096x200x1, idsR X⟩] concatenates_S4096x200x1_S4096x200x1_S4096x200x2_d2

/-- Every row's histogram. -/
def histR (Y : IVec S4096x200 32) : FVec F S4096x1000 .f32 :=
  Host.scatterAdd scatter_S4096x1000_S4096x200x2_S4096x200_n_01_01_2 (broadcastInDim S4096x1000 ![] bcast_S_S4096x1000 (constant S_ .f32 0x00000000#32)) (pairs Y) (broadcastInDim S4096x200 ![] bcast_S_S4096x200 (constant S_ .f32 0x3F800000#32))

/-- The histograms of `Y` at the ids `X`. -/
def takenR (X Y : IVec S4096x200 32) : FVec F S4096x200 .f32 :=
  Host.gather gather_S4096x1000_S4096x200x2_S4096x200_n_01_n_n_01_2_11 (histR Y) (pairs X)

/-- The two counts of each position, zero at padding. -/
def pairR (X Y Z : IVec S4096x200 32) : FVec F S4096x200x2 .f32 :=
  mulf (concatenate S4096x200x2 2 [⟨S4096x200x1, broadcastInDim S4096x200x1 ![0, 1] bcast_S4096x200_S4096x200x1_0_1 (takenR (F := F) X Y)⟩, ⟨S4096x200x1, broadcastInDim S4096x200x1 ![0, 1] bcast_S4096x200_S4096x200x1_0_1 (takenR (F := F) X Z)⟩] concatenates_S4096x200x1_S4096x200x1_S4096x200x2_d2) (broadcastInDim S4096x200x2 ![0, 1, 2] bcast_S4096x200x1_S4096x200x2_0_1_2 (broadcastInDim S4096x200x1 ![0, 1] bcast_S4096x200_S4096x200x1_0_1 (uitofp .f32 (cmpi .ne X (broadcastInDim S4096x200 ![] bcast_S_S4096x200 (constantI S_ 32 0#32))))))

/-- The encoder on a pair of counts at each position. -/
def encR (C : FVec F S4096x200x2 .f32) (W1 : FVec F S2x64 .f32) (b1 : FVec F S64 .f32) (W2 : FVec F S64x64 .f32) (b2 : FVec F S64 .f32) :
    FVec F S4096x200x64 .f32 :=
  addf (Host.dotGeneral dot_S4096x200x64_S64x64_S4096x200x64_2_0_01_1_n_n none (maximumf (addf (Host.dotGeneral dot_S4096x200x2_S2x64_S4096x200x64_2_0_01_1_n_n none C W1) (broadcastInDim S4096x200x64 ![0, 1, 2] bcast_S1x1x64_S4096x200x64_0_1_2 (broadcastInDim S1x1x64 ![2] bcast_S64_S1x1x64_2 b1))) (broadcastInDim S4096x200x64 ![] bcast_S_S4096x200x64 (constant S_ .f32 0x00000000#32))) W2) (broadcastInDim S4096x200x64 ![0, 1, 2] bcast_S1x1x64_S4096x200x64_0_1_2 (broadcastInDim S1x1x64 ![2] bcast_S64_S1x1x64_2 b2))

section
variable (m : (ℓ : Loc nD τ sig) → Buf (Elt F) ℓ) (c : Dev nD)

/-- The reference's result for the source rows, by its parts. -/
theorem res0_eq : Cert.ReferenceIdeal.Value.res_out0 m c
    = encR (pairR (m ((c.tc : Thread nD τ).loc main_arg0)) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5)) := rfl

/-- The reference's result for the destination rows, by its parts. -/
theorem res1_eq : Cert.ReferenceIdeal.Value.res_out1 m c
    = encR (pairR (m ((c.tc : Thread nD τ).loc main_arg1)) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5)) := rfl
end

/-! ## Reading the parts at a position -/

section
variable {α : Type} (a : Fin 4096) (b : Fin 200)

theorem cat_zero (x y : S4096x200x1.Idx → α) :
    concatenate S4096x200x2 2 [⟨S4096x200x1, x⟩, ⟨S4096x200x1, y⟩] concatenates_S4096x200x1_S4096x200x1_S4096x200x2_d2 (ix3 a b (0 : Fin 2))
      = x (ix3 a b (0 : Fin 1)) := by
  refine concatenate_pair_apply_left (t := S4096x200x2) (s₁ := S4096x200x1) (s₂ := S4096x200x1) (2 : Fin 3) x y _ (ix3 a b (0 : Fin 2)) rfl (ix3 a b (0 : Fin 1)) fun q => ?_
  match q with
  | ⟨0, _⟩ => rfl
  | ⟨1, _⟩ => rfl
  | ⟨2, _⟩ => rfl

theorem cat_one (x y : S4096x200x1.Idx → α) :
    concatenate S4096x200x2 2 [⟨S4096x200x1, x⟩, ⟨S4096x200x1, y⟩] concatenates_S4096x200x1_S4096x200x1_S4096x200x2_d2 (ix3 a b (1 : Fin 2))
      = y (ix3 a b (0 : Fin 1)) := by
  refine concatenate_pair_apply_right (t := S4096x200x2) (s₁ := S4096x200x1) (s₂ := S4096x200x1) (2 : Fin 3) x y _ (ix3 a b (1 : Fin 2)) rfl rfl (ix3 a b (0 : Fin 1)) (fun q hq => ?_) rfl
  match q, hq with
  | ⟨0, _⟩, _ => rfl
  | ⟨1, _⟩, _ => rfl
  | ⟨2, _⟩, h => exact absurd rfl h

theorem last_one (x : S4096x200.Idx → α) :
    broadcastInDim S4096x200x1 ![0, 1] bcast_S4096x200_S4096x200x1_0_1 x (ix3 a b (0 : Fin 1)) = x (ix2 a b) := by
  refine broadcastInDim_apply (s := S4096x200) (t := S4096x200x1) ![0, 1] _ x (ix3 a b (0 : Fin 1)) (ix2 a b) fun q => ?_
  match q with
  | ⟨0, _⟩ => rfl
  | ⟨1, _⟩ => rfl

theorem both_ones (x : S4096x200x1.Idx → α) (k : Fin 2) :
    broadcastInDim S4096x200x2 ![0, 1, 2] bcast_S4096x200x1_S4096x200x2_0_1_2 x (ix3 a b k) = x (ix3 a b (0 : Fin 1)) := by
  refine broadcastInDim_apply (s := S4096x200x1) (t := S4096x200x2) ![0, 1, 2] _ x (ix3 a b k) (ix3 a b (0 : Fin 1)) fun q => ?_
  match q with
  | ⟨0, _⟩ => rfl
  | ⟨1, _⟩ => rfl
  | ⟨2, _⟩ => rfl
end

/-! ## The counts -/

theorem toInt_small {x : BitVec 32} (h : x.toNat < 2147483648) : x.toInt = (x.toNat : ℤ) := by
  rw [BitVec.toInt_eq_toNat_cond]; omega

theorem rowsR_apply (a : Fin 4096) (b : Fin 200) : (rowsR (ix3 a b (0 : Fin 1))).toInt = (a.val : ℤ) := by
  have h : rowsR (ix3 a b (0 : Fin 1)) = BitVec.ofNat 32 a.val := by
    unfold rowsR
    refine (Routing.wrap_of_lt (BitVec.ofNat 32 a.val) _ ?_)
    rw [BitVec.toNat_ofNat]; have := a.isLt; omega
  have := a.isLt
  rw [h, toInt_small (by rw [BitVec.toNat_ofNat]; omega), BitVec.toNat_ofNat]
  omega

theorem idsR_apply (X : IVec S4096x200 32) (hX : ∀ i, (X i).toNat < 1000) (a : Fin 4096) (b : Fin 200) :
    (idsR X (ix3 a b (0 : Fin 1))).toInt = ((X (ix2 a b)).toNat : ℤ) := by
  have h : idsR X (ix3 a b (0 : Fin 1)) = X (ix2 a b) := by
    unfold idsR
    rw [last_one]
    exact Routing.wrap_of_lt _ _ (by have := hX (ix2 a b); omega)
  rw [h, toInt_small (by have := hX (ix2 a b); omega)]

theorem pairs_row (X : IVec S4096x200 32) (a : Fin 4096) (b : Fin 200) : (pairs X (ix3 a b (0 : Fin 2))).toInt = (a.val : ℤ) := by
  unfold pairs
  rw [cat_zero, rowsR_apply]

theorem pairs_id (X : IVec S4096x200 32) (hX : ∀ i, (X i).toNat < 1000) (a : Fin 4096) (b : Fin 200) :
    (pairs X (ix3 a b (1 : Fin 2))).toInt = ((X (ix2 a b)).toNat : ℤ) := by
  unfold pairs
  rw [cat_one, idsR_apply X hX]

theorem histR_apply (Y : IVec S4096x200 32) (hY : ∀ i, (Y i).toNat < 1000) (a : Fin 4096) (k : Fin 1000) :
    histR (F := Ideal) Y (ix2 a k) = (((Finset.univ.filter fun b : Fin 200 => (Y (ix2 a b)).toNat = k.val).card : ℕ) : EReal) := by
  have e : histR (F := Ideal) Y (ix2 a k)
      = Ideal.ofBits .f32 0x00000000#32
        + ∑ j ∈ Finset.univ.filter (fun j => (scatter_S4096x1000_S4096x200x2_S4096x200_n_01_01_2).resultIdx? j (pairs Y) = some (ix2 a k)), Ideal.ofBits .f32 0x3F800000#32 := rfl
  rw [e, Ideal.ofBits_zero_f32, Ideal.ofBits_one_f32, zero_add, Finset.sum_const, nsmul_one]
  refine congrArg Nat.cast (Finset.card_bij (fun j _ => j 1) (fun j hj => ?_) (fun j hj j' hj' h => ?_) (fun b hb => ⟨ix2 a b, ?_, rfl⟩))
  · obtain ⟨r, b, rfl⟩ : ∃ r b, j = ix2 r b := ⟨j 0, j 1, eq_ix2 j⟩
    have h := (Routing.scatter_lands2 _ rfl rfl rfl _ _ _ _ _).1 (Finset.mem_filter.1 hj).2
    rw [pairs_row, pairs_id Y hY] at h
    have hr : r = a := Fin.ext (by omega)
    subst hr
    exact Finset.mem_filter.2 ⟨Finset.mem_univ _, by show (Y (ix2 r b)).toNat = _; omega⟩
  · obtain ⟨r, b, rfl⟩ : ∃ r b, j = ix2 r b := ⟨j 0, j 1, eq_ix2 j⟩
    obtain ⟨r', b', rfl⟩ : ∃ r b, j' = ix2 r b := ⟨j' 0, j' 1, eq_ix2 j'⟩
    have h1 := (Routing.scatter_lands2 _ rfl rfl rfl _ _ _ _ _).1 (Finset.mem_filter.1 hj).2
    have h2 := (Routing.scatter_lands2 _ rfl rfl rfl _ _ _ _ _).1 (Finset.mem_filter.1 hj').2
    rw [pairs_row] at h1 h2
    have hr : r = r' := Fin.ext (by omega)
    have hb : b = b' := h
    rw [hr, hb]
  · refine Finset.mem_filter.2 ⟨Finset.mem_univ _, (Routing.scatter_lands2 _ rfl rfl rfl _ _ _ _ _).2 ⟨pairs_row Y a b, ?_⟩⟩
    rw [pairs_id Y hY, (Finset.mem_filter.1 hb).2]

/-- How often the id of `X` at row `a` and place `b` is among the ids of row `a` of `Y`. -/
def times (X Y : IVec S4096x200 32) (a : Fin 4096) (b : Fin 200) : ℕ :=
  (Finset.univ.filter fun n : Fin 200 => (Y (ix2 a n)).toNat = (X (ix2 a b)).toNat).card

theorem takenR_apply (X Y : IVec S4096x200 32) (hX : ∀ i, (X i).toNat < 1000) (hY : ∀ i, (Y i).toNat < 1000) (a : Fin 4096) (b : Fin 200) :
    takenR (F := Ideal) X Y (ix2 a b) = ((times X Y a b : ℕ) : EReal) := by
  refine (gather_pair _ rfl rfl rfl rfl rfl rfl (histR (F := Ideal) Y) (pairs X) a b a ⟨(X (ix2 a b)).toNat, hX _⟩ (pairs_row X a b) (pairs_id X hX a b)).trans ?_
  exact histR_apply Y hY a _

/-- The reference's mask. -/
theorem mask_apply (v : BitVec 32) (g : EReal) :
    g * (FloatOps.uitofp (F := Ideal) .f32 (IntOp.cmpi .ne v 0#32) : EReal) = atNonzero v g := by
  unfold atNonzero
  by_cases h : v = 0#32
  · subst h
    rw [if_pos rfl]
    have : (FloatOps.uitofp (F := Ideal) .f32 (IntOp.cmpi .ne 0#32 0#32) : EReal) = 0 := by
      show (((IntOp.cmpi .ne (0#32) 0#32).toNat : ℝ) : EReal) = 0
      rw [show IntOp.cmpi .ne 0#32 0#32 = 0#1 from rfl]; simp
    rw [this, mul_zero]
  · rw [if_neg h]
    have e : IntOp.cmpi .ne v 0#32 = 1#1 := by
      show BitVec.ofBool (v != 0#32) = 1#1
      rw [show (v != 0#32) = true by simpa using h]; rfl
    have : (FloatOps.uitofp (F := Ideal) .f32 (IntOp.cmpi .ne v 0#32) : EReal) = 1 := by
      show (((IntOp.cmpi .ne v 0#32).toNat : ℝ) : EReal) = 1
      rw [e]; simp
    rw [this, mul_one]

theorem pairR_zero (X Y Z : IVec S4096x200 32) (hX : ∀ i, (X i).toNat < 1000) (hY : ∀ i, (Y i).toNat < 1000) (a : Fin 4096) (b : Fin 200) :
    pairR (F := Ideal) X Y Z (ix3 a b (0 : Fin 2)) = atNonzero (X (ix2 a b)) ((times X Y a b : ℕ) : EReal) := by
  rw [← takenR_apply X Y hX hY, ← mask_apply]
  unfold pairR
  refine congrArg₂ (fun x y : EReal => x * y) ?_ ?_
  · rw [cat_zero, last_one]
  · rw [both_ones, last_one]; rfl

theorem pairR_one (X Y Z : IVec S4096x200 32) (hX : ∀ i, (X i).toNat < 1000) (hZ : ∀ i, (Z i).toNat < 1000) (a : Fin 4096) (b : Fin 200) :
    pairR (F := Ideal) X Y Z (ix3 a b (1 : Fin 2)) = atNonzero (X (ix2 a b)) ((times X Z a b : ℕ) : EReal) := by
  rw [← takenR_apply X Z hX hZ, ← mask_apply]
  unfold pairR
  refine congrArg₂ (fun x y : EReal => x * y) ?_ ?_
  · rw [cat_one, last_one]
  · rw [both_ones, last_one]; rfl

end Cert.Proof.Ref
-- ==== Proof.Layers.lean ====
/- The two layers at one position, on either side: the same number of the position's two counts. -/
module

public import proofs.«01_k».proof.Proof.RefCount
public import proofs.«01_k».proof.Proof.Mlp

@[expose] public section

set_option maxRecDepth 65536

noncomputable section

namespace Cert.Proof

open Idealize.ShloMosaic hiding ix1 ix2 ix3 eq_ix1 eq_ix2 eq_ix3
open Idealize.ShloMosaic.ValueIdx

/-- Entry `j` of the two layers over the counts `x` and `y`. -/
def enc (W1 : FVec Ideal ⟨2, ![2, 64]⟩ .f32) (b1 : FVec Ideal ⟨1, ![64]⟩ .f32) (W2 : FVec Ideal ⟨2, ![64, 64]⟩ .f32) (b2 : FVec Ideal ⟨1, ![64]⟩ .f32)
    (x y : EReal) (j : Fin 64) : EReal :=
  (∑ k : Fin 64, max (x * W1 (ix2 0 k) + y * W1 (ix2 1 k) + b1 (ix1 k)) 0 * W2 (ix2 k j)) + b2 (ix1 j)

section
open Cert.ReferenceIdeal Cert.ReferenceIdeal.Gen

theorem encR_apply (C : FVec Ideal S4096x200x2 .f32) (W1 : FVec Ideal S2x64 .f32) (b1 : FVec Ideal S64 .f32) (W2 : FVec Ideal S64x64 .f32)
    (b2 : FVec Ideal S64 .f32) (a : Fin 4096) (b : Fin 200) (j : Fin 64) :
    Ref.encR (F := Ideal) C W1 b1 W2 b2 (ix3 a b j) = enc W1 b1 W2 b2 (C (ix3 a b (0 : Fin 2))) (C (ix3 a b (1 : Fin 2))) j := by
  unfold Ref.encR enc
  simp only [pointwise]
  rw [zero_add]
  refine congrArg₂ (fun p q : EReal => p + q) (Finset.sum_congr rfl fun k _ => ?_) rfl
  rw [zero_add, Fin.sum_univ_two]
  rfl
end

section
open Cert.KernelIdeal Cert.KernelIdeal.Gen

theorem layers_apply (w1 : FVec Ideal S3x64 .f32) (w2 : FVec Ideal S64x64 .f32) (b2 : FVec Ideal S1x64 .f32) (x y : FVec Ideal S1x1024 .f32)
    (i : Fin 1024) (j : Fin 64) :
    layers (F := Ideal) w1 w2 b2 x y (ix2 i j)
      = (∑ k : Fin 64, max (x (ix2 0 i) * w1 (ix2 0 k) + y (ix2 0 i) * w1 (ix2 1 k) + w1 (ix2 2 k)) 0 * w2 (ix2 k j)) + b2 (ix2 0 j) := by
  unfold layers
  simp only [pointwise]
  rw [zero_add]
  refine congrArg₂ (fun p q : EReal => p + q) (Finset.sum_congr rfl fun k _ => ?_) rfl
  rw [zero_add, Fin.sum_univ_three]
  refine congrArg (fun z : EReal => max z 0 * _) ?_
  refine congrArg₂ (fun p q : EReal => p + q) (congrArg₂ (fun p q : EReal => p + q) ?_ ?_) ?_
  · exact mul_comm _ _
  · exact mul_comm _ _
  · exact mul_one _
end

end Cert.Proof
-- ==== Proof.Positions.lean ====
/- A kernel result at a row, a place and a column: the two layers over the two counts of that place, the same number the
   reference has there. -/
module

public import proofs.«01_k».proof.Proof.Layers
public import proofs.«01_k».proof.Proof.Region

@[expose] public section

set_option maxRecDepth 65536

noncomputable section

namespace Cert.Proof

open Idealize.ShloMosaic hiding ix1 ix2 ix3 eq_ix1 eq_ix2 eq_ix3
open Idealize.ShloMosaic.ValueIdx
open Cert.KernelIdeal Cert.KernelIdeal.Gen

/-- The position of place `b` of row `a`. -/
def posOf (a : Fin 4096) (b : Fin 200) : Fin 819200 := ⟨a.val * 200 + b.val, by have := a.isLt; have := b.isLt; omega⟩

/-- The ids as one row, at a position. -/
theorem ids_at (X : IVec S4096x200 32) (a : Fin 4096) (b : Fin 200) :
    shapeCast S819200 X shapeCasts_S4096x200_S819200 (ix1 (posOf a b)) = X (ix2 a b) :=
  shapeCast_apply X _ (ix1 (posOf a b)) (ix2 a b) (by rw [Shape.rowMajor_val_one, Shape.rowMajor_val_two]; rfl)

/-- The kernel's count at a position. -/
theorem counts_at (X Y : IVec S4096x200 32) (hX : InR (shapeCast S819200 X shapeCasts_S4096x200_S819200))
    (hY : InR (shapeCast S819200 Y shapeCasts_S4096x200_S819200)) (a : Fin 4096) (b : Fin 200) :
    countsAll (F := Ideal) (shapeCast S819200 X shapeCasts_S4096x200_S819200) (shapeCast S819200 Y shapeCasts_S4096x200_S819200) hY (ix1 (posOf a b))
      = atNonzero (X (ix2 a b)) ((Ref.times X Y a b : ℕ) : EReal) := by
  rw [countsAll_apply _ _ hY hX, ids_at]
  refine congrArg (fun n : ℕ => atNonzero (X (ix2 a b)) (n : EReal)) ?_
  rw [occ_fin]
  unfold Ref.times
  refine congrArg Finset.card (Finset.filter_congr fun n _ => ?_)
  have hd : (ix1 (posOf a b) 0).val / 200 * 200 = a.val * 200 := by
    show (a.val * 200 + b.val) / 200 * 200 = _
    have := b.isLt; omega
  have ha := a.isLt; have hn := n.isLt
  have e : nums (n := 819200) (shapeCast S819200 Y shapeCasts_S4096x200_S819200) (a.val * 200 + n.val) = (Y (ix2 a n)).toNat := by
    rw [nums_of_lt _ (show a.val * 200 + n.val < 819200 by omega), ← ids_at Y a n]
    refine congrArg (fun i => (shapeCast S819200 Y shapeCasts_S4096x200_S819200 i).toNat) (funext fun q => ?_)
    obtain rfl : q = 0 := Subsingleton.elim _ _
    rfl
  rw [hd, e]

/-- The first layer's weights with the bias beneath. -/
def withBias (W1 : FVec Ideal S2x64 .f32) (b1 : FVec Ideal S64 .f32) : FVec Ideal S3x64 .f32 :=
  concatenate S3x64 0 [⟨S2x64, W1⟩, ⟨S1x64, broadcastInDim S1x64 ![1] bcast_S64_S1x64_1 b1⟩] concatenates_S2x64_S1x64_S3x64_d0

theorem withBias_zero (W1 : FVec Ideal S2x64 .f32) (b1 : FVec Ideal S64 .f32) (k : Fin 64) : withBias W1 b1 (ix2 (0 : Fin 3) k) = W1 (ix2 (0 : Fin 2) k) := by
  unfold withBias; simp only [pointwise]; rfl
theorem withBias_one (W1 : FVec Ideal S2x64 .f32) (b1 : FVec Ideal S64 .f32) (k : Fin 64) : withBias W1 b1 (ix2 (1 : Fin 3) k) = W1 (ix2 (1 : Fin 2) k) := by
  unfold withBias; simp only [pointwise]; rfl
theorem withBias_two (W1 : FVec Ideal S2x64 .f32) (b1 : FVec Ideal S64 .f32) (k : Fin 64) : withBias W1 b1 (ix2 (2 : Fin 3) k) = b1 (ix1 k) := by
  unfold withBias; simp only [pointwise]; rfl

theorem line_at (A : S819200.Idx → EReal) (p : Fin 819200) (h : p.val / 1024 < 800) :
    lineOf (F := Ideal) (shapeCast S800x1024 A shapeCasts_S819200_S800x1024) (p.val / 1024) h (ix2 (0 : Fin 1) (⟨p.val % 1024, Nat.mod_lt _ (by decide)⟩ : Fin 1024))
      = A (ix1 p) := by
  unfold lineOf
  refine shapeCast_apply (s := S819200) (t := S800x1024) A _ _ (ix1 p) ?_
  rw [Shape.rowMajor_val_one, Shape.rowMajor_val_two]
  show p.val = p.val / 1024 * 1024 + p.val % 1024
  omega

/-- A kernel result at a row, a place and a column. -/
theorem result_at (W1 : FVec Ideal S2x64 .f32) (b1 : FVec Ideal S64 .f32) (W2 : FVec Ideal S64x64 .f32) (b2 : FVec Ideal S64 .f32) (A B : S819200.Idx → EReal)
    (a : Fin 4096) (b : Fin 200) (j : Fin 64) :
    shapeCast S4096x200x64 (wide (F := Ideal) (withBias W1 b1) W2 (broadcastInDim S1x64 ![1] bcast_S64_S1x64_1 b2)
        (shapeCast S800x1024 A shapeCasts_S819200_S800x1024) (shapeCast S800x1024 B shapeCasts_S819200_S800x1024))
        shapeCasts_S819200x64_S4096x200x64 (ix3 a b j)
      = enc W1 b1 W2 b2 (A (ix1 (posOf a b))) (B (ix1 (posOf a b))) j := by
  refine (shapeCast_apply (s := S819200x64) (t := S4096x200x64) _ _ _ (ix2 (posOf a b) j) ?_).trans ?_
  · rw [Shape.rowMajor_val_two, Shape.rowMajor_val_three]; rfl
  · have e : at64 ((posOf a b).val % 1024) (Nat.mod_lt _ (by decide)) j = ix2 (⟨(posOf a b).val % 1024, Nat.mod_lt _ (by decide)⟩ : Fin 1024) j := by
      funext q
      match q with
      | ⟨0, _⟩ => rfl
      | ⟨1, _⟩ => rfl
    have h8 : (posOf a b).val / 1024 < 800 := by have := (posOf a b).isLt; omega
    show layers (F := Ideal) (withBias W1 b1) W2 _ (lineOf _ ((posOf a b).val / 1024) h8) (lineOf _ ((posOf a b).val / 1024) h8)
      (at64 ((posOf a b).val % 1024) (Nat.mod_lt _ (by decide)) j) = _
    rw [e, layers_apply, line_at A (posOf a b) h8, line_at B (posOf a b) h8]
    unfold enc
    refine congrArg₂ (fun p q : EReal => p + q) (Finset.sum_congr rfl fun k _ => ?_) ?_
    · rw [withBias_zero, withBias_one, withBias_two]
    · refine broadcastInDim_apply (s := S64) (t := S1x64) ![1] _ b2 (ix2 (0 : Fin 1) j) (ix1 j) fun q => ?_
      obtain rfl : q = 0 := Subsingleton.elim _ _
      rfl

/-- The kernel's result and the reference's are the same, at rows of ids below a thousand. -/
theorem same_result (X Y Z : IVec S4096x200 32) (hX : ∀ i, (X i).toNat < 1000) (hY : ∀ i, (Y i).toNat < 1000) (hZ : ∀ i, (Z i).toNat < 1000)
    (hX' : InR (shapeCast S819200 X shapeCasts_S4096x200_S819200)) (hY' : InR (shapeCast S819200 Y shapeCasts_S4096x200_S819200))
    (hZ' : InR (shapeCast S819200 Z shapeCasts_S4096x200_S819200))
    (W1 : FVec Ideal S2x64 .f32) (b1 : FVec Ideal S64 .f32) (W2 : FVec Ideal S64x64 .f32) (b2 : FVec Ideal S64 .f32) :
    Ref.encR (F := Ideal) (Ref.pairR X Y Z) W1 b1 W2 b2
      = shapeCast S4096x200x64 (wide (F := Ideal) (withBias W1 b1) W2 (broadcastInDim S1x64 ![1] bcast_S64_S1x64_1 b2)
        (shapeCast S800x1024 (countsAll (F := Ideal) (shapeCast S819200 X shapeCasts_S4096x200_S819200) (shapeCast S819200 Y shapeCasts_S4096x200_S819200) hY')
          shapeCasts_S819200_S800x1024)
        (shapeCast S800x1024 (countsAll (F := Ideal) (shapeCast S819200 X shapeCasts_S4096x200_S819200) (shapeCast S819200 Z shapeCasts_S4096x200_S819200) hZ')
          shapeCasts_S819200_S800x1024))
        shapeCasts_S819200x64_S4096x200x64 := by
  funext i
  obtain ⟨a, b, j, rfl⟩ : ∃ (a : Fin 4096) (b : Fin 200) (j : Fin 64), i = ix3 a b j := ⟨i 0, i 1, i 2, eq_ix3 i⟩
  refine (encR_apply _ W1 b1 W2 b2 a b j).trans (Eq.trans ?_ (result_at W1 b1 W2 b2 _ _ a b j).symm)
  rw [counts_at X Y hX' hY', counts_at X Z hX' hZ', Ref.pairR_zero X Y Z hX hY, Ref.pairR_one X Y Z hX hZ]

end Cert.Proof
-- ==== Proof.Value.lean ====
/- Both results of the kernel are the reference's. -/
module

public import proofs.«01_k».proof.Proof.Frames
public import proofs.«01_k».proof.Proof.Positions

@[expose] public section

set_option maxRecDepth 65536

noncomputable section

namespace Cert.Proof

open Cert.KernelIdeal Cert.KernelIdeal.Gen Cert.Proof.Row
open Idealize.ShloMosaic Idealize.ShloMosaic.TcCoe
open Idealize.SL Idealize.SL.Sem
open Idealize.ShloMosaic.StableHlo (held after seq)

attribute [local irreducible] countsAll counts idsOf wide

/-! ## The arrays before the TensorCore call -/

section
variable (V : Valuation τ sig (Elt Ideal))

theorem before_v4 : after opsB V (Proc.devRef .tc main_v4) = withBias (V (Proc.devRef .tc main_arg2)) (V (Proc.devRef .tc main_arg3)) := by
  unfold opsB; after_results; rfl
theorem before_v5 : after opsB V (Proc.devRef .tc main_v5) = broadcastInDim S1x64 ![1] bcast_S64_S1x64_1 (V (Proc.devRef .tc main_arg5) : FVec Ideal S64 .f32) := by
  unfold opsB; after_results
theorem before_v6 : after opsB V (Proc.devRef .tc main_v6) = shapeCast S800x1024 (V (Proc.devRef .tc main_v2_0) : FVec Ideal S819200 .f32) shapeCasts_S819200_S800x1024 := by
  unfold opsB; after_results; rfl
theorem before_v7 : after opsB V (Proc.devRef .tc main_v7) = shapeCast S800x1024 (V (Proc.devRef .tc main_v2_1) : FVec Ideal S819200 .f32) shapeCasts_S819200_S800x1024 := by
  unfold opsB; after_results; rfl
theorem before_v8 : after opsB V (Proc.devRef .tc main_v8) = shapeCast S800x1024 (V (Proc.devRef .tc main_v2_2) : FVec Ideal S819200 .f32) shapeCasts_S819200_S800x1024 := by
  unfold opsB; after_results; rfl
theorem before_v9 : after opsB V (Proc.devRef .tc main_v9) = shapeCast S800x1024 (V (Proc.devRef .tc main_v2_3) : FVec Ideal S819200 .f32) shapeCasts_S819200_S800x1024 := by
  unfold opsB; after_results; rfl
theorem after_v11 : after opsC V (Proc.devRef .tc main_v11) = shapeCast S4096x200x64 (V (Proc.devRef .tc main_v10_0) : FVec Ideal S819200x64 .f32) shapeCasts_S819200x64_S4096x200x64 := by
  unfold opsC; after_results; rfl
theorem after_v12 : after opsC V (Proc.devRef .tc main_v12) = shapeCast S4096x200x64 (V (Proc.devRef .tc main_v10_1) : FVec Ideal S819200x64 .f32) shapeCasts_S819200x64_S4096x200x64 := by
  unfold opsC; after_results; rfl
end

/-- The second half of the kernel: the two layers over two rows of counts, as rows of the result. -/
def outOf (w1 : FVec Ideal S2x64 .f32) (b1 : FVec Ideal S64 .f32) (w2 : FVec Ideal S64x64 .f32) (b2 : FVec Ideal S64 .f32) (A B : FVec Ideal S819200 .f32) : FVec Ideal S4096x200x64 .f32 :=
  shapeCast S4096x200x64 (wide (F := Ideal) (withBias w1 b1) w2 (broadcastInDim S1x64 ![1] bcast_S64_S1x64_1 b2)
    (shapeCast S800x1024 A shapeCasts_S819200_S800x1024) (shapeCast S800x1024 B shapeCasts_S819200_S800x1024)) shapeCasts_S819200x64_S4096x200x64

variable {m : (ℓ : Loc nD τ sig) → Buf (Elt Ideal) ℓ}

/-- The arguments before the TensorCore call's preparation. -/
theorem W2_arg (h : Small m) (d : Dev nD) {b : Ref sig .tc} (hb : b ∈ [main_arg2, main_arg3, main_arg4, main_arg5]) :
    W2 m (srcIds_in h) (dstIds_in h) d (Proc.devRef .tc b) = m ((SparseCore.T d).loc b) :=
  (W2_ne _ _ _ d (by
    simp only [six, Finset.mem_insert, Finset.mem_singleton, not_or]
    simp only [List.mem_cons, List.not_mem_nil, or_false] at hb
    rcases hb with rfl | rfl | rfl | rfl <;> exact ⟨dr_ne (by decide), dr_ne (by decide), dr_ne (by decide), dr_ne (by decide), dr_ne (by decide), dr_ne (by decide)⟩)).trans
  (StableHlo.after_of_writes_sub opsA (W0 m d) (W := [main_v0, main_v1]) (StableHlo.forall_writes_sub_of_map rfl) (by clear * - hb; revert hb; revert b; decide))

theorem W3_v4 (h : Small m) (d : Dev nD) : W3 m (srcIds_in h) (dstIds_in h) d (Proc.devRef .tc main_v4)
    = withBias (m ((SparseCore.T d).loc main_arg2)) (m ((SparseCore.T d).loc main_arg3)) :=
  (before_v4 _).trans (congrArg₂ withBias (W2_arg h d (by decide)) (W2_arg h d (by decide)))
theorem W3_v5 (h : Small m) (d : Dev nD) : W3 m (srcIds_in h) (dstIds_in h) d (Proc.devRef .tc main_v5)
    = broadcastInDim S1x64 ![1] bcast_S64_S1x64_1 (m ((SparseCore.T d).loc main_arg5) : FVec Ideal S64 .f32) :=
  (before_v5 _).trans (congrArg (fun x : FVec Ideal S64 .f32 => broadcastInDim S1x64 ![1] bcast_S64_S1x64_1 x) (W2_arg h d (b := main_arg5) (by decide)))
theorem W3_arg4 (h : Small m) (d : Dev nD) : W3 m (srcIds_in h) (dstIds_in h) d (Proc.devRef .tc main_arg4) = m ((SparseCore.T d).loc main_arg4) :=
  (StableHlo.after_of_writes_sub opsB _ (W := [main_v3, main_v4, main_v5, main_v6, main_v7, main_v8, main_v9]) (StableHlo.forall_writes_sub_of_map rfl) (by decide)).trans
    (W2_arg h d (by decide))

theorem W4_v10_0 (h : Small m) (d : Dev nD) : W4 m (srcIds_in h) (dstIds_in h) d (Proc.devRef .tc main_v10_0)
    = wide (F := Ideal) (W3 m (srcIds_in h) (dstIds_in h) d (Proc.devRef .tc main_v4)) (W3 m (srcIds_in h) (dstIds_in h) d (Proc.devRef .tc main_arg4))
      (W3 m (srcIds_in h) (dstIds_in h) d (Proc.devRef .tc main_v5)) (W3 m (srcIds_in h) (dstIds_in h) d (Proc.devRef .tc main_v6))
      (W3 m (srcIds_in h) (dstIds_in h) d (Proc.devRef .tc main_v7)) := by
  unfold W4; rw [Function.update_of_ne (dr_ne (by decide)), Function.update_self]
theorem W4_v10_1 (h : Small m) (d : Dev nD) : W4 m (srcIds_in h) (dstIds_in h) d (Proc.devRef .tc main_v10_1)
    = wide (F := Ideal) (W3 m (srcIds_in h) (dstIds_in h) d (Proc.devRef .tc main_v4)) (W3 m (srcIds_in h) (dstIds_in h) d (Proc.devRef .tc main_arg4))
      (W3 m (srcIds_in h) (dstIds_in h) d (Proc.devRef .tc main_v5)) (W3 m (srcIds_in h) (dstIds_in h) d (Proc.devRef .tc main_v8))
      (W3 m (srcIds_in h) (dstIds_in h) d (Proc.devRef .tc main_v9)) := by
  unfold W4; rw [Function.update_self]

/-! ## The two results -/

theorem first_result (h : Small m) (d : Dev nD) : W5 m (srcIds_in h) (dstIds_in h) d (Proc.devRef .tc main_v11)
    = outOf (m ((SparseCore.T d).loc main_arg2)) (m ((SparseCore.T d).loc main_arg3)) (m ((SparseCore.T d).loc main_arg4)) (m ((SparseCore.T d).loc main_arg5))
      (countsAll (F := Ideal) (srcIds m d) (srcIds m d) (srcIds_in h d)) (countsAll (F := Ideal) (srcIds m d) (dstIds m d) (dstIds_in h d)) := by
  refine (after_v11 _).trans ?_
  rw [W4_v10_0 h, W3_v4 h, W3_v5 h, W3_arg4 h]
  unfold W3
  rw [before_v6, before_v7, W2_ss, W2_sd]
  rfl

theorem second_result (h : Small m) (d : Dev nD) : W5 m (srcIds_in h) (dstIds_in h) d (Proc.devRef .tc main_v12)
    = outOf (m ((SparseCore.T d).loc main_arg2)) (m ((SparseCore.T d).loc main_arg3)) (m ((SparseCore.T d).loc main_arg4)) (m ((SparseCore.T d).loc main_arg5))
      (countsAll (F := Ideal) (dstIds m d) (srcIds m d) (srcIds_in h d)) (countsAll (F := Ideal) (dstIds m d) (dstIds m d) (dstIds_in h d)) := by
  refine (after_v12 _).trans ?_
  rw [W4_v10_1 h, W3_v4 h, W3_v5 h, W3_arg4 h]
  unfold W3
  rw [before_v8, before_v9, W2_ds, W2_dd]
  rfl

/-- The counts of one row of ids among another, by the arguments. -/
theorem counts_eq {A A' B B' : IVec S819200 32} (hA : A = A') (hB : B = B') (h : InR B) (h' : InR B') : countsAll (F := Ideal) A B h = countsAll (F := Ideal) A' B' h' := by
  subst hA; subst hB; rfl

theorem first_same (h : Small m) (d : Dev nD) : Ref.encR (F := Ideal)
      (Ref.pairR (m ((SparseCore.T d).loc main_arg0)) (m ((SparseCore.T d).loc main_arg0)) (m ((SparseCore.T d).loc main_arg1)))
      (m ((SparseCore.T d).loc main_arg2)) (m ((SparseCore.T d).loc main_arg3)) (m ((SparseCore.T d).loc main_arg4)) (m ((SparseCore.T d).loc main_arg5))
    = W5 m (srcIds_in h) (dstIds_in h) d (Proc.devRef .tc main_v11) := by
  have hs := srcIds_in h d; rw [srcIds_eq] at hs
  have hd := dstIds_in h d; rw [dstIds_eq] at hd
  rw [first_result h, counts_eq (srcIds_eq m d) (srcIds_eq m d) (srcIds_in h d) hs, counts_eq (srcIds_eq m d) (dstIds_eq m d) (dstIds_in h d) hd]
  exact same_result _ _ _ (h d).1 (h d).1 (h d).2 hs hs hd _ _ _ _

theorem second_same (h : Small m) (d : Dev nD) : Ref.encR (F := Ideal)
      (Ref.pairR (m ((SparseCore.T d).loc main_arg1)) (m ((SparseCore.T d).loc main_arg0)) (m ((SparseCore.T d).loc main_arg1)))
      (m ((SparseCore.T d).loc main_arg2)) (m ((SparseCore.T d).loc main_arg3)) (m ((SparseCore.T d).loc main_arg4)) (m ((SparseCore.T d).loc main_arg5))
    = W5 m (srcIds_in h) (dstIds_in h) d (Proc.devRef .tc main_v12) := by
  have hs := srcIds_in h d; rw [srcIds_eq] at hs
  have hd := dstIds_in h d; rw [dstIds_eq] at hd
  rw [second_result h, counts_eq (dstIds_eq m d) (srcIds_eq m d) (srcIds_in h d) hs, counts_eq (dstIds_eq m d) (dstIds_eq m d) (dstIds_in h d) hd]
  exact same_result _ _ _ (h d).2 (h d).1 (h d).2 hd hs hd _ _ _ _

/-- The kernel and the reference leave the same two results. -/
theorem algebraic : Cert.algebraic_KernelIdeal_ReferenceIdeal := fun m g m' g' hp ha => by
  have h := small_ideal hp
  refine ⟨fun c => W5 m (srcIds_in h) (dstIds_in h) c (Proc.devRef .tc main_v11), fun c => W5 m (srcIds_in h) (dstIds_in h) c (Proc.devRef .tc main_v12), ?_, ?_⟩
  · exact (θ_run Cert.KernelIdeal.defs _ _).mono (fun _ hr c => ⟨hr.1 c main_v11 (by decide), hr.1 c main_v12 (by decide), args_kept h hr c (by decide), args_kept h hr c (by decide),
      args_kept h hr c (by decide), args_kept h hr c (by decide), args_kept h hr c (by decide), args_kept h hr c (by decide)⟩) (run_main (F := Ideal) m (srcIds_in h) (dstIds_in h) g)
  · refine (θ_run Cert.ReferenceIdeal.defs _ _).mono (fun _ hr c => ?_) (Cert.ReferenceIdeal.Value.run (F := Ideal) m' g')
    obtain ⟨h0, h1, h2, h3, h4, h5⟩ := ha c
    refine ⟨(hr c).1.trans ((Ref.res0_eq m' c).trans (Eq.trans ?_ (first_same h c))), (hr c).2.1.trans ((Ref.res1_eq m' c).trans (Eq.trans ?_ (second_same h c))), (hr c).2.2⟩
    · rw [h0, h1, h2, h3, h4, h5]
    · rw [h0, h1, h2, h3, h4, h5]

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, preFacts,
    frame_kernel, frame_kernelIdeal, frame_reference, frame_reference_pre, trivial, algebraic⟩

end Cert.Proof

end
